-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_finite_dact [hPre_finite_dact : Cert.Pre_finite_dact.Facts] (m : (ℓ : Loc Cert.DactIdeal.nD Cert.DactIdeal.τ Cert.DactIdeal.sig) → Buf (Elt Ideal) ℓ) : Prop :=
  ∀ c : Dev Cert.DactIdeal.nD,
    (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))) = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_finite_dact [hPre_finite_dact : Cert.Pre_finite_dact.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_finite_dact.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))) = (fun _ => 1#1)

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormRefIdeal (m : (ℓ : Loc Cert.DnormRefIdeal.nD Cert.DnormRefIdeal.τ Cert.DnormRefIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixRefIdeal (m : (ℓ : Loc Cert.DmixRefIdeal.nD Cert.DmixRefIdeal.τ Cert.DmixRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_DwinEv (m : (ℓ : Loc Cert.DwinEv.nD Cert.DwinEv.τ Cert.DwinEv.sig) → Buf (Elt Bits) ℓ) : Prop :=
  True

def Pre_DwinEvIdeal (m : (ℓ : Loc Cert.DwinEvIdeal.nD Cert.DwinEvIdeal.τ Cert.DwinEvIdeal.sig) → Buf (Elt Ideal) ℓ) : Prop :=
  True

def Pre_DwinEvRefIdeal (m : (ℓ : Loc Cert.DwinEvRefIdeal.nD Cert.DwinEvRefIdeal.τ Cert.DwinEvRefIdeal.sig) → Buf (Elt Ideal) ℓ) : Prop :=
  True

def Pre_DwinOd (m : (ℓ : Loc Cert.DwinOd.nD Cert.DwinOd.τ Cert.DwinOd.sig) → Buf (Elt Bits) ℓ) : Prop :=
  True

def Pre_DwinOdIdeal (m : (ℓ : Loc Cert.DwinOdIdeal.nD Cert.DwinOdIdeal.τ Cert.DwinOdIdeal.sig) → Buf (Elt Ideal) ℓ) : Prop :=
  True

def Pre_DwinOdRefIdeal (m : (ℓ : Loc Cert.DwinOdRefIdeal.nD Cert.DwinOdRefIdeal.τ Cert.DwinOdRefIdeal.sig) → Buf (Elt Ideal) ℓ) : Prop :=
  True

def Pre_DnormEv (m : (ℓ : Loc Cert.DnormEv.nD Cert.DnormEv.τ Cert.DnormEv.sig) → Buf (Elt Bits) ℓ) : Prop :=
  True

def Pre_DnormEvIdeal (m : (ℓ : Loc Cert.DnormEvIdeal.nD Cert.DnormEvIdeal.τ Cert.DnormEvIdeal.sig) → Buf (Elt Ideal) ℓ) : Prop :=
  True

def Pre_DnormEvRefIdeal (m : (ℓ : Loc Cert.DnormEvRefIdeal.nD Cert.DnormEvRefIdeal.τ Cert.DnormEvRefIdeal.sig) → Buf (Elt Ideal) ℓ) : Prop :=
  True

def Pre_DnormOd (m : (ℓ : Loc Cert.DnormOd.nD Cert.DnormOd.τ Cert.DnormOd.sig) → Buf (Elt Bits) ℓ) : Prop :=
  True

def Pre_DnormOdIdeal (m : (ℓ : Loc Cert.DnormOdIdeal.nD Cert.DnormOdIdeal.τ Cert.DnormOdIdeal.sig) → Buf (Elt Ideal) ℓ) : Prop :=
  True

def Pre_DnormOdRefIdeal (m : (ℓ : Loc Cert.DnormOdRefIdeal.nD Cert.DnormOdRefIdeal.τ Cert.DnormOdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InEv (m : (ℓ : Loc Cert.InEv.nD Cert.InEv.τ Cert.InEv.sig) → Buf (Elt Bits) ℓ) : Prop :=
  True

def Pre_InEvIdeal (m : (ℓ : Loc Cert.InEvIdeal.nD Cert.InEvIdeal.τ Cert.InEvIdeal.sig) → Buf (Elt Ideal) ℓ) : Prop :=
  True

def Pre_InEvRefIdeal (m : (ℓ : Loc Cert.InEvRefIdeal.nD Cert.InEvRefIdeal.τ Cert.InEvRefIdeal.sig) → Buf (Elt Ideal) ℓ) : Prop :=
  True

def Pre_InOd (m : (ℓ : Loc Cert.InOd.nD Cert.InOd.τ Cert.InOd.sig) → Buf (Elt Bits) ℓ) : Prop :=
  True

def Pre_InOdIdeal (m : (ℓ : Loc Cert.InOdIdeal.nD Cert.InOdIdeal.τ Cert.InOdIdeal.sig) → Buf (Elt Ideal) ℓ) : Prop :=
  True

def Pre_InOdRefIdeal (m : (ℓ : Loc Cert.InOdRefIdeal.nD Cert.InOdRefIdeal.τ Cert.InOdRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite_tail [hPre_finite_tail : Cert.Pre_finite_tail.Facts] (m : (ℓ : Loc Cert.TailIdeal.nD Cert.TailIdeal.τ Cert.TailIdeal.sig) → Buf (Elt Ideal) ℓ) : Prop :=
  ∀ c : Dev Cert.TailIdeal.nD,
    (Cert.Pre_finite_tail.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3))) = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite_tail [hPre_finite_tail : Cert.Pre_finite_tail.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite_tail.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3))) = (fun _ => 1#1)

def Pre_AdamEvIn (m : (ℓ : Loc Cert.AdamEvIn.nD Cert.AdamEvIn.τ Cert.AdamEvIn.sig) → Buf (Elt Bits) ℓ) : Prop :=
  True

def Pre_AdamEvInIdeal (m : (ℓ : Loc Cert.AdamEvInIdeal.nD Cert.AdamEvInIdeal.τ Cert.AdamEvInIdeal.sig) → Buf (Elt Ideal) ℓ) : Prop :=
  True

def Pre_AdamEvInRefIdeal (m : (ℓ : Loc Cert.AdamEvInRefIdeal.nD Cert.AdamEvInRefIdeal.τ Cert.AdamEvInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamOdIn (m : (ℓ : Loc Cert.AdamOdIn.nD Cert.AdamOdIn.τ Cert.AdamOdIn.sig) → Buf (Elt Bits) ℓ) : Prop :=
  True

def Pre_AdamOdInIdeal (m : (ℓ : Loc Cert.AdamOdInIdeal.nD Cert.AdamOdInIdeal.τ Cert.AdamOdInIdeal.sig) → Buf (Elt Ideal) ℓ) : Prop :=
  True

def Pre_AdamOdInRefIdeal (m : (ℓ : Loc Cert.AdamOdInRefIdeal.nD Cert.AdamOdInRefIdeal.τ Cert.AdamOdInRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamSink (m : (ℓ : Loc Cert.AdamSink.nD Cert.AdamSink.τ Cert.AdamSink.sig) → Buf (Elt Bits) ℓ) : Prop :=
  True

def Pre_AdamSinkIdeal (m : (ℓ : Loc Cert.AdamSinkIdeal.nD Cert.AdamSinkIdeal.τ Cert.AdamSinkIdeal.sig) → Buf (Elt Ideal) ℓ) : Prop :=
  True

def Pre_AdamSinkRefIdeal (m : (ℓ : Loc Cert.AdamSinkRefIdeal.nD Cert.AdamSinkRefIdeal.τ Cert.AdamSinkRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamSpatial (m : (ℓ : Loc Cert.AdamSpatial.nD Cert.AdamSpatial.τ Cert.AdamSpatial.sig) → Buf (Elt Bits) ℓ) : Prop :=
  True

def Pre_AdamSpatialIdeal (m : (ℓ : Loc Cert.AdamSpatialIdeal.nD Cert.AdamSpatialIdeal.τ Cert.AdamSpatialIdeal.sig) → Buf (Elt Ideal) ℓ) : Prop :=
  True

def Pre_AdamSpatialRefIdeal (m : (ℓ : Loc Cert.AdamSpatialRefIdeal.nD Cert.AdamSpatialRefIdeal.τ Cert.AdamSpatialRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamNorms (m : (ℓ : Loc Cert.AdamNorms.nD Cert.AdamNorms.τ Cert.AdamNorms.sig) → Buf (Elt Bits) ℓ) : Prop :=
  True

def Pre_AdamNormsIdeal (m : (ℓ : Loc Cert.AdamNormsIdeal.nD Cert.AdamNormsIdeal.τ Cert.AdamNormsIdeal.sig) → Buf (Elt Ideal) ℓ) : Prop :=
  True

def Pre_AdamNormsRefIdeal (m : (ℓ : Loc Cert.AdamNormsRefIdeal.nD Cert.AdamNormsRefIdeal.τ Cert.AdamNormsRefIdeal.sig) → Buf (Elt Ideal) ℓ) : Prop :=
  True

def Pre_AdamTaps (m : (ℓ : Loc Cert.AdamTaps.nD Cert.AdamTaps.τ Cert.AdamTaps.sig) → Buf (Elt Bits) ℓ) : Prop :=
  True

def Pre_AdamTapsIdeal (m : (ℓ : Loc Cert.AdamTapsIdeal.nD Cert.AdamTapsIdeal.τ Cert.AdamTapsIdeal.sig) → Buf (Elt Ideal) ℓ) : Prop :=
  True

def Pre_AdamTapsRefIdeal (m : (ℓ : Loc Cert.AdamTapsRefIdeal.nD Cert.AdamTapsRefIdeal.τ Cert.AdamTapsRefIdeal.sig) → Buf (Elt Ideal) ℓ) : Prop :=
  True

def Pre_AdamOdNorm (m : (ℓ : Loc Cert.AdamOdNorm.nD Cert.AdamOdNorm.τ Cert.AdamOdNorm.sig) → Buf (Elt Bits) ℓ) : Prop :=
  True

def Pre_AdamOdNormIdeal (m : (ℓ : Loc Cert.AdamOdNormIdeal.nD Cert.AdamOdNormIdeal.τ Cert.AdamOdNormIdeal.sig) → Buf (Elt Ideal) ℓ) : Prop :=
  True

def Pre_AdamOdNormRefIdeal (m : (ℓ : Loc Cert.AdamOdNormRefIdeal.nD Cert.AdamOdNormRefIdeal.τ Cert.AdamOdNormRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_finite_dact [hDactIdeal : Cert.DactIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg), Pre_DactIdeal_finite_dact m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_DactRefIdeal_pre_finite_dact [hDactRefIdeal : Cert.DactRefIdeal.Facts] [hPre_finite_dact : Cert.Pre_finite_dact.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_finite_dact m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2)
      ∧ r.2.mem ((c.tc : Thread Cert.Dnorm.nD Cert.Dnorm.τ).loc Cert.Dnorm.main_arg3) = m ((c.tc : Thread Cert.Dnorm.nD Cert.Dnorm.τ).loc Cert.Dnorm.main_arg3)
      ∧ r.2.mem ((c.tc : Thread Cert.Dnorm.nD Cert.Dnorm.τ).loc Cert.Dnorm.main_arg4) = m ((c.tc : Thread Cert.Dnorm.nD Cert.Dnorm.τ).loc Cert.Dnorm.main_arg4)
      ∧ r.2.mem ((c.tc : Thread Cert.Dnorm.nD Cert.Dnorm.τ).loc Cert.Dnorm.main_arg5) = m ((c.tc : Thread Cert.Dnorm.nD Cert.Dnorm.τ).loc Cert.Dnorm.main_arg5)
      ∧ r.2.mem ((c.tc : Thread Cert.Dnorm.nD Cert.Dnorm.τ).loc Cert.Dnorm.main_arg6) = m ((c.tc : Thread Cert.Dnorm.nD Cert.Dnorm.τ).loc Cert.Dnorm.main_arg6))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3)
      ∧ r.2.mem ((c.tc : Thread Cert.DnormIdeal.nD Cert.DnormIdeal.τ).loc Cert.DnormIdeal.main_arg4) = m ((c.tc : Thread Cert.DnormIdeal.nD Cert.DnormIdeal.τ).loc Cert.DnormIdeal.main_arg4)
      ∧ r.2.mem ((c.tc : Thread Cert.DnormIdeal.nD Cert.DnormIdeal.τ).loc Cert.DnormIdeal.main_arg5) = m ((c.tc : Thread Cert.DnormIdeal.nD Cert.DnormIdeal.τ).loc Cert.DnormIdeal.main_arg5)
      ∧ r.2.mem ((c.tc : Thread Cert.DnormIdeal.nD Cert.DnormIdeal.τ).loc Cert.DnormIdeal.main_arg6) = m ((c.tc : Thread Cert.DnormIdeal.nD Cert.DnormIdeal.τ).loc Cert.DnormIdeal.main_arg6))
      ∧ r.2.sem = fun _ => 0)

def quiescent_DnormRefIdeal [hDnormRefIdeal : Cert.DnormRefIdeal.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1)
      ∧ r.2.mem ((c.tc : Thread Cert.DnormRefIdeal.nD Cert.DnormRefIdeal.τ).loc Cert.DnormRefIdeal.main_arg2) = m ((c.tc : Thread Cert.DnormRefIdeal.nD Cert.DnormRefIdeal.τ).loc Cert.DnormRefIdeal.main_arg2)
      ∧ r.2.mem ((c.tc : Thread Cert.DnormRefIdeal.nD Cert.DnormRefIdeal.τ).loc Cert.DnormRefIdeal.main_arg3) = m ((c.tc : Thread Cert.DnormRefIdeal.nD Cert.DnormRefIdeal.τ).loc Cert.DnormRefIdeal.main_arg3)
      ∧ r.2.mem ((c.tc : Thread Cert.DnormRefIdeal.nD Cert.DnormRefIdeal.τ).loc Cert.DnormRefIdeal.main_arg4) = m ((c.tc : Thread Cert.DnormRefIdeal.nD Cert.DnormRefIdeal.τ).loc Cert.DnormRefIdeal.main_arg4)
      ∧ r.2.mem ((c.tc : Thread Cert.DnormRefIdeal.nD Cert.DnormRefIdeal.τ).loc Cert.DnormRefIdeal.main_arg5) = m ((c.tc : Thread Cert.DnormRefIdeal.nD Cert.DnormRefIdeal.τ).loc Cert.DnormRefIdeal.main_arg5)
      ∧ r.2.mem ((c.tc : Thread Cert.DnormRefIdeal.nD Cert.DnormRefIdeal.τ).loc Cert.DnormRefIdeal.main_arg6) = m ((c.tc : Thread Cert.DnormRefIdeal.nD Cert.DnormRefIdeal.τ).loc Cert.DnormRefIdeal.main_arg6))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ r.2.sem = fun _ => 0)

def quiescent_DmixRefIdeal [hDmixRefIdeal : Cert.DmixRefIdeal.Facts] : Prop :=
  ∀ (m : (ℓ : Loc Cert.DmixRefIdeal.nD Cert.DmixRefIdeal.τ Cert.DmixRefIdeal.sig) → Buf (Elt Ideal) ℓ) (g : Dev Cert.DmixRefIdeal.nD → PrngReg), Pre_DmixRefIdeal m →
    θ_run (Cert.DmixRefIdeal.defs (F := Ideal)) (onTc (τ := Cert.DmixRefIdeal.τ) (Cert.DmixRefIdeal.main (F := Ideal))) ⟨m, fun _ => 0, g⟩ (fun r => (∀ c : Dev Cert.DmixRefIdeal.nD,
      r.2.mem ((c.tc : Thread Cert.DmixRefIdeal.nD Cert.DmixRefIdeal.τ).loc Cert.DmixRefIdeal.main_arg0) = m ((c.tc : Thread Cert.DmixRefIdeal.nD Cert.DmixRefIdeal.τ).loc Cert.DmixRefIdeal.main_arg0)
      ∧ r.2.mem ((c.tc : Thread Cert.DmixRefIdeal.nD Cert.DmixRefIdeal.τ).loc Cert.DmixRefIdeal.main_arg1) = m ((c.tc : Thread Cert.DmixRefIdeal.nD Cert.DmixRefIdeal.τ).loc Cert.DmixRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1)
      ∧ r.2.mem ((c.tc : Thread Cert.Dwout.nD Cert.Dwout.τ).loc Cert.Dwout.main_arg2) = m ((c.tc : Thread Cert.Dwout.nD Cert.Dwout.τ).loc Cert.Dwout.main_arg2))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
      ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1)
      ∧ r.2.mem ((c.tc : Thread Cert.DwoutRefIdeal.nD Cert.DwoutRefIdeal.τ).loc Cert.DwoutRefIdeal.main_arg2) = m ((c.tc : Thread Cert.DwoutRefIdeal.nD Cert.DwoutRefIdeal.τ).loc Cert.DwoutRefIdeal.main_arg2))
      ∧ r.2.sem = fun _ => 0)

def quiescent_DwinEv [hDwinEv : Cert.DwinEv.Facts] : Prop :=
  ∀ (m : (ℓ : Loc Cert.DwinEv.nD Cert.DwinEv.τ Cert.DwinEv.sig) → Buf (Elt Bits) ℓ) (g : Dev Cert.DwinEv.nD → PrngReg), Pre_DwinEv m →
    θ_run (Cert.DwinEv.defs (F := Bits)) (onTc (τ := Cert.DwinEv.τ) (Cert.DwinEv.main (F := Bits))) ⟨m, fun _ => 0, g⟩ (fun r => (∀ c : Dev Cert.DwinEv.nD,
      r.2.mem ((c.tc : Thread Cert.DwinEv.nD Cert.DwinEv.τ).loc Cert.DwinEv.main_arg0) = m ((c.tc : Thread Cert.DwinEv.nD Cert.DwinEv.τ).loc Cert.DwinEv.main_arg0)
      ∧ r.2.mem ((c.tc : Thread Cert.DwinEv.nD Cert.DwinEv.τ).loc Cert.DwinEv.main_arg1) = m ((c.tc : Thread Cert.DwinEv.nD Cert.DwinEv.τ).loc Cert.DwinEv.main_arg1))
      ∧ r.2.sem = fun _ => 0)

def quiescent_DwinEvIdeal [hDwinEvIdeal : Cert.DwinEvIdeal.Facts] : Prop :=
  ∀ (m : (ℓ : Loc Cert.DwinEvIdeal.nD Cert.DwinEvIdeal.τ Cert.DwinEvIdeal.sig) → Buf (Elt Ideal) ℓ) (g : Dev Cert.DwinEvIdeal.nD → PrngReg), Pre_DwinEvIdeal m →
    θ_run (Cert.DwinEvIdeal.defs (F := Ideal)) (onTc (τ := Cert.DwinEvIdeal.τ) (Cert.DwinEvIdeal.main (F := Ideal))) ⟨m, fun _ => 0, g⟩ (fun r => (∀ c : Dev Cert.DwinEvIdeal.nD,
      r.2.mem ((c.tc : Thread Cert.DwinEvIdeal.nD Cert.DwinEvIdeal.τ).loc Cert.DwinEvIdeal.main_arg0) = m ((c.tc : Thread Cert.DwinEvIdeal.nD Cert.DwinEvIdeal.τ).loc Cert.DwinEvIdeal.main_arg0)
      ∧ r.2.mem ((c.tc : Thread Cert.DwinEvIdeal.nD Cert.DwinEvIdeal.τ).loc Cert.DwinEvIdeal.main_arg1) = m ((c.tc : Thread Cert.DwinEvIdeal.nD Cert.DwinEvIdeal.τ).loc Cert.DwinEvIdeal.main_arg1))
      ∧ r.2.sem = fun _ => 0)

def quiescent_DwinEvRefIdeal [hDwinEvRefIdeal : Cert.DwinEvRefIdeal.Facts] : Prop :=
  ∀ (m : (ℓ : Loc Cert.DwinEvRefIdeal.nD Cert.DwinEvRefIdeal.τ Cert.DwinEvRefIdeal.sig) → Buf (Elt Ideal) ℓ) (g : Dev Cert.DwinEvRefIdeal.nD → PrngReg), Pre_DwinEvRefIdeal m →
    θ_run (Cert.DwinEvRefIdeal.defs (F := Ideal)) (onTc (τ := Cert.DwinEvRefIdeal.τ) (Cert.DwinEvRefIdeal.main (F := Ideal))) ⟨m, fun _ => 0, g⟩ (fun r => (∀ c : Dev Cert.DwinEvRefIdeal.nD,
      r.2.mem ((c.tc : Thread Cert.DwinEvRefIdeal.nD Cert.DwinEvRefIdeal.τ).loc Cert.DwinEvRefIdeal.main_arg0) = m ((c.tc : Thread Cert.DwinEvRefIdeal.nD Cert.DwinEvRefIdeal.τ).loc Cert.DwinEvRefIdeal.main_arg0)
      ∧ r.2.mem ((c.tc : Thread Cert.DwinEvRefIdeal.nD Cert.DwinEvRefIdeal.τ).loc Cert.DwinEvRefIdeal.main_arg1) = m ((c.tc : Thread Cert.DwinEvRefIdeal.nD Cert.DwinEvRefIdeal.τ).loc Cert.DwinEvRefIdeal.main_arg1))
      ∧ r.2.sem = fun _ => 0)

def quiescent_DwinOd [hDwinOd : Cert.DwinOd.Facts] : Prop :=
  ∀ (m : (ℓ : Loc Cert.DwinOd.nD Cert.DwinOd.τ Cert.DwinOd.sig) → Buf (Elt Bits) ℓ) (g : Dev Cert.DwinOd.nD → PrngReg), Pre_DwinOd m →
    θ_run (Cert.DwinOd.defs (F := Bits)) (onTc (τ := Cert.DwinOd.τ) (Cert.DwinOd.main (F := Bits))) ⟨m, fun _ => 0, g⟩ (fun r => (∀ c : Dev Cert.DwinOd.nD,
      r.2.mem ((c.tc : Thread Cert.DwinOd.nD Cert.DwinOd.τ).loc Cert.DwinOd.main_arg0) = m ((c.tc : Thread Cert.DwinOd.nD Cert.DwinOd.τ).loc Cert.DwinOd.main_arg0)
      ∧ r.2.mem ((c.tc : Thread Cert.DwinOd.nD Cert.DwinOd.τ).loc Cert.DwinOd.main_arg1) = m ((c.tc : Thread Cert.DwinOd.nD Cert.DwinOd.τ).loc Cert.DwinOd.main_arg1))
      ∧ r.2.sem = fun _ => 0)

def quiescent_DwinOdIdeal [hDwinOdIdeal : Cert.DwinOdIdeal.Facts] : Prop :=
  ∀ (m : (ℓ : Loc Cert.DwinOdIdeal.nD Cert.DwinOdIdeal.τ Cert.DwinOdIdeal.sig) → Buf (Elt Ideal) ℓ) (g : Dev Cert.DwinOdIdeal.nD → PrngReg), Pre_DwinOdIdeal m →
    θ_run (Cert.DwinOdIdeal.defs (F := Ideal)) (onTc (τ := Cert.DwinOdIdeal.τ) (Cert.DwinOdIdeal.main (F := Ideal))) ⟨m, fun _ => 0, g⟩ (fun r => (∀ c : Dev Cert.DwinOdIdeal.nD,
      r.2.mem ((c.tc : Thread Cert.DwinOdIdeal.nD Cert.DwinOdIdeal.τ).loc Cert.DwinOdIdeal.main_arg0) = m ((c.tc : Thread Cert.DwinOdIdeal.nD Cert.DwinOdIdeal.τ).loc Cert.DwinOdIdeal.main_arg0)
      ∧ r.2.mem ((c.tc : Thread Cert.DwinOdIdeal.nD Cert.DwinOdIdeal.τ).loc Cert.DwinOdIdeal.main_arg1) = m ((c.tc : Thread Cert.DwinOdIdeal.nD Cert.DwinOdIdeal.τ).loc Cert.DwinOdIdeal.main_arg1))
      ∧ r.2.sem = fun _ => 0)

def quiescent_DwinOdRefIdeal [hDwinOdRefIdeal : Cert.DwinOdRefIdeal.Facts] : Prop :=
  ∀ (m : (ℓ : Loc Cert.DwinOdRefIdeal.nD Cert.DwinOdRefIdeal.τ Cert.DwinOdRefIdeal.sig) → Buf (Elt Ideal) ℓ) (g : Dev Cert.DwinOdRefIdeal.nD → PrngReg), Pre_DwinOdRefIdeal m →
    θ_run (Cert.DwinOdRefIdeal.defs (F := Ideal)) (onTc (τ := Cert.DwinOdRefIdeal.τ) (Cert.DwinOdRefIdeal.main (F := Ideal))) ⟨m, fun _ => 0, g⟩ (fun r => (∀ c : Dev Cert.DwinOdRefIdeal.nD,
      r.2.mem ((c.tc : Thread Cert.DwinOdRefIdeal.nD Cert.DwinOdRefIdeal.τ).loc Cert.DwinOdRefIdeal.main_arg0) = m ((c.tc : Thread Cert.DwinOdRefIdeal.nD Cert.DwinOdRefIdeal.τ).loc Cert.DwinOdRefIdeal.main_arg0)
      ∧ r.2.mem ((c.tc : Thread Cert.DwinOdRefIdeal.nD Cert.DwinOdRefIdeal.τ).loc Cert.DwinOdRefIdeal.main_arg1) = m ((c.tc : Thread Cert.DwinOdRefIdeal.nD Cert.DwinOdRefIdeal.τ).loc Cert.DwinOdRefIdeal.main_arg1))
      ∧ r.2.sem = fun _ => 0)

def quiescent_DnormEv [hDnormEv : Cert.DnormEv.Facts] : Prop :=
  ∀ (m : (ℓ : Loc Cert.DnormEv.nD Cert.DnormEv.τ Cert.DnormEv.sig) → Buf (Elt Bits) ℓ) (g : Dev Cert.DnormEv.nD → PrngReg), Pre_DnormEv m →
    θ_run (Cert.DnormEv.defs (F := Bits)) (onTc (τ := Cert.DnormEv.τ) (Cert.DnormEv.main (F := Bits))) ⟨m, fun _ => 0, g⟩ (fun r => (∀ c : Dev Cert.DnormEv.nD,
      r.2.mem ((c.tc : Thread Cert.DnormEv.nD Cert.DnormEv.τ).loc Cert.DnormEv.main_arg0) = m ((c.tc : Thread Cert.DnormEv.nD Cert.DnormEv.τ).loc Cert.DnormEv.main_arg0)
      ∧ r.2.mem ((c.tc : Thread Cert.DnormEv.nD Cert.DnormEv.τ).loc Cert.DnormEv.main_arg1) = m ((c.tc : Thread Cert.DnormEv.nD Cert.DnormEv.τ).loc Cert.DnormEv.main_arg1)
      ∧ r.2.mem ((c.tc : Thread Cert.DnormEv.nD Cert.DnormEv.τ).loc Cert.DnormEv.main_arg2) = m ((c.tc : Thread Cert.DnormEv.nD Cert.DnormEv.τ).loc Cert.DnormEv.main_arg2)
      ∧ r.2.mem ((c.tc : Thread Cert.DnormEv.nD Cert.DnormEv.τ).loc Cert.DnormEv.main_arg3) = m ((c.tc : Thread Cert.DnormEv.nD Cert.DnormEv.τ).loc Cert.DnormEv.main_arg3)
      ∧ r.2.mem ((c.tc : Thread Cert.DnormEv.nD Cert.DnormEv.τ).loc Cert.DnormEv.main_arg4) = m ((c.tc : Thread Cert.DnormEv.nD Cert.DnormEv.τ).loc Cert.DnormEv.main_arg4))
      ∧ r.2.sem = fun _ => 0)

def quiescent_DnormEvIdeal [hDnormEvIdeal : Cert.DnormEvIdeal.Facts] : Prop :=
  ∀ (m : (ℓ : Loc Cert.DnormEvIdeal.nD Cert.DnormEvIdeal.τ Cert.DnormEvIdeal.sig) → Buf (Elt Ideal) ℓ) (g : Dev Cert.DnormEvIdeal.nD → PrngReg), Pre_DnormEvIdeal m →
    θ_run (Cert.DnormEvIdeal.defs (F := Ideal)) (onTc (τ := Cert.DnormEvIdeal.τ) (Cert.DnormEvIdeal.main (F := Ideal))) ⟨m, fun _ => 0, g⟩ (fun r => (∀ c : Dev Cert.DnormEvIdeal.nD,
      r.2.mem ((c.tc : Thread Cert.DnormEvIdeal.nD Cert.DnormEvIdeal.τ).loc Cert.DnormEvIdeal.main_arg0) = m ((c.tc : Thread Cert.DnormEvIdeal.nD Cert.DnormEvIdeal.τ).loc Cert.DnormEvIdeal.main_arg0)
      ∧ r.2.mem ((c.tc : Thread Cert.DnormEvIdeal.nD Cert.DnormEvIdeal.τ).loc Cert.DnormEvIdeal.main_arg1) = m ((c.tc : Thread Cert.DnormEvIdeal.nD Cert.DnormEvIdeal.τ).loc Cert.DnormEvIdeal.main_arg1)
      ∧ r.2.mem ((c.tc : Thread Cert.DnormEvIdeal.nD Cert.DnormEvIdeal.τ).loc Cert.DnormEvIdeal.main_arg2) = m ((c.tc : Thread Cert.DnormEvIdeal.nD Cert.DnormEvIdeal.τ).loc Cert.DnormEvIdeal.main_arg2)
      ∧ r.2.mem ((c.tc : Thread Cert.DnormEvIdeal.nD Cert.DnormEvIdeal.τ).loc Cert.DnormEvIdeal.main_arg3) = m ((c.tc : Thread Cert.DnormEvIdeal.nD Cert.DnormEvIdeal.τ).loc Cert.DnormEvIdeal.main_arg3)
      ∧ r.2.mem ((c.tc : Thread Cert.DnormEvIdeal.nD Cert.DnormEvIdeal.τ).loc Cert.DnormEvIdeal.main_arg4) = m ((c.tc : Thread Cert.DnormEvIdeal.nD Cert.DnormEvIdeal.τ).loc Cert.DnormEvIdeal.main_arg4))
      ∧ r.2.sem = fun _ => 0)

def quiescent_DnormEvRefIdeal [hDnormEvRefIdeal : Cert.DnormEvRefIdeal.Facts] : Prop :=
  ∀ (m : (ℓ : Loc Cert.DnormEvRefIdeal.nD Cert.DnormEvRefIdeal.τ Cert.DnormEvRefIdeal.sig) → Buf (Elt Ideal) ℓ) (g : Dev Cert.DnormEvRefIdeal.nD → PrngReg), Pre_DnormEvRefIdeal m →
    θ_run (Cert.DnormEvRefIdeal.defs (F := Ideal)) (onTc (τ := Cert.DnormEvRefIdeal.τ) (Cert.DnormEvRefIdeal.main (F := Ideal))) ⟨m, fun _ => 0, g⟩ (fun r => (∀ c : Dev Cert.DnormEvRefIdeal.nD,
      r.2.mem ((c.tc : Thread Cert.DnormEvRefIdeal.nD Cert.DnormEvRefIdeal.τ).loc Cert.DnormEvRefIdeal.main_arg0) = m ((c.tc : Thread Cert.DnormEvRefIdeal.nD Cert.DnormEvRefIdeal.τ).loc Cert.DnormEvRefIdeal.main_arg0)
      ∧ r.2.mem ((c.tc : Thread Cert.DnormEvRefIdeal.nD Cert.DnormEvRefIdeal.τ).loc Cert.DnormEvRefIdeal.main_arg1) = m ((c.tc : Thread Cert.DnormEvRefIdeal.nD Cert.DnormEvRefIdeal.τ).loc Cert.DnormEvRefIdeal.main_arg1)
      ∧ r.2.mem ((c.tc : Thread Cert.DnormEvRefIdeal.nD Cert.DnormEvRefIdeal.τ).loc Cert.DnormEvRefIdeal.main_arg2) = m ((c.tc : Thread Cert.DnormEvRefIdeal.nD Cert.DnormEvRefIdeal.τ).loc Cert.DnormEvRefIdeal.main_arg2)
      ∧ r.2.mem ((c.tc : Thread Cert.DnormEvRefIdeal.nD Cert.DnormEvRefIdeal.τ).loc Cert.DnormEvRefIdeal.main_arg3) = m ((c.tc : Thread Cert.DnormEvRefIdeal.nD Cert.DnormEvRefIdeal.τ).loc Cert.DnormEvRefIdeal.main_arg3)
      ∧ r.2.mem ((c.tc : Thread Cert.DnormEvRefIdeal.nD Cert.DnormEvRefIdeal.τ).loc Cert.DnormEvRefIdeal.main_arg4) = m ((c.tc : Thread Cert.DnormEvRefIdeal.nD Cert.DnormEvRefIdeal.τ).loc Cert.DnormEvRefIdeal.main_arg4))
      ∧ r.2.sem = fun _ => 0)

def quiescent_DnormOd [hDnormOd : Cert.DnormOd.Facts] : Prop :=
  ∀ (m : (ℓ : Loc Cert.DnormOd.nD Cert.DnormOd.τ Cert.DnormOd.sig) → Buf (Elt Bits) ℓ) (g : Dev Cert.DnormOd.nD → PrngReg), Pre_DnormOd m →
    θ_run (Cert.DnormOd.defs (F := Bits)) (onTc (τ := Cert.DnormOd.τ) (Cert.DnormOd.main (F := Bits))) ⟨m, fun _ => 0, g⟩ (fun r => (∀ c : Dev Cert.DnormOd.nD,
      r.2.mem ((c.tc : Thread Cert.DnormOd.nD Cert.DnormOd.τ).loc Cert.DnormOd.main_arg0) = m ((c.tc : Thread Cert.DnormOd.nD Cert.DnormOd.τ).loc Cert.DnormOd.main_arg0)
      ∧ r.2.mem ((c.tc : Thread Cert.DnormOd.nD Cert.DnormOd.τ).loc Cert.DnormOd.main_arg1) = m ((c.tc : Thread Cert.DnormOd.nD Cert.DnormOd.τ).loc Cert.DnormOd.main_arg1)
      ∧ r.2.mem ((c.tc : Thread Cert.DnormOd.nD Cert.DnormOd.τ).loc Cert.DnormOd.main_arg2) = m ((c.tc : Thread Cert.DnormOd.nD Cert.DnormOd.τ).loc Cert.DnormOd.main_arg2)
      ∧ r.2.mem ((c.tc : Thread Cert.DnormOd.nD Cert.DnormOd.τ).loc Cert.DnormOd.main_arg3) = m ((c.tc : Thread Cert.DnormOd.nD Cert.DnormOd.τ).loc Cert.DnormOd.main_arg3)
      ∧ r.2.mem ((c.tc : Thread Cert.DnormOd.nD Cert.DnormOd.τ).loc Cert.DnormOd.main_arg4) = m ((c.tc : Thread Cert.DnormOd.nD Cert.DnormOd.τ).loc Cert.DnormOd.main_arg4))
      ∧ r.2.sem = fun _ => 0)

def quiescent_DnormOdIdeal [hDnormOdIdeal : Cert.DnormOdIdeal.Facts] : Prop :=
  ∀ (m : (ℓ : Loc Cert.DnormOdIdeal.nD Cert.DnormOdIdeal.τ Cert.DnormOdIdeal.sig) → Buf (Elt Ideal) ℓ) (g : Dev Cert.DnormOdIdeal.nD → PrngReg), Pre_DnormOdIdeal m →
    θ_run (Cert.DnormOdIdeal.defs (F := Ideal)) (onTc (τ := Cert.DnormOdIdeal.τ) (Cert.DnormOdIdeal.main (F := Ideal))) ⟨m, fun _ => 0, g⟩ (fun r => (∀ c : Dev Cert.DnormOdIdeal.nD,
      r.2.mem ((c.tc : Thread Cert.DnormOdIdeal.nD Cert.DnormOdIdeal.τ).loc Cert.DnormOdIdeal.main_arg0) = m ((c.tc : Thread Cert.DnormOdIdeal.nD Cert.DnormOdIdeal.τ).loc Cert.DnormOdIdeal.main_arg0)
      ∧ r.2.mem ((c.tc : Thread Cert.DnormOdIdeal.nD Cert.DnormOdIdeal.τ).loc Cert.DnormOdIdeal.main_arg1) = m ((c.tc : Thread Cert.DnormOdIdeal.nD Cert.DnormOdIdeal.τ).loc Cert.DnormOdIdeal.main_arg1)
      ∧ r.2.mem ((c.tc : Thread Cert.DnormOdIdeal.nD Cert.DnormOdIdeal.τ).loc Cert.DnormOdIdeal.main_arg2) = m ((c.tc : Thread Cert.DnormOdIdeal.nD Cert.DnormOdIdeal.τ).loc Cert.DnormOdIdeal.main_arg2)
      ∧ r.2.mem ((c.tc : Thread Cert.DnormOdIdeal.nD Cert.DnormOdIdeal.τ).loc Cert.DnormOdIdeal.main_arg3) = m ((c.tc : Thread Cert.DnormOdIdeal.nD Cert.DnormOdIdeal.τ).loc Cert.DnormOdIdeal.main_arg3)
      ∧ r.2.mem ((c.tc : Thread Cert.DnormOdIdeal.nD Cert.DnormOdIdeal.τ).loc Cert.DnormOdIdeal.main_arg4) = m ((c.tc : Thread Cert.DnormOdIdeal.nD Cert.DnormOdIdeal.τ).loc Cert.DnormOdIdeal.main_arg4))
      ∧ r.2.sem = fun _ => 0)

def quiescent_DnormOdRefIdeal [hDnormOdRefIdeal : Cert.DnormOdRefIdeal.Facts] : Prop :=
  ∀ (m : (ℓ : Loc Cert.DnormOdRefIdeal.nD Cert.DnormOdRefIdeal.τ Cert.DnormOdRefIdeal.sig) → Buf (Elt Ideal) ℓ) (g : Dev Cert.DnormOdRefIdeal.nD → PrngReg), Pre_DnormOdRefIdeal m →
    θ_run (Cert.DnormOdRefIdeal.defs (F := Ideal)) (onTc (τ := Cert.DnormOdRefIdeal.τ) (Cert.DnormOdRefIdeal.main (F := Ideal))) ⟨m, fun _ => 0, g⟩ (fun r => (∀ c : Dev Cert.DnormOdRefIdeal.nD,
      r.2.mem ((c.tc : Thread Cert.DnormOdRefIdeal.nD Cert.DnormOdRefIdeal.τ).loc Cert.DnormOdRefIdeal.main_arg0) = m ((c.tc : Thread Cert.DnormOdRefIdeal.nD Cert.DnormOdRefIdeal.τ).loc Cert.DnormOdRefIdeal.main_arg0)
      ∧ r.2.mem ((c.tc : Thread Cert.DnormOdRefIdeal.nD Cert.DnormOdRefIdeal.τ).loc Cert.DnormOdRefIdeal.main_arg1) = m ((c.tc : Thread Cert.DnormOdRefIdeal.nD Cert.DnormOdRefIdeal.τ).loc Cert.DnormOdRefIdeal.main_arg1)
      ∧ r.2.mem ((c.tc : Thread Cert.DnormOdRefIdeal.nD Cert.DnormOdRefIdeal.τ).loc Cert.DnormOdRefIdeal.main_arg2) = m ((c.tc : Thread Cert.DnormOdRefIdeal.nD Cert.DnormOdRefIdeal.τ).loc Cert.DnormOdRefIdeal.main_arg2)
      ∧ r.2.mem ((c.tc : Thread Cert.DnormOdRefIdeal.nD Cert.DnormOdRefIdeal.τ).loc Cert.DnormOdRefIdeal.main_arg3) = m ((c.tc : Thread Cert.DnormOdRefIdeal.nD Cert.DnormOdRefIdeal.τ).loc Cert.DnormOdRefIdeal.main_arg3)
      ∧ r.2.mem ((c.tc : Thread Cert.DnormOdRefIdeal.nD Cert.DnormOdRefIdeal.τ).loc Cert.DnormOdRefIdeal.main_arg4) = m ((c.tc : Thread Cert.DnormOdRefIdeal.nD Cert.DnormOdRefIdeal.τ).loc Cert.DnormOdRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_InEv [hInEv : Cert.InEv.Facts] : Prop :=
  ∀ (m : (ℓ : Loc Cert.InEv.nD Cert.InEv.τ Cert.InEv.sig) → Buf (Elt Bits) ℓ) (g : Dev Cert.InEv.nD → PrngReg), Pre_InEv m →
    θ_run (Cert.InEv.defs (F := Bits)) (onTc (τ := Cert.InEv.τ) (Cert.InEv.main (F := Bits))) ⟨m, fun _ => 0, g⟩ (fun r => (∀ c : Dev Cert.InEv.nD,
      r.2.mem ((c.tc : Thread Cert.InEv.nD Cert.InEv.τ).loc Cert.InEv.main_arg0) = m ((c.tc : Thread Cert.InEv.nD Cert.InEv.τ).loc Cert.InEv.main_arg0)
      ∧ r.2.mem ((c.tc : Thread Cert.InEv.nD Cert.InEv.τ).loc Cert.InEv.main_arg1) = m ((c.tc : Thread Cert.InEv.nD Cert.InEv.τ).loc Cert.InEv.main_arg1))
      ∧ r.2.sem = fun _ => 0)

def quiescent_InEvIdeal [hInEvIdeal : Cert.InEvIdeal.Facts] : Prop :=
  ∀ (m : (ℓ : Loc Cert.InEvIdeal.nD Cert.InEvIdeal.τ Cert.InEvIdeal.sig) → Buf (Elt Ideal) ℓ) (g : Dev Cert.InEvIdeal.nD → PrngReg), Pre_InEvIdeal m →
    θ_run (Cert.InEvIdeal.defs (F := Ideal)) (onTc (τ := Cert.InEvIdeal.τ) (Cert.InEvIdeal.main (F := Ideal))) ⟨m, fun _ => 0, g⟩ (fun r => (∀ c : Dev Cert.InEvIdeal.nD,
      r.2.mem ((c.tc : Thread Cert.InEvIdeal.nD Cert.InEvIdeal.τ).loc Cert.InEvIdeal.main_arg0) = m ((c.tc : Thread Cert.InEvIdeal.nD Cert.InEvIdeal.τ).loc Cert.InEvIdeal.main_arg0)
      ∧ r.2.mem ((c.tc : Thread Cert.InEvIdeal.nD Cert.InEvIdeal.τ).loc Cert.InEvIdeal.main_arg1) = m ((c.tc : Thread Cert.InEvIdeal.nD Cert.InEvIdeal.τ).loc Cert.InEvIdeal.main_arg1))
      ∧ r.2.sem = fun _ => 0)

def quiescent_InEvRefIdeal [hInEvRefIdeal : Cert.InEvRefIdeal.Facts] : Prop :=
  ∀ (m : (ℓ : Loc Cert.InEvRefIdeal.nD Cert.InEvRefIdeal.τ Cert.InEvRefIdeal.sig) → Buf (Elt Ideal) ℓ) (g : Dev Cert.InEvRefIdeal.nD → PrngReg), Pre_InEvRefIdeal m →
    θ_run (Cert.InEvRefIdeal.defs (F := Ideal)) (onTc (τ := Cert.InEvRefIdeal.τ) (Cert.InEvRefIdeal.main (F := Ideal))) ⟨m, fun _ => 0, g⟩ (fun r => (∀ c : Dev Cert.InEvRefIdeal.nD,
      r.2.mem ((c.tc : Thread Cert.InEvRefIdeal.nD Cert.InEvRefIdeal.τ).loc Cert.InEvRefIdeal.main_arg0) = m ((c.tc : Thread Cert.InEvRefIdeal.nD Cert.InEvRefIdeal.τ).loc Cert.InEvRefIdeal.main_arg0)
      ∧ r.2.mem ((c.tc : Thread Cert.InEvRefIdeal.nD Cert.InEvRefIdeal.τ).loc Cert.InEvRefIdeal.main_arg1) = m ((c.tc : Thread Cert.InEvRefIdeal.nD Cert.InEvRefIdeal.τ).loc Cert.InEvRefIdeal.main_arg1))
      ∧ r.2.sem = fun _ => 0)

def quiescent_InOd [hInOd : Cert.InOd.Facts] : Prop :=
  ∀ (m : (ℓ : Loc Cert.InOd.nD Cert.InOd.τ Cert.InOd.sig) → Buf (Elt Bits) ℓ) (g : Dev Cert.InOd.nD → PrngReg), Pre_InOd m →
    θ_run (Cert.InOd.defs (F := Bits)) (onTc (τ := Cert.InOd.τ) (Cert.InOd.main (F := Bits))) ⟨m, fun _ => 0, g⟩ (fun r => (∀ c : Dev Cert.InOd.nD,
      r.2.mem ((c.tc : Thread Cert.InOd.nD Cert.InOd.τ).loc Cert.InOd.main_arg0) = m ((c.tc : Thread Cert.InOd.nD Cert.InOd.τ).loc Cert.InOd.main_arg0)
      ∧ r.2.mem ((c.tc : Thread Cert.InOd.nD Cert.InOd.τ).loc Cert.InOd.main_arg1) = m ((c.tc : Thread Cert.InOd.nD Cert.InOd.τ).loc Cert.InOd.main_arg1))
      ∧ r.2.sem = fun _ => 0)

def quiescent_InOdIdeal [hInOdIdeal : Cert.InOdIdeal.Facts] : Prop :=
  ∀ (m : (ℓ : Loc Cert.InOdIdeal.nD Cert.InOdIdeal.τ Cert.InOdIdeal.sig) → Buf (Elt Ideal) ℓ) (g : Dev Cert.InOdIdeal.nD → PrngReg), Pre_InOdIdeal m →
    θ_run (Cert.InOdIdeal.defs (F := Ideal)) (onTc (τ := Cert.InOdIdeal.τ) (Cert.InOdIdeal.main (F := Ideal))) ⟨m, fun _ => 0, g⟩ (fun r => (∀ c : Dev Cert.InOdIdeal.nD,
      r.2.mem ((c.tc : Thread Cert.InOdIdeal.nD Cert.InOdIdeal.τ).loc Cert.InOdIdeal.main_arg0) = m ((c.tc : Thread Cert.InOdIdeal.nD Cert.InOdIdeal.τ).loc Cert.InOdIdeal.main_arg0)
      ∧ r.2.mem ((c.tc : Thread Cert.InOdIdeal.nD Cert.InOdIdeal.τ).loc Cert.InOdIdeal.main_arg1) = m ((c.tc : Thread Cert.InOdIdeal.nD Cert.InOdIdeal.τ).loc Cert.InOdIdeal.main_arg1))
      ∧ r.2.sem = fun _ => 0)

def quiescent_InOdRefIdeal [hInOdRefIdeal : Cert.InOdRefIdeal.Facts] : Prop :=
  ∀ (m : (ℓ : Loc Cert.InOdRefIdeal.nD Cert.InOdRefIdeal.τ Cert.InOdRefIdeal.sig) → Buf (Elt Ideal) ℓ) (g : Dev Cert.InOdRefIdeal.nD → PrngReg), Pre_InOdRefIdeal m →
    θ_run (Cert.InOdRefIdeal.defs (F := Ideal)) (onTc (τ := Cert.InOdRefIdeal.τ) (Cert.InOdRefIdeal.main (F := Ideal))) ⟨m, fun _ => 0, g⟩ (fun r => (∀ c : Dev Cert.InOdRefIdeal.nD,
      r.2.mem ((c.tc : Thread Cert.InOdRefIdeal.nD Cert.InOdRefIdeal.τ).loc Cert.InOdRefIdeal.main_arg0) = m ((c.tc : Thread Cert.InOdRefIdeal.nD Cert.InOdRefIdeal.τ).loc Cert.InOdRefIdeal.main_arg0)
      ∧ r.2.mem ((c.tc : Thread Cert.InOdRefIdeal.nD Cert.InOdRefIdeal.τ).loc Cert.InOdRefIdeal.main_arg1) = m ((c.tc : Thread Cert.InOdRefIdeal.nD Cert.InOdRefIdeal.τ).loc Cert.InOdRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ r.2.sem = fun _ => 0)

def quiescent_TailIdeal_pre_finite_tail [hTailIdeal : Cert.TailIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite_tail m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3))
      ∧ r.2.sem = fun _ => 0)

def quiescent_TailRefIdeal_pre_finite_tail [hTailRefIdeal : Cert.TailRefIdeal.Facts] [hPre_finite_tail : Cert.Pre_finite_tail.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite_tail m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3))
      ∧ r.2.sem = fun _ => 0)

def quiescent_AdamEvIn [hAdamEvIn : Cert.AdamEvIn.Facts] : Prop :=
  ∀ (m : (ℓ : Loc Cert.AdamEvIn.nD Cert.AdamEvIn.τ Cert.AdamEvIn.sig) → Buf (Elt Bits) ℓ) (g : Dev Cert.AdamEvIn.nD → PrngReg), Pre_AdamEvIn m →
    θ_run (Cert.AdamEvIn.defs (F := Bits)) (onTc (τ := Cert.AdamEvIn.τ) (Cert.AdamEvIn.main (F := Bits))) ⟨m, fun _ => 0, g⟩ (fun r => (∀ c : Dev Cert.AdamEvIn.nD,
      r.2.mem ((c.tc : Thread Cert.AdamEvIn.nD Cert.AdamEvIn.τ).loc Cert.AdamEvIn.main_arg0) = m ((c.tc : Thread Cert.AdamEvIn.nD Cert.AdamEvIn.τ).loc Cert.AdamEvIn.main_arg0)
      ∧ r.2.mem ((c.tc : Thread Cert.AdamEvIn.nD Cert.AdamEvIn.τ).loc Cert.AdamEvIn.main_arg1) = m ((c.tc : Thread Cert.AdamEvIn.nD Cert.AdamEvIn.τ).loc Cert.AdamEvIn.main_arg1)
      ∧ r.2.mem ((c.tc : Thread Cert.AdamEvIn.nD Cert.AdamEvIn.τ).loc Cert.AdamEvIn.main_arg2) = m ((c.tc : Thread Cert.AdamEvIn.nD Cert.AdamEvIn.τ).loc Cert.AdamEvIn.main_arg2)
      ∧ r.2.mem ((c.tc : Thread Cert.AdamEvIn.nD Cert.AdamEvIn.τ).loc Cert.AdamEvIn.main_arg3) = m ((c.tc : Thread Cert.AdamEvIn.nD Cert.AdamEvIn.τ).loc Cert.AdamEvIn.main_arg3))
      ∧ r.2.sem = fun _ => 0)

def quiescent_AdamEvInIdeal [hAdamEvInIdeal : Cert.AdamEvInIdeal.Facts] : Prop :=
  ∀ (m : (ℓ : Loc Cert.AdamEvInIdeal.nD Cert.AdamEvInIdeal.τ Cert.AdamEvInIdeal.sig) → Buf (Elt Ideal) ℓ) (g : Dev Cert.AdamEvInIdeal.nD → PrngReg), Pre_AdamEvInIdeal m →
    θ_run (Cert.AdamEvInIdeal.defs (F := Ideal)) (onTc (τ := Cert.AdamEvInIdeal.τ) (Cert.AdamEvInIdeal.main (F := Ideal))) ⟨m, fun _ => 0, g⟩ (fun r => (∀ c : Dev Cert.AdamEvInIdeal.nD,
      r.2.mem ((c.tc : Thread Cert.AdamEvInIdeal.nD Cert.AdamEvInIdeal.τ).loc Cert.AdamEvInIdeal.main_arg0) = m ((c.tc : Thread Cert.AdamEvInIdeal.nD Cert.AdamEvInIdeal.τ).loc Cert.AdamEvInIdeal.main_arg0)
      ∧ r.2.mem ((c.tc : Thread Cert.AdamEvInIdeal.nD Cert.AdamEvInIdeal.τ).loc Cert.AdamEvInIdeal.main_arg1) = m ((c.tc : Thread Cert.AdamEvInIdeal.nD Cert.AdamEvInIdeal.τ).loc Cert.AdamEvInIdeal.main_arg1)
      ∧ r.2.mem ((c.tc : Thread Cert.AdamEvInIdeal.nD Cert.AdamEvInIdeal.τ).loc Cert.AdamEvInIdeal.main_arg2) = m ((c.tc : Thread Cert.AdamEvInIdeal.nD Cert.AdamEvInIdeal.τ).loc Cert.AdamEvInIdeal.main_arg2)
      ∧ r.2.mem ((c.tc : Thread Cert.AdamEvInIdeal.nD Cert.AdamEvInIdeal.τ).loc Cert.AdamEvInIdeal.main_arg3) = m ((c.tc : Thread Cert.AdamEvInIdeal.nD Cert.AdamEvInIdeal.τ).loc Cert.AdamEvInIdeal.main_arg3))
      ∧ r.2.sem = fun _ => 0)

def quiescent_AdamEvInRefIdeal [hAdamEvInRefIdeal : Cert.AdamEvInRefIdeal.Facts] : Prop :=
  ∀ (m : (ℓ : Loc Cert.AdamEvInRefIdeal.nD Cert.AdamEvInRefIdeal.τ Cert.AdamEvInRefIdeal.sig) → Buf (Elt Ideal) ℓ) (g : Dev Cert.AdamEvInRefIdeal.nD → PrngReg), Pre_AdamEvInRefIdeal m →
    θ_run (Cert.AdamEvInRefIdeal.defs (F := Ideal)) (onTc (τ := Cert.AdamEvInRefIdeal.τ) (Cert.AdamEvInRefIdeal.main (F := Ideal))) ⟨m, fun _ => 0, g⟩ (fun r => (∀ c : Dev Cert.AdamEvInRefIdeal.nD,
      r.2.mem ((c.tc : Thread Cert.AdamEvInRefIdeal.nD Cert.AdamEvInRefIdeal.τ).loc Cert.AdamEvInRefIdeal.main_arg0) = m ((c.tc : Thread Cert.AdamEvInRefIdeal.nD Cert.AdamEvInRefIdeal.τ).loc Cert.AdamEvInRefIdeal.main_arg0)
      ∧ r.2.mem ((c.tc : Thread Cert.AdamEvInRefIdeal.nD Cert.AdamEvInRefIdeal.τ).loc Cert.AdamEvInRefIdeal.main_arg1) = m ((c.tc : Thread Cert.AdamEvInRefIdeal.nD Cert.AdamEvInRefIdeal.τ).loc Cert.AdamEvInRefIdeal.main_arg1)
      ∧ r.2.mem ((c.tc : Thread Cert.AdamEvInRefIdeal.nD Cert.AdamEvInRefIdeal.τ).loc Cert.AdamEvInRefIdeal.main_arg2) = m ((c.tc : Thread Cert.AdamEvInRefIdeal.nD Cert.AdamEvInRefIdeal.τ).loc Cert.AdamEvInRefIdeal.main_arg2)
      ∧ r.2.mem ((c.tc : Thread Cert.AdamEvInRefIdeal.nD Cert.AdamEvInRefIdeal.τ).loc Cert.AdamEvInRefIdeal.main_arg3) = m ((c.tc : Thread Cert.AdamEvInRefIdeal.nD Cert.AdamEvInRefIdeal.τ).loc Cert.AdamEvInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamOdIn [hAdamOdIn : Cert.AdamOdIn.Facts] : Prop :=
  ∀ (m : (ℓ : Loc Cert.AdamOdIn.nD Cert.AdamOdIn.τ Cert.AdamOdIn.sig) → Buf (Elt Bits) ℓ) (g : Dev Cert.AdamOdIn.nD → PrngReg), Pre_AdamOdIn m →
    θ_run (Cert.AdamOdIn.defs (F := Bits)) (onTc (τ := Cert.AdamOdIn.τ) (Cert.AdamOdIn.main (F := Bits))) ⟨m, fun _ => 0, g⟩ (fun r => (∀ c : Dev Cert.AdamOdIn.nD,
      r.2.mem ((c.tc : Thread Cert.AdamOdIn.nD Cert.AdamOdIn.τ).loc Cert.AdamOdIn.main_arg0) = m ((c.tc : Thread Cert.AdamOdIn.nD Cert.AdamOdIn.τ).loc Cert.AdamOdIn.main_arg0)
      ∧ r.2.mem ((c.tc : Thread Cert.AdamOdIn.nD Cert.AdamOdIn.τ).loc Cert.AdamOdIn.main_arg1) = m ((c.tc : Thread Cert.AdamOdIn.nD Cert.AdamOdIn.τ).loc Cert.AdamOdIn.main_arg1)
      ∧ r.2.mem ((c.tc : Thread Cert.AdamOdIn.nD Cert.AdamOdIn.τ).loc Cert.AdamOdIn.main_arg2) = m ((c.tc : Thread Cert.AdamOdIn.nD Cert.AdamOdIn.τ).loc Cert.AdamOdIn.main_arg2)
      ∧ r.2.mem ((c.tc : Thread Cert.AdamOdIn.nD Cert.AdamOdIn.τ).loc Cert.AdamOdIn.main_arg3) = m ((c.tc : Thread Cert.AdamOdIn.nD Cert.AdamOdIn.τ).loc Cert.AdamOdIn.main_arg3))
      ∧ r.2.sem = fun _ => 0)

def quiescent_AdamOdInIdeal [hAdamOdInIdeal : Cert.AdamOdInIdeal.Facts] : Prop :=
  ∀ (m : (ℓ : Loc Cert.AdamOdInIdeal.nD Cert.AdamOdInIdeal.τ Cert.AdamOdInIdeal.sig) → Buf (Elt Ideal) ℓ) (g : Dev Cert.AdamOdInIdeal.nD → PrngReg), Pre_AdamOdInIdeal m →
    θ_run (Cert.AdamOdInIdeal.defs (F := Ideal)) (onTc (τ := Cert.AdamOdInIdeal.τ) (Cert.AdamOdInIdeal.main (F := Ideal))) ⟨m, fun _ => 0, g⟩ (fun r => (∀ c : Dev Cert.AdamOdInIdeal.nD,
      r.2.mem ((c.tc : Thread Cert.AdamOdInIdeal.nD Cert.AdamOdInIdeal.τ).loc Cert.AdamOdInIdeal.main_arg0) = m ((c.tc : Thread Cert.AdamOdInIdeal.nD Cert.AdamOdInIdeal.τ).loc Cert.AdamOdInIdeal.main_arg0)
      ∧ r.2.mem ((c.tc : Thread Cert.AdamOdInIdeal.nD Cert.AdamOdInIdeal.τ).loc Cert.AdamOdInIdeal.main_arg1) = m ((c.tc : Thread Cert.AdamOdInIdeal.nD Cert.AdamOdInIdeal.τ).loc Cert.AdamOdInIdeal.main_arg1)
      ∧ r.2.mem ((c.tc : Thread Cert.AdamOdInIdeal.nD Cert.AdamOdInIdeal.τ).loc Cert.AdamOdInIdeal.main_arg2) = m ((c.tc : Thread Cert.AdamOdInIdeal.nD Cert.AdamOdInIdeal.τ).loc Cert.AdamOdInIdeal.main_arg2)
      ∧ r.2.mem ((c.tc : Thread Cert.AdamOdInIdeal.nD Cert.AdamOdInIdeal.τ).loc Cert.AdamOdInIdeal.main_arg3) = m ((c.tc : Thread Cert.AdamOdInIdeal.nD Cert.AdamOdInIdeal.τ).loc Cert.AdamOdInIdeal.main_arg3))
      ∧ r.2.sem = fun _ => 0)

def quiescent_AdamOdInRefIdeal [hAdamOdInRefIdeal : Cert.AdamOdInRefIdeal.Facts] : Prop :=
  ∀ (m : (ℓ : Loc Cert.AdamOdInRefIdeal.nD Cert.AdamOdInRefIdeal.τ Cert.AdamOdInRefIdeal.sig) → Buf (Elt Ideal) ℓ) (g : Dev Cert.AdamOdInRefIdeal.nD → PrngReg), Pre_AdamOdInRefIdeal m →
    θ_run (Cert.AdamOdInRefIdeal.defs (F := Ideal)) (onTc (τ := Cert.AdamOdInRefIdeal.τ) (Cert.AdamOdInRefIdeal.main (F := Ideal))) ⟨m, fun _ => 0, g⟩ (fun r => (∀ c : Dev Cert.AdamOdInRefIdeal.nD,
      r.2.mem ((c.tc : Thread Cert.AdamOdInRefIdeal.nD Cert.AdamOdInRefIdeal.τ).loc Cert.AdamOdInRefIdeal.main_arg0) = m ((c.tc : Thread Cert.AdamOdInRefIdeal.nD Cert.AdamOdInRefIdeal.τ).loc Cert.AdamOdInRefIdeal.main_arg0)
      ∧ r.2.mem ((c.tc : Thread Cert.AdamOdInRefIdeal.nD Cert.AdamOdInRefIdeal.τ).loc Cert.AdamOdInRefIdeal.main_arg1) = m ((c.tc : Thread Cert.AdamOdInRefIdeal.nD Cert.AdamOdInRefIdeal.τ).loc Cert.AdamOdInRefIdeal.main_arg1)
      ∧ r.2.mem ((c.tc : Thread Cert.AdamOdInRefIdeal.nD Cert.AdamOdInRefIdeal.τ).loc Cert.AdamOdInRefIdeal.main_arg2) = m ((c.tc : Thread Cert.AdamOdInRefIdeal.nD Cert.AdamOdInRefIdeal.τ).loc Cert.AdamOdInRefIdeal.main_arg2)
      ∧ r.2.mem ((c.tc : Thread Cert.AdamOdInRefIdeal.nD Cert.AdamOdInRefIdeal.τ).loc Cert.AdamOdInRefIdeal.main_arg3) = m ((c.tc : Thread Cert.AdamOdInRefIdeal.nD Cert.AdamOdInRefIdeal.τ).loc Cert.AdamOdInRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamSink [hAdamSink : Cert.AdamSink.Facts] : Prop :=
  ∀ (m : (ℓ : Loc Cert.AdamSink.nD Cert.AdamSink.τ Cert.AdamSink.sig) → Buf (Elt Bits) ℓ) (g : Dev Cert.AdamSink.nD → PrngReg), Pre_AdamSink m →
    θ_run (Cert.AdamSink.defs (F := Bits)) (onTc (τ := Cert.AdamSink.τ) (Cert.AdamSink.main (F := Bits))) ⟨m, fun _ => 0, g⟩ (fun r => (∀ c : Dev Cert.AdamSink.nD,
      r.2.mem ((c.tc : Thread Cert.AdamSink.nD Cert.AdamSink.τ).loc Cert.AdamSink.main_arg0) = m ((c.tc : Thread Cert.AdamSink.nD Cert.AdamSink.τ).loc Cert.AdamSink.main_arg0)
      ∧ r.2.mem ((c.tc : Thread Cert.AdamSink.nD Cert.AdamSink.τ).loc Cert.AdamSink.main_arg1) = m ((c.tc : Thread Cert.AdamSink.nD Cert.AdamSink.τ).loc Cert.AdamSink.main_arg1)
      ∧ r.2.mem ((c.tc : Thread Cert.AdamSink.nD Cert.AdamSink.τ).loc Cert.AdamSink.main_arg2) = m ((c.tc : Thread Cert.AdamSink.nD Cert.AdamSink.τ).loc Cert.AdamSink.main_arg2)
      ∧ r.2.mem ((c.tc : Thread Cert.AdamSink.nD Cert.AdamSink.τ).loc Cert.AdamSink.main_arg3) = m ((c.tc : Thread Cert.AdamSink.nD Cert.AdamSink.τ).loc Cert.AdamSink.main_arg3))
      ∧ r.2.sem = fun _ => 0)

def quiescent_AdamSinkIdeal [hAdamSinkIdeal : Cert.AdamSinkIdeal.Facts] : Prop :=
  ∀ (m : (ℓ : Loc Cert.AdamSinkIdeal.nD Cert.AdamSinkIdeal.τ Cert.AdamSinkIdeal.sig) → Buf (Elt Ideal) ℓ) (g : Dev Cert.AdamSinkIdeal.nD → PrngReg), Pre_AdamSinkIdeal m →
    θ_run (Cert.AdamSinkIdeal.defs (F := Ideal)) (onTc (τ := Cert.AdamSinkIdeal.τ) (Cert.AdamSinkIdeal.main (F := Ideal))) ⟨m, fun _ => 0, g⟩ (fun r => (∀ c : Dev Cert.AdamSinkIdeal.nD,
      r.2.mem ((c.tc : Thread Cert.AdamSinkIdeal.nD Cert.AdamSinkIdeal.τ).loc Cert.AdamSinkIdeal.main_arg0) = m ((c.tc : Thread Cert.AdamSinkIdeal.nD Cert.AdamSinkIdeal.τ).loc Cert.AdamSinkIdeal.main_arg0)
      ∧ r.2.mem ((c.tc : Thread Cert.AdamSinkIdeal.nD Cert.AdamSinkIdeal.τ).loc Cert.AdamSinkIdeal.main_arg1) = m ((c.tc : Thread Cert.AdamSinkIdeal.nD Cert.AdamSinkIdeal.τ).loc Cert.AdamSinkIdeal.main_arg1)
      ∧ r.2.mem ((c.tc : Thread Cert.AdamSinkIdeal.nD Cert.AdamSinkIdeal.τ).loc Cert.AdamSinkIdeal.main_arg2) = m ((c.tc : Thread Cert.AdamSinkIdeal.nD Cert.AdamSinkIdeal.τ).loc Cert.AdamSinkIdeal.main_arg2)
      ∧ r.2.mem ((c.tc : Thread Cert.AdamSinkIdeal.nD Cert.AdamSinkIdeal.τ).loc Cert.AdamSinkIdeal.main_arg3) = m ((c.tc : Thread Cert.AdamSinkIdeal.nD Cert.AdamSinkIdeal.τ).loc Cert.AdamSinkIdeal.main_arg3))
      ∧ r.2.sem = fun _ => 0)

def quiescent_AdamSinkRefIdeal [hAdamSinkRefIdeal : Cert.AdamSinkRefIdeal.Facts] : Prop :=
  ∀ (m : (ℓ : Loc Cert.AdamSinkRefIdeal.nD Cert.AdamSinkRefIdeal.τ Cert.AdamSinkRefIdeal.sig) → Buf (Elt Ideal) ℓ) (g : Dev Cert.AdamSinkRefIdeal.nD → PrngReg), Pre_AdamSinkRefIdeal m →
    θ_run (Cert.AdamSinkRefIdeal.defs (F := Ideal)) (onTc (τ := Cert.AdamSinkRefIdeal.τ) (Cert.AdamSinkRefIdeal.main (F := Ideal))) ⟨m, fun _ => 0, g⟩ (fun r => (∀ c : Dev Cert.AdamSinkRefIdeal.nD,
      r.2.mem ((c.tc : Thread Cert.AdamSinkRefIdeal.nD Cert.AdamSinkRefIdeal.τ).loc Cert.AdamSinkRefIdeal.main_arg0) = m ((c.tc : Thread Cert.AdamSinkRefIdeal.nD Cert.AdamSinkRefIdeal.τ).loc Cert.AdamSinkRefIdeal.main_arg0)
      ∧ r.2.mem ((c.tc : Thread Cert.AdamSinkRefIdeal.nD Cert.AdamSinkRefIdeal.τ).loc Cert.AdamSinkRefIdeal.main_arg1) = m ((c.tc : Thread Cert.AdamSinkRefIdeal.nD Cert.AdamSinkRefIdeal.τ).loc Cert.AdamSinkRefIdeal.main_arg1)
      ∧ r.2.mem ((c.tc : Thread Cert.AdamSinkRefIdeal.nD Cert.AdamSinkRefIdeal.τ).loc Cert.AdamSinkRefIdeal.main_arg2) = m ((c.tc : Thread Cert.AdamSinkRefIdeal.nD Cert.AdamSinkRefIdeal.τ).loc Cert.AdamSinkRefIdeal.main_arg2)
      ∧ r.2.mem ((c.tc : Thread Cert.AdamSinkRefIdeal.nD Cert.AdamSinkRefIdeal.τ).loc Cert.AdamSinkRefIdeal.main_arg3) = m ((c.tc : Thread Cert.AdamSinkRefIdeal.nD Cert.AdamSinkRefIdeal.τ).loc Cert.AdamSinkRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamSpatial [hAdamSpatial : Cert.AdamSpatial.Facts] : Prop :=
  ∀ (m : (ℓ : Loc Cert.AdamSpatial.nD Cert.AdamSpatial.τ Cert.AdamSpatial.sig) → Buf (Elt Bits) ℓ) (g : Dev Cert.AdamSpatial.nD → PrngReg), Pre_AdamSpatial m →
    θ_run (Cert.AdamSpatial.defs (F := Bits)) (onTc (τ := Cert.AdamSpatial.τ) (Cert.AdamSpatial.main (F := Bits))) ⟨m, fun _ => 0, g⟩ (fun r => (∀ c : Dev Cert.AdamSpatial.nD,
      r.2.mem ((c.tc : Thread Cert.AdamSpatial.nD Cert.AdamSpatial.τ).loc Cert.AdamSpatial.main_arg0) = m ((c.tc : Thread Cert.AdamSpatial.nD Cert.AdamSpatial.τ).loc Cert.AdamSpatial.main_arg0)
      ∧ r.2.mem ((c.tc : Thread Cert.AdamSpatial.nD Cert.AdamSpatial.τ).loc Cert.AdamSpatial.main_arg1) = m ((c.tc : Thread Cert.AdamSpatial.nD Cert.AdamSpatial.τ).loc Cert.AdamSpatial.main_arg1)
      ∧ r.2.mem ((c.tc : Thread Cert.AdamSpatial.nD Cert.AdamSpatial.τ).loc Cert.AdamSpatial.main_arg2) = m ((c.tc : Thread Cert.AdamSpatial.nD Cert.AdamSpatial.τ).loc Cert.AdamSpatial.main_arg2)
      ∧ r.2.mem ((c.tc : Thread Cert.AdamSpatial.nD Cert.AdamSpatial.τ).loc Cert.AdamSpatial.main_arg3) = m ((c.tc : Thread Cert.AdamSpatial.nD Cert.AdamSpatial.τ).loc Cert.AdamSpatial.main_arg3))
      ∧ r.2.sem = fun _ => 0)

def quiescent_AdamSpatialIdeal [hAdamSpatialIdeal : Cert.AdamSpatialIdeal.Facts] : Prop :=
  ∀ (m : (ℓ : Loc Cert.AdamSpatialIdeal.nD Cert.AdamSpatialIdeal.τ Cert.AdamSpatialIdeal.sig) → Buf (Elt Ideal) ℓ) (g : Dev Cert.AdamSpatialIdeal.nD → PrngReg), Pre_AdamSpatialIdeal m →
    θ_run (Cert.AdamSpatialIdeal.defs (F := Ideal)) (onTc (τ := Cert.AdamSpatialIdeal.τ) (Cert.AdamSpatialIdeal.main (F := Ideal))) ⟨m, fun _ => 0, g⟩ (fun r => (∀ c : Dev Cert.AdamSpatialIdeal.nD,
      r.2.mem ((c.tc : Thread Cert.AdamSpatialIdeal.nD Cert.AdamSpatialIdeal.τ).loc Cert.AdamSpatialIdeal.main_arg0) = m ((c.tc : Thread Cert.AdamSpatialIdeal.nD Cert.AdamSpatialIdeal.τ).loc Cert.AdamSpatialIdeal.main_arg0)
      ∧ r.2.mem ((c.tc : Thread Cert.AdamSpatialIdeal.nD Cert.AdamSpatialIdeal.τ).loc Cert.AdamSpatialIdeal.main_arg1) = m ((c.tc : Thread Cert.AdamSpatialIdeal.nD Cert.AdamSpatialIdeal.τ).loc Cert.AdamSpatialIdeal.main_arg1)
      ∧ r.2.mem ((c.tc : Thread Cert.AdamSpatialIdeal.nD Cert.AdamSpatialIdeal.τ).loc Cert.AdamSpatialIdeal.main_arg2) = m ((c.tc : Thread Cert.AdamSpatialIdeal.nD Cert.AdamSpatialIdeal.τ).loc Cert.AdamSpatialIdeal.main_arg2)
      ∧ r.2.mem ((c.tc : Thread Cert.AdamSpatialIdeal.nD Cert.AdamSpatialIdeal.τ).loc Cert.AdamSpatialIdeal.main_arg3) = m ((c.tc : Thread Cert.AdamSpatialIdeal.nD Cert.AdamSpatialIdeal.τ).loc Cert.AdamSpatialIdeal.main_arg3))
      ∧ r.2.sem = fun _ => 0)

def quiescent_AdamSpatialRefIdeal [hAdamSpatialRefIdeal : Cert.AdamSpatialRefIdeal.Facts] : Prop :=
  ∀ (m : (ℓ : Loc Cert.AdamSpatialRefIdeal.nD Cert.AdamSpatialRefIdeal.τ Cert.AdamSpatialRefIdeal.sig) → Buf (Elt Ideal) ℓ) (g : Dev Cert.AdamSpatialRefIdeal.nD → PrngReg), Pre_AdamSpatialRefIdeal m →
    θ_run (Cert.AdamSpatialRefIdeal.defs (F := Ideal)) (onTc (τ := Cert.AdamSpatialRefIdeal.τ) (Cert.AdamSpatialRefIdeal.main (F := Ideal))) ⟨m, fun _ => 0, g⟩ (fun r => (∀ c : Dev Cert.AdamSpatialRefIdeal.nD,
      r.2.mem ((c.tc : Thread Cert.AdamSpatialRefIdeal.nD Cert.AdamSpatialRefIdeal.τ).loc Cert.AdamSpatialRefIdeal.main_arg0) = m ((c.tc : Thread Cert.AdamSpatialRefIdeal.nD Cert.AdamSpatialRefIdeal.τ).loc Cert.AdamSpatialRefIdeal.main_arg0)
      ∧ r.2.mem ((c.tc : Thread Cert.AdamSpatialRefIdeal.nD Cert.AdamSpatialRefIdeal.τ).loc Cert.AdamSpatialRefIdeal.main_arg1) = m ((c.tc : Thread Cert.AdamSpatialRefIdeal.nD Cert.AdamSpatialRefIdeal.τ).loc Cert.AdamSpatialRefIdeal.main_arg1)
      ∧ r.2.mem ((c.tc : Thread Cert.AdamSpatialRefIdeal.nD Cert.AdamSpatialRefIdeal.τ).loc Cert.AdamSpatialRefIdeal.main_arg2) = m ((c.tc : Thread Cert.AdamSpatialRefIdeal.nD Cert.AdamSpatialRefIdeal.τ).loc Cert.AdamSpatialRefIdeal.main_arg2)
      ∧ r.2.mem ((c.tc : Thread Cert.AdamSpatialRefIdeal.nD Cert.AdamSpatialRefIdeal.τ).loc Cert.AdamSpatialRefIdeal.main_arg3) = m ((c.tc : Thread Cert.AdamSpatialRefIdeal.nD Cert.AdamSpatialRefIdeal.τ).loc Cert.AdamSpatialRefIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3))
      ∧ r.2.sem = fun _ => 0)

def quiescent_AdamNorms [hAdamNorms : Cert.AdamNorms.Facts] : Prop :=
  ∀ (m : (ℓ : Loc Cert.AdamNorms.nD Cert.AdamNorms.τ Cert.AdamNorms.sig) → Buf (Elt Bits) ℓ) (g : Dev Cert.AdamNorms.nD → PrngReg), Pre_AdamNorms m →
    θ_run (Cert.AdamNorms.defs (F := Bits)) (onTc (τ := Cert.AdamNorms.τ) (Cert.AdamNorms.main (F := Bits))) ⟨m, fun _ => 0, g⟩ (fun r => (∀ c : Dev Cert.AdamNorms.nD,
      r.2.mem ((c.tc : Thread Cert.AdamNorms.nD Cert.AdamNorms.τ).loc Cert.AdamNorms.main_arg0) = m ((c.tc : Thread Cert.AdamNorms.nD Cert.AdamNorms.τ).loc Cert.AdamNorms.main_arg0)
      ∧ r.2.mem ((c.tc : Thread Cert.AdamNorms.nD Cert.AdamNorms.τ).loc Cert.AdamNorms.main_arg1) = m ((c.tc : Thread Cert.AdamNorms.nD Cert.AdamNorms.τ).loc Cert.AdamNorms.main_arg1)
      ∧ r.2.mem ((c.tc : Thread Cert.AdamNorms.nD Cert.AdamNorms.τ).loc Cert.AdamNorms.main_arg2) = m ((c.tc : Thread Cert.AdamNorms.nD Cert.AdamNorms.τ).loc Cert.AdamNorms.main_arg2)
      ∧ r.2.mem ((c.tc : Thread Cert.AdamNorms.nD Cert.AdamNorms.τ).loc Cert.AdamNorms.main_arg3) = m ((c.tc : Thread Cert.AdamNorms.nD Cert.AdamNorms.τ).loc Cert.AdamNorms.main_arg3))
      ∧ r.2.sem = fun _ => 0)

def quiescent_AdamNormsIdeal [hAdamNormsIdeal : Cert.AdamNormsIdeal.Facts] : Prop :=
  ∀ (m : (ℓ : Loc Cert.AdamNormsIdeal.nD Cert.AdamNormsIdeal.τ Cert.AdamNormsIdeal.sig) → Buf (Elt Ideal) ℓ) (g : Dev Cert.AdamNormsIdeal.nD → PrngReg), Pre_AdamNormsIdeal m →
    θ_run (Cert.AdamNormsIdeal.defs (F := Ideal)) (onTc (τ := Cert.AdamNormsIdeal.τ) (Cert.AdamNormsIdeal.main (F := Ideal))) ⟨m, fun _ => 0, g⟩ (fun r => (∀ c : Dev Cert.AdamNormsIdeal.nD,
      r.2.mem ((c.tc : Thread Cert.AdamNormsIdeal.nD Cert.AdamNormsIdeal.τ).loc Cert.AdamNormsIdeal.main_arg0) = m ((c.tc : Thread Cert.AdamNormsIdeal.nD Cert.AdamNormsIdeal.τ).loc Cert.AdamNormsIdeal.main_arg0)
      ∧ r.2.mem ((c.tc : Thread Cert.AdamNormsIdeal.nD Cert.AdamNormsIdeal.τ).loc Cert.AdamNormsIdeal.main_arg1) = m ((c.tc : Thread Cert.AdamNormsIdeal.nD Cert.AdamNormsIdeal.τ).loc Cert.AdamNormsIdeal.main_arg1)
      ∧ r.2.mem ((c.tc : Thread Cert.AdamNormsIdeal.nD Cert.AdamNormsIdeal.τ).loc Cert.AdamNormsIdeal.main_arg2) = m ((c.tc : Thread Cert.AdamNormsIdeal.nD Cert.AdamNormsIdeal.τ).loc Cert.AdamNormsIdeal.main_arg2)
      ∧ r.2.mem ((c.tc : Thread Cert.AdamNormsIdeal.nD Cert.AdamNormsIdeal.τ).loc Cert.AdamNormsIdeal.main_arg3) = m ((c.tc : Thread Cert.AdamNormsIdeal.nD Cert.AdamNormsIdeal.τ).loc Cert.AdamNormsIdeal.main_arg3))
      ∧ r.2.sem = fun _ => 0)

def quiescent_AdamNormsRefIdeal [hAdamNormsRefIdeal : Cert.AdamNormsRefIdeal.Facts] : Prop :=
  ∀ (m : (ℓ : Loc Cert.AdamNormsRefIdeal.nD Cert.AdamNormsRefIdeal.τ Cert.AdamNormsRefIdeal.sig) → Buf (Elt Ideal) ℓ) (g : Dev Cert.AdamNormsRefIdeal.nD → PrngReg), Pre_AdamNormsRefIdeal m →
    θ_run (Cert.AdamNormsRefIdeal.defs (F := Ideal)) (onTc (τ := Cert.AdamNormsRefIdeal.τ) (Cert.AdamNormsRefIdeal.main (F := Ideal))) ⟨m, fun _ => 0, g⟩ (fun r => (∀ c : Dev Cert.AdamNormsRefIdeal.nD,
      r.2.mem ((c.tc : Thread Cert.AdamNormsRefIdeal.nD Cert.AdamNormsRefIdeal.τ).loc Cert.AdamNormsRefIdeal.main_arg0) = m ((c.tc : Thread Cert.AdamNormsRefIdeal.nD Cert.AdamNormsRefIdeal.τ).loc Cert.AdamNormsRefIdeal.main_arg0)
      ∧ r.2.mem ((c.tc : Thread Cert.AdamNormsRefIdeal.nD Cert.AdamNormsRefIdeal.τ).loc Cert.AdamNormsRefIdeal.main_arg1) = m ((c.tc : Thread Cert.AdamNormsRefIdeal.nD Cert.AdamNormsRefIdeal.τ).loc Cert.AdamNormsRefIdeal.main_arg1)
      ∧ r.2.mem ((c.tc : Thread Cert.AdamNormsRefIdeal.nD Cert.AdamNormsRefIdeal.τ).loc Cert.AdamNormsRefIdeal.main_arg2) = m ((c.tc : Thread Cert.AdamNormsRefIdeal.nD Cert.AdamNormsRefIdeal.τ).loc Cert.AdamNormsRefIdeal.main_arg2)
      ∧ r.2.mem ((c.tc : Thread Cert.AdamNormsRefIdeal.nD Cert.AdamNormsRefIdeal.τ).loc Cert.AdamNormsRefIdeal.main_arg3) = m ((c.tc : Thread Cert.AdamNormsRefIdeal.nD Cert.AdamNormsRefIdeal.τ).loc Cert.AdamNormsRefIdeal.main_arg3))
      ∧ r.2.sem = fun _ => 0)

def quiescent_AdamTaps [hAdamTaps : Cert.AdamTaps.Facts] : Prop :=
  ∀ (m : (ℓ : Loc Cert.AdamTaps.nD Cert.AdamTaps.τ Cert.AdamTaps.sig) → Buf (Elt Bits) ℓ) (g : Dev Cert.AdamTaps.nD → PrngReg), Pre_AdamTaps m →
    θ_run (Cert.AdamTaps.defs (F := Bits)) (onTc (τ := Cert.AdamTaps.τ) (Cert.AdamTaps.main (F := Bits))) ⟨m, fun _ => 0, g⟩ (fun r => (∀ c : Dev Cert.AdamTaps.nD,
      r.2.mem ((c.tc : Thread Cert.AdamTaps.nD Cert.AdamTaps.τ).loc Cert.AdamTaps.main_arg0) = m ((c.tc : Thread Cert.AdamTaps.nD Cert.AdamTaps.τ).loc Cert.AdamTaps.main_arg0)
      ∧ r.2.mem ((c.tc : Thread Cert.AdamTaps.nD Cert.AdamTaps.τ).loc Cert.AdamTaps.main_arg1) = m ((c.tc : Thread Cert.AdamTaps.nD Cert.AdamTaps.τ).loc Cert.AdamTaps.main_arg1)
      ∧ r.2.mem ((c.tc : Thread Cert.AdamTaps.nD Cert.AdamTaps.τ).loc Cert.AdamTaps.main_arg2) = m ((c.tc : Thread Cert.AdamTaps.nD Cert.AdamTaps.τ).loc Cert.AdamTaps.main_arg2)
      ∧ r.2.mem ((c.tc : Thread Cert.AdamTaps.nD Cert.AdamTaps.τ).loc Cert.AdamTaps.main_arg3) = m ((c.tc : Thread Cert.AdamTaps.nD Cert.AdamTaps.τ).loc Cert.AdamTaps.main_arg3))
      ∧ r.2.sem = fun _ => 0)

def quiescent_AdamTapsIdeal [hAdamTapsIdeal : Cert.AdamTapsIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg), Pre_AdamTapsIdeal m →
    θ_run (Cert.AdamTapsIdeal.defs (F := Ideal)) (onTc (τ := Cert.AdamTapsIdeal.τ) (Cert.AdamTapsIdeal.main (F := Ideal))) ⟨m, fun _ => 0, g⟩ (fun r => (∀ c : Dev Cert.AdamTapsIdeal.nD,
      r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
      ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
      ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
      ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ r.2.sem = fun _ => 0)

def quiescent_AdamTapsRefIdeal [hAdamTapsRefIdeal : Cert.AdamTapsRefIdeal.Facts] : Prop :=
  ∀ (m : (ℓ : Loc Cert.AdamTapsRefIdeal.nD Cert.AdamTapsRefIdeal.τ Cert.AdamTapsRefIdeal.sig) → Buf (Elt Ideal) ℓ) (g : Dev Cert.AdamTapsRefIdeal.nD → PrngReg), Pre_AdamTapsRefIdeal m →
    θ_run (Cert.AdamTapsRefIdeal.defs (F := Ideal)) (onTc (τ := Cert.AdamTapsRefIdeal.τ) (Cert.AdamTapsRefIdeal.main (F := Ideal))) ⟨m, fun _ => 0, g⟩ (fun r => (∀ c : Dev Cert.AdamTapsRefIdeal.nD,
      r.2.mem ((c.tc : Thread Cert.AdamTapsRefIdeal.nD Cert.AdamTapsRefIdeal.τ).loc Cert.AdamTapsRefIdeal.main_arg0) = m ((c.tc : Thread Cert.AdamTapsRefIdeal.nD Cert.AdamTapsRefIdeal.τ).loc Cert.AdamTapsRefIdeal.main_arg0)
      ∧ r.2.mem ((c.tc : Thread Cert.AdamTapsRefIdeal.nD Cert.AdamTapsRefIdeal.τ).loc Cert.AdamTapsRefIdeal.main_arg1) = m ((c.tc : Thread Cert.AdamTapsRefIdeal.nD Cert.AdamTapsRefIdeal.τ).loc Cert.AdamTapsRefIdeal.main_arg1)
      ∧ r.2.mem ((c.tc : Thread Cert.AdamTapsRefIdeal.nD Cert.AdamTapsRefIdeal.τ).loc Cert.AdamTapsRefIdeal.main_arg2) = m ((c.tc : Thread Cert.AdamTapsRefIdeal.nD Cert.AdamTapsRefIdeal.τ).loc Cert.AdamTapsRefIdeal.main_arg2)
      ∧ r.2.mem ((c.tc : Thread Cert.AdamTapsRefIdeal.nD Cert.AdamTapsRefIdeal.τ).loc Cert.AdamTapsRefIdeal.main_arg3) = m ((c.tc : Thread Cert.AdamTapsRefIdeal.nD Cert.AdamTapsRefIdeal.τ).loc Cert.AdamTapsRefIdeal.main_arg3))
      ∧ r.2.sem = fun _ => 0)

def quiescent_AdamOdNorm [hAdamOdNorm : Cert.AdamOdNorm.Facts] : Prop :=
  ∀ (m : (ℓ : Loc Cert.AdamOdNorm.nD Cert.AdamOdNorm.τ Cert.AdamOdNorm.sig) → Buf (Elt Bits) ℓ) (g : Dev Cert.AdamOdNorm.nD → PrngReg), Pre_AdamOdNorm m →
    θ_run (Cert.AdamOdNorm.defs (F := Bits)) (onTc (τ := Cert.AdamOdNorm.τ) (Cert.AdamOdNorm.main (F := Bits))) ⟨m, fun _ => 0, g⟩ (fun r => (∀ c : Dev Cert.AdamOdNorm.nD,
      r.2.mem ((c.tc : Thread Cert.AdamOdNorm.nD Cert.AdamOdNorm.τ).loc Cert.AdamOdNorm.main_arg0) = m ((c.tc : Thread Cert.AdamOdNorm.nD Cert.AdamOdNorm.τ).loc Cert.AdamOdNorm.main_arg0)
      ∧ r.2.mem ((c.tc : Thread Cert.AdamOdNorm.nD Cert.AdamOdNorm.τ).loc Cert.AdamOdNorm.main_arg1) = m ((c.tc : Thread Cert.AdamOdNorm.nD Cert.AdamOdNorm.τ).loc Cert.AdamOdNorm.main_arg1)
      ∧ r.2.mem ((c.tc : Thread Cert.AdamOdNorm.nD Cert.AdamOdNorm.τ).loc Cert.AdamOdNorm.main_arg2) = m ((c.tc : Thread Cert.AdamOdNorm.nD Cert.AdamOdNorm.τ).loc Cert.AdamOdNorm.main_arg2)
      ∧ r.2.mem ((c.tc : Thread Cert.AdamOdNorm.nD Cert.AdamOdNorm.τ).loc Cert.AdamOdNorm.main_arg3) = m ((c.tc : Thread Cert.AdamOdNorm.nD Cert.AdamOdNorm.τ).loc Cert.AdamOdNorm.main_arg3))
      ∧ r.2.sem = fun _ => 0)

def quiescent_AdamOdNormIdeal [hAdamOdNormIdeal : Cert.AdamOdNormIdeal.Facts] : Prop :=
  ∀ (m : (ℓ : Loc Cert.AdamOdNormIdeal.nD Cert.AdamOdNormIdeal.τ Cert.AdamOdNormIdeal.sig) → Buf (Elt Ideal) ℓ) (g : Dev Cert.AdamOdNormIdeal.nD → PrngReg), Pre_AdamOdNormIdeal m →
    θ_run (Cert.AdamOdNormIdeal.defs (F := Ideal)) (onTc (τ := Cert.AdamOdNormIdeal.τ) (Cert.AdamOdNormIdeal.main (F := Ideal))) ⟨m, fun _ => 0, g⟩ (fun r => (∀ c : Dev Cert.AdamOdNormIdeal.nD,
      r.2.mem ((c.tc : Thread Cert.AdamOdNormIdeal.nD Cert.AdamOdNormIdeal.τ).loc Cert.AdamOdNormIdeal.main_arg0) = m ((c.tc : Thread Cert.AdamOdNormIdeal.nD Cert.AdamOdNormIdeal.τ).loc Cert.AdamOdNormIdeal.main_arg0)
      ∧ r.2.mem ((c.tc : Thread Cert.AdamOdNormIdeal.nD Cert.AdamOdNormIdeal.τ).loc Cert.AdamOdNormIdeal.main_arg1) = m ((c.tc : Thread Cert.AdamOdNormIdeal.nD Cert.AdamOdNormIdeal.τ).loc Cert.AdamOdNormIdeal.main_arg1)
      ∧ r.2.mem ((c.tc : Thread Cert.AdamOdNormIdeal.nD Cert.AdamOdNormIdeal.τ).loc Cert.AdamOdNormIdeal.main_arg2) = m ((c.tc : Thread Cert.AdamOdNormIdeal.nD Cert.AdamOdNormIdeal.τ).loc Cert.AdamOdNormIdeal.main_arg2)
      ∧ r.2.mem ((c.tc : Thread Cert.AdamOdNormIdeal.nD Cert.AdamOdNormIdeal.τ).loc Cert.AdamOdNormIdeal.main_arg3) = m ((c.tc : Thread Cert.AdamOdNormIdeal.nD Cert.AdamOdNormIdeal.τ).loc Cert.AdamOdNormIdeal.main_arg3))
      ∧ r.2.sem = fun _ => 0)

def quiescent_AdamOdNormRefIdeal [hAdamOdNormRefIdeal : Cert.AdamOdNormRefIdeal.Facts] : Prop :=
  ∀ (m : (ℓ : Loc Cert.AdamOdNormRefIdeal.nD Cert.AdamOdNormRefIdeal.τ Cert.AdamOdNormRefIdeal.sig) → Buf (Elt Ideal) ℓ) (g : Dev Cert.AdamOdNormRefIdeal.nD → PrngReg), Pre_AdamOdNormRefIdeal m →
    θ_run (Cert.AdamOdNormRefIdeal.defs (F := Ideal)) (onTc (τ := Cert.AdamOdNormRefIdeal.τ) (Cert.AdamOdNormRefIdeal.main (F := Ideal))) ⟨m, fun _ => 0, g⟩ (fun r => (∀ c : Dev Cert.AdamOdNormRefIdeal.nD,
      r.2.mem ((c.tc : Thread Cert.AdamOdNormRefIdeal.nD Cert.AdamOdNormRefIdeal.τ).loc Cert.AdamOdNormRefIdeal.main_arg0) = m ((c.tc : Thread Cert.AdamOdNormRefIdeal.nD Cert.AdamOdNormRefIdeal.τ).loc Cert.AdamOdNormRefIdeal.main_arg0)
      ∧ r.2.mem ((c.tc : Thread Cert.AdamOdNormRefIdeal.nD Cert.AdamOdNormRefIdeal.τ).loc Cert.AdamOdNormRefIdeal.main_arg1) = m ((c.tc : Thread Cert.AdamOdNormRefIdeal.nD Cert.AdamOdNormRefIdeal.τ).loc Cert.AdamOdNormRefIdeal.main_arg1)
      ∧ r.2.mem ((c.tc : Thread Cert.AdamOdNormRefIdeal.nD Cert.AdamOdNormRefIdeal.τ).loc Cert.AdamOdNormRefIdeal.main_arg2) = m ((c.tc : Thread Cert.AdamOdNormRefIdeal.nD Cert.AdamOdNormRefIdeal.τ).loc Cert.AdamOdNormRefIdeal.main_arg2)
      ∧ r.2.mem ((c.tc : Thread Cert.AdamOdNormRefIdeal.nD Cert.AdamOdNormRefIdeal.τ).loc Cert.AdamOdNormRefIdeal.main_arg3) = m ((c.tc : Thread Cert.AdamOdNormRefIdeal.nD Cert.AdamOdNormRefIdeal.τ).loc Cert.AdamOdNormRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v7) = v0 c
          ∧ r.2.mem ((c.tc : Thread Cert.GateUpRefIdeal.nD Cert.GateUpRefIdeal.τ).loc Cert.GateUpRefIdeal.main_v8) = v1 c
          ∧ r.2.mem ((c.tc : Thread Cert.GateUpRefIdeal.nD Cert.GateUpRefIdeal.τ).loc Cert.GateUpRefIdeal.main_v9) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Dact_DactIdeal : Prop :=
  True

def algebraic_DactIdeal_DactRefIdeal_pre_finite_dact [hDactIdeal : Cert.DactIdeal.Facts] [hDactRefIdeal : Cert.DactRefIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_finite_dact m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v0_0)) (v1 : (c : Dev Cert.DactIdeal.nD) → Buf (Elt Ideal) ((c.tc : Thread Cert.DactIdeal.nD Cert.DactIdeal.τ).loc Cert.DactIdeal.main_v0_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0_0) = v0 c
          ∧ r.2.mem ((c.tc : Thread Cert.DactIdeal.nD Cert.DactIdeal.τ).loc Cert.DactIdeal.main_v0_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v11) = v0 c
          ∧ r.2.mem ((c.tc : Thread Cert.DactRefIdeal.nD Cert.DactRefIdeal.τ).loc Cert.DactRefIdeal.main_v12) = v1 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v2) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Dnorm_DnormIdeal : Prop :=
  True

def algebraic_DnormIdeal_DnormRefIdeal [hDnormIdeal : Cert.DnormIdeal.Facts] [hDnormRefIdeal : Cert.DnormRefIdeal.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormRefIdeal.nD Cert.DnormRefIdeal.τ Cert.DnormRefIdeal.sig) → Buf (Elt Ideal) ℓ) (g' : Dev Cert.DnormRefIdeal.nD → PrngReg), Pre_DnormIdeal m →
    (∀ c : Dev Cert.DnormIdeal.nD,
      m' ((c.tc : Thread Cert.DnormRefIdeal.nD Cert.DnormRefIdeal.τ).loc Cert.DnormRefIdeal.main_arg0) = m ((c.tc : Thread Cert.DnormIdeal.nD Cert.DnormIdeal.τ).loc Cert.DnormIdeal.main_arg0)
      ∧ m' ((c.tc : Thread Cert.DnormRefIdeal.nD Cert.DnormRefIdeal.τ).loc Cert.DnormRefIdeal.main_arg1) = m ((c.tc : Thread Cert.DnormIdeal.nD Cert.DnormIdeal.τ).loc Cert.DnormIdeal.main_arg1)
      ∧ m' ((c.tc : Thread Cert.DnormRefIdeal.nD Cert.DnormRefIdeal.τ).loc Cert.DnormRefIdeal.main_arg2) = m ((c.tc : Thread Cert.DnormIdeal.nD Cert.DnormIdeal.τ).loc Cert.DnormIdeal.main_arg2)
      ∧ m' ((c.tc : Thread Cert.DnormRefIdeal.nD Cert.DnormRefIdeal.τ).loc Cert.DnormRefIdeal.main_arg3) = m ((c.tc : Thread Cert.DnormIdeal.nD Cert.DnormIdeal.τ).loc Cert.DnormIdeal.main_arg3)
      ∧ m' ((c.tc : Thread Cert.DnormRefIdeal.nD Cert.DnormRefIdeal.τ).loc Cert.DnormRefIdeal.main_arg4) = m ((c.tc : Thread Cert.DnormIdeal.nD Cert.DnormIdeal.τ).loc Cert.DnormIdeal.main_arg4)
      ∧ m' ((c.tc : Thread Cert.DnormRefIdeal.nD Cert.DnormRefIdeal.τ).loc Cert.DnormRefIdeal.main_arg5) = m ((c.tc : Thread Cert.DnormIdeal.nD Cert.DnormIdeal.τ).loc Cert.DnormIdeal.main_arg5)
      ∧ m' ((c.tc : Thread Cert.DnormRefIdeal.nD Cert.DnormRefIdeal.τ).loc Cert.DnormRefIdeal.main_arg6) = m ((c.tc : Thread Cert.DnormIdeal.nD Cert.DnormIdeal.τ).loc Cert.DnormIdeal.main_arg6)) →
    ∃ (v0 : (c : Dev Cert.DnormIdeal.nD) → Buf (Elt Ideal) ((c.tc : Thread Cert.DnormIdeal.nD Cert.DnormIdeal.τ).loc Cert.DnormIdeal.main_v0_0)) (v1 : (c : Dev Cert.DnormIdeal.nD) → Buf (Elt Ideal) ((c.tc : Thread Cert.DnormIdeal.nD Cert.DnormIdeal.τ).loc Cert.DnormIdeal.main_v0_1)) (v2 : (c : Dev Cert.DnormIdeal.nD) → Buf (Elt Ideal) ((c.tc : Thread Cert.DnormIdeal.nD Cert.DnormIdeal.τ).loc Cert.DnormIdeal.main_v0_2)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v0_0) = v0 c
          ∧ r.2.mem ((c.tc : Thread Cert.DnormIdeal.nD Cert.DnormIdeal.τ).loc Cert.DnormIdeal.main_v0_1) = v1 c
          ∧ r.2.mem ((c.tc : Thread Cert.DnormIdeal.nD Cert.DnormIdeal.τ).loc Cert.DnormIdeal.main_v0_2) = v2 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
          ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3)
          ∧ r.2.mem ((c.tc : Thread Cert.DnormIdeal.nD Cert.DnormIdeal.τ).loc Cert.DnormIdeal.main_arg4) = m ((c.tc : Thread Cert.DnormIdeal.nD Cert.DnormIdeal.τ).loc Cert.DnormIdeal.main_arg4)
          ∧ r.2.mem ((c.tc : Thread Cert.DnormIdeal.nD Cert.DnormIdeal.τ).loc Cert.DnormIdeal.main_arg5) = m ((c.tc : Thread Cert.DnormIdeal.nD Cert.DnormIdeal.τ).loc Cert.DnormIdeal.main_arg5)
          ∧ r.2.mem ((c.tc : Thread Cert.DnormIdeal.nD Cert.DnormIdeal.τ).loc Cert.DnormIdeal.main_arg6) = m ((c.tc : Thread Cert.DnormIdeal.nD Cert.DnormIdeal.τ).loc Cert.DnormIdeal.main_arg6))
      ∧ θ_run (Cert.DnormRefIdeal.defs (F := Ideal)) (onTc (τ := Cert.DnormRefIdeal.τ) (Cert.DnormRefIdeal.main (F := Ideal))) ⟨m', fun _ => 0, g'⟩ (fun r => ∀ c : Dev Cert.DnormRefIdeal.nD,
          r.2.mem ((c.tc : Thread Cert.DnormRefIdeal.nD Cert.DnormRefIdeal.τ).loc Cert.DnormRefIdeal.main_v43) = v0 c
          ∧ r.2.mem ((c.tc : Thread Cert.DnormRefIdeal.nD Cert.DnormRefIdeal.τ).loc Cert.DnormRefIdeal.main_v44) = v1 c
          ∧ r.2.mem ((c.tc : Thread Cert.DnormRefIdeal.nD Cert.DnormRefIdeal.τ).loc Cert.DnormRefIdeal.main_v26) = v2 c
          ∧ r.2.mem ((c.tc : Thread Cert.DnormRefIdeal.nD Cert.DnormRefIdeal.τ).loc Cert.DnormRefIdeal.main_arg0) = m' ((c.tc : Thread Cert.DnormRefIdeal.nD Cert.DnormRefIdeal.τ).loc Cert.DnormRefIdeal.main_arg0)
          ∧ r.2.mem ((c.tc : Thread Cert.DnormRefIdeal.nD Cert.DnormRefIdeal.τ).loc Cert.DnormRefIdeal.main_arg1) = m' ((c.tc : Thread Cert.DnormRefIdeal.nD Cert.DnormRefIdeal.τ).loc Cert.DnormRefIdeal.main_arg1)
          ∧ r.2.mem ((c.tc : Thread Cert.DnormRefIdeal.nD Cert.DnormRefIdeal.τ).loc Cert.DnormRefIdeal.main_arg2) = m' ((c.tc : Thread Cert.DnormRefIdeal.nD Cert.DnormRefIdeal.τ).loc Cert.DnormRefIdeal.main_arg2)
          ∧ r.2.mem ((c.tc : Thread Cert.DnormRefIdeal.nD Cert.DnormRefIdeal.τ).loc Cert.DnormRefIdeal.main_arg3) = m' ((c.tc : Thread Cert.DnormRefIdeal.nD Cert.DnormRefIdeal.τ).loc Cert.DnormRefIdeal.main_arg3)
          ∧ r.2.mem ((c.tc : Thread Cert.DnormRefIdeal.nD Cert.DnormRefIdeal.τ).loc Cert.DnormRefIdeal.main_arg4) = m' ((c.tc : Thread Cert.DnormRefIdeal.nD Cert.DnormRefIdeal.τ).loc Cert.DnormRefIdeal.main_arg4)
          ∧ r.2.mem ((c.tc : Thread Cert.DnormRefIdeal.nD Cert.DnormRefIdeal.τ).loc Cert.DnormRefIdeal.main_arg5) = m' ((c.tc : Thread Cert.DnormRefIdeal.nD Cert.DnormRefIdeal.τ).loc Cert.DnormRefIdeal.main_arg5)
          ∧ r.2.mem ((c.tc : Thread Cert.DnormRefIdeal.nD Cert.DnormRefIdeal.τ).loc Cert.DnormRefIdeal.main_arg6) = m' ((c.tc : Thread Cert.DnormRefIdeal.nD Cert.DnormRefIdeal.τ).loc Cert.DnormRefIdeal.main_arg6))

def preserves_Dmix_DmixIdeal : Prop :=
  True

def algebraic_DmixIdeal_DmixRefIdeal [hDmixIdeal : Cert.DmixIdeal.Facts] [hDmixRefIdeal : Cert.DmixRefIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixRefIdeal.nD Cert.DmixRefIdeal.τ Cert.DmixRefIdeal.sig) → Buf (Elt Ideal) ℓ) (g' : Dev Cert.DmixRefIdeal.nD → PrngReg), Pre_DmixIdeal m →
    (∀ c : Dev Cert.DmixIdeal.nD,
      m' ((c.tc : Thread Cert.DmixRefIdeal.nD Cert.DmixRefIdeal.τ).loc Cert.DmixRefIdeal.main_arg0) = m ((c.tc : Thread Cert.DmixIdeal.nD Cert.DmixIdeal.τ).loc Cert.DmixIdeal.main_arg0)
      ∧ m' ((c.tc : Thread Cert.DmixRefIdeal.nD Cert.DmixRefIdeal.τ).loc Cert.DmixRefIdeal.main_arg1) = m ((c.tc : Thread Cert.DmixIdeal.nD Cert.DmixIdeal.τ).loc Cert.DmixIdeal.main_arg1)) →
    ∃ (v0 : (c : Dev Cert.DmixIdeal.nD) → Buf (Elt Ideal) ((c.tc : Thread Cert.DmixIdeal.nD Cert.DmixIdeal.τ).loc Cert.DmixIdeal.main_v0)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v0) = v0 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ θ_run (Cert.DmixRefIdeal.defs (F := Ideal)) (onTc (τ := Cert.DmixRefIdeal.τ) (Cert.DmixRefIdeal.main (F := Ideal))) ⟨m', fun _ => 0, g'⟩ (fun r => ∀ c : Dev Cert.DmixRefIdeal.nD,
          r.2.mem ((c.tc : Thread Cert.DmixRefIdeal.nD Cert.DmixRefIdeal.τ).loc Cert.DmixRefIdeal.main_v2) = v0 c
          ∧ r.2.mem ((c.tc : Thread Cert.DmixRefIdeal.nD Cert.DmixRefIdeal.τ).loc Cert.DmixRefIdeal.main_arg0) = m' ((c.tc : Thread Cert.DmixRefIdeal.nD Cert.DmixRefIdeal.τ).loc Cert.DmixRefIdeal.main_arg0)
          ∧ r.2.mem ((c.tc : Thread Cert.DmixRefIdeal.nD Cert.DmixRefIdeal.τ).loc Cert.DmixRefIdeal.main_arg1) = m' ((c.tc : Thread Cert.DmixRefIdeal.nD Cert.DmixRefIdeal.τ).loc Cert.DmixRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)
      ∧ m' ((c.tc : Thread Cert.DwoutRefIdeal.nD Cert.DwoutRefIdeal.τ).loc Cert.DwoutRefIdeal.main_arg2) = m ((c.tc : Thread Cert.DwoutIdeal.nD Cert.DwoutIdeal.τ).loc Cert.DwoutIdeal.main_arg2)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1)
          ∧ r.2.mem ((c.tc : Thread Cert.DwoutIdeal.nD Cert.DwoutIdeal.τ).loc Cert.DwoutIdeal.main_arg2) = m ((c.tc : Thread Cert.DwoutIdeal.nD Cert.DwoutIdeal.τ).loc Cert.DwoutIdeal.main_arg2))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v4) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1)
          ∧ r.2.mem ((c.tc : Thread Cert.DwoutRefIdeal.nD Cert.DwoutRefIdeal.τ).loc Cert.DwoutRefIdeal.main_arg2) = m' ((c.tc : Thread Cert.DwoutRefIdeal.nD Cert.DwoutRefIdeal.τ).loc Cert.DwoutRefIdeal.main_arg2))

def preserves_DwinEv_DwinEvIdeal : Prop :=
  True

def algebraic_DwinEvIdeal_DwinEvRefIdeal [hDwinEvIdeal : Cert.DwinEvIdeal.Facts] [hDwinEvRefIdeal : Cert.DwinEvRefIdeal.Facts] : Prop :=
  ∀ (m : (ℓ : Loc Cert.DwinEvIdeal.nD Cert.DwinEvIdeal.τ Cert.DwinEvIdeal.sig) → Buf (Elt Ideal) ℓ) (g : Dev Cert.DwinEvIdeal.nD → PrngReg)
    (m' : (ℓ : Loc Cert.DwinEvRefIdeal.nD Cert.DwinEvRefIdeal.τ Cert.DwinEvRefIdeal.sig) → Buf (Elt Ideal) ℓ) (g' : Dev Cert.DwinEvRefIdeal.nD → PrngReg), Pre_DwinEvIdeal m →
    (∀ c : Dev Cert.DwinEvIdeal.nD,
      m' ((c.tc : Thread Cert.DwinEvRefIdeal.nD Cert.DwinEvRefIdeal.τ).loc Cert.DwinEvRefIdeal.main_arg0) = m ((c.tc : Thread Cert.DwinEvIdeal.nD Cert.DwinEvIdeal.τ).loc Cert.DwinEvIdeal.main_arg0)
      ∧ m' ((c.tc : Thread Cert.DwinEvRefIdeal.nD Cert.DwinEvRefIdeal.τ).loc Cert.DwinEvRefIdeal.main_arg1) = m ((c.tc : Thread Cert.DwinEvIdeal.nD Cert.DwinEvIdeal.τ).loc Cert.DwinEvIdeal.main_arg1)) →
    ∃ (v0 : (c : Dev Cert.DwinEvIdeal.nD) → Buf (Elt Ideal) ((c.tc : Thread Cert.DwinEvIdeal.nD Cert.DwinEvIdeal.τ).loc Cert.DwinEvIdeal.main_v0)),
      θ_run (Cert.DwinEvIdeal.defs (F := Ideal)) (onTc (τ := Cert.DwinEvIdeal.τ) (Cert.DwinEvIdeal.main (F := Ideal))) ⟨m, fun _ => 0, g⟩ (fun r => ∀ c : Dev Cert.DwinEvIdeal.nD,
          r.2.mem ((c.tc : Thread Cert.DwinEvIdeal.nD Cert.DwinEvIdeal.τ).loc Cert.DwinEvIdeal.main_v0) = v0 c
          ∧ r.2.mem ((c.tc : Thread Cert.DwinEvIdeal.nD Cert.DwinEvIdeal.τ).loc Cert.DwinEvIdeal.main_arg0) = m ((c.tc : Thread Cert.DwinEvIdeal.nD Cert.DwinEvIdeal.τ).loc Cert.DwinEvIdeal.main_arg0)
          ∧ r.2.mem ((c.tc : Thread Cert.DwinEvIdeal.nD Cert.DwinEvIdeal.τ).loc Cert.DwinEvIdeal.main_arg1) = m ((c.tc : Thread Cert.DwinEvIdeal.nD Cert.DwinEvIdeal.τ).loc Cert.DwinEvIdeal.main_arg1))
      ∧ θ_run (Cert.DwinEvRefIdeal.defs (F := Ideal)) (onTc (τ := Cert.DwinEvRefIdeal.τ) (Cert.DwinEvRefIdeal.main (F := Ideal))) ⟨m', fun _ => 0, g'⟩ (fun r => ∀ c : Dev Cert.DwinEvRefIdeal.nD,
          r.2.mem ((c.tc : Thread Cert.DwinEvRefIdeal.nD Cert.DwinEvRefIdeal.τ).loc Cert.DwinEvRefIdeal.main_v2) = v0 c
          ∧ r.2.mem ((c.tc : Thread Cert.DwinEvRefIdeal.nD Cert.DwinEvRefIdeal.τ).loc Cert.DwinEvRefIdeal.main_arg0) = m' ((c.tc : Thread Cert.DwinEvRefIdeal.nD Cert.DwinEvRefIdeal.τ).loc Cert.DwinEvRefIdeal.main_arg0)
          ∧ r.2.mem ((c.tc : Thread Cert.DwinEvRefIdeal.nD Cert.DwinEvRefIdeal.τ).loc Cert.DwinEvRefIdeal.main_arg1) = m' ((c.tc : Thread Cert.DwinEvRefIdeal.nD Cert.DwinEvRefIdeal.τ).loc Cert.DwinEvRefIdeal.main_arg1))

def preserves_DwinOd_DwinOdIdeal : Prop :=
  True

def algebraic_DwinOdIdeal_DwinOdRefIdeal [hDwinOdIdeal : Cert.DwinOdIdeal.Facts] [hDwinOdRefIdeal : Cert.DwinOdRefIdeal.Facts] : Prop :=
  ∀ (m : (ℓ : Loc Cert.DwinOdIdeal.nD Cert.DwinOdIdeal.τ Cert.DwinOdIdeal.sig) → Buf (Elt Ideal) ℓ) (g : Dev Cert.DwinOdIdeal.nD → PrngReg)
    (m' : (ℓ : Loc Cert.DwinOdRefIdeal.nD Cert.DwinOdRefIdeal.τ Cert.DwinOdRefIdeal.sig) → Buf (Elt Ideal) ℓ) (g' : Dev Cert.DwinOdRefIdeal.nD → PrngReg), Pre_DwinOdIdeal m →
    (∀ c : Dev Cert.DwinOdIdeal.nD,
      m' ((c.tc : Thread Cert.DwinOdRefIdeal.nD Cert.DwinOdRefIdeal.τ).loc Cert.DwinOdRefIdeal.main_arg0) = m ((c.tc : Thread Cert.DwinOdIdeal.nD Cert.DwinOdIdeal.τ).loc Cert.DwinOdIdeal.main_arg0)
      ∧ m' ((c.tc : Thread Cert.DwinOdRefIdeal.nD Cert.DwinOdRefIdeal.τ).loc Cert.DwinOdRefIdeal.main_arg1) = m ((c.tc : Thread Cert.DwinOdIdeal.nD Cert.DwinOdIdeal.τ).loc Cert.DwinOdIdeal.main_arg1)) →
    ∃ (v0 : (c : Dev Cert.DwinOdIdeal.nD) → Buf (Elt Ideal) ((c.tc : Thread Cert.DwinOdIdeal.nD Cert.DwinOdIdeal.τ).loc Cert.DwinOdIdeal.main_v0)),
      θ_run (Cert.DwinOdIdeal.defs (F := Ideal)) (onTc (τ := Cert.DwinOdIdeal.τ) (Cert.DwinOdIdeal.main (F := Ideal))) ⟨m, fun _ => 0, g⟩ (fun r => ∀ c : Dev Cert.DwinOdIdeal.nD,
          r.2.mem ((c.tc : Thread Cert.DwinOdIdeal.nD Cert.DwinOdIdeal.τ).loc Cert.DwinOdIdeal.main_v0) = v0 c
          ∧ r.2.mem ((c.tc : Thread Cert.DwinOdIdeal.nD Cert.DwinOdIdeal.τ).loc Cert.DwinOdIdeal.main_arg0) = m ((c.tc : Thread Cert.DwinOdIdeal.nD Cert.DwinOdIdeal.τ).loc Cert.DwinOdIdeal.main_arg0)
          ∧ r.2.mem ((c.tc : Thread Cert.DwinOdIdeal.nD Cert.DwinOdIdeal.τ).loc Cert.DwinOdIdeal.main_arg1) = m ((c.tc : Thread Cert.DwinOdIdeal.nD Cert.DwinOdIdeal.τ).loc Cert.DwinOdIdeal.main_arg1))
      ∧ θ_run (Cert.DwinOdRefIdeal.defs (F := Ideal)) (onTc (τ := Cert.DwinOdRefIdeal.τ) (Cert.DwinOdRefIdeal.main (F := Ideal))) ⟨m', fun _ => 0, g'⟩ (fun r => ∀ c : Dev Cert.DwinOdRefIdeal.nD,
          r.2.mem ((c.tc : Thread Cert.DwinOdRefIdeal.nD Cert.DwinOdRefIdeal.τ).loc Cert.DwinOdRefIdeal.main_v2) = v0 c
          ∧ r.2.mem ((c.tc : Thread Cert.DwinOdRefIdeal.nD Cert.DwinOdRefIdeal.τ).loc Cert.DwinOdRefIdeal.main_arg0) = m' ((c.tc : Thread Cert.DwinOdRefIdeal.nD Cert.DwinOdRefIdeal.τ).loc Cert.DwinOdRefIdeal.main_arg0)
          ∧ r.2.mem ((c.tc : Thread Cert.DwinOdRefIdeal.nD Cert.DwinOdRefIdeal.τ).loc Cert.DwinOdRefIdeal.main_arg1) = m' ((c.tc : Thread Cert.DwinOdRefIdeal.nD Cert.DwinOdRefIdeal.τ).loc Cert.DwinOdRefIdeal.main_arg1))

def preserves_DnormEv_DnormEvIdeal : Prop :=
  True

def algebraic_DnormEvIdeal_DnormEvRefIdeal [hDnormEvIdeal : Cert.DnormEvIdeal.Facts] [hDnormEvRefIdeal : Cert.DnormEvRefIdeal.Facts] : Prop :=
  ∀ (m : (ℓ : Loc Cert.DnormEvIdeal.nD Cert.DnormEvIdeal.τ Cert.DnormEvIdeal.sig) → Buf (Elt Ideal) ℓ) (g : Dev Cert.DnormEvIdeal.nD → PrngReg)
    (m' : (ℓ : Loc Cert.DnormEvRefIdeal.nD Cert.DnormEvRefIdeal.τ Cert.DnormEvRefIdeal.sig) → Buf (Elt Ideal) ℓ) (g' : Dev Cert.DnormEvRefIdeal.nD → PrngReg), Pre_DnormEvIdeal m →
    (∀ c : Dev Cert.DnormEvIdeal.nD,
      m' ((c.tc : Thread Cert.DnormEvRefIdeal.nD Cert.DnormEvRefIdeal.τ).loc Cert.DnormEvRefIdeal.main_arg0) = m ((c.tc : Thread Cert.DnormEvIdeal.nD Cert.DnormEvIdeal.τ).loc Cert.DnormEvIdeal.main_arg0)
      ∧ m' ((c.tc : Thread Cert.DnormEvRefIdeal.nD Cert.DnormEvRefIdeal.τ).loc Cert.DnormEvRefIdeal.main_arg1) = m ((c.tc : Thread Cert.DnormEvIdeal.nD Cert.DnormEvIdeal.τ).loc Cert.DnormEvIdeal.main_arg1)
      ∧ m' ((c.tc : Thread Cert.DnormEvRefIdeal.nD Cert.DnormEvRefIdeal.τ).loc Cert.DnormEvRefIdeal.main_arg2) = m ((c.tc : Thread Cert.DnormEvIdeal.nD Cert.DnormEvIdeal.τ).loc Cert.DnormEvIdeal.main_arg2)
      ∧ m' ((c.tc : Thread Cert.DnormEvRefIdeal.nD Cert.DnormEvRefIdeal.τ).loc Cert.DnormEvRefIdeal.main_arg3) = m ((c.tc : Thread Cert.DnormEvIdeal.nD Cert.DnormEvIdeal.τ).loc Cert.DnormEvIdeal.main_arg3)
      ∧ m' ((c.tc : Thread Cert.DnormEvRefIdeal.nD Cert.DnormEvRefIdeal.τ).loc Cert.DnormEvRefIdeal.main_arg4) = m ((c.tc : Thread Cert.DnormEvIdeal.nD Cert.DnormEvIdeal.τ).loc Cert.DnormEvIdeal.main_arg4)) →
    ∃ (v0 : (c : Dev Cert.DnormEvIdeal.nD) → Buf (Elt Ideal) ((c.tc : Thread Cert.DnormEvIdeal.nD Cert.DnormEvIdeal.τ).loc Cert.DnormEvIdeal.main_v0_0)) (v1 : (c : Dev Cert.DnormEvIdeal.nD) → Buf (Elt Ideal) ((c.tc : Thread Cert.DnormEvIdeal.nD Cert.DnormEvIdeal.τ).loc Cert.DnormEvIdeal.main_v0_1)) (v2 : (c : Dev Cert.DnormEvIdeal.nD) → Buf (Elt Ideal) ((c.tc : Thread Cert.DnormEvIdeal.nD Cert.DnormEvIdeal.τ).loc Cert.DnormEvIdeal.main_v0_2)),
      θ_run (Cert.DnormEvIdeal.defs (F := Ideal)) (onTc (τ := Cert.DnormEvIdeal.τ) (Cert.DnormEvIdeal.main (F := Ideal))) ⟨m, fun _ => 0, g⟩ (fun r => ∀ c : Dev Cert.DnormEvIdeal.nD,
          r.2.mem ((c.tc : Thread Cert.DnormEvIdeal.nD Cert.DnormEvIdeal.τ).loc Cert.DnormEvIdeal.main_v0_0) = v0 c
          ∧ r.2.mem ((c.tc : Thread Cert.DnormEvIdeal.nD Cert.DnormEvIdeal.τ).loc Cert.DnormEvIdeal.main_v0_1) = v1 c
          ∧ r.2.mem ((c.tc : Thread Cert.DnormEvIdeal.nD Cert.DnormEvIdeal.τ).loc Cert.DnormEvIdeal.main_v0_2) = v2 c
          ∧ r.2.mem ((c.tc : Thread Cert.DnormEvIdeal.nD Cert.DnormEvIdeal.τ).loc Cert.DnormEvIdeal.main_arg0) = m ((c.tc : Thread Cert.DnormEvIdeal.nD Cert.DnormEvIdeal.τ).loc Cert.DnormEvIdeal.main_arg0)
          ∧ r.2.mem ((c.tc : Thread Cert.DnormEvIdeal.nD Cert.DnormEvIdeal.τ).loc Cert.DnormEvIdeal.main_arg1) = m ((c.tc : Thread Cert.DnormEvIdeal.nD Cert.DnormEvIdeal.τ).loc Cert.DnormEvIdeal.main_arg1)
          ∧ r.2.mem ((c.tc : Thread Cert.DnormEvIdeal.nD Cert.DnormEvIdeal.τ).loc Cert.DnormEvIdeal.main_arg2) = m ((c.tc : Thread Cert.DnormEvIdeal.nD Cert.DnormEvIdeal.τ).loc Cert.DnormEvIdeal.main_arg2)
          ∧ r.2.mem ((c.tc : Thread Cert.DnormEvIdeal.nD Cert.DnormEvIdeal.τ).loc Cert.DnormEvIdeal.main_arg3) = m ((c.tc : Thread Cert.DnormEvIdeal.nD Cert.DnormEvIdeal.τ).loc Cert.DnormEvIdeal.main_arg3)
          ∧ r.2.mem ((c.tc : Thread Cert.DnormEvIdeal.nD Cert.DnormEvIdeal.τ).loc Cert.DnormEvIdeal.main_arg4) = m ((c.tc : Thread Cert.DnormEvIdeal.nD Cert.DnormEvIdeal.τ).loc Cert.DnormEvIdeal.main_arg4))
      ∧ θ_run (Cert.DnormEvRefIdeal.defs (F := Ideal)) (onTc (τ := Cert.DnormEvRefIdeal.τ) (Cert.DnormEvRefIdeal.main (F := Ideal))) ⟨m', fun _ => 0, g'⟩ (fun r => ∀ c : Dev Cert.DnormEvRefIdeal.nD,
          r.2.mem ((c.tc : Thread Cert.DnormEvRefIdeal.nD Cert.DnormEvRefIdeal.τ).loc Cert.DnormEvRefIdeal.main_v38) = v0 c
          ∧ r.2.mem ((c.tc : Thread Cert.DnormEvRefIdeal.nD Cert.DnormEvRefIdeal.τ).loc Cert.DnormEvRefIdeal.main_v39) = v1 c
          ∧ r.2.mem ((c.tc : Thread Cert.DnormEvRefIdeal.nD Cert.DnormEvRefIdeal.τ).loc Cert.DnormEvRefIdeal.main_v21) = v2 c
          ∧ r.2.mem ((c.tc : Thread Cert.DnormEvRefIdeal.nD Cert.DnormEvRefIdeal.τ).loc Cert.DnormEvRefIdeal.main_arg0) = m' ((c.tc : Thread Cert.DnormEvRefIdeal.nD Cert.DnormEvRefIdeal.τ).loc Cert.DnormEvRefIdeal.main_arg0)
          ∧ r.2.mem ((c.tc : Thread Cert.DnormEvRefIdeal.nD Cert.DnormEvRefIdeal.τ).loc Cert.DnormEvRefIdeal.main_arg1) = m' ((c.tc : Thread Cert.DnormEvRefIdeal.nD Cert.DnormEvRefIdeal.τ).loc Cert.DnormEvRefIdeal.main_arg1)
          ∧ r.2.mem ((c.tc : Thread Cert.DnormEvRefIdeal.nD Cert.DnormEvRefIdeal.τ).loc Cert.DnormEvRefIdeal.main_arg2) = m' ((c.tc : Thread Cert.DnormEvRefIdeal.nD Cert.DnormEvRefIdeal.τ).loc Cert.DnormEvRefIdeal.main_arg2)
          ∧ r.2.mem ((c.tc : Thread Cert.DnormEvRefIdeal.nD Cert.DnormEvRefIdeal.τ).loc Cert.DnormEvRefIdeal.main_arg3) = m' ((c.tc : Thread Cert.DnormEvRefIdeal.nD Cert.DnormEvRefIdeal.τ).loc Cert.DnormEvRefIdeal.main_arg3)
          ∧ r.2.mem ((c.tc : Thread Cert.DnormEvRefIdeal.nD Cert.DnormEvRefIdeal.τ).loc Cert.DnormEvRefIdeal.main_arg4) = m' ((c.tc : Thread Cert.DnormEvRefIdeal.nD Cert.DnormEvRefIdeal.τ).loc Cert.DnormEvRefIdeal.main_arg4))

def preserves_DnormOd_DnormOdIdeal : Prop :=
  True

def algebraic_DnormOdIdeal_DnormOdRefIdeal [hDnormOdIdeal : Cert.DnormOdIdeal.Facts] [hDnormOdRefIdeal : Cert.DnormOdRefIdeal.Facts] : Prop :=
  ∀ (m : (ℓ : Loc Cert.DnormOdIdeal.nD Cert.DnormOdIdeal.τ Cert.DnormOdIdeal.sig) → Buf (Elt Ideal) ℓ) (g : Dev Cert.DnormOdIdeal.nD → PrngReg)
    (m' : (ℓ : Loc Cert.DnormOdRefIdeal.nD Cert.DnormOdRefIdeal.τ Cert.DnormOdRefIdeal.sig) → Buf (Elt Ideal) ℓ) (g' : Dev Cert.DnormOdRefIdeal.nD → PrngReg), Pre_DnormOdIdeal m →
    (∀ c : Dev Cert.DnormOdIdeal.nD,
      m' ((c.tc : Thread Cert.DnormOdRefIdeal.nD Cert.DnormOdRefIdeal.τ).loc Cert.DnormOdRefIdeal.main_arg0) = m ((c.tc : Thread Cert.DnormOdIdeal.nD Cert.DnormOdIdeal.τ).loc Cert.DnormOdIdeal.main_arg0)
      ∧ m' ((c.tc : Thread Cert.DnormOdRefIdeal.nD Cert.DnormOdRefIdeal.τ).loc Cert.DnormOdRefIdeal.main_arg1) = m ((c.tc : Thread Cert.DnormOdIdeal.nD Cert.DnormOdIdeal.τ).loc Cert.DnormOdIdeal.main_arg1)
      ∧ m' ((c.tc : Thread Cert.DnormOdRefIdeal.nD Cert.DnormOdRefIdeal.τ).loc Cert.DnormOdRefIdeal.main_arg2) = m ((c.tc : Thread Cert.DnormOdIdeal.nD Cert.DnormOdIdeal.τ).loc Cert.DnormOdIdeal.main_arg2)
      ∧ m' ((c.tc : Thread Cert.DnormOdRefIdeal.nD Cert.DnormOdRefIdeal.τ).loc Cert.DnormOdRefIdeal.main_arg3) = m ((c.tc : Thread Cert.DnormOdIdeal.nD Cert.DnormOdIdeal.τ).loc Cert.DnormOdIdeal.main_arg3)
      ∧ m' ((c.tc : Thread Cert.DnormOdRefIdeal.nD Cert.DnormOdRefIdeal.τ).loc Cert.DnormOdRefIdeal.main_arg4) = m ((c.tc : Thread Cert.DnormOdIdeal.nD Cert.DnormOdIdeal.τ).loc Cert.DnormOdIdeal.main_arg4)) →
    ∃ (v0 : (c : Dev Cert.DnormOdIdeal.nD) → Buf (Elt Ideal) ((c.tc : Thread Cert.DnormOdIdeal.nD Cert.DnormOdIdeal.τ).loc Cert.DnormOdIdeal.main_v0_0)) (v1 : (c : Dev Cert.DnormOdIdeal.nD) → Buf (Elt Ideal) ((c.tc : Thread Cert.DnormOdIdeal.nD Cert.DnormOdIdeal.τ).loc Cert.DnormOdIdeal.main_v0_1)) (v2 : (c : Dev Cert.DnormOdIdeal.nD) → Buf (Elt Ideal) ((c.tc : Thread Cert.DnormOdIdeal.nD Cert.DnormOdIdeal.τ).loc Cert.DnormOdIdeal.main_v0_2)),
      θ_run (Cert.DnormOdIdeal.defs (F := Ideal)) (onTc (τ := Cert.DnormOdIdeal.τ) (Cert.DnormOdIdeal.main (F := Ideal))) ⟨m, fun _ => 0, g⟩ (fun r => ∀ c : Dev Cert.DnormOdIdeal.nD,
          r.2.mem ((c.tc : Thread Cert.DnormOdIdeal.nD Cert.DnormOdIdeal.τ).loc Cert.DnormOdIdeal.main_v0_0) = v0 c
          ∧ r.2.mem ((c.tc : Thread Cert.DnormOdIdeal.nD Cert.DnormOdIdeal.τ).loc Cert.DnormOdIdeal.main_v0_1) = v1 c
          ∧ r.2.mem ((c.tc : Thread Cert.DnormOdIdeal.nD Cert.DnormOdIdeal.τ).loc Cert.DnormOdIdeal.main_v0_2) = v2 c
          ∧ r.2.mem ((c.tc : Thread Cert.DnormOdIdeal.nD Cert.DnormOdIdeal.τ).loc Cert.DnormOdIdeal.main_arg0) = m ((c.tc : Thread Cert.DnormOdIdeal.nD Cert.DnormOdIdeal.τ).loc Cert.DnormOdIdeal.main_arg0)
          ∧ r.2.mem ((c.tc : Thread Cert.DnormOdIdeal.nD Cert.DnormOdIdeal.τ).loc Cert.DnormOdIdeal.main_arg1) = m ((c.tc : Thread Cert.DnormOdIdeal.nD Cert.DnormOdIdeal.τ).loc Cert.DnormOdIdeal.main_arg1)
          ∧ r.2.mem ((c.tc : Thread Cert.DnormOdIdeal.nD Cert.DnormOdIdeal.τ).loc Cert.DnormOdIdeal.main_arg2) = m ((c.tc : Thread Cert.DnormOdIdeal.nD Cert.DnormOdIdeal.τ).loc Cert.DnormOdIdeal.main_arg2)
          ∧ r.2.mem ((c.tc : Thread Cert.DnormOdIdeal.nD Cert.DnormOdIdeal.τ).loc Cert.DnormOdIdeal.main_arg3) = m ((c.tc : Thread Cert.DnormOdIdeal.nD Cert.DnormOdIdeal.τ).loc Cert.DnormOdIdeal.main_arg3)
          ∧ r.2.mem ((c.tc : Thread Cert.DnormOdIdeal.nD Cert.DnormOdIdeal.τ).loc Cert.DnormOdIdeal.main_arg4) = m ((c.tc : Thread Cert.DnormOdIdeal.nD Cert.DnormOdIdeal.τ).loc Cert.DnormOdIdeal.main_arg4))
      ∧ θ_run (Cert.DnormOdRefIdeal.defs (F := Ideal)) (onTc (τ := Cert.DnormOdRefIdeal.τ) (Cert.DnormOdRefIdeal.main (F := Ideal))) ⟨m', fun _ => 0, g'⟩ (fun r => ∀ c : Dev Cert.DnormOdRefIdeal.nD,
          r.2.mem ((c.tc : Thread Cert.DnormOdRefIdeal.nD Cert.DnormOdRefIdeal.τ).loc Cert.DnormOdRefIdeal.main_v38) = v0 c
          ∧ r.2.mem ((c.tc : Thread Cert.DnormOdRefIdeal.nD Cert.DnormOdRefIdeal.τ).loc Cert.DnormOdRefIdeal.main_v39) = v1 c
          ∧ r.2.mem ((c.tc : Thread Cert.DnormOdRefIdeal.nD Cert.DnormOdRefIdeal.τ).loc Cert.DnormOdRefIdeal.main_v21) = v2 c
          ∧ r.2.mem ((c.tc : Thread Cert.DnormOdRefIdeal.nD Cert.DnormOdRefIdeal.τ).loc Cert.DnormOdRefIdeal.main_arg0) = m' ((c.tc : Thread Cert.DnormOdRefIdeal.nD Cert.DnormOdRefIdeal.τ).loc Cert.DnormOdRefIdeal.main_arg0)
          ∧ r.2.mem ((c.tc : Thread Cert.DnormOdRefIdeal.nD Cert.DnormOdRefIdeal.τ).loc Cert.DnormOdRefIdeal.main_arg1) = m' ((c.tc : Thread Cert.DnormOdRefIdeal.nD Cert.DnormOdRefIdeal.τ).loc Cert.DnormOdRefIdeal.main_arg1)
          ∧ r.2.mem ((c.tc : Thread Cert.DnormOdRefIdeal.nD Cert.DnormOdRefIdeal.τ).loc Cert.DnormOdRefIdeal.main_arg2) = m' ((c.tc : Thread Cert.DnormOdRefIdeal.nD Cert.DnormOdRefIdeal.τ).loc Cert.DnormOdRefIdeal.main_arg2)
          ∧ r.2.mem ((c.tc : Thread Cert.DnormOdRefIdeal.nD Cert.DnormOdRefIdeal.τ).loc Cert.DnormOdRefIdeal.main_arg3) = m' ((c.tc : Thread Cert.DnormOdRefIdeal.nD Cert.DnormOdRefIdeal.τ).loc Cert.DnormOdRefIdeal.main_arg3)
          ∧ r.2.mem ((c.tc : Thread Cert.DnormOdRefIdeal.nD Cert.DnormOdRefIdeal.τ).loc Cert.DnormOdRefIdeal.main_arg4) = m' ((c.tc : Thread Cert.DnormOdRefIdeal.nD Cert.DnormOdRefIdeal.τ).loc Cert.DnormOdRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v36) = v2 c
          ∧ r.2.mem ((c.tc : Thread Cert.LossRefIdeal.nD Cert.LossRefIdeal.τ).loc Cert.LossRefIdeal.main_v54) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_v16) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_v18) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_InEv_InEvIdeal : Prop :=
  True

def algebraic_InEvIdeal_InEvRefIdeal [hInEvIdeal : Cert.InEvIdeal.Facts] [hInEvRefIdeal : Cert.InEvRefIdeal.Facts] : Prop :=
  ∀ (m : (ℓ : Loc Cert.InEvIdeal.nD Cert.InEvIdeal.τ Cert.InEvIdeal.sig) → Buf (Elt Ideal) ℓ) (g : Dev Cert.InEvIdeal.nD → PrngReg)
    (m' : (ℓ : Loc Cert.InEvRefIdeal.nD Cert.InEvRefIdeal.τ Cert.InEvRefIdeal.sig) → Buf (Elt Ideal) ℓ) (g' : Dev Cert.InEvRefIdeal.nD → PrngReg), Pre_InEvIdeal m →
    (∀ c : Dev Cert.InEvIdeal.nD,
      m' ((c.tc : Thread Cert.InEvRefIdeal.nD Cert.InEvRefIdeal.τ).loc Cert.InEvRefIdeal.main_arg0) = m ((c.tc : Thread Cert.InEvIdeal.nD Cert.InEvIdeal.τ).loc Cert.InEvIdeal.main_arg0)
      ∧ m' ((c.tc : Thread Cert.InEvRefIdeal.nD Cert.InEvRefIdeal.τ).loc Cert.InEvRefIdeal.main_arg1) = m ((c.tc : Thread Cert.InEvIdeal.nD Cert.InEvIdeal.τ).loc Cert.InEvIdeal.main_arg1)) →
    ∃ (v0 : (c : Dev Cert.InEvIdeal.nD) → Buf (Elt Ideal) ((c.tc : Thread Cert.InEvIdeal.nD Cert.InEvIdeal.τ).loc Cert.InEvIdeal.main_v0)),
      θ_run (Cert.InEvIdeal.defs (F := Ideal)) (onTc (τ := Cert.InEvIdeal.τ) (Cert.InEvIdeal.main (F := Ideal))) ⟨m, fun _ => 0, g⟩ (fun r => ∀ c : Dev Cert.InEvIdeal.nD,
          r.2.mem ((c.tc : Thread Cert.InEvIdeal.nD Cert.InEvIdeal.τ).loc Cert.InEvIdeal.main_v0) = v0 c
          ∧ r.2.mem ((c.tc : Thread Cert.InEvIdeal.nD Cert.InEvIdeal.τ).loc Cert.InEvIdeal.main_arg0) = m ((c.tc : Thread Cert.InEvIdeal.nD Cert.InEvIdeal.τ).loc Cert.InEvIdeal.main_arg0)
          ∧ r.2.mem ((c.tc : Thread Cert.InEvIdeal.nD Cert.InEvIdeal.τ).loc Cert.InEvIdeal.main_arg1) = m ((c.tc : Thread Cert.InEvIdeal.nD Cert.InEvIdeal.τ).loc Cert.InEvIdeal.main_arg1))
      ∧ θ_run (Cert.InEvRefIdeal.defs (F := Ideal)) (onTc (τ := Cert.InEvRefIdeal.τ) (Cert.InEvRefIdeal.main (F := Ideal))) ⟨m', fun _ => 0, g'⟩ (fun r => ∀ c : Dev Cert.InEvRefIdeal.nD,
          r.2.mem ((c.tc : Thread Cert.InEvRefIdeal.nD Cert.InEvRefIdeal.τ).loc Cert.InEvRefIdeal.main_v3) = v0 c
          ∧ r.2.mem ((c.tc : Thread Cert.InEvRefIdeal.nD Cert.InEvRefIdeal.τ).loc Cert.InEvRefIdeal.main_arg0) = m' ((c.tc : Thread Cert.InEvRefIdeal.nD Cert.InEvRefIdeal.τ).loc Cert.InEvRefIdeal.main_arg0)
          ∧ r.2.mem ((c.tc : Thread Cert.InEvRefIdeal.nD Cert.InEvRefIdeal.τ).loc Cert.InEvRefIdeal.main_arg1) = m' ((c.tc : Thread Cert.InEvRefIdeal.nD Cert.InEvRefIdeal.τ).loc Cert.InEvRefIdeal.main_arg1))

def preserves_InOd_InOdIdeal : Prop :=
  True

def algebraic_InOdIdeal_InOdRefIdeal [hInOdIdeal : Cert.InOdIdeal.Facts] [hInOdRefIdeal : Cert.InOdRefIdeal.Facts] : Prop :=
  ∀ (m : (ℓ : Loc Cert.InOdIdeal.nD Cert.InOdIdeal.τ Cert.InOdIdeal.sig) → Buf (Elt Ideal) ℓ) (g : Dev Cert.InOdIdeal.nD → PrngReg)
    (m' : (ℓ : Loc Cert.InOdRefIdeal.nD Cert.InOdRefIdeal.τ Cert.InOdRefIdeal.sig) → Buf (Elt Ideal) ℓ) (g' : Dev Cert.InOdRefIdeal.nD → PrngReg), Pre_InOdIdeal m →
    (∀ c : Dev Cert.InOdIdeal.nD,
      m' ((c.tc : Thread Cert.InOdRefIdeal.nD Cert.InOdRefIdeal.τ).loc Cert.InOdRefIdeal.main_arg0) = m ((c.tc : Thread Cert.InOdIdeal.nD Cert.InOdIdeal.τ).loc Cert.InOdIdeal.main_arg0)
      ∧ m' ((c.tc : Thread Cert.InOdRefIdeal.nD Cert.InOdRefIdeal.τ).loc Cert.InOdRefIdeal.main_arg1) = m ((c.tc : Thread Cert.InOdIdeal.nD Cert.InOdIdeal.τ).loc Cert.InOdIdeal.main_arg1)) →
    ∃ (v0 : (c : Dev Cert.InOdIdeal.nD) → Buf (Elt Ideal) ((c.tc : Thread Cert.InOdIdeal.nD Cert.InOdIdeal.τ).loc Cert.InOdIdeal.main_v0)),
      θ_run (Cert.InOdIdeal.defs (F := Ideal)) (onTc (τ := Cert.InOdIdeal.τ) (Cert.InOdIdeal.main (F := Ideal))) ⟨m, fun _ => 0, g⟩ (fun r => ∀ c : Dev Cert.InOdIdeal.nD,
          r.2.mem ((c.tc : Thread Cert.InOdIdeal.nD Cert.InOdIdeal.τ).loc Cert.InOdIdeal.main_v0) = v0 c
          ∧ r.2.mem ((c.tc : Thread Cert.InOdIdeal.nD Cert.InOdIdeal.τ).loc Cert.InOdIdeal.main_arg0) = m ((c.tc : Thread Cert.InOdIdeal.nD Cert.InOdIdeal.τ).loc Cert.InOdIdeal.main_arg0)
          ∧ r.2.mem ((c.tc : Thread Cert.InOdIdeal.nD Cert.InOdIdeal.τ).loc Cert.InOdIdeal.main_arg1) = m ((c.tc : Thread Cert.InOdIdeal.nD Cert.InOdIdeal.τ).loc Cert.InOdIdeal.main_arg1))
      ∧ θ_run (Cert.InOdRefIdeal.defs (F := Ideal)) (onTc (τ := Cert.InOdRefIdeal.τ) (Cert.InOdRefIdeal.main (F := Ideal))) ⟨m', fun _ => 0, g'⟩ (fun r => ∀ c : Dev Cert.InOdRefIdeal.nD,
          r.2.mem ((c.tc : Thread Cert.InOdRefIdeal.nD Cert.InOdRefIdeal.τ).loc Cert.InOdRefIdeal.main_v3) = v0 c
          ∧ r.2.mem ((c.tc : Thread Cert.InOdRefIdeal.nD Cert.InOdRefIdeal.τ).loc Cert.InOdRefIdeal.main_arg0) = m' ((c.tc : Thread Cert.InOdRefIdeal.nD Cert.InOdRefIdeal.τ).loc Cert.InOdRefIdeal.main_arg0)
          ∧ r.2.mem ((c.tc : Thread Cert.InOdRefIdeal.nD Cert.InOdRefIdeal.τ).loc Cert.InOdRefIdeal.main_arg1) = m' ((c.tc : Thread Cert.InOdRefIdeal.nD Cert.InOdRefIdeal.τ).loc Cert.InOdRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Tail_TailIdeal : Prop :=
  True

def algebraic_TailIdeal_TailRefIdeal_pre_finite_tail [hTailIdeal : Cert.TailIdeal.Facts] [hTailRefIdeal : Cert.TailRefIdeal.Facts] [hPre_finite_tail : Cert.Pre_finite_tail.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite_tail m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)) →
    ∃ (v0 : (c : Dev Cert.TailIdeal.nD) → Buf (Elt Ideal) ((c.tc : Thread Cert.TailIdeal.nD Cert.TailIdeal.τ).loc Cert.TailIdeal.main_v0_1)) (v1 : (c : Dev Cert.TailIdeal.nD) → Buf (Elt Ideal) ((c.tc : Thread Cert.TailIdeal.nD Cert.TailIdeal.τ).loc Cert.TailIdeal.main_v0_2)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_1) = v0 c
          ∧ r.2.mem ((c.tc : Thread Cert.TailIdeal.nD Cert.TailIdeal.τ).loc Cert.TailIdeal.main_v0_2) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v27) = v0 c
          ∧ r.2.mem ((c.tc : Thread Cert.TailRefIdeal.nD Cert.TailRefIdeal.τ).loc Cert.TailRefIdeal.main_v24) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3))

def preserves_AdamEvIn_AdamEvInIdeal : Prop :=
  True

def algebraic_AdamEvInIdeal_AdamEvInRefIdeal [hAdamEvInIdeal : Cert.AdamEvInIdeal.Facts] [hAdamEvInRefIdeal : Cert.AdamEvInRefIdeal.Facts] : Prop :=
  ∀ (m : (ℓ : Loc Cert.AdamEvInIdeal.nD Cert.AdamEvInIdeal.τ Cert.AdamEvInIdeal.sig) → Buf (Elt Ideal) ℓ) (g : Dev Cert.AdamEvInIdeal.nD → PrngReg)
    (m' : (ℓ : Loc Cert.AdamEvInRefIdeal.nD Cert.AdamEvInRefIdeal.τ Cert.AdamEvInRefIdeal.sig) → Buf (Elt Ideal) ℓ) (g' : Dev Cert.AdamEvInRefIdeal.nD → PrngReg), Pre_AdamEvInIdeal m →
    (∀ c : Dev Cert.AdamEvInIdeal.nD,
      m' ((c.tc : Thread Cert.AdamEvInRefIdeal.nD Cert.AdamEvInRefIdeal.τ).loc Cert.AdamEvInRefIdeal.main_arg0) = m ((c.tc : Thread Cert.AdamEvInIdeal.nD Cert.AdamEvInIdeal.τ).loc Cert.AdamEvInIdeal.main_arg0)
      ∧ m' ((c.tc : Thread Cert.AdamEvInRefIdeal.nD Cert.AdamEvInRefIdeal.τ).loc Cert.AdamEvInRefIdeal.main_arg1) = m ((c.tc : Thread Cert.AdamEvInIdeal.nD Cert.AdamEvInIdeal.τ).loc Cert.AdamEvInIdeal.main_arg1)
      ∧ m' ((c.tc : Thread Cert.AdamEvInRefIdeal.nD Cert.AdamEvInRefIdeal.τ).loc Cert.AdamEvInRefIdeal.main_arg2) = m ((c.tc : Thread Cert.AdamEvInIdeal.nD Cert.AdamEvInIdeal.τ).loc Cert.AdamEvInIdeal.main_arg2)
      ∧ m' ((c.tc : Thread Cert.AdamEvInRefIdeal.nD Cert.AdamEvInRefIdeal.τ).loc Cert.AdamEvInRefIdeal.main_arg3) = m ((c.tc : Thread Cert.AdamEvInIdeal.nD Cert.AdamEvInIdeal.τ).loc Cert.AdamEvInIdeal.main_arg3)) →
    ∃ (v0 : (c : Dev Cert.AdamEvInIdeal.nD) → Buf (Elt Ideal) ((c.tc : Thread Cert.AdamEvInIdeal.nD Cert.AdamEvInIdeal.τ).loc Cert.AdamEvInIdeal.main_v0_0)) (v1 : (c : Dev Cert.AdamEvInIdeal.nD) → Buf (Elt Ideal) ((c.tc : Thread Cert.AdamEvInIdeal.nD Cert.AdamEvInIdeal.τ).loc Cert.AdamEvInIdeal.main_v0_1)) (v2 : (c : Dev Cert.AdamEvInIdeal.nD) → Buf (Elt Ideal) ((c.tc : Thread Cert.AdamEvInIdeal.nD Cert.AdamEvInIdeal.τ).loc Cert.AdamEvInIdeal.main_v0_2)),
      θ_run (Cert.AdamEvInIdeal.defs (F := Ideal)) (onTc (τ := Cert.AdamEvInIdeal.τ) (Cert.AdamEvInIdeal.main (F := Ideal))) ⟨m, fun _ => 0, g⟩ (fun r => ∀ c : Dev Cert.AdamEvInIdeal.nD,
          r.2.mem ((c.tc : Thread Cert.AdamEvInIdeal.nD Cert.AdamEvInIdeal.τ).loc Cert.AdamEvInIdeal.main_v0_0) = v0 c
          ∧ r.2.mem ((c.tc : Thread Cert.AdamEvInIdeal.nD Cert.AdamEvInIdeal.τ).loc Cert.AdamEvInIdeal.main_v0_1) = v1 c
          ∧ r.2.mem ((c.tc : Thread Cert.AdamEvInIdeal.nD Cert.AdamEvInIdeal.τ).loc Cert.AdamEvInIdeal.main_v0_2) = v2 c
          ∧ r.2.mem ((c.tc : Thread Cert.AdamEvInIdeal.nD Cert.AdamEvInIdeal.τ).loc Cert.AdamEvInIdeal.main_arg0) = m ((c.tc : Thread Cert.AdamEvInIdeal.nD Cert.AdamEvInIdeal.τ).loc Cert.AdamEvInIdeal.main_arg0)
          ∧ r.2.mem ((c.tc : Thread Cert.AdamEvInIdeal.nD Cert.AdamEvInIdeal.τ).loc Cert.AdamEvInIdeal.main_arg1) = m ((c.tc : Thread Cert.AdamEvInIdeal.nD Cert.AdamEvInIdeal.τ).loc Cert.AdamEvInIdeal.main_arg1)
          ∧ r.2.mem ((c.tc : Thread Cert.AdamEvInIdeal.nD Cert.AdamEvInIdeal.τ).loc Cert.AdamEvInIdeal.main_arg2) = m ((c.tc : Thread Cert.AdamEvInIdeal.nD Cert.AdamEvInIdeal.τ).loc Cert.AdamEvInIdeal.main_arg2)
          ∧ r.2.mem ((c.tc : Thread Cert.AdamEvInIdeal.nD Cert.AdamEvInIdeal.τ).loc Cert.AdamEvInIdeal.main_arg3) = m ((c.tc : Thread Cert.AdamEvInIdeal.nD Cert.AdamEvInIdeal.τ).loc Cert.AdamEvInIdeal.main_arg3))
      ∧ θ_run (Cert.AdamEvInRefIdeal.defs (F := Ideal)) (onTc (τ := Cert.AdamEvInRefIdeal.τ) (Cert.AdamEvInRefIdeal.main (F := Ideal))) ⟨m', fun _ => 0, g'⟩ (fun r => ∀ c : Dev Cert.AdamEvInRefIdeal.nD,
          r.2.mem ((c.tc : Thread Cert.AdamEvInRefIdeal.nD Cert.AdamEvInRefIdeal.τ).loc Cert.AdamEvInRefIdeal.main_v23) = v0 c
          ∧ r.2.mem ((c.tc : Thread Cert.AdamEvInRefIdeal.nD Cert.AdamEvInRefIdeal.τ).loc Cert.AdamEvInRefIdeal.main_v4) = v1 c
          ∧ r.2.mem ((c.tc : Thread Cert.AdamEvInRefIdeal.nD Cert.AdamEvInRefIdeal.τ).loc Cert.AdamEvInRefIdeal.main_v10) = v2 c
          ∧ r.2.mem ((c.tc : Thread Cert.AdamEvInRefIdeal.nD Cert.AdamEvInRefIdeal.τ).loc Cert.AdamEvInRefIdeal.main_arg0) = m' ((c.tc : Thread Cert.AdamEvInRefIdeal.nD Cert.AdamEvInRefIdeal.τ).loc Cert.AdamEvInRefIdeal.main_arg0)
          ∧ r.2.mem ((c.tc : Thread Cert.AdamEvInRefIdeal.nD Cert.AdamEvInRefIdeal.τ).loc Cert.AdamEvInRefIdeal.main_arg1) = m' ((c.tc : Thread Cert.AdamEvInRefIdeal.nD Cert.AdamEvInRefIdeal.τ).loc Cert.AdamEvInRefIdeal.main_arg1)
          ∧ r.2.mem ((c.tc : Thread Cert.AdamEvInRefIdeal.nD Cert.AdamEvInRefIdeal.τ).loc Cert.AdamEvInRefIdeal.main_arg2) = m' ((c.tc : Thread Cert.AdamEvInRefIdeal.nD Cert.AdamEvInRefIdeal.τ).loc Cert.AdamEvInRefIdeal.main_arg2)
          ∧ r.2.mem ((c.tc : Thread Cert.AdamEvInRefIdeal.nD Cert.AdamEvInRefIdeal.τ).loc Cert.AdamEvInRefIdeal.main_arg3) = m' ((c.tc : Thread Cert.AdamEvInRefIdeal.nD Cert.AdamEvInRefIdeal.τ).loc Cert.AdamEvInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamOdIn_AdamOdInIdeal : Prop :=
  True

def algebraic_AdamOdInIdeal_AdamOdInRefIdeal [hAdamOdInIdeal : Cert.AdamOdInIdeal.Facts] [hAdamOdInRefIdeal : Cert.AdamOdInRefIdeal.Facts] : Prop :=
  ∀ (m : (ℓ : Loc Cert.AdamOdInIdeal.nD Cert.AdamOdInIdeal.τ Cert.AdamOdInIdeal.sig) → Buf (Elt Ideal) ℓ) (g : Dev Cert.AdamOdInIdeal.nD → PrngReg)
    (m' : (ℓ : Loc Cert.AdamOdInRefIdeal.nD Cert.AdamOdInRefIdeal.τ Cert.AdamOdInRefIdeal.sig) → Buf (Elt Ideal) ℓ) (g' : Dev Cert.AdamOdInRefIdeal.nD → PrngReg), Pre_AdamOdInIdeal m →
    (∀ c : Dev Cert.AdamOdInIdeal.nD,
      m' ((c.tc : Thread Cert.AdamOdInRefIdeal.nD Cert.AdamOdInRefIdeal.τ).loc Cert.AdamOdInRefIdeal.main_arg0) = m ((c.tc : Thread Cert.AdamOdInIdeal.nD Cert.AdamOdInIdeal.τ).loc Cert.AdamOdInIdeal.main_arg0)
      ∧ m' ((c.tc : Thread Cert.AdamOdInRefIdeal.nD Cert.AdamOdInRefIdeal.τ).loc Cert.AdamOdInRefIdeal.main_arg1) = m ((c.tc : Thread Cert.AdamOdInIdeal.nD Cert.AdamOdInIdeal.τ).loc Cert.AdamOdInIdeal.main_arg1)
      ∧ m' ((c.tc : Thread Cert.AdamOdInRefIdeal.nD Cert.AdamOdInRefIdeal.τ).loc Cert.AdamOdInRefIdeal.main_arg2) = m ((c.tc : Thread Cert.AdamOdInIdeal.nD Cert.AdamOdInIdeal.τ).loc Cert.AdamOdInIdeal.main_arg2)
      ∧ m' ((c.tc : Thread Cert.AdamOdInRefIdeal.nD Cert.AdamOdInRefIdeal.τ).loc Cert.AdamOdInRefIdeal.main_arg3) = m ((c.tc : Thread Cert.AdamOdInIdeal.nD Cert.AdamOdInIdeal.τ).loc Cert.AdamOdInIdeal.main_arg3)) →
    ∃ (v0 : (c : Dev Cert.AdamOdInIdeal.nD) → Buf (Elt Ideal) ((c.tc : Thread Cert.AdamOdInIdeal.nD Cert.AdamOdInIdeal.τ).loc Cert.AdamOdInIdeal.main_v0_0)) (v1 : (c : Dev Cert.AdamOdInIdeal.nD) → Buf (Elt Ideal) ((c.tc : Thread Cert.AdamOdInIdeal.nD Cert.AdamOdInIdeal.τ).loc Cert.AdamOdInIdeal.main_v0_1)) (v2 : (c : Dev Cert.AdamOdInIdeal.nD) → Buf (Elt Ideal) ((c.tc : Thread Cert.AdamOdInIdeal.nD Cert.AdamOdInIdeal.τ).loc Cert.AdamOdInIdeal.main_v0_2)),
      θ_run (Cert.AdamOdInIdeal.defs (F := Ideal)) (onTc (τ := Cert.AdamOdInIdeal.τ) (Cert.AdamOdInIdeal.main (F := Ideal))) ⟨m, fun _ => 0, g⟩ (fun r => ∀ c : Dev Cert.AdamOdInIdeal.nD,
          r.2.mem ((c.tc : Thread Cert.AdamOdInIdeal.nD Cert.AdamOdInIdeal.τ).loc Cert.AdamOdInIdeal.main_v0_0) = v0 c
          ∧ r.2.mem ((c.tc : Thread Cert.AdamOdInIdeal.nD Cert.AdamOdInIdeal.τ).loc Cert.AdamOdInIdeal.main_v0_1) = v1 c
          ∧ r.2.mem ((c.tc : Thread Cert.AdamOdInIdeal.nD Cert.AdamOdInIdeal.τ).loc Cert.AdamOdInIdeal.main_v0_2) = v2 c
          ∧ r.2.mem ((c.tc : Thread Cert.AdamOdInIdeal.nD Cert.AdamOdInIdeal.τ).loc Cert.AdamOdInIdeal.main_arg0) = m ((c.tc : Thread Cert.AdamOdInIdeal.nD Cert.AdamOdInIdeal.τ).loc Cert.AdamOdInIdeal.main_arg0)
          ∧ r.2.mem ((c.tc : Thread Cert.AdamOdInIdeal.nD Cert.AdamOdInIdeal.τ).loc Cert.AdamOdInIdeal.main_arg1) = m ((c.tc : Thread Cert.AdamOdInIdeal.nD Cert.AdamOdInIdeal.τ).loc Cert.AdamOdInIdeal.main_arg1)
          ∧ r.2.mem ((c.tc : Thread Cert.AdamOdInIdeal.nD Cert.AdamOdInIdeal.τ).loc Cert.AdamOdInIdeal.main_arg2) = m ((c.tc : Thread Cert.AdamOdInIdeal.nD Cert.AdamOdInIdeal.τ).loc Cert.AdamOdInIdeal.main_arg2)
          ∧ r.2.mem ((c.tc : Thread Cert.AdamOdInIdeal.nD Cert.AdamOdInIdeal.τ).loc Cert.AdamOdInIdeal.main_arg3) = m ((c.tc : Thread Cert.AdamOdInIdeal.nD Cert.AdamOdInIdeal.τ).loc Cert.AdamOdInIdeal.main_arg3))
      ∧ θ_run (Cert.AdamOdInRefIdeal.defs (F := Ideal)) (onTc (τ := Cert.AdamOdInRefIdeal.τ) (Cert.AdamOdInRefIdeal.main (F := Ideal))) ⟨m', fun _ => 0, g'⟩ (fun r => ∀ c : Dev Cert.AdamOdInRefIdeal.nD,
          r.2.mem ((c.tc : Thread Cert.AdamOdInRefIdeal.nD Cert.AdamOdInRefIdeal.τ).loc Cert.AdamOdInRefIdeal.main_v23) = v0 c
          ∧ r.2.mem ((c.tc : Thread Cert.AdamOdInRefIdeal.nD Cert.AdamOdInRefIdeal.τ).loc Cert.AdamOdInRefIdeal.main_v4) = v1 c
          ∧ r.2.mem ((c.tc : Thread Cert.AdamOdInRefIdeal.nD Cert.AdamOdInRefIdeal.τ).loc Cert.AdamOdInRefIdeal.main_v10) = v2 c
          ∧ r.2.mem ((c.tc : Thread Cert.AdamOdInRefIdeal.nD Cert.AdamOdInRefIdeal.τ).loc Cert.AdamOdInRefIdeal.main_arg0) = m' ((c.tc : Thread Cert.AdamOdInRefIdeal.nD Cert.AdamOdInRefIdeal.τ).loc Cert.AdamOdInRefIdeal.main_arg0)
          ∧ r.2.mem ((c.tc : Thread Cert.AdamOdInRefIdeal.nD Cert.AdamOdInRefIdeal.τ).loc Cert.AdamOdInRefIdeal.main_arg1) = m' ((c.tc : Thread Cert.AdamOdInRefIdeal.nD Cert.AdamOdInRefIdeal.τ).loc Cert.AdamOdInRefIdeal.main_arg1)
          ∧ r.2.mem ((c.tc : Thread Cert.AdamOdInRefIdeal.nD Cert.AdamOdInRefIdeal.τ).loc Cert.AdamOdInRefIdeal.main_arg2) = m' ((c.tc : Thread Cert.AdamOdInRefIdeal.nD Cert.AdamOdInRefIdeal.τ).loc Cert.AdamOdInRefIdeal.main_arg2)
          ∧ r.2.mem ((c.tc : Thread Cert.AdamOdInRefIdeal.nD Cert.AdamOdInRefIdeal.τ).loc Cert.AdamOdInRefIdeal.main_arg3) = m' ((c.tc : Thread Cert.AdamOdInRefIdeal.nD Cert.AdamOdInRefIdeal.τ).loc Cert.AdamOdInRefIdeal.main_arg3))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v23) = v0 c
          ∧ r.2.mem ((c.tc : Thread Cert.AdamFfnRefIdeal.nD Cert.AdamFfnRefIdeal.τ).loc Cert.AdamFfnRefIdeal.main_v4) = v1 c
          ∧ r.2.mem ((c.tc : Thread Cert.AdamFfnRefIdeal.nD Cert.AdamFfnRefIdeal.τ).loc Cert.AdamFfnRefIdeal.main_v10) = v2 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamSink_AdamSinkIdeal : Prop :=
  True

def algebraic_AdamSinkIdeal_AdamSinkRefIdeal [hAdamSinkIdeal : Cert.AdamSinkIdeal.Facts] [hAdamSinkRefIdeal : Cert.AdamSinkRefIdeal.Facts] : Prop :=
  ∀ (m : (ℓ : Loc Cert.AdamSinkIdeal.nD Cert.AdamSinkIdeal.τ Cert.AdamSinkIdeal.sig) → Buf (Elt Ideal) ℓ) (g : Dev Cert.AdamSinkIdeal.nD → PrngReg)
    (m' : (ℓ : Loc Cert.AdamSinkRefIdeal.nD Cert.AdamSinkRefIdeal.τ Cert.AdamSinkRefIdeal.sig) → Buf (Elt Ideal) ℓ) (g' : Dev Cert.AdamSinkRefIdeal.nD → PrngReg), Pre_AdamSinkIdeal m →
    (∀ c : Dev Cert.AdamSinkIdeal.nD,
      m' ((c.tc : Thread Cert.AdamSinkRefIdeal.nD Cert.AdamSinkRefIdeal.τ).loc Cert.AdamSinkRefIdeal.main_arg0) = m ((c.tc : Thread Cert.AdamSinkIdeal.nD Cert.AdamSinkIdeal.τ).loc Cert.AdamSinkIdeal.main_arg0)
      ∧ m' ((c.tc : Thread Cert.AdamSinkRefIdeal.nD Cert.AdamSinkRefIdeal.τ).loc Cert.AdamSinkRefIdeal.main_arg1) = m ((c.tc : Thread Cert.AdamSinkIdeal.nD Cert.AdamSinkIdeal.τ).loc Cert.AdamSinkIdeal.main_arg1)
      ∧ m' ((c.tc : Thread Cert.AdamSinkRefIdeal.nD Cert.AdamSinkRefIdeal.τ).loc Cert.AdamSinkRefIdeal.main_arg2) = m ((c.tc : Thread Cert.AdamSinkIdeal.nD Cert.AdamSinkIdeal.τ).loc Cert.AdamSinkIdeal.main_arg2)
      ∧ m' ((c.tc : Thread Cert.AdamSinkRefIdeal.nD Cert.AdamSinkRefIdeal.τ).loc Cert.AdamSinkRefIdeal.main_arg3) = m ((c.tc : Thread Cert.AdamSinkIdeal.nD Cert.AdamSinkIdeal.τ).loc Cert.AdamSinkIdeal.main_arg3)) →
    ∃ (v0 : (c : Dev Cert.AdamSinkIdeal.nD) → Buf (Elt Ideal) ((c.tc : Thread Cert.AdamSinkIdeal.nD Cert.AdamSinkIdeal.τ).loc Cert.AdamSinkIdeal.main_v0_0)) (v1 : (c : Dev Cert.AdamSinkIdeal.nD) → Buf (Elt Ideal) ((c.tc : Thread Cert.AdamSinkIdeal.nD Cert.AdamSinkIdeal.τ).loc Cert.AdamSinkIdeal.main_v0_1)) (v2 : (c : Dev Cert.AdamSinkIdeal.nD) → Buf (Elt Ideal) ((c.tc : Thread Cert.AdamSinkIdeal.nD Cert.AdamSinkIdeal.τ).loc Cert.AdamSinkIdeal.main_v0_2)),
      θ_run (Cert.AdamSinkIdeal.defs (F := Ideal)) (onTc (τ := Cert.AdamSinkIdeal.τ) (Cert.AdamSinkIdeal.main (F := Ideal))) ⟨m, fun _ => 0, g⟩ (fun r => ∀ c : Dev Cert.AdamSinkIdeal.nD,
          r.2.mem ((c.tc : Thread Cert.AdamSinkIdeal.nD Cert.AdamSinkIdeal.τ).loc Cert.AdamSinkIdeal.main_v0_0) = v0 c
          ∧ r.2.mem ((c.tc : Thread Cert.AdamSinkIdeal.nD Cert.AdamSinkIdeal.τ).loc Cert.AdamSinkIdeal.main_v0_1) = v1 c
          ∧ r.2.mem ((c.tc : Thread Cert.AdamSinkIdeal.nD Cert.AdamSinkIdeal.τ).loc Cert.AdamSinkIdeal.main_v0_2) = v2 c
          ∧ r.2.mem ((c.tc : Thread Cert.AdamSinkIdeal.nD Cert.AdamSinkIdeal.τ).loc Cert.AdamSinkIdeal.main_arg0) = m ((c.tc : Thread Cert.AdamSinkIdeal.nD Cert.AdamSinkIdeal.τ).loc Cert.AdamSinkIdeal.main_arg0)
          ∧ r.2.mem ((c.tc : Thread Cert.AdamSinkIdeal.nD Cert.AdamSinkIdeal.τ).loc Cert.AdamSinkIdeal.main_arg1) = m ((c.tc : Thread Cert.AdamSinkIdeal.nD Cert.AdamSinkIdeal.τ).loc Cert.AdamSinkIdeal.main_arg1)
          ∧ r.2.mem ((c.tc : Thread Cert.AdamSinkIdeal.nD Cert.AdamSinkIdeal.τ).loc Cert.AdamSinkIdeal.main_arg2) = m ((c.tc : Thread Cert.AdamSinkIdeal.nD Cert.AdamSinkIdeal.τ).loc Cert.AdamSinkIdeal.main_arg2)
          ∧ r.2.mem ((c.tc : Thread Cert.AdamSinkIdeal.nD Cert.AdamSinkIdeal.τ).loc Cert.AdamSinkIdeal.main_arg3) = m ((c.tc : Thread Cert.AdamSinkIdeal.nD Cert.AdamSinkIdeal.τ).loc Cert.AdamSinkIdeal.main_arg3))
      ∧ θ_run (Cert.AdamSinkRefIdeal.defs (F := Ideal)) (onTc (τ := Cert.AdamSinkRefIdeal.τ) (Cert.AdamSinkRefIdeal.main (F := Ideal))) ⟨m', fun _ => 0, g'⟩ (fun r => ∀ c : Dev Cert.AdamSinkRefIdeal.nD,
          r.2.mem ((c.tc : Thread Cert.AdamSinkRefIdeal.nD Cert.AdamSinkRefIdeal.τ).loc Cert.AdamSinkRefIdeal.main_v23) = v0 c
          ∧ r.2.mem ((c.tc : Thread Cert.AdamSinkRefIdeal.nD Cert.AdamSinkRefIdeal.τ).loc Cert.AdamSinkRefIdeal.main_v4) = v1 c
          ∧ r.2.mem ((c.tc : Thread Cert.AdamSinkRefIdeal.nD Cert.AdamSinkRefIdeal.τ).loc Cert.AdamSinkRefIdeal.main_v10) = v2 c
          ∧ r.2.mem ((c.tc : Thread Cert.AdamSinkRefIdeal.nD Cert.AdamSinkRefIdeal.τ).loc Cert.AdamSinkRefIdeal.main_arg0) = m' ((c.tc : Thread Cert.AdamSinkRefIdeal.nD Cert.AdamSinkRefIdeal.τ).loc Cert.AdamSinkRefIdeal.main_arg0)
          ∧ r.2.mem ((c.tc : Thread Cert.AdamSinkRefIdeal.nD Cert.AdamSinkRefIdeal.τ).loc Cert.AdamSinkRefIdeal.main_arg1) = m' ((c.tc : Thread Cert.AdamSinkRefIdeal.nD Cert.AdamSinkRefIdeal.τ).loc Cert.AdamSinkRefIdeal.main_arg1)
          ∧ r.2.mem ((c.tc : Thread Cert.AdamSinkRefIdeal.nD Cert.AdamSinkRefIdeal.τ).loc Cert.AdamSinkRefIdeal.main_arg2) = m' ((c.tc : Thread Cert.AdamSinkRefIdeal.nD Cert.AdamSinkRefIdeal.τ).loc Cert.AdamSinkRefIdeal.main_arg2)
          ∧ r.2.mem ((c.tc : Thread Cert.AdamSinkRefIdeal.nD Cert.AdamSinkRefIdeal.τ).loc Cert.AdamSinkRefIdeal.main_arg3) = m' ((c.tc : Thread Cert.AdamSinkRefIdeal.nD Cert.AdamSinkRefIdeal.τ).loc Cert.AdamSinkRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamSpatial_AdamSpatialIdeal : Prop :=
  True

def algebraic_AdamSpatialIdeal_AdamSpatialRefIdeal [hAdamSpatialIdeal : Cert.AdamSpatialIdeal.Facts] [hAdamSpatialRefIdeal : Cert.AdamSpatialRefIdeal.Facts] : Prop :=
  ∀ (m : (ℓ : Loc Cert.AdamSpatialIdeal.nD Cert.AdamSpatialIdeal.τ Cert.AdamSpatialIdeal.sig) → Buf (Elt Ideal) ℓ) (g : Dev Cert.AdamSpatialIdeal.nD → PrngReg)
    (m' : (ℓ : Loc Cert.AdamSpatialRefIdeal.nD Cert.AdamSpatialRefIdeal.τ Cert.AdamSpatialRefIdeal.sig) → Buf (Elt Ideal) ℓ) (g' : Dev Cert.AdamSpatialRefIdeal.nD → PrngReg), Pre_AdamSpatialIdeal m →
    (∀ c : Dev Cert.AdamSpatialIdeal.nD,
      m' ((c.tc : Thread Cert.AdamSpatialRefIdeal.nD Cert.AdamSpatialRefIdeal.τ).loc Cert.AdamSpatialRefIdeal.main_arg0) = m ((c.tc : Thread Cert.AdamSpatialIdeal.nD Cert.AdamSpatialIdeal.τ).loc Cert.AdamSpatialIdeal.main_arg0)
      ∧ m' ((c.tc : Thread Cert.AdamSpatialRefIdeal.nD Cert.AdamSpatialRefIdeal.τ).loc Cert.AdamSpatialRefIdeal.main_arg1) = m ((c.tc : Thread Cert.AdamSpatialIdeal.nD Cert.AdamSpatialIdeal.τ).loc Cert.AdamSpatialIdeal.main_arg1)
      ∧ m' ((c.tc : Thread Cert.AdamSpatialRefIdeal.nD Cert.AdamSpatialRefIdeal.τ).loc Cert.AdamSpatialRefIdeal.main_arg2) = m ((c.tc : Thread Cert.AdamSpatialIdeal.nD Cert.AdamSpatialIdeal.τ).loc Cert.AdamSpatialIdeal.main_arg2)
      ∧ m' ((c.tc : Thread Cert.AdamSpatialRefIdeal.nD Cert.AdamSpatialRefIdeal.τ).loc Cert.AdamSpatialRefIdeal.main_arg3) = m ((c.tc : Thread Cert.AdamSpatialIdeal.nD Cert.AdamSpatialIdeal.τ).loc Cert.AdamSpatialIdeal.main_arg3)) →
    ∃ (v0 : (c : Dev Cert.AdamSpatialIdeal.nD) → Buf (Elt Ideal) ((c.tc : Thread Cert.AdamSpatialIdeal.nD Cert.AdamSpatialIdeal.τ).loc Cert.AdamSpatialIdeal.main_v0_0)) (v1 : (c : Dev Cert.AdamSpatialIdeal.nD) → Buf (Elt Ideal) ((c.tc : Thread Cert.AdamSpatialIdeal.nD Cert.AdamSpatialIdeal.τ).loc Cert.AdamSpatialIdeal.main_v0_1)) (v2 : (c : Dev Cert.AdamSpatialIdeal.nD) → Buf (Elt Ideal) ((c.tc : Thread Cert.AdamSpatialIdeal.nD Cert.AdamSpatialIdeal.τ).loc Cert.AdamSpatialIdeal.main_v0_2)),
      θ_run (Cert.AdamSpatialIdeal.defs (F := Ideal)) (onTc (τ := Cert.AdamSpatialIdeal.τ) (Cert.AdamSpatialIdeal.main (F := Ideal))) ⟨m, fun _ => 0, g⟩ (fun r => ∀ c : Dev Cert.AdamSpatialIdeal.nD,
          r.2.mem ((c.tc : Thread Cert.AdamSpatialIdeal.nD Cert.AdamSpatialIdeal.τ).loc Cert.AdamSpatialIdeal.main_v0_0) = v0 c
          ∧ r.2.mem ((c.tc : Thread Cert.AdamSpatialIdeal.nD Cert.AdamSpatialIdeal.τ).loc Cert.AdamSpatialIdeal.main_v0_1) = v1 c
          ∧ r.2.mem ((c.tc : Thread Cert.AdamSpatialIdeal.nD Cert.AdamSpatialIdeal.τ).loc Cert.AdamSpatialIdeal.main_v0_2) = v2 c
          ∧ r.2.mem ((c.tc : Thread Cert.AdamSpatialIdeal.nD Cert.AdamSpatialIdeal.τ).loc Cert.AdamSpatialIdeal.main_arg0) = m ((c.tc : Thread Cert.AdamSpatialIdeal.nD Cert.AdamSpatialIdeal.τ).loc Cert.AdamSpatialIdeal.main_arg0)
          ∧ r.2.mem ((c.tc : Thread Cert.AdamSpatialIdeal.nD Cert.AdamSpatialIdeal.τ).loc Cert.AdamSpatialIdeal.main_arg1) = m ((c.tc : Thread Cert.AdamSpatialIdeal.nD Cert.AdamSpatialIdeal.τ).loc Cert.AdamSpatialIdeal.main_arg1)
          ∧ r.2.mem ((c.tc : Thread Cert.AdamSpatialIdeal.nD Cert.AdamSpatialIdeal.τ).loc Cert.AdamSpatialIdeal.main_arg2) = m ((c.tc : Thread Cert.AdamSpatialIdeal.nD Cert.AdamSpatialIdeal.τ).loc Cert.AdamSpatialIdeal.main_arg2)
          ∧ r.2.mem ((c.tc : Thread Cert.AdamSpatialIdeal.nD Cert.AdamSpatialIdeal.τ).loc Cert.AdamSpatialIdeal.main_arg3) = m ((c.tc : Thread Cert.AdamSpatialIdeal.nD Cert.AdamSpatialIdeal.τ).loc Cert.AdamSpatialIdeal.main_arg3))
      ∧ θ_run (Cert.AdamSpatialRefIdeal.defs (F := Ideal)) (onTc (τ := Cert.AdamSpatialRefIdeal.τ) (Cert.AdamSpatialRefIdeal.main (F := Ideal))) ⟨m', fun _ => 0, g'⟩ (fun r => ∀ c : Dev Cert.AdamSpatialRefIdeal.nD,
          r.2.mem ((c.tc : Thread Cert.AdamSpatialRefIdeal.nD Cert.AdamSpatialRefIdeal.τ).loc Cert.AdamSpatialRefIdeal.main_v23) = v0 c
          ∧ r.2.mem ((c.tc : Thread Cert.AdamSpatialRefIdeal.nD Cert.AdamSpatialRefIdeal.τ).loc Cert.AdamSpatialRefIdeal.main_v4) = v1 c
          ∧ r.2.mem ((c.tc : Thread Cert.AdamSpatialRefIdeal.nD Cert.AdamSpatialRefIdeal.τ).loc Cert.AdamSpatialRefIdeal.main_v10) = v2 c
          ∧ r.2.mem ((c.tc : Thread Cert.AdamSpatialRefIdeal.nD Cert.AdamSpatialRefIdeal.τ).loc Cert.AdamSpatialRefIdeal.main_arg0) = m' ((c.tc : Thread Cert.AdamSpatialRefIdeal.nD Cert.AdamSpatialRefIdeal.τ).loc Cert.AdamSpatialRefIdeal.main_arg0)
          ∧ r.2.mem ((c.tc : Thread Cert.AdamSpatialRefIdeal.nD Cert.AdamSpatialRefIdeal.τ).loc Cert.AdamSpatialRefIdeal.main_arg1) = m' ((c.tc : Thread Cert.AdamSpatialRefIdeal.nD Cert.AdamSpatialRefIdeal.τ).loc Cert.AdamSpatialRefIdeal.main_arg1)
          ∧ r.2.mem ((c.tc : Thread Cert.AdamSpatialRefIdeal.nD Cert.AdamSpatialRefIdeal.τ).loc Cert.AdamSpatialRefIdeal.main_arg2) = m' ((c.tc : Thread Cert.AdamSpatialRefIdeal.nD Cert.AdamSpatialRefIdeal.τ).loc Cert.AdamSpatialRefIdeal.main_arg2)
          ∧ r.2.mem ((c.tc : Thread Cert.AdamSpatialRefIdeal.nD Cert.AdamSpatialRefIdeal.τ).loc Cert.AdamSpatialRefIdeal.main_arg3) = m' ((c.tc : Thread Cert.AdamSpatialRefIdeal.nD Cert.AdamSpatialRefIdeal.τ).loc Cert.AdamSpatialRefIdeal.main_arg3))

def preserves_AdamBias_AdamBiasIdeal : Prop :=
  True

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_v23) = v0 c
          ∧ r.2.mem ((c.tc : Thread Cert.AdamBiasRefIdeal.nD Cert.AdamBiasRefIdeal.τ).loc Cert.AdamBiasRefIdeal.main_v4) = v1 c
          ∧ r.2.mem ((c.tc : Thread Cert.AdamBiasRefIdeal.nD Cert.AdamBiasRefIdeal.τ).loc Cert.AdamBiasRefIdeal.main_v10) = v2 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3))

def preserves_AdamNorms_AdamNormsIdeal : Prop :=
  True

def algebraic_AdamNormsIdeal_AdamNormsRefIdeal [hAdamNormsIdeal : Cert.AdamNormsIdeal.Facts] [hAdamNormsRefIdeal : Cert.AdamNormsRefIdeal.Facts] : Prop :=
  ∀ (m : (ℓ : Loc Cert.AdamNormsIdeal.nD Cert.AdamNormsIdeal.τ Cert.AdamNormsIdeal.sig) → Buf (Elt Ideal) ℓ) (g : Dev Cert.AdamNormsIdeal.nD → PrngReg)
    (m' : (ℓ : Loc Cert.AdamNormsRefIdeal.nD Cert.AdamNormsRefIdeal.τ Cert.AdamNormsRefIdeal.sig) → Buf (Elt Ideal) ℓ) (g' : Dev Cert.AdamNormsRefIdeal.nD → PrngReg), Pre_AdamNormsIdeal m →
    (∀ c : Dev Cert.AdamNormsIdeal.nD,
      m' ((c.tc : Thread Cert.AdamNormsRefIdeal.nD Cert.AdamNormsRefIdeal.τ).loc Cert.AdamNormsRefIdeal.main_arg0) = m ((c.tc : Thread Cert.AdamNormsIdeal.nD Cert.AdamNormsIdeal.τ).loc Cert.AdamNormsIdeal.main_arg0)
      ∧ m' ((c.tc : Thread Cert.AdamNormsRefIdeal.nD Cert.AdamNormsRefIdeal.τ).loc Cert.AdamNormsRefIdeal.main_arg1) = m ((c.tc : Thread Cert.AdamNormsIdeal.nD Cert.AdamNormsIdeal.τ).loc Cert.AdamNormsIdeal.main_arg1)
      ∧ m' ((c.tc : Thread Cert.AdamNormsRefIdeal.nD Cert.AdamNormsRefIdeal.τ).loc Cert.AdamNormsRefIdeal.main_arg2) = m ((c.tc : Thread Cert.AdamNormsIdeal.nD Cert.AdamNormsIdeal.τ).loc Cert.AdamNormsIdeal.main_arg2)
      ∧ m' ((c.tc : Thread Cert.AdamNormsRefIdeal.nD Cert.AdamNormsRefIdeal.τ).loc Cert.AdamNormsRefIdeal.main_arg3) = m ((c.tc : Thread Cert.AdamNormsIdeal.nD Cert.AdamNormsIdeal.τ).loc Cert.AdamNormsIdeal.main_arg3)) →
    ∃ (v0 : (c : Dev Cert.AdamNormsIdeal.nD) → Buf (Elt Ideal) ((c.tc : Thread Cert.AdamNormsIdeal.nD Cert.AdamNormsIdeal.τ).loc Cert.AdamNormsIdeal.main_v0_0)) (v1 : (c : Dev Cert.AdamNormsIdeal.nD) → Buf (Elt Ideal) ((c.tc : Thread Cert.AdamNormsIdeal.nD Cert.AdamNormsIdeal.τ).loc Cert.AdamNormsIdeal.main_v0_1)) (v2 : (c : Dev Cert.AdamNormsIdeal.nD) → Buf (Elt Ideal) ((c.tc : Thread Cert.AdamNormsIdeal.nD Cert.AdamNormsIdeal.τ).loc Cert.AdamNormsIdeal.main_v0_2)),
      θ_run (Cert.AdamNormsIdeal.defs (F := Ideal)) (onTc (τ := Cert.AdamNormsIdeal.τ) (Cert.AdamNormsIdeal.main (F := Ideal))) ⟨m, fun _ => 0, g⟩ (fun r => ∀ c : Dev Cert.AdamNormsIdeal.nD,
          r.2.mem ((c.tc : Thread Cert.AdamNormsIdeal.nD Cert.AdamNormsIdeal.τ).loc Cert.AdamNormsIdeal.main_v0_0) = v0 c
          ∧ r.2.mem ((c.tc : Thread Cert.AdamNormsIdeal.nD Cert.AdamNormsIdeal.τ).loc Cert.AdamNormsIdeal.main_v0_1) = v1 c
          ∧ r.2.mem ((c.tc : Thread Cert.AdamNormsIdeal.nD Cert.AdamNormsIdeal.τ).loc Cert.AdamNormsIdeal.main_v0_2) = v2 c
          ∧ r.2.mem ((c.tc : Thread Cert.AdamNormsIdeal.nD Cert.AdamNormsIdeal.τ).loc Cert.AdamNormsIdeal.main_arg0) = m ((c.tc : Thread Cert.AdamNormsIdeal.nD Cert.AdamNormsIdeal.τ).loc Cert.AdamNormsIdeal.main_arg0)
          ∧ r.2.mem ((c.tc : Thread Cert.AdamNormsIdeal.nD Cert.AdamNormsIdeal.τ).loc Cert.AdamNormsIdeal.main_arg1) = m ((c.tc : Thread Cert.AdamNormsIdeal.nD Cert.AdamNormsIdeal.τ).loc Cert.AdamNormsIdeal.main_arg1)
          ∧ r.2.mem ((c.tc : Thread Cert.AdamNormsIdeal.nD Cert.AdamNormsIdeal.τ).loc Cert.AdamNormsIdeal.main_arg2) = m ((c.tc : Thread Cert.AdamNormsIdeal.nD Cert.AdamNormsIdeal.τ).loc Cert.AdamNormsIdeal.main_arg2)
          ∧ r.2.mem ((c.tc : Thread Cert.AdamNormsIdeal.nD Cert.AdamNormsIdeal.τ).loc Cert.AdamNormsIdeal.main_arg3) = m ((c.tc : Thread Cert.AdamNormsIdeal.nD Cert.AdamNormsIdeal.τ).loc Cert.AdamNormsIdeal.main_arg3))
      ∧ θ_run (Cert.AdamNormsRefIdeal.defs (F := Ideal)) (onTc (τ := Cert.AdamNormsRefIdeal.τ) (Cert.AdamNormsRefIdeal.main (F := Ideal))) ⟨m', fun _ => 0, g'⟩ (fun r => ∀ c : Dev Cert.AdamNormsRefIdeal.nD,
          r.2.mem ((c.tc : Thread Cert.AdamNormsRefIdeal.nD Cert.AdamNormsRefIdeal.τ).loc Cert.AdamNormsRefIdeal.main_v23) = v0 c
          ∧ r.2.mem ((c.tc : Thread Cert.AdamNormsRefIdeal.nD Cert.AdamNormsRefIdeal.τ).loc Cert.AdamNormsRefIdeal.main_v4) = v1 c
          ∧ r.2.mem ((c.tc : Thread Cert.AdamNormsRefIdeal.nD Cert.AdamNormsRefIdeal.τ).loc Cert.AdamNormsRefIdeal.main_v10) = v2 c
          ∧ r.2.mem ((c.tc : Thread Cert.AdamNormsRefIdeal.nD Cert.AdamNormsRefIdeal.τ).loc Cert.AdamNormsRefIdeal.main_arg0) = m' ((c.tc : Thread Cert.AdamNormsRefIdeal.nD Cert.AdamNormsRefIdeal.τ).loc Cert.AdamNormsRefIdeal.main_arg0)
          ∧ r.2.mem ((c.tc : Thread Cert.AdamNormsRefIdeal.nD Cert.AdamNormsRefIdeal.τ).loc Cert.AdamNormsRefIdeal.main_arg1) = m' ((c.tc : Thread Cert.AdamNormsRefIdeal.nD Cert.AdamNormsRefIdeal.τ).loc Cert.AdamNormsRefIdeal.main_arg1)
          ∧ r.2.mem ((c.tc : Thread Cert.AdamNormsRefIdeal.nD Cert.AdamNormsRefIdeal.τ).loc Cert.AdamNormsRefIdeal.main_arg2) = m' ((c.tc : Thread Cert.AdamNormsRefIdeal.nD Cert.AdamNormsRefIdeal.τ).loc Cert.AdamNormsRefIdeal.main_arg2)
          ∧ r.2.mem ((c.tc : Thread Cert.AdamNormsRefIdeal.nD Cert.AdamNormsRefIdeal.τ).loc Cert.AdamNormsRefIdeal.main_arg3) = m' ((c.tc : Thread Cert.AdamNormsRefIdeal.nD Cert.AdamNormsRefIdeal.τ).loc Cert.AdamNormsRefIdeal.main_arg3))

def preserves_AdamTaps_AdamTapsIdeal : Prop :=
  True

def algebraic_AdamTapsIdeal_AdamTapsRefIdeal [hAdamTapsIdeal : Cert.AdamTapsIdeal.Facts] [hAdamTapsRefIdeal : Cert.AdamTapsRefIdeal.Facts] : Prop :=
  ∀ (m : (ℓ : Loc Cert.AdamTapsIdeal.nD Cert.AdamTapsIdeal.τ Cert.AdamTapsIdeal.sig) → Buf (Elt Ideal) ℓ) (g : Dev Cert.AdamTapsIdeal.nD → PrngReg)
    (m' : (ℓ : Loc Cert.AdamTapsRefIdeal.nD Cert.AdamTapsRefIdeal.τ Cert.AdamTapsRefIdeal.sig) → Buf (Elt Ideal) ℓ) (g' : Dev Cert.AdamTapsRefIdeal.nD → PrngReg), Pre_AdamTapsIdeal m →
    (∀ c : Dev Cert.AdamTapsIdeal.nD,
      m' ((c.tc : Thread Cert.AdamTapsRefIdeal.nD Cert.AdamTapsRefIdeal.τ).loc Cert.AdamTapsRefIdeal.main_arg0) = m ((c.tc : Thread Cert.AdamTapsIdeal.nD Cert.AdamTapsIdeal.τ).loc Cert.AdamTapsIdeal.main_arg0)
      ∧ m' ((c.tc : Thread Cert.AdamTapsRefIdeal.nD Cert.AdamTapsRefIdeal.τ).loc Cert.AdamTapsRefIdeal.main_arg1) = m ((c.tc : Thread Cert.AdamTapsIdeal.nD Cert.AdamTapsIdeal.τ).loc Cert.AdamTapsIdeal.main_arg1)
      ∧ m' ((c.tc : Thread Cert.AdamTapsRefIdeal.nD Cert.AdamTapsRefIdeal.τ).loc Cert.AdamTapsRefIdeal.main_arg2) = m ((c.tc : Thread Cert.AdamTapsIdeal.nD Cert.AdamTapsIdeal.τ).loc Cert.AdamTapsIdeal.main_arg2)
      ∧ m' ((c.tc : Thread Cert.AdamTapsRefIdeal.nD Cert.AdamTapsRefIdeal.τ).loc Cert.AdamTapsRefIdeal.main_arg3) = m ((c.tc : Thread Cert.AdamTapsIdeal.nD Cert.AdamTapsIdeal.τ).loc Cert.AdamTapsIdeal.main_arg3)) →
    ∃ (v0 : (c : Dev Cert.AdamTapsIdeal.nD) → Buf (Elt Ideal) ((c.tc : Thread Cert.AdamTapsIdeal.nD Cert.AdamTapsIdeal.τ).loc Cert.AdamTapsIdeal.main_v0_0)) (v1 : (c : Dev Cert.AdamTapsIdeal.nD) → Buf (Elt Ideal) ((c.tc : Thread Cert.AdamTapsIdeal.nD Cert.AdamTapsIdeal.τ).loc Cert.AdamTapsIdeal.main_v0_1)) (v2 : (c : Dev Cert.AdamTapsIdeal.nD) → Buf (Elt Ideal) ((c.tc : Thread Cert.AdamTapsIdeal.nD Cert.AdamTapsIdeal.τ).loc Cert.AdamTapsIdeal.main_v0_2)),
      θ_run (Cert.AdamTapsIdeal.defs (F := Ideal)) (onTc (τ := Cert.AdamTapsIdeal.τ) (Cert.AdamTapsIdeal.main (F := Ideal))) ⟨m, fun _ => 0, g⟩ (fun r => ∀ c : Dev Cert.AdamTapsIdeal.nD,
          r.2.mem ((c.tc : Thread Cert.AdamTapsIdeal.nD Cert.AdamTapsIdeal.τ).loc Cert.AdamTapsIdeal.main_v0_0) = v0 c
          ∧ r.2.mem ((c.tc : Thread Cert.AdamTapsIdeal.nD Cert.AdamTapsIdeal.τ).loc Cert.AdamTapsIdeal.main_v0_1) = v1 c
          ∧ r.2.mem ((c.tc : Thread Cert.AdamTapsIdeal.nD Cert.AdamTapsIdeal.τ).loc Cert.AdamTapsIdeal.main_v0_2) = v2 c
          ∧ r.2.mem ((c.tc : Thread Cert.AdamTapsIdeal.nD Cert.AdamTapsIdeal.τ).loc Cert.AdamTapsIdeal.main_arg0) = m ((c.tc : Thread Cert.AdamTapsIdeal.nD Cert.AdamTapsIdeal.τ).loc Cert.AdamTapsIdeal.main_arg0)
          ∧ r.2.mem ((c.tc : Thread Cert.AdamTapsIdeal.nD Cert.AdamTapsIdeal.τ).loc Cert.AdamTapsIdeal.main_arg1) = m ((c.tc : Thread Cert.AdamTapsIdeal.nD Cert.AdamTapsIdeal.τ).loc Cert.AdamTapsIdeal.main_arg1)
          ∧ r.2.mem ((c.tc : Thread Cert.AdamTapsIdeal.nD Cert.AdamTapsIdeal.τ).loc Cert.AdamTapsIdeal.main_arg2) = m ((c.tc : Thread Cert.AdamTapsIdeal.nD Cert.AdamTapsIdeal.τ).loc Cert.AdamTapsIdeal.main_arg2)
          ∧ r.2.mem ((c.tc : Thread Cert.AdamTapsIdeal.nD Cert.AdamTapsIdeal.τ).loc Cert.AdamTapsIdeal.main_arg3) = m ((c.tc : Thread Cert.AdamTapsIdeal.nD Cert.AdamTapsIdeal.τ).loc Cert.AdamTapsIdeal.main_arg3))
      ∧ θ_run (Cert.AdamTapsRefIdeal.defs (F := Ideal)) (onTc (τ := Cert.AdamTapsRefIdeal.τ) (Cert.AdamTapsRefIdeal.main (F := Ideal))) ⟨m', fun _ => 0, g'⟩ (fun r => ∀ c : Dev Cert.AdamTapsRefIdeal.nD,
          r.2.mem ((c.tc : Thread Cert.AdamTapsRefIdeal.nD Cert.AdamTapsRefIdeal.τ).loc Cert.AdamTapsRefIdeal.main_v23) = v0 c
          ∧ r.2.mem ((c.tc : Thread Cert.AdamTapsRefIdeal.nD Cert.AdamTapsRefIdeal.τ).loc Cert.AdamTapsRefIdeal.main_v4) = v1 c
          ∧ r.2.mem ((c.tc : Thread Cert.AdamTapsRefIdeal.nD Cert.AdamTapsRefIdeal.τ).loc Cert.AdamTapsRefIdeal.main_v10) = v2 c
          ∧ r.2.mem ((c.tc : Thread Cert.AdamTapsRefIdeal.nD Cert.AdamTapsRefIdeal.τ).loc Cert.AdamTapsRefIdeal.main_arg0) = m' ((c.tc : Thread Cert.AdamTapsRefIdeal.nD Cert.AdamTapsRefIdeal.τ).loc Cert.AdamTapsRefIdeal.main_arg0)
          ∧ r.2.mem ((c.tc : Thread Cert.AdamTapsRefIdeal.nD Cert.AdamTapsRefIdeal.τ).loc Cert.AdamTapsRefIdeal.main_arg1) = m' ((c.tc : Thread Cert.AdamTapsRefIdeal.nD Cert.AdamTapsRefIdeal.τ).loc Cert.AdamTapsRefIdeal.main_arg1)
          ∧ r.2.mem ((c.tc : Thread Cert.AdamTapsRefIdeal.nD Cert.AdamTapsRefIdeal.τ).loc Cert.AdamTapsRefIdeal.main_arg2) = m' ((c.tc : Thread Cert.AdamTapsRefIdeal.nD Cert.AdamTapsRefIdeal.τ).loc Cert.AdamTapsRefIdeal.main_arg2)
          ∧ r.2.mem ((c.tc : Thread Cert.AdamTapsRefIdeal.nD Cert.AdamTapsRefIdeal.τ).loc Cert.AdamTapsRefIdeal.main_arg3) = m' ((c.tc : Thread Cert.AdamTapsRefIdeal.nD Cert.AdamTapsRefIdeal.τ).loc Cert.AdamTapsRefIdeal.main_arg3))

def preserves_AdamOdNorm_AdamOdNormIdeal : Prop :=
  True

def algebraic_AdamOdNormIdeal_AdamOdNormRefIdeal [hAdamOdNormIdeal : Cert.AdamOdNormIdeal.Facts] [hAdamOdNormRefIdeal : Cert.AdamOdNormRefIdeal.Facts] : Prop :=
  ∀ (m : (ℓ : Loc Cert.AdamOdNormIdeal.nD Cert.AdamOdNormIdeal.τ Cert.AdamOdNormIdeal.sig) → Buf (Elt Ideal) ℓ) (g : Dev Cert.AdamOdNormIdeal.nD → PrngReg)
    (m' : (ℓ : Loc Cert.AdamOdNormRefIdeal.nD Cert.AdamOdNormRefIdeal.τ Cert.AdamOdNormRefIdeal.sig) → Buf (Elt Ideal) ℓ) (g' : Dev Cert.AdamOdNormRefIdeal.nD → PrngReg), Pre_AdamOdNormIdeal m →
    (∀ c : Dev Cert.AdamOdNormIdeal.nD,
      m' ((c.tc : Thread Cert.AdamOdNormRefIdeal.nD Cert.AdamOdNormRefIdeal.τ).loc Cert.AdamOdNormRefIdeal.main_arg0) = m ((c.tc : Thread Cert.AdamOdNormIdeal.nD Cert.AdamOdNormIdeal.τ).loc Cert.AdamOdNormIdeal.main_arg0)
      ∧ m' ((c.tc : Thread Cert.AdamOdNormRefIdeal.nD Cert.AdamOdNormRefIdeal.τ).loc Cert.AdamOdNormRefIdeal.main_arg1) = m ((c.tc : Thread Cert.AdamOdNormIdeal.nD Cert.AdamOdNormIdeal.τ).loc Cert.AdamOdNormIdeal.main_arg1)
      ∧ m' ((c.tc : Thread Cert.AdamOdNormRefIdeal.nD Cert.AdamOdNormRefIdeal.τ).loc Cert.AdamOdNormRefIdeal.main_arg2) = m ((c.tc : Thread Cert.AdamOdNormIdeal.nD Cert.AdamOdNormIdeal.τ).loc Cert.AdamOdNormIdeal.main_arg2)
      ∧ m' ((c.tc : Thread Cert.AdamOdNormRefIdeal.nD Cert.AdamOdNormRefIdeal.τ).loc Cert.AdamOdNormRefIdeal.main_arg3) = m ((c.tc : Thread Cert.AdamOdNormIdeal.nD Cert.AdamOdNormIdeal.τ).loc Cert.AdamOdNormIdeal.main_arg3)) →
    ∃ (v0 : (c : Dev Cert.AdamOdNormIdeal.nD) → Buf (Elt Ideal) ((c.tc : Thread Cert.AdamOdNormIdeal.nD Cert.AdamOdNormIdeal.τ).loc Cert.AdamOdNormIdeal.main_v0_0)) (v1 : (c : Dev Cert.AdamOdNormIdeal.nD) → Buf (Elt Ideal) ((c.tc : Thread Cert.AdamOdNormIdeal.nD Cert.AdamOdNormIdeal.τ).loc Cert.AdamOdNormIdeal.main_v0_1)) (v2 : (c : Dev Cert.AdamOdNormIdeal.nD) → Buf (Elt Ideal) ((c.tc : Thread Cert.AdamOdNormIdeal.nD Cert.AdamOdNormIdeal.τ).loc Cert.AdamOdNormIdeal.main_v0_2)),
      θ_run (Cert.AdamOdNormIdeal.defs (F := Ideal)) (onTc (τ := Cert.AdamOdNormIdeal.τ) (Cert.AdamOdNormIdeal.main (F := Ideal))) ⟨m, fun _ => 0, g⟩ (fun r => ∀ c : Dev Cert.AdamOdNormIdeal.nD,
          r.2.mem ((c.tc : Thread Cert.AdamOdNormIdeal.nD Cert.AdamOdNormIdeal.τ).loc Cert.AdamOdNormIdeal.main_v0_0) = v0 c
          ∧ r.2.mem ((c.tc : Thread Cert.AdamOdNormIdeal.nD Cert.AdamOdNormIdeal.τ).loc Cert.AdamOdNormIdeal.main_v0_1) = v1 c
          ∧ r.2.mem ((c.tc : Thread Cert.AdamOdNormIdeal.nD Cert.AdamOdNormIdeal.τ).loc Cert.AdamOdNormIdeal.main_v0_2) = v2 c
          ∧ r.2.mem ((c.tc : Thread Cert.AdamOdNormIdeal.nD Cert.AdamOdNormIdeal.τ).loc Cert.AdamOdNormIdeal.main_arg0) = m ((c.tc : Thread Cert.AdamOdNormIdeal.nD Cert.AdamOdNormIdeal.τ).loc Cert.AdamOdNormIdeal.main_arg0)
          ∧ r.2.mem ((c.tc : Thread Cert.AdamOdNormIdeal.nD Cert.AdamOdNormIdeal.τ).loc Cert.AdamOdNormIdeal.main_arg1) = m ((c.tc : Thread Cert.AdamOdNormIdeal.nD Cert.AdamOdNormIdeal.τ).loc Cert.AdamOdNormIdeal.main_arg1)
          ∧ r.2.mem ((c.tc : Thread Cert.AdamOdNormIdeal.nD Cert.AdamOdNormIdeal.τ).loc Cert.AdamOdNormIdeal.main_arg2) = m ((c.tc : Thread Cert.AdamOdNormIdeal.nD Cert.AdamOdNormIdeal.τ).loc Cert.AdamOdNormIdeal.main_arg2)
          ∧ r.2.mem ((c.tc : Thread Cert.AdamOdNormIdeal.nD Cert.AdamOdNormIdeal.τ).loc Cert.AdamOdNormIdeal.main_arg3) = m ((c.tc : Thread Cert.AdamOdNormIdeal.nD Cert.AdamOdNormIdeal.τ).loc Cert.AdamOdNormIdeal.main_arg3))
      ∧ θ_run (Cert.AdamOdNormRefIdeal.defs (F := Ideal)) (onTc (τ := Cert.AdamOdNormRefIdeal.τ) (Cert.AdamOdNormRefIdeal.main (F := Ideal))) ⟨m', fun _ => 0, g'⟩ (fun r => ∀ c : Dev Cert.AdamOdNormRefIdeal.nD,
          r.2.mem ((c.tc : Thread Cert.AdamOdNormRefIdeal.nD Cert.AdamOdNormRefIdeal.τ).loc Cert.AdamOdNormRefIdeal.main_v23) = v0 c
          ∧ r.2.mem ((c.tc : Thread Cert.AdamOdNormRefIdeal.nD Cert.AdamOdNormRefIdeal.τ).loc Cert.AdamOdNormRefIdeal.main_v4) = v1 c
          ∧ r.2.mem ((c.tc : Thread Cert.AdamOdNormRefIdeal.nD Cert.AdamOdNormRefIdeal.τ).loc Cert.AdamOdNormRefIdeal.main_v10) = v2 c
          ∧ r.2.mem ((c.tc : Thread Cert.AdamOdNormRefIdeal.nD Cert.AdamOdNormRefIdeal.τ).loc Cert.AdamOdNormRefIdeal.main_arg0) = m' ((c.tc : Thread Cert.AdamOdNormRefIdeal.nD Cert.AdamOdNormRefIdeal.τ).loc Cert.AdamOdNormRefIdeal.main_arg0)
          ∧ r.2.mem ((c.tc : Thread Cert.AdamOdNormRefIdeal.nD Cert.AdamOdNormRefIdeal.τ).loc Cert.AdamOdNormRefIdeal.main_arg1) = m' ((c.tc : Thread Cert.AdamOdNormRefIdeal.nD Cert.AdamOdNormRefIdeal.τ).loc Cert.AdamOdNormRefIdeal.main_arg1)
          ∧ r.2.mem ((c.tc : Thread Cert.AdamOdNormRefIdeal.nD Cert.AdamOdNormRefIdeal.τ).loc Cert.AdamOdNormRefIdeal.main_arg2) = m' ((c.tc : Thread Cert.AdamOdNormRefIdeal.nD Cert.AdamOdNormRefIdeal.τ).loc Cert.AdamOdNormRefIdeal.main_arg2)
          ∧ r.2.mem ((c.tc : Thread Cert.AdamOdNormRefIdeal.nD Cert.AdamOdNormRefIdeal.τ).loc Cert.AdamOdNormRefIdeal.main_arg3) = m' ((c.tc : Thread Cert.AdamOdNormRefIdeal.nD Cert.AdamOdNormRefIdeal.τ).loc Cert.AdamOdNormRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def Claim : Prop :=
  ∃ (hKernel : Cert.Kernel.Facts) (hKernelIdeal : Cert.KernelIdeal.Facts) (hReferenceIdeal : Cert.ReferenceIdeal.Facts) (hGateUp : Cert.GateUp.Facts) (hGateUpIdeal : Cert.GateUpIdeal.Facts) (hGateUpRefIdeal : Cert.GateUpRefIdeal.Facts) (hDact : Cert.Dact.Facts) (hDactIdeal : Cert.DactIdeal.Facts) (hDactRefIdeal : Cert.DactRefIdeal.Facts) (hDw : Cert.Dw.Facts) (hDwIdeal : Cert.DwIdeal.Facts) (hDwRefIdeal : Cert.DwRefIdeal.Facts) (hDnorm : Cert.Dnorm.Facts) (hDnormIdeal : Cert.DnormIdeal.Facts) (hDnormRefIdeal : Cert.DnormRefIdeal.Facts) (hDmix : Cert.Dmix.Facts) (hDmixIdeal : Cert.DmixIdeal.Facts) (hDmixRefIdeal : Cert.DmixRefIdeal.Facts) (hDwout : Cert.Dwout.Facts) (hDwoutIdeal : Cert.DwoutIdeal.Facts) (hDwoutRefIdeal : Cert.DwoutRefIdeal.Facts) (hDwinEv : Cert.DwinEv.Facts) (hDwinEvIdeal : Cert.DwinEvIdeal.Facts) (hDwinEvRefIdeal : Cert.DwinEvRefIdeal.Facts) (hDwinOd : Cert.DwinOd.Facts) (hDwinOdIdeal : Cert.DwinOdIdeal.Facts) (hDwinOdRefIdeal : Cert.DwinOdRefIdeal.Facts) (hDnormEv : Cert.DnormEv.Facts) (hDnormEvIdeal : Cert.DnormEvIdeal.Facts) (hDnormEvRefIdeal : Cert.DnormEvRefIdeal.Facts) (hDnormOd : Cert.DnormOd.Facts) (hDnormOdIdeal : Cert.DnormOdIdeal.Facts) (hDnormOdRefIdeal : Cert.DnormOdRefIdeal.Facts) (hLoss : Cert.Loss.Facts) (hLossIdeal : Cert.LossIdeal.Facts) (hLossRefIdeal : Cert.LossRefIdeal.Facts) (hDown : Cert.Down.Facts) (hDownIdeal : Cert.DownIdeal.Facts) (hDownRefIdeal : Cert.DownRefIdeal.Facts) (hOut : Cert.Out.Facts) (hOutIdeal : Cert.OutIdeal.Facts) (hOutRefIdeal : Cert.OutRefIdeal.Facts) (hInEv : Cert.InEv.Facts) (hInEvIdeal : Cert.InEvIdeal.Facts) (hInEvRefIdeal : Cert.InEvRefIdeal.Facts) (hInOd : Cert.InOd.Facts) (hInOdIdeal : Cert.InOdIdeal.Facts) (hInOdRefIdeal : Cert.InOdRefIdeal.Facts) (hNorm : Cert.Norm.Facts) (hNormIdeal : Cert.NormIdeal.Facts) (hNormRefIdeal : Cert.NormRefIdeal.Facts) (hTail : Cert.Tail.Facts) (hTailIdeal : Cert.TailIdeal.Facts) (hTailRefIdeal : Cert.TailRefIdeal.Facts) (hAdamEvIn : Cert.AdamEvIn.Facts) (hAdamEvInIdeal : Cert.AdamEvInIdeal.Facts) (hAdamEvInRefIdeal : Cert.AdamEvInRefIdeal.Facts) (hAdamOut : Cert.AdamOut.Facts) (hAdamOutIdeal : Cert.AdamOutIdeal.Facts) (hAdamOutRefIdeal : Cert.AdamOutRefIdeal.Facts) (hAdamOdIn : Cert.AdamOdIn.Facts) (hAdamOdInIdeal : Cert.AdamOdInIdeal.Facts) (hAdamOdInRefIdeal : Cert.AdamOdInRefIdeal.Facts) (hAdamFfn : Cert.AdamFfn.Facts) (hAdamFfnIdeal : Cert.AdamFfnIdeal.Facts) (hAdamFfnRefIdeal : Cert.AdamFfnRefIdeal.Facts) (hAdamNorm : Cert.AdamNorm.Facts) (hAdamNormIdeal : Cert.AdamNormIdeal.Facts) (hAdamNormRefIdeal : Cert.AdamNormRefIdeal.Facts) (hAdamSink : Cert.AdamSink.Facts) (hAdamSinkIdeal : Cert.AdamSinkIdeal.Facts) (hAdamSinkRefIdeal : Cert.AdamSinkRefIdeal.Facts) (hAdamConv : Cert.AdamConv.Facts) (hAdamConvIdeal : Cert.AdamConvIdeal.Facts) (hAdamConvRefIdeal : Cert.AdamConvRefIdeal.Facts) (hAdamSpatial : Cert.AdamSpatial.Facts) (hAdamSpatialIdeal : Cert.AdamSpatialIdeal.Facts) (hAdamSpatialRefIdeal : Cert.AdamSpatialRefIdeal.Facts) (hAdamBias : Cert.AdamBias.Facts) (hAdamBiasIdeal : Cert.AdamBiasIdeal.Facts) (hAdamBiasRefIdeal : Cert.AdamBiasRefIdeal.Facts) (hAdamNorms : Cert.AdamNorms.Facts) (hAdamNormsIdeal : Cert.AdamNormsIdeal.Facts) (hAdamNormsRefIdeal : Cert.AdamNormsRefIdeal.Facts) (hAdamTaps : Cert.AdamTaps.Facts) (hAdamTapsIdeal : Cert.AdamTapsIdeal.Facts) (hAdamTapsRefIdeal : Cert.AdamTapsRefIdeal.Facts) (hAdamOdNorm : Cert.AdamOdNorm.Facts) (hAdamOdNormIdeal : Cert.AdamOdNormIdeal.Facts) (hAdamOdNormRefIdeal : Cert.AdamOdNormRefIdeal.Facts) (hAdamGate : Cert.AdamGate.Facts) (hAdamGateIdeal : Cert.AdamGateIdeal.Facts) (hAdamGateRefIdeal : Cert.AdamGateRefIdeal.Facts) (hSum : Cert.Sum.Facts) (hSumIdeal : Cert.SumIdeal.Facts) (hSumRefIdeal : Cert.SumRefIdeal.Facts) (hPre_finite_dact : Cert.Pre_finite_dact.Facts) (hPre_finite_tail : Cert.Pre_finite_tail.Facts),
    quiescent_Kernel (hKernel := hKernel)
    ∧ quiescent_KernelIdeal (hKernelIdeal := hKernelIdeal)
    ∧ quiescent_ReferenceIdeal (hReferenceIdeal := hReferenceIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Dact (hDact := hDact)
    ∧ quiescent_DactIdeal (hDactIdeal := hDactIdeal)
    ∧ quiescent_DactIdeal_pre_finite_dact (hDactIdeal := hDactIdeal) (hPre_finite_dact := hPre_finite_dact)
    ∧ quiescent_DactRefIdeal (hDactRefIdeal := hDactRefIdeal)
    ∧ quiescent_DactRefIdeal_pre_finite_dact (hDactRefIdeal := hDactRefIdeal) (hPre_finite_dact := hPre_finite_dact)
    ∧ quiescent_Dw (hDw := hDw)
    ∧ quiescent_DwIdeal (hDwIdeal := hDwIdeal)
    ∧ quiescent_DwRefIdeal (hDwRefIdeal := hDwRefIdeal)
    ∧ quiescent_Dnorm (hDnorm := hDnorm)
    ∧ quiescent_DnormIdeal (hDnormIdeal := hDnormIdeal)
    ∧ quiescent_DnormRefIdeal (hDnormRefIdeal := hDnormRefIdeal)
    ∧ quiescent_Dmix (hDmix := hDmix)
    ∧ quiescent_DmixIdeal (hDmixIdeal := hDmixIdeal)
    ∧ quiescent_DmixRefIdeal (hDmixRefIdeal := hDmixRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_DwinEv (hDwinEv := hDwinEv)
    ∧ quiescent_DwinEvIdeal (hDwinEvIdeal := hDwinEvIdeal)
    ∧ quiescent_DwinEvRefIdeal (hDwinEvRefIdeal := hDwinEvRefIdeal)
    ∧ quiescent_DwinOd (hDwinOd := hDwinOd)
    ∧ quiescent_DwinOdIdeal (hDwinOdIdeal := hDwinOdIdeal)
    ∧ quiescent_DwinOdRefIdeal (hDwinOdRefIdeal := hDwinOdRefIdeal)
    ∧ quiescent_DnormEv (hDnormEv := hDnormEv)
    ∧ quiescent_DnormEvIdeal (hDnormEvIdeal := hDnormEvIdeal)
    ∧ quiescent_DnormEvRefIdeal (hDnormEvRefIdeal := hDnormEvRefIdeal)
    ∧ quiescent_DnormOd (hDnormOd := hDnormOd)
    ∧ quiescent_DnormOdIdeal (hDnormOdIdeal := hDnormOdIdeal)
    ∧ quiescent_DnormOdRefIdeal (hDnormOdRefIdeal := hDnormOdRefIdeal)
    ∧ quiescent_Loss (hLoss := hLoss)
    ∧ quiescent_LossIdeal (hLossIdeal := hLossIdeal)
    ∧ quiescent_LossRefIdeal (hLossRefIdeal := hLossRefIdeal)
    ∧ quiescent_Down (hDown := hDown)
    ∧ quiescent_DownIdeal (hDownIdeal := hDownIdeal)
    ∧ quiescent_DownRefIdeal (hDownRefIdeal := hDownRefIdeal)
    ∧ quiescent_Out (hOut := hOut)
    ∧ quiescent_OutIdeal (hOutIdeal := hOutIdeal)
    ∧ quiescent_OutRefIdeal (hOutRefIdeal := hOutRefIdeal)
    ∧ quiescent_InEv (hInEv := hInEv)
    ∧ quiescent_InEvIdeal (hInEvIdeal := hInEvIdeal)
    ∧ quiescent_InEvRefIdeal (hInEvRefIdeal := hInEvRefIdeal)
    ∧ quiescent_InOd (hInOd := hInOd)
    ∧ quiescent_InOdIdeal (hInOdIdeal := hInOdIdeal)
    ∧ quiescent_InOdRefIdeal (hInOdRefIdeal := hInOdRefIdeal)
    ∧ quiescent_Norm (hNorm := hNorm)
    ∧ quiescent_NormIdeal (hNormIdeal := hNormIdeal)
    ∧ quiescent_NormRefIdeal (hNormRefIdeal := hNormRefIdeal)
    ∧ quiescent_Tail (hTail := hTail)
    ∧ quiescent_TailIdeal (hTailIdeal := hTailIdeal)
    ∧ quiescent_TailIdeal_pre_finite_tail (hTailIdeal := hTailIdeal) (hPre_finite_tail := hPre_finite_tail)
    ∧ quiescent_TailRefIdeal (hTailRefIdeal := hTailRefIdeal)
    ∧ quiescent_TailRefIdeal_pre_finite_tail (hTailRefIdeal := hTailRefIdeal) (hPre_finite_tail := hPre_finite_tail)
    ∧ quiescent_AdamEvIn (hAdamEvIn := hAdamEvIn)
    ∧ quiescent_AdamEvInIdeal (hAdamEvInIdeal := hAdamEvInIdeal)
    ∧ quiescent_AdamEvInRefIdeal (hAdamEvInRefIdeal := hAdamEvInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamOdIn (hAdamOdIn := hAdamOdIn)
    ∧ quiescent_AdamOdInIdeal (hAdamOdInIdeal := hAdamOdInIdeal)
    ∧ quiescent_AdamOdInRefIdeal (hAdamOdInRefIdeal := hAdamOdInRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamSink (hAdamSink := hAdamSink)
    ∧ quiescent_AdamSinkIdeal (hAdamSinkIdeal := hAdamSinkIdeal)
    ∧ quiescent_AdamSinkRefIdeal (hAdamSinkRefIdeal := hAdamSinkRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamSpatial (hAdamSpatial := hAdamSpatial)
    ∧ quiescent_AdamSpatialIdeal (hAdamSpatialIdeal := hAdamSpatialIdeal)
    ∧ quiescent_AdamSpatialRefIdeal (hAdamSpatialRefIdeal := hAdamSpatialRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamNorms (hAdamNorms := hAdamNorms)
    ∧ quiescent_AdamNormsIdeal (hAdamNormsIdeal := hAdamNormsIdeal)
    ∧ quiescent_AdamNormsRefIdeal (hAdamNormsRefIdeal := hAdamNormsRefIdeal)
    ∧ quiescent_AdamTaps (hAdamTaps := hAdamTaps)
    ∧ quiescent_AdamTapsIdeal (hAdamTapsIdeal := hAdamTapsIdeal)
    ∧ quiescent_AdamTapsRefIdeal (hAdamTapsRefIdeal := hAdamTapsRefIdeal)
    ∧ quiescent_AdamOdNorm (hAdamOdNorm := hAdamOdNorm)
    ∧ quiescent_AdamOdNormIdeal (hAdamOdNormIdeal := hAdamOdNormIdeal)
    ∧ quiescent_AdamOdNormRefIdeal (hAdamOdNormRefIdeal := hAdamOdNormRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_Sum (hSum := hSum)
    ∧ quiescent_SumIdeal (hSumIdeal := hSumIdeal)
    ∧ quiescent_SumRefIdeal (hSumRefIdeal := hSumRefIdeal)
    ∧ preserves_Kernel_KernelIdeal
    ∧ algebraic_KernelIdeal_ReferenceIdeal (hKernelIdeal := hKernelIdeal) (hReferenceIdeal := hReferenceIdeal)
    ∧ preserves_GateUp_GateUpIdeal
    ∧ algebraic_GateUpIdeal_GateUpRefIdeal (hGateUpIdeal := hGateUpIdeal) (hGateUpRefIdeal := hGateUpRefIdeal)
    ∧ preserves_Dact_DactIdeal
    ∧ algebraic_DactIdeal_DactRefIdeal_pre_finite_dact (hDactIdeal := hDactIdeal) (hDactRefIdeal := hDactRefIdeal) (hPre_finite_dact := hPre_finite_dact)
    ∧ preserves_Dw_DwIdeal
    ∧ algebraic_DwIdeal_DwRefIdeal (hDwIdeal := hDwIdeal) (hDwRefIdeal := hDwRefIdeal)
    ∧ preserves_Dnorm_DnormIdeal
    ∧ algebraic_DnormIdeal_DnormRefIdeal (hDnormIdeal := hDnormIdeal) (hDnormRefIdeal := hDnormRefIdeal)
    ∧ preserves_Dmix_DmixIdeal
    ∧ algebraic_DmixIdeal_DmixRefIdeal (hDmixIdeal := hDmixIdeal) (hDmixRefIdeal := hDmixRefIdeal)
    ∧ preserves_Dwout_DwoutIdeal
    ∧ algebraic_DwoutIdeal_DwoutRefIdeal (hDwoutIdeal := hDwoutIdeal) (hDwoutRefIdeal := hDwoutRefIdeal)
    ∧ preserves_DwinEv_DwinEvIdeal
    ∧ algebraic_DwinEvIdeal_DwinEvRefIdeal (hDwinEvIdeal := hDwinEvIdeal) (hDwinEvRefIdeal := hDwinEvRefIdeal)
    ∧ preserves_DwinOd_DwinOdIdeal
    ∧ algebraic_DwinOdIdeal_DwinOdRefIdeal (hDwinOdIdeal := hDwinOdIdeal) (hDwinOdRefIdeal := hDwinOdRefIdeal)
    ∧ preserves_DnormEv_DnormEvIdeal
    ∧ algebraic_DnormEvIdeal_DnormEvRefIdeal (hDnormEvIdeal := hDnormEvIdeal) (hDnormEvRefIdeal := hDnormEvRefIdeal)
    ∧ preserves_DnormOd_DnormOdIdeal
    ∧ algebraic_DnormOdIdeal_DnormOdRefIdeal (hDnormOdIdeal := hDnormOdIdeal) (hDnormOdRefIdeal := hDnormOdRefIdeal)
    ∧ preserves_Loss_LossIdeal
    ∧ algebraic_LossIdeal_LossRefIdeal (hLossIdeal := hLossIdeal) (hLossRefIdeal := hLossRefIdeal)
    ∧ preserves_Down_DownIdeal
    ∧ algebraic_DownIdeal_DownRefIdeal (hDownIdeal := hDownIdeal) (hDownRefIdeal := hDownRefIdeal)
    ∧ preserves_Out_OutIdeal
    ∧ algebraic_OutIdeal_OutRefIdeal (hOutIdeal := hOutIdeal) (hOutRefIdeal := hOutRefIdeal)
    ∧ preserves_InEv_InEvIdeal
    ∧ algebraic_InEvIdeal_InEvRefIdeal (hInEvIdeal := hInEvIdeal) (hInEvRefIdeal := hInEvRefIdeal)
    ∧ preserves_InOd_InOdIdeal
    ∧ algebraic_InOdIdeal_InOdRefIdeal (hInOdIdeal := hInOdIdeal) (hInOdRefIdeal := hInOdRefIdeal)
    ∧ preserves_Norm_NormIdeal
    ∧ algebraic_NormIdeal_NormRefIdeal (hNormIdeal := hNormIdeal) (hNormRefIdeal := hNormRefIdeal)
    ∧ preserves_Tail_TailIdeal
    ∧ algebraic_TailIdeal_TailRefIdeal_pre_finite_tail (hTailIdeal := hTailIdeal) (hTailRefIdeal := hTailRefIdeal) (hPre_finite_tail := hPre_finite_tail)
    ∧ preserves_AdamEvIn_AdamEvInIdeal
    ∧ algebraic_AdamEvInIdeal_AdamEvInRefIdeal (hAdamEvInIdeal := hAdamEvInIdeal) (hAdamEvInRefIdeal := hAdamEvInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamOdIn_AdamOdInIdeal
    ∧ algebraic_AdamOdInIdeal_AdamOdInRefIdeal (hAdamOdInIdeal := hAdamOdInIdeal) (hAdamOdInRefIdeal := hAdamOdInRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamSink_AdamSinkIdeal
    ∧ algebraic_AdamSinkIdeal_AdamSinkRefIdeal (hAdamSinkIdeal := hAdamSinkIdeal) (hAdamSinkRefIdeal := hAdamSinkRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamSpatial_AdamSpatialIdeal
    ∧ algebraic_AdamSpatialIdeal_AdamSpatialRefIdeal (hAdamSpatialIdeal := hAdamSpatialIdeal) (hAdamSpatialRefIdeal := hAdamSpatialRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_AdamNorms_AdamNormsIdeal
    ∧ algebraic_AdamNormsIdeal_AdamNormsRefIdeal (hAdamNormsIdeal := hAdamNormsIdeal) (hAdamNormsRefIdeal := hAdamNormsRefIdeal)
    ∧ preserves_AdamTaps_AdamTapsIdeal
    ∧ algebraic_AdamTapsIdeal_AdamTapsRefIdeal (hAdamTapsIdeal := hAdamTapsIdeal) (hAdamTapsRefIdeal := hAdamTapsRefIdeal)
    ∧ preserves_AdamOdNorm_AdamOdNormIdeal
    ∧ algebraic_AdamOdNormIdeal_AdamOdNormRefIdeal (hAdamOdNormIdeal := hAdamOdNormIdeal) (hAdamOdNormRefIdeal := hAdamOdNormRefIdeal)
    ∧ preserves_AdamGate_AdamGateIdeal
    ∧ algebraic_AdamGateIdeal_AdamGateRefIdeal (hAdamGateIdeal := hAdamGateIdeal) (hAdamGateRefIdeal := hAdamGateRefIdeal)
    ∧ preserves_Sum_SumIdeal
    ∧ algebraic_SumIdeal_SumRefIdeal (hSumIdeal := hSumIdeal) (hSumRefIdeal := hSumRefIdeal)
-- ==== Pre_finite_dact.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8192x2816 .f32 := (extf .f32 · bitsLt_bf16_f32) main_arg3
  let main_v12 : FVec F S8192x2816 .f32 := Host.absf main_v11
  let main_cst_2 : FVec F S_ .f32 := constant S_ .f32 0x7F800000#32
  let main_v13 : FVec F S8192x2816 .f32 := broadcastInDim S8192x2816 ![] bcast_S_S8192x2816 main_cst_2
  let main_v14 : IVec S8192x2816 1 := cmpf .olt main_v12 main_v13
  let main_c_3 : IVec S_ 1 := constantI S_ 1 1#1
  let main_v15 : IVec S_ 1 := (fun x v => Host.reduce IntOp.andi x v reducesTo_S8192x2816_S_d0_1 h_S_) main_v14 main_c_3
  let main_v16 : IVec S_ 1 := andi main_v10 main_v15
  main_v16
-- ==== Pre_finite_tail.lean ====
abbrev S8192x1024 : Shape := ⟨2, ![8192, 1024]⟩
abbrev S8192x512 : Shape := ⟨2, ![8192, 512]⟩
abbrev S1x512 : Shape := ⟨2, ![1, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x512 .f32) (main_arg2 : FVec F S1x512 .f32) (main_arg3 : FVec F S1x512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1792 : Shape := ⟨2, ![8192, 1792]⟩
abbrev S8192x512 : Shape := ⟨2, ![8192, 512]⟩
abbrev S31x512 : Shape := ⟨2, ![31, 512]⟩
abbrev S8192x1024 : Shape := ⟨2, ![8192, 1024]⟩
abbrev S512x1792 : Shape := ⟨2, ![512, 1792]⟩
abbrev S32x1792 : Shape := ⟨2, ![32, 1792]⟩
abbrev S512x512 : Shape := ⟨2, ![512, 512]⟩
abbrev S32x512 : Shape := ⟨2, ![32, 512]⟩
abbrev S512x1024 : Shape := ⟨2, ![512, 1024]⟩
abbrev S8x544x512 : Shape := ⟨3, ![8, 544, 512]⟩
abbrev S31x8x512 : Shape := ⟨3, ![31, 8, 512]⟩
abbrev S1x512x512 : Shape := ⟨3, ![1, 512, 512]⟩
abbrev S1x32x512 : Shape := ⟨3, ![1, 32, 512]⟩
abbrev S1x536x512 : Shape := ⟨3, ![1, 536, 512]⟩
abbrev S536x512 : Shape := ⟨2, ![536, 512]⟩
abbrev S64x512 : Shape := ⟨2, ![64, 512]⟩
abbrev S1x64x512 : Shape := ⟨3, ![1, 64, 512]⟩
abbrev S1x512 : Shape := ⟨2, ![1, 512]⟩
abbrev S8x8x512 : Shape := ⟨3, ![8, 8, 512]⟩
abbrev S8x512 : Shape := ⟨2, ![8, 512]⟩
abbrev S1x8x512 : Shape := ⟨3, ![1, 8, 512]⟩
abbrev S512 : Shape := ⟨1, ![512]⟩

abbrev nBuf : Space → Nat
  | .hbm => 5
  | .vmem => 15
  | .smem => 0
  | _ => 0

abbrev bufTy : (tb : Table) → Fin (tcTables nBuf tb) → BufTy
  | .hbm, ⟨0, _⟩ => ⟨S8192x1792, .bf16⟩
  | .hbm, ⟨1, _⟩ => ⟨S8192x512, .f32⟩
  | .hbm, ⟨2, _⟩ => ⟨S31x512, .f32⟩
  | .hbm, ⟨3, _⟩ => ⟨S8192x1024, .bf16⟩
  | .hbm, ⟨4, _⟩ => ⟨S31x512, .f32⟩
  | .local _ .vmem, ⟨0, _⟩ => ⟨S512x1792, .bf16⟩
  | .local _ .vmem, ⟨1, _⟩ => ⟨S512x1792, .bf16⟩
  | .local _ .vmem, ⟨2, _⟩ => ⟨S32x1792, .bf16⟩
  | .local _ .vmem, ⟨3, _⟩ => ⟨S32x1792, .bf16⟩
  | .local _ .vmem, ⟨4, _⟩ => ⟨S512x512, .f32⟩
  | .local _ .vmem, ⟨5, _⟩ => ⟨S512x512, .f32⟩
  | .local _ .vmem, ⟨6, _⟩ => ⟨S32x512, .f32⟩
  | .local _ .vmem, ⟨7, _⟩ => ⟨S32x512, .f32⟩
  | .local _ .vmem, ⟨8, _⟩ => ⟨S31x512, .f32⟩
  | .local _ .vmem, ⟨9, _⟩ => ⟨S512x1024, .bf16⟩
  | .local _ .vmem, ⟨10, _⟩ => ⟨S512x1024, .bf16⟩
  | .local _ .vmem, ⟨11, _⟩ => ⟨S31x512, .f32⟩
  | .local _ .vmem, ⟨12, _⟩ => ⟨S8x544x512, .f32⟩
  | .local _ .vmem, ⟨13, _⟩ => ⟨S8x544x512, .f32⟩
  | .local _ .vmem, ⟨14, _⟩ => ⟨S31x8x512, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x1792 : Shape := ⟨2, ![8192, 1792]⟩
abbrev S8192x512 : Shape := ⟨2, ![8192, 512]⟩
abbrev S31x512 : Shape := ⟨2, ![31, 512]⟩
abbrev S8192x1024 : Shape := ⟨2, ![8192, 1024]⟩
abbrev S_ : Shape := ⟨0, ![]⟩
abbrev S30x512 : Shape := ⟨2, ![30, 512]⟩
abbrev S8222x512 : Shape := ⟨2, ![8222, 512]⟩
abbrev S8192 : Shape := ⟨1, ![8192]⟩
abbrev S8192x1 : Shape := ⟨2, ![8192, 1]⟩
abbrev S31 : Shape := ⟨1, ![31]⟩
abbrev S1x31 : Shape := ⟨2, ![1, 31]⟩
abbrev S8192x31 : Shape := ⟨2, ![8192, 31]⟩
abbrev S8192x31x1 : Shape := ⟨3, ![8192, 31, 1]⟩
abbrev S8192x31x512 : Shape := ⟨3, ![8192, 31, 512]⟩
abbrev S1x31x512 : Shape := ⟨3, ![1, 31, 512]⟩

abbrev nBuf : Space → Nat
  | .hbm => 65
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8192x512, .f32⟩
  | .hbm, ⟨2, _⟩ => ⟨S31x512, .f32⟩
  | .hbm, ⟨3, _⟩ => ⟨S8192x1792, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S30x512, .f32⟩
  | .hbm, ⟨22, _⟩ => ⟨S8222x512, .f32⟩
  | .hbm, ⟨23, _⟩ => ⟨S_, .f32⟩
  | .hbm, ⟨24, _⟩ => ⟨S30x512, .f32⟩
  | .hbm, ⟨25, _⟩ => ⟨S8192, .i32⟩
  | .hbm, ⟨26, _⟩ => ⟨S8192x1, .i32⟩
  | .hbm, ⟨27, _⟩ => ⟨S31, .i32⟩
  | .hbm, ⟨28, _⟩ => ⟨S1x31, .i32⟩
  | .hbm, ⟨29, _⟩ => ⟨S8192x31, .i32⟩
  | .hbm, ⟨30, _⟩ => ⟨S8192x31, .i32⟩
  | .hbm, ⟨31, _⟩ => ⟨S8192x31, .i32⟩
  | .hbm, ⟨32, _⟩ => ⟨S_, .i32⟩
  | .hbm, ⟨33, _⟩ => ⟨S8192x31, .i32⟩
  | .hbm, ⟨34, _⟩ => ⟨S8192x31, .i1⟩
  | .hbm, ⟨35, _⟩ => ⟨S_, .i32⟩
  | .hbm, ⟨36, _⟩ => ⟨S8192x31, .i32⟩
  | .hbm, ⟨37, _⟩ => ⟨S8192x31, .i32⟩
  | .hbm, ⟨38, _⟩ => ⟨S8192x31, .i32⟩
  | .hbm, ⟨39, _⟩ => ⟨S8192x31x1, .i32⟩
  | .hbm, ⟨40, _⟩ => ⟨S8192x31x512, .f32⟩
  | .hbm, ⟨41, _⟩ => ⟨S1x31x512, .f32⟩
  | .hbm, ⟨42, _⟩ => ⟨S8192x31x512, .f32⟩
  | .hbm, ⟨43, _⟩ => ⟨S8192x31x512, .f32⟩
  | .hbm, ⟨44, _⟩ => ⟨S_, .f32⟩
  | .hbm, ⟨45, _⟩ => ⟨S8192x512, .f32⟩
  | .hbm, ⟨46, _⟩ => ⟨S8192x31x512, .f32⟩
  | .hbm, ⟨47, _⟩ => ⟨S8192x31x512, .f32⟩
  | .hbm, ⟨48, _⟩ => ⟨S_, .f32⟩
  | .hbm, ⟨49, _⟩ => ⟨S31x512, .f32⟩
  | .hbm, ⟨50, _⟩ => ⟨S1x31x512, .f32⟩
  | .hbm, ⟨51, _⟩ => ⟨S8192x31x512, .f32⟩
  | .hbm, ⟨52, _⟩ => ⟨S8192x31x512, .f32⟩
  | .hbm, ⟨53, _⟩ => ⟨S_, .f32⟩
  | .hbm, ⟨54, _⟩ => ⟨S31x512, .f32⟩
  | .hbm, ⟨55, _⟩ => ⟨S_, .f32⟩
  | .hbm, ⟨56, _⟩ => ⟨S8222x512, .f32⟩
  | .hbm, ⟨57, _⟩ => ⟨S8222x512, .f32⟩
  | .hbm, ⟨58, _⟩ => ⟨S30x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S8192x1024, .f32⟩
  | .hbm, ⟨64, _⟩ => ⟨S8192x1024, .bf16⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== GateUp.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩
abbrev S384x1024 : Shape := ⟨2, ![384, 1024]⟩
abbrev S1024x384 : Shape := ⟨2, ![1024, 384]⟩
abbrev S256x1024 : Shape := ⟨2, ![256, 1024]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S8192x2816, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .bf16⟩
  | .hbm, ⟨19, _⟩ => ⟨S8192x2816, .bf16⟩
  | .hbm, ⟨20, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Dact.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩
abbrev S384x1024 : Shape := ⟨2, ![384, 1024]⟩
abbrev S1024x384 : Shape := ⟨2, ![1024, 384]⟩
abbrev S256x1024 : Shape := ⟨2, ![256, 1024]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DactRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Dw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S8192x2816 : Shape := ⟨2, ![8192, 2816]⟩
abbrev S8192x1024 : Shape := ⟨2, ![8192, 1024]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dnorm.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DnormRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S2816x1024, .f32⟩
  | .hbm, ⟨27, _⟩ => ⟨S8192x2816, .f32⟩
  | .hbm, ⟨28, _⟩ => ⟨S2816x1024, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Dmix.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dwout.lean ====
abbrev S8192x512 : Shape := ⟨2, ![8192, 512]⟩
abbrev S8192x1024 : Shape := ⟨2, ![8192, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== DwoutRefIdeal.lean ====
abbrev S8192x512 : Shape := ⟨2, ![8192, 512]⟩
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwinEv.lean ====
abbrev S8192x1792 : Shape := ⟨2, ![8192, 1792]⟩
abbrev S8192x1024 : Shape := ⟨2, ![8192, 1024]⟩
abbrev S1792x1024 : Shape := ⟨2, ![1792, 1024]⟩
abbrev S2048x896 : Shape := ⟨2, ![2048, 896]⟩
abbrev S2048x1024 : Shape := ⟨2, ![2048, 1024]⟩
abbrev S896x1024 : Shape := ⟨2, ![896, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S1792x1024, .f32⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .f32⟩
  | .local _ .vmem, ⟨5, _⟩ => ⟨S896x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinEvIdeal.lean ====
abbrev S8192x1792 : Shape := ⟨2, ![8192, 1792]⟩
abbrev S8192x1024 : Shape := ⟨2, ![8192, 1024]⟩
abbrev S1792x1024 : Shape := ⟨2, ![1792, 1024]⟩
abbrev S2048x896 : Shape := ⟨2, ![2048, 896]⟩
abbrev S2048x1024 : Shape := ⟨2, ![2048, 1024]⟩
abbrev S896x1024 : Shape := ⟨2, ![896, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S1792x1024, .f32⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S896x1024, .f32⟩
  | .local _ .vmem, ⟨5, _⟩ => ⟨S896x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinEvRefIdeal.lean ====
abbrev S8192x1792 : Shape := ⟨2, ![8192, 1792]⟩
abbrev S8192x1024 : Shape := ⟨2, ![8192, 1024]⟩
abbrev S1792x1024 : Shape := ⟨2, ![1792, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S8192x1792, .f32⟩
  | .hbm, ⟨3, _⟩ => ⟨S8192x1024, .f32⟩
  | .hbm, ⟨4, _⟩ => ⟨S1792x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwinOd.lean ====
abbrev S8192x2560 : Shape := ⟨2, ![8192, 2560]⟩
abbrev S8192x1024 : Shape := ⟨2, ![8192, 1024]⟩
abbrev S2560x1024 : Shape := ⟨2, ![2560, 1024]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S2560x1024, .f32⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .f32⟩
  | .local _ .vmem, ⟨5, _⟩ => ⟨S1280x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinOdRefIdeal.lean ====
abbrev S8192x2560 : Shape := ⟨2, ![8192, 2560]⟩
abbrev S8192x1024 : Shape := ⟨2, ![8192, 1024]⟩
abbrev S2560x1024 : Shape := ⟨2, ![2560, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S8192x2560, .f32⟩
  | .hbm, ⟨3, _⟩ => ⟨S8192x1024, .f32⟩
  | .hbm, ⟨4, _⟩ => ⟨S2560x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DnormEv.lean ====
abbrev S8192x1792 : Shape := ⟨2, ![8192, 1792]⟩
abbrev S1792x1024 : Shape := ⟨2, ![1792, 1024]⟩
abbrev S8192x1024 : Shape := ⟨2, ![8192, 1024]⟩
abbrev S1x1024 : Shape := ⟨2, ![1, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1792, .bf16⟩
  | .hbm, ⟨1, _⟩ => ⟨S1792x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DnormEvIdeal.lean ====
abbrev S8192x1792 : Shape := ⟨2, ![8192, 1792]⟩
abbrev S1792x1024 : Shape := ⟨2, ![1792, 1024]⟩
abbrev S8192x1024 : Shape := ⟨2, ![8192, 1024]⟩
abbrev S1x1024 : Shape := ⟨2, ![1, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1792, .bf16⟩
  | .hbm, ⟨1, _⟩ => ⟨S1792x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DnormEvRefIdeal.lean ====
abbrev S8192x1792 : Shape := ⟨2, ![8192, 1792]⟩
abbrev S1792x1024 : Shape := ⟨2, ![1792, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S1792x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1792x1024, .f32⟩
  | .hbm, ⟨25, _⟩ => ⟨S8192x1792, .f32⟩
  | .hbm, ⟨26, _⟩ => ⟨S8192x1792, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== DnormOd.lean ====
abbrev S8192x2560 : Shape := ⟨2, ![8192, 2560]⟩
abbrev S2560x1024 : Shape := ⟨2, ![2560, 1024]⟩
abbrev S8192x1024 : Shape := ⟨2, ![8192, 1024]⟩
abbrev S1x1024 : Shape := ⟨2, ![1, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x2560, .bf16⟩
  | .hbm, ⟨1, _⟩ => ⟨S2560x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== DnormOdRefIdeal.lean ====
abbrev S8192x2560 : Shape := ⟨2, ![8192, 2560]⟩
abbrev S2560x1024 : Shape := ⟨2, ![2560, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S2560x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S2560x1024, .f32⟩
  | .hbm, ⟨25, _⟩ => ⟨S8192x2560, .f32⟩
  | .hbm, ⟨26, _⟩ => ⟨S8192x2560, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Loss.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .bf16⟩
  | .hbm, ⟨75, _⟩ => ⟨S1x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Out.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S8192x512, .f32⟩
  | .hbm, ⟨6, _⟩ => ⟨S8192x512, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== InEv.lean ====
abbrev S8192x1024 : Shape := ⟨2, ![8192, 1024]⟩
abbrev S1792x1024 : Shape := ⟨2, ![1792, 1024]⟩
abbrev S8192x1792 : Shape := ⟨2, ![8192, 1792]⟩
abbrev S512x1024 : Shape := ⟨2, ![512, 1024]⟩
abbrev S896x1024 : Shape := ⟨2, ![896, 1024]⟩
abbrev S512x896 : Shape := ⟨2, ![512, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1792x1024, .bf16⟩
  | .hbm, ⟨2, _⟩ => ⟨S8192x1792, .bf16⟩
  | .local _ .vmem, ⟨0, _⟩ => ⟨S512x1024, .bf16⟩
  | .local _ .vmem, ⟨1, _⟩ => ⟨S512x1024, .bf16⟩
  | .local _ .vmem, ⟨2, _⟩ => ⟨S896x1024, .bf16⟩
  | .local _ .vmem, ⟨3, _⟩ => ⟨S896x1024, .bf16⟩
  | .local _ .vmem, ⟨4, _⟩ => ⟨S512x896, .bf16⟩
  | .local _ .vmem, ⟨5, _⟩ => ⟨S512x896, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InEvIdeal.lean ====
abbrev S8192x1024 : Shape := ⟨2, ![8192, 1024]⟩
abbrev S1792x1024 : Shape := ⟨2, ![1792, 1024]⟩
abbrev S8192x1792 : Shape := ⟨2, ![8192, 1792]⟩
abbrev S512x1024 : Shape := ⟨2, ![512, 1024]⟩
abbrev S896x1024 : Shape := ⟨2, ![896, 1024]⟩
abbrev S512x896 : Shape := ⟨2, ![512, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1792x1024, .bf16⟩
  | .hbm, ⟨2, _⟩ => ⟨S8192x1792, .bf16⟩
  | .local _ .vmem, ⟨0, _⟩ => ⟨S512x1024, .bf16⟩
  | .local _ .vmem, ⟨1, _⟩ => ⟨S512x1024, .bf16⟩
  | .local _ .vmem, ⟨2, _⟩ => ⟨S896x1024, .bf16⟩
  | .local _ .vmem, ⟨3, _⟩ => ⟨S896x1024, .bf16⟩
  | .local _ .vmem, ⟨4, _⟩ => ⟨S512x896, .bf16⟩
  | .local _ .vmem, ⟨5, _⟩ => ⟨S512x896, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InEvRefIdeal.lean ====
abbrev S8192x1024 : Shape := ⟨2, ![8192, 1024]⟩
abbrev S1792x1024 : Shape := ⟨2, ![1792, 1024]⟩
abbrev S8192x1792 : Shape := ⟨2, ![8192, 1792]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1792x1024, .bf16⟩
  | .hbm, ⟨2, _⟩ => ⟨S8192x1024, .f32⟩
  | .hbm, ⟨3, _⟩ => ⟨S1792x1024, .f32⟩
  | .hbm, ⟨4, _⟩ => ⟨S8192x1792, .f32⟩
  | .hbm, ⟨5, _⟩ => ⟨S8192x1792, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InOd.lean ====
abbrev S8192x1024 : Shape := ⟨2, ![8192, 1024]⟩
abbrev S2560x1024 : Shape := ⟨2, ![2560, 1024]⟩
abbrev S8192x2560 : Shape := ⟨2, ![8192, 2560]⟩
abbrev S512x1024 : Shape := ⟨2, ![512, 1024]⟩
abbrev S1280x1024 : Shape := ⟨2, ![1280, 1024]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2560x1024, .bf16⟩
  | .hbm, ⟨2, _⟩ => ⟨S8192x2560, .bf16⟩
  | .local _ .vmem, ⟨0, _⟩ => ⟨S512x1024, .bf16⟩
  | .local _ .vmem, ⟨1, _⟩ => ⟨S512x1024, .bf16⟩
  | .local _ .vmem, ⟨2, _⟩ => ⟨S1280x1024, .bf16⟩
  | .local _ .vmem, ⟨3, _⟩ => ⟨S1280x1024, .bf16⟩
  | .local _ .vmem, ⟨4, _⟩ => ⟨S512x1280, .bf16⟩
  | .local _ .vmem, ⟨5, _⟩ => ⟨S512x1280, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InOdRefIdeal.lean ====
abbrev S8192x1024 : Shape := ⟨2, ![8192, 1024]⟩
abbrev S2560x1024 : Shape := ⟨2, ![2560, 1024]⟩
abbrev S8192x2560 : Shape := ⟨2, ![8192, 2560]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2560x1024, .bf16⟩
  | .hbm, ⟨2, _⟩ => ⟨S8192x1024, .f32⟩
  | .hbm, ⟨3, _⟩ => ⟨S2560x1024, .f32⟩
  | .hbm, ⟨4, _⟩ => ⟨S8192x2560, .f32⟩
  | .hbm, ⟨5, _⟩ => ⟨S8192x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Norm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Tail.lean ====
abbrev S8192x1024 : Shape := ⟨2, ![8192, 1024]⟩
abbrev S8192x512 : Shape := ⟨2, ![8192, 512]⟩
abbrev S1x512 : Shape := ⟨2, ![1, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== TailRefIdeal.lean ====
abbrev S8192x1024 : Shape := ⟨2, ![8192, 1024]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S8192x512, .f32⟩
  | .hbm, ⟨51, _⟩ => ⟨S_, .f32⟩
  | .hbm, ⟨52, _⟩ => ⟨S512, .f32⟩
  | .hbm, ⟨53, _⟩ => ⟨S1x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩

abbrev nD : Nat := 1
abbrev τ : Topo := Topo.v7x

variable {F : FTy → Type} [FloatOps F]
-- ==== AdamEvIn.lean ====
abbrev S448x1024 : Shape := ⟨2, ![448, 1024]⟩

abbrev nBuf : Space → Nat
  | .hbm => 7
  | .vmem => 7
  | .smem => 0
  | _ => 0

abbrev bufTy : (tb : Table) → Fin (tcTables nBuf tb) → BufTy
  | .hbm, ⟨0, _⟩ => ⟨S448x1024, .f32⟩
  | .hbm, ⟨1, _⟩ => ⟨S448x1024, .f32⟩
  | .hbm, ⟨2, _⟩ => ⟨S448x1024, .f32⟩
  | .hbm, ⟨3, _⟩ => ⟨S448x1024, .f32⟩
  | .hbm, ⟨4, _⟩ => ⟨S448x1024, .f32⟩
  | .hbm, ⟨5, _⟩ => ⟨S448x1024, .f32⟩
  | .hbm, ⟨6, _⟩ => ⟨S448x1024, .f32⟩
  | .local _ .vmem, ⟨0, _⟩ => ⟨S448x1024, .f32⟩
  | .local _ .vmem, ⟨1, _⟩ => ⟨S448x1024, .f32⟩
  | .local _ .vmem, ⟨2, _⟩ => ⟨S448x1024, .f32⟩
  | .local _ .vmem, ⟨3, _⟩ => ⟨S448x1024, .f32⟩
  | .local _ .vmem, ⟨4, _⟩ => ⟨S448x1024, .f32⟩
  | .local _ .vmem, ⟨5, _⟩ => ⟨S448x1024, .f32⟩
  | .local _ .vmem, ⟨6, _⟩ => ⟨S448x1024, .f32⟩
  | _, _ => ⟨S448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S448x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S448x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S448x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S448x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S448x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S448x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S448x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvInIdeal.lean ====
abbrev S448x1024 : Shape := ⟨2, ![448, 1024]⟩

abbrev nBuf : Space → Nat
  | .hbm => 7
  | .vmem => 7
  | .smem => 0
  | _ => 0

abbrev bufTy : (tb : Table) → Fin (tcTables nBuf tb) → BufTy
  | .hbm, ⟨0, _⟩ => ⟨S448x1024, .f32⟩
  | .hbm, ⟨1, _⟩ => ⟨S448x1024, .f32⟩
  | .hbm, ⟨2, _⟩ => ⟨S448x1024, .f32⟩
  | .hbm, ⟨3, _⟩ => ⟨S448x1024, .f32⟩
  | .hbm, ⟨4, _⟩ => ⟨S448x1024, .f32⟩
  | .hbm, ⟨5, _⟩ => ⟨S448x1024, .f32⟩
  | .hbm, ⟨6, _⟩ => ⟨S448x1024, .f32⟩
  | .local _ .vmem, ⟨0, _⟩ => ⟨S448x1024, .f32⟩
  | .local _ .vmem, ⟨1, _⟩ => ⟨S448x1024, .f32⟩
  | .local _ .vmem, ⟨2, _⟩ => ⟨S448x1024, .f32⟩
  | .local _ .vmem, ⟨3, _⟩ => ⟨S448x1024, .f32⟩
  | .local _ .vmem, ⟨4, _⟩ => ⟨S448x1024, .f32⟩
  | .local _ .vmem, ⟨5, _⟩ => ⟨S448x1024, .f32⟩
  | .local _ .vmem, ⟨6, _⟩ => ⟨S448x1024, .f32⟩
  | _, _ => ⟨S448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S448x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S448x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S448x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S448x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S448x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S448x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S448x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvInRefIdeal.lean ====
abbrev S448x1024 : Shape := ⟨2, ![448, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S448x1024, .f32⟩
  | .hbm, ⟨1, _⟩ => ⟨S448x1024, .f32⟩
  | .hbm, ⟨2, _⟩ => ⟨S448x1024, .f32⟩
  | .hbm, ⟨3, _⟩ => ⟨S448x1024, .f32⟩
  | .hbm, ⟨4, _⟩ => ⟨S_, .f32⟩
  | .hbm, ⟨5, _⟩ => ⟨S448x1024, .f32⟩
  | .hbm, ⟨6, _⟩ => ⟨S448x1024, .f32⟩
  | .hbm, ⟨7, _⟩ => ⟨S_, .f32⟩
  | .hbm, ⟨8, _⟩ => ⟨S448x1024, .f32⟩
  | .hbm, ⟨9, _⟩ => ⟨S448x1024, .f32⟩
  | .hbm, ⟨10, _⟩ => ⟨S448x1024, .f32⟩
  | .hbm, ⟨11, _⟩ => ⟨S_, .f32⟩
  | .hbm, ⟨12, _⟩ => ⟨S448x1024, .f32⟩
  | .hbm, ⟨13, _⟩ => ⟨S448x1024, .f32⟩
  | .hbm, ⟨14, _⟩ => ⟨S448x1024, .f32⟩
  | .hbm, ⟨15, _⟩ => ⟨S_, .f32⟩
  | .hbm, ⟨16, _⟩ => ⟨S448x1024, .f32⟩
  | .hbm, ⟨17, _⟩ => ⟨S448x1024, .f32⟩
  | .hbm, ⟨18, _⟩ => ⟨S448x1024, .f32⟩
  | .hbm, ⟨19, _⟩ => ⟨S_, .f32⟩
  | .hbm, ⟨20, _⟩ => ⟨S448x1024, .f32⟩
  | .hbm, ⟨21, _⟩ => ⟨S448x1024, .f32⟩
  | .hbm, ⟨22, _⟩ => ⟨S_, .f32⟩
  | .hbm, ⟨23, _⟩ => ⟨S448x1024, .f32⟩
  | .hbm, ⟨24, _⟩ => ⟨S448x1024, .f32⟩
  | .hbm, ⟨25, _⟩ => ⟨S448x1024, .f32⟩
  | .hbm, ⟨26, _⟩ => ⟨S_, .f32⟩
  | .hbm, ⟨27, _⟩ => ⟨S448x1024, .f32⟩
  | .hbm, ⟨28, _⟩ => ⟨S448x1024, .f32⟩
  | .hbm, ⟨29, _⟩ => ⟨S448x1024, .f32⟩
  | .hbm, ⟨30, _⟩ => ⟨S_, .f32⟩
  | .hbm, ⟨31, _⟩ => ⟨S448x1024, .f32⟩
  | .hbm, ⟨32, _⟩ => ⟨S448x1024, .f32⟩
  | .hbm, ⟨33, _⟩ => ⟨S448x1024, .f32⟩
  | .hbm, ⟨34, _⟩ => ⟨S_, .f32⟩
  | .hbm, ⟨35, _⟩ => ⟨S448x1024, .f32⟩
  | .hbm, ⟨36, _⟩ => ⟨S448x1024, .f32⟩
  | _, _ => ⟨S448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOdIn.lean ====
abbrev S640x1024 : Shape := ⟨2, ![640, 1024]⟩
abbrev S320x1024 : Shape := ⟨2, ![320, 1024]⟩

abbrev nBuf : Space → Nat
  | .hbm => 7
  | .vmem => 14
  | .smem => 0
  | _ => 0

abbrev bufTy : (tb : Table) → Fin (tcTables nBuf tb) → BufTy
  | .hbm, ⟨0, _⟩ => ⟨S640x1024, .f32⟩
  | .hbm, ⟨1, _⟩ => ⟨S640x1024, .f32⟩
  | .hbm, ⟨2, _⟩ => ⟨S640x1024, .f32⟩
  | .hbm, ⟨3, _⟩ => ⟨S640x1024, .f32⟩
  | .hbm, ⟨4, _⟩ => ⟨S640x1024, .f32⟩
  | .hbm, ⟨5, _⟩ => ⟨S640x1024, .f32⟩
  | .hbm, ⟨6, _⟩ => ⟨S640x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | .local _ .vmem, ⟨8, _⟩ => ⟨S320x1024, .f32⟩
  | .local _ .vmem, ⟨9, _⟩ => ⟨S320x1024, .f32⟩
  | .local _ .vmem, ⟨10, _⟩ => ⟨S320x1024, .f32⟩
  | .local _ .vmem, ⟨11, _⟩ => ⟨S320x1024, .f32⟩
  | .local _ .vmem, ⟨12, _⟩ => ⟨S320x1024, .f32⟩
  | .local _ .vmem, ⟨13, _⟩ => ⟨S320x1024, .f32⟩
  | _, _ => ⟨S640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOdInIdeal.lean ====
abbrev S640x1024 : Shape := ⟨2, ![640, 1024]⟩
abbrev S320x1024 : Shape := ⟨2, ![320, 1024]⟩

abbrev nBuf : Space → Nat
  | .hbm => 7
  | .vmem => 14
  | .smem => 0
  | _ => 0

abbrev bufTy : (tb : Table) → Fin (tcTables nBuf tb) → BufTy
  | .hbm, ⟨0, _⟩ => ⟨S640x1024, .f32⟩
  | .hbm, ⟨1, _⟩ => ⟨S640x1024, .f32⟩
  | .hbm, ⟨2, _⟩ => ⟨S640x1024, .f32⟩
  | .hbm, ⟨3, _⟩ => ⟨S640x1024, .f32⟩
  | .hbm, ⟨4, _⟩ => ⟨S640x1024, .f32⟩
  | .hbm, ⟨5, _⟩ => ⟨S640x1024, .f32⟩
  | .hbm, ⟨6, _⟩ => ⟨S640x1024, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S320x1024, .f32⟩
  | .local _ .vmem, ⟨7, _⟩ => ⟨S320x1024, .f32⟩
  | .local _ .vmem, ⟨8, _⟩ => ⟨S320x1024, .f32⟩
  | .local _ .vmem, ⟨9, _⟩ => ⟨S320x1024, .f32⟩
  | .local _ .vmem, ⟨10, _⟩ => ⟨S320x1024, .f32⟩
  | .local _ .vmem, ⟨11, _⟩ => ⟨S320x1024, .f32⟩
  | .local _ .vmem, ⟨12, _⟩ => ⟨S320x1024, .f32⟩
  | .local _ .vmem, ⟨13, _⟩ => ⟨S320x1024, .f32⟩
  | _, _ => ⟨S640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOdInRefIdeal.lean ====
abbrev S640x1024 : Shape := ⟨2, ![640, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S640x1024, .f32⟩
  | .hbm, ⟨1, _⟩ => ⟨S640x1024, .f32⟩
  | .hbm, ⟨2, _⟩ => ⟨S640x1024, .f32⟩
  | .hbm, ⟨3, _⟩ => ⟨S640x1024, .f32⟩
  | .hbm, ⟨4, _⟩ => ⟨S_, .f32⟩
  | .hbm, ⟨5, _⟩ => ⟨S640x1024, .f32⟩
  | .hbm, ⟨6, _⟩ => ⟨S640x1024, .f32⟩
  | .hbm, ⟨7, _⟩ => ⟨S_, .f32⟩
  | .hbm, ⟨8, _⟩ => ⟨S640x1024, .f32⟩
  | .hbm, ⟨9, _⟩ => ⟨S640x1024, .f32⟩
  | .hbm, ⟨10, _⟩ => ⟨S640x1024, .f32⟩
  | .hbm, ⟨11, _⟩ => ⟨S_, .f32⟩
  | .hbm, ⟨12, _⟩ => ⟨S640x1024, .f32⟩
  | .hbm, ⟨13, _⟩ => ⟨S640x1024, .f32⟩
  | .hbm, ⟨14, _⟩ => ⟨S640x1024, .f32⟩
  | .hbm, ⟨15, _⟩ => ⟨S_, .f32⟩
  | .hbm, ⟨16, _⟩ => ⟨S640x1024, .f32⟩
  | .hbm, ⟨17, _⟩ => ⟨S640x1024, .f32⟩
  | .hbm, ⟨18, _⟩ => ⟨S640x1024, .f32⟩
  | .hbm, ⟨19, _⟩ => ⟨S_, .f32⟩
  | .hbm, ⟨20, _⟩ => ⟨S640x1024, .f32⟩
  | .hbm, ⟨21, _⟩ => ⟨S640x1024, .f32⟩
  | .hbm, ⟨22, _⟩ => ⟨S_, .f32⟩
  | .hbm, ⟨23, _⟩ => ⟨S640x1024, .f32⟩
  | .hbm, ⟨24, _⟩ => ⟨S640x1024, .f32⟩
  | .hbm, ⟨25, _⟩ => ⟨S640x1024, .f32⟩
  | .hbm, ⟨26, _⟩ => ⟨S_, .f32⟩
  | .hbm, ⟨27, _⟩ => ⟨S640x1024, .f32⟩
  | .hbm, ⟨28, _⟩ => ⟨S640x1024, .f32⟩
  | .hbm, ⟨29, _⟩ => ⟨S640x1024, .f32⟩
  | .hbm, ⟨30, _⟩ => ⟨S_, .f32⟩
  | .hbm, ⟨31, _⟩ => ⟨S640x1024, .f32⟩
  | .hbm, ⟨32, _⟩ => ⟨S640x1024, .f32⟩
  | .hbm, ⟨33, _⟩ => ⟨S640x1024, .f32⟩
  | .hbm, ⟨34, _⟩ => ⟨S_, .f32⟩
  | .hbm, ⟨35, _⟩ => ⟨S640x1024, .f32⟩
  | .hbm, ⟨36, _⟩ => ⟨S640x1024, .f32⟩
  | _, _ => ⟨S640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnIdeal.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSink.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSinkIdeal.lean ====
abbrev S1x8 : Shape := ⟨2, ![1, 8]⟩

abbrev nBuf : Space → Nat
  | .hbm => 7
  | .vmem => 7
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S1x8, .f32⟩
  | .hbm, ⟨5, _⟩ => ⟨S1x8, .f32⟩
  | .hbm, ⟨6, _⟩ => ⟨S1x8, .f32⟩
  | .local _ .vmem, ⟨0, _⟩ => ⟨S1x8, .f32⟩
  | .local _ .vmem, ⟨1, _⟩ => ⟨S1x8, .f32⟩
  | .local _ .vmem, ⟨2, _⟩ => ⟨S1x8, .f32⟩
  | .local _ .vmem, ⟨3, _⟩ => ⟨S1x8, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSinkRefIdeal.lean ====
abbrev S1x8 : Shape := ⟨2, ![1, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S1x8, .f32⟩
  | .hbm, ⟨2, _⟩ => ⟨S1x8, .f32⟩
  | .hbm, ⟨3, _⟩ => ⟨S1x8, .f32⟩
  | .hbm, ⟨4, _⟩ => ⟨S_, .f32⟩
  | .hbm, ⟨5, _⟩ => ⟨S1x8, .f32⟩
  | .hbm, ⟨6, _⟩ => ⟨S1x8, .f32⟩
  | .hbm, ⟨7, _⟩ => ⟨S_, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S_, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S_, .f32⟩
  | .hbm, ⟨20, _⟩ => ⟨S1x8, .f32⟩
  | .hbm, ⟨21, _⟩ => ⟨S1x8, .f32⟩
  | .hbm, ⟨22, _⟩ => ⟨S_, .f32⟩
  | .hbm, ⟨23, _⟩ => ⟨S1x8, .f32⟩
  | .hbm, ⟨24, _⟩ => ⟨S1x8, .f32⟩
  | .hbm, ⟨25, _⟩ => ⟨S1x8, .f32⟩
  | .hbm, ⟨26, _⟩ => ⟨S_, .f32⟩
  | .hbm, ⟨27, _⟩ => ⟨S1x8, .f32⟩
  | .hbm, ⟨28, _⟩ => ⟨S1x8, .f32⟩
  | .hbm, ⟨29, _⟩ => ⟨S1x8, .f32⟩
  | .hbm, ⟨30, _⟩ => ⟨S_, .f32⟩
  | .hbm, ⟨31, _⟩ => ⟨S1x8, .f32⟩
  | .hbm, ⟨32, _⟩ => ⟨S1x8, .f32⟩
  | .hbm, ⟨33, _⟩ => ⟨S1x8, .f32⟩
  | .hbm, ⟨34, _⟩ => ⟨S_, .f32⟩
  | .hbm, ⟨35, _⟩ => ⟨S1x8, .f32⟩
  | .hbm, ⟨36, _⟩ => ⟨S1x8, .f32⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSpatial.lean ====
abbrev S1024x128 : Shape := ⟨2, ![1024, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSpatialIdeal.lean ====
abbrev S1024x128 : Shape := ⟨2, ![1024, 128]⟩
abbrev S512x128 : Shape := ⟨2, ![512, 128]⟩

abbrev nBuf : Space → Nat
  | .hbm => 7
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSpatialRefIdeal.lean ====
abbrev S1024x128 : Shape := ⟨2, ![1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .hbm, ⟨4, _⟩ => ⟨S_, .f32⟩
  | .hbm, ⟨5, _⟩ => ⟨S1024x128, .f32⟩
  | .hbm, ⟨6, _⟩ => ⟨S1024x128, .f32⟩
  | .hbm, ⟨7, _⟩ => ⟨S_, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S1024x128, .f32⟩
  | .hbm, ⟨25, _⟩ => ⟨S1024x128, .f32⟩
  | .hbm, ⟨26, _⟩ => ⟨S_, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBias.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasIdeal.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasRefIdeal.lean ====
abbrev S8x128 : Shape := ⟨2, ![8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorms.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormsIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormsRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTaps.lean ====
abbrev S31x128 : Shape := ⟨2, ![31, 128]⟩

abbrev nBuf : Space → Nat
  | .hbm => 7
  | .vmem => 7
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S31x128, .f32⟩
  | .hbm, ⟨5, _⟩ => ⟨S31x128, .f32⟩
  | .hbm, ⟨6, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | _, _ => ⟨S31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapsIdeal.lean ====
abbrev S31x128 : Shape := ⟨2, ![31, 128]⟩

abbrev nBuf : Space → Nat
  | .hbm => 7
  | .vmem => 7
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S31x128, .f32⟩
  | .hbm, ⟨5, _⟩ => ⟨S31x128, .f32⟩
  | .hbm, ⟨6, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | _, _ => ⟨S31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapsRefIdeal.lean ====
abbrev S31x128 : Shape := ⟨2, ![31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S_, .f32⟩
  | .hbm, ⟨5, _⟩ => ⟨S31x128, .f32⟩
  | .hbm, ⟨6, _⟩ => ⟨S31x128, .f32⟩
  | .hbm, ⟨7, _⟩ => ⟨S_, .f32⟩
  | .hbm, ⟨8, _⟩ => ⟨S31x128, .f32⟩
  | .hbm, ⟨9, _⟩ => ⟨S31x128, .f32⟩
  | .hbm, ⟨10, _⟩ => ⟨S31x128, .f32⟩
  | .hbm, ⟨11, _⟩ => ⟨S_, .f32⟩
  | .hbm, ⟨12, _⟩ => ⟨S31x128, .f32⟩
  | .hbm, ⟨13, _⟩ => ⟨S31x128, .f32⟩
  | .hbm, ⟨14, _⟩ => ⟨S31x128, .f32⟩
  | .hbm, ⟨15, _⟩ => ⟨S_, .f32⟩
  | .hbm, ⟨16, _⟩ => ⟨S31x128, .f32⟩
  | .hbm, ⟨17, _⟩ => ⟨S31x128, .f32⟩
  | .hbm, ⟨18, _⟩ => ⟨S31x128, .f32⟩
  | .hbm, ⟨19, _⟩ => ⟨S_, .f32⟩
  | .hbm, ⟨20, _⟩ => ⟨S31x128, .f32⟩
  | .hbm, ⟨21, _⟩ => ⟨S31x128, .f32⟩
  | .hbm, ⟨22, _⟩ => ⟨S_, .f32⟩
  | .hbm, ⟨23, _⟩ => ⟨S31x128, .f32⟩
  | .hbm, ⟨24, _⟩ => ⟨S31x128, .f32⟩
  | .hbm, ⟨25, _⟩ => ⟨S31x128, .f32⟩
  | .hbm, ⟨26, _⟩ => ⟨S_, .f32⟩
  | .hbm, ⟨27, _⟩ => ⟨S31x128, .f32⟩
  | .hbm, ⟨28, _⟩ => ⟨S31x128, .f32⟩
  | .hbm, ⟨29, _⟩ => ⟨S31x128, .f32⟩
  | .hbm, ⟨30, _⟩ => ⟨S_, .f32⟩
  | .hbm, ⟨31, _⟩ => ⟨S31x128, .f32⟩
  | .hbm, ⟨32, _⟩ => ⟨S31x128, .f32⟩
  | .hbm, ⟨33, _⟩ => ⟨S31x128, .f32⟩
  | .hbm, ⟨34, _⟩ => ⟨S_, .f32⟩
  | .hbm, ⟨35, _⟩ => ⟨S31x128, .f32⟩
  | .hbm, ⟨36, _⟩ => ⟨S31x128, .f32⟩
  | _, _ => ⟨S31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOdNorm.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOdNormIdeal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOdNormRefIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Sum.lean ====
abbrev S8x1536x128 : Shape := ⟨3, ![8, 1536, 128]⟩
abbrev S1536x128 : Shape := ⟨2, ![1536, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1536x128, .f32⟩
  | .hbm, ⟨1, _⟩ => ⟨S1536x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | _, _ => ⟨S8x1536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumRefIdeal.lean ====
abbrev S8x1536x128 : Shape := ⟨3, ![8, 1536, 128]⟩
abbrev S_ : Shape := ⟨0, ![]⟩
abbrev S1536x128 : Shape := ⟨2, ![1536, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1536x128, .f32⟩
  | .hbm, ⟨1, _⟩ => ⟨S_, .f32⟩
  | .hbm, ⟨2, _⟩ => ⟨S1536x128, .f32⟩
  | _, _ => ⟨S8x1536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Conv.Stage.lean ====
/- What the kernel's two row scratches hold: eight copies of one sequence of rows, copy `b` shifted by `b` rows. -/
module

public import proofs.«01_k».proof.Proof.Gen.KernelIdeal.Value
public import Idealize.ShloMosaic.Lib.Pipeline.ValueKit

@[expose] public section

set_option maxRecDepth 16384

noncomputable section

namespace Conv

open Idealize.ShloMosaic Idealize.ShloMosaic.TcCoe Idealize.SL.Sem
open Cert.KernelIdeal Cert.KernelIdeal.Gen

/-- A matrix as a function of two natural numbers, zero outside. -/
def N2 {a b : ℕ} (x : (⟨2, ![a, b]⟩ : Shape).Idx → EReal) (p q : ℕ) : EReal :=
  if h : p < a ∧ q < b then x (ValueIdx.ix2 ⟨p, h.1⟩ ⟨q, h.2⟩) else 0

theorem N2_eq {a b : ℕ} (x : (⟨2, ![a, b]⟩ : Shape).Idx → EReal) (i : (⟨2, ![a, b]⟩ : Shape).Idx) (p q : ℕ)
    (hp : (i 0).val = p) (hq : (i 1).val = q) : x i = N2 x p q := by
  subst hp hq
  unfold N2
  rw [dif_pos ⟨(i 0).isLt, (i 1).isLt⟩]
  exact congrArg x (ValueIdx.eq_ix2 i)

theorem N2_ix {a b : ℕ} (x : (⟨2, ![a, b]⟩ : Shape).Idx → EReal) (p q : ℕ) (hp : p < a) (hq : q < b) :
    N2 x p q = x (ValueIdx.ix2 ⟨p, hp⟩ ⟨q, hq⟩) := dif_pos ⟨hp, hq⟩

/-- The first `b` copies of a scratch hold the sequence `E`, copy `k` from row `k` on. -/
def Good (L : List (View.Piece (Elt Ideal) S8x544x512 .f32)) (b : ℕ) (E : ℕ → ℕ → EReal) : Prop :=
  ∀ y : S8x544x512.Idx, (y 0).val < b → ((y 0).val = 0 ∨ (y 1).val < 536) →
    (View.canon (Val := Elt Ideal) L y : EReal) = E ((y 0).val + (y 1).val) (y 2).val

theorem Good.cons {L : List (View.Piece (Elt Ideal) S8x544x512 .f32)} {b : ℕ} {E : ℕ → ℕ → EReal} (h : Good L b E)
    (hb : 0 < b) (inb : ∀ a, ![b, 0, 0] a + S1x536x512.size a ≤ S8x544x512.size a) (w : S1x536x512.Idx → Ideal .f32)
    (hw : ∀ x : S1x536x512.Idx, (w x : EReal) = E (b + (x 1).val) (x 2).val) :
    Good ((⟨Rect.unit (s := S8x544x512) ![b, 0, 0] S1x536x512.size inb, w⟩ : View.Piece (Elt Ideal) S8x544x512 .f32) :: L) (b + 1) E := by
  intro y h0 h1
  by_cases hy : (y 0).val < b
  · rw [View.canon_cons_of_not_mem _ _ (Rect.not_mem_set_of_axis _ y 0 b 1 rfl rfl rfl (Or.inl hy))]
    exact h y hy h1
  · have e0 : (y 0).val = b := by omega
    have e1 : (y 1).val < 536 := by rcases h1 with h1 | h1 <;> omega
    have : (Rect.unit (s := S8x544x512) ![b, 0, 0] S1x536x512.size inb).emb (ValueIdx.ix3 (0 : Fin 1) (⟨(y 1).val, e1⟩ : Fin 536) (y 2)) = y := by
      refine Rect.emb_eq_of_coords _ _ _ fun a => ?_
      match a with
      | ⟨0, _⟩ => show (y 0).val = b + 1 * 0; omega
      | ⟨1, _⟩ => show (y 1).val = 0 + 1 * (y 1).val; omega
      | ⟨2, _⟩ => show (y 2).val = 0 + 1 * (y 2).val; omega
    have hc := View.canon_cons_emb (Val := Elt Ideal) (e := .f32) (Rect.unit (s := S8x544x512) ![b, 0, 0] S1x536x512.size inb) w L
      (ValueIdx.ix3 (0 : Fin 1) (⟨(y 1).val, e1⟩ : Fin 536) (y 2))
    rw [this] at hc
    rw [hc]
    refine (hw _).trans ?_
    rw [e0]

/-- What a load of a scratch reads. -/
theorem Good.read {L : List (View.Piece (Elt Ideal) S8x544x512 .f32)} {b : ℕ} {E : ℕ → ℕ → EReal} (h : Good L b E)
    {sg : RefSig} {κ : Kind} {sp : Space} (v : View sg κ sp S8x544x512 .f32) {p q n : ℕ} (inb : ∀ a, ![p, q, 0] a + (![1, n, 512] : Fin 3 → ℕ) a ≤ S8x544x512.size a)
    (hp : p < b) (hq : p = 0 ∨ q + n ≤ 536) (x : (⟨3, ![1, n, 512]⟩ : Shape).Idx) :
    (v.readCov L (Rect.unit (s := S8x544x512) ![p, q, 0] ![1, n, 512] inb).toLoadRect x : EReal) = E (p + q + (x 1).val) (x 2).val := by
  rw [View.readCov_eq_canon']
  have i0 : (((Rect.unit (s := S8x544x512) ![p, q, 0] ![1, n, 512] inb).idx x) 0).val = p := by
    have : (x 0).val < 1 := (x 0).isLt
    show p + 1 * (x 0).val = p; omega
  have i1 : (((Rect.unit (s := S8x544x512) ![p, q, 0] ![1, n, 512] inb).idx x) 1).val = q + (x 1).val := by
    show q + 1 * (x 1).val = _; omega
  have i2 : (((Rect.unit (s := S8x544x512) ![p, q, 0] ![1, n, 512] inb).idx x) 2).val = (x 2).val := by
    show 0 + 1 * (x 2).val = _; omega
  have hx : (x 1).val < n := (x 1).isLt
  refine (h ((Rect.unit (s := S8x544x512) ![p, q, 0] ![1, n, 512] inb).idx x) ?_ ?_).trans ?_
  · rw [i0]; exact hp
  · rw [i0, i1]; omega
  · rw [i0, i1, i2, Nat.add_assoc]

end Conv
-- ==== Proof.Conv.Copies.lean ====
/- The two row scratches of the kernel's run: what each of their eight copies holds. -/
module

public import proofs.«01_k».proof.Proof.Conv.Stage
public import Idealize.ShloMosaic.Lib.WholeRead
public import Idealize.ShloMosaic.Lib.ValueLayout

@[expose] public section

set_option maxRecDepth 16384

noncomputable section

namespace Conv

open Idealize.ShloMosaic Idealize.ShloMosaic.TcCoe Idealize.SL.Sem
open Cert.KernelIdeal Cert.KernelIdeal.Gen

/-- The logistic function as both programs compute it. -/
def sgm (z : EReal) : EReal := Ideal.div 1 (1 + Ideal.exp (0 - z))

/-- The gated value of row `q`, channel `ch` of a block of projections. -/
def glu {n : ℕ} (x : (⟨2, ![n, 1792]⟩ : Shape).Idx → EReal) (q ch : ℕ) : EReal := N2 x q (768 + ch) * sgm (N2 x q (1280 + ch))

/-- The rows of `dy` a grid point sees: its own 512, then the 32 of its right neighbour, zero at the last point. -/
def dyE (ip : ℕ) (x2 : S512x512.Idx → EReal) (x3 : S32x512.Idx → EReal) (q ch : ℕ) : EReal :=
  if q < 512 then N2 x2 q ch else if ip < 15 then N2 x3 (q - 512) ch else 0

/-- The gated rows a grid point sees: the 32 of its left neighbour, zero at the first point, then its own 512. -/
def cE (ip : ℕ) (x0 : S512x1792.Idx → EReal) (x1 : S32x1792.Idx → EReal) (q ch : ℕ) : EReal :=
  if q < 32 then (if 0 < ip then glu x1 q ch else 0) else glu x0 (q - 32) ch

theorem slt15 (i : grid0.Coords) : Scalar.cmpi .slt (BitVec.ofNat 32 (i 0).val) 15#32 = if (i 0).val < 15 then 1#1 else 0#1 :=
  (by decide +kernel : ∀ n : Fin 16, Scalar.cmpi .slt (BitVec.ofNat 32 n.val) 15#32 = if n.val < 15 then 1#1 else 0#1) (i 0)

theorem sgt0 (i : grid0.Coords) : Scalar.cmpi .sgt (BitVec.ofNat 32 (i 0).val) 0#32 = if 0 < (i 0).val then 1#1 else 0#1 :=
  (by decide +kernel : ∀ n : Fin 16, Scalar.cmpi .sgt (BitVec.ofNat 32 n.val) 0#32 = if 0 < n.val then 1#1 else 0#1) (i 0)

theorem pay2_apply (v : Vec Ideal S512x512 .bf16) (j : S512x512.Idx) : (k0_pay2 (F := Ideal) v j : EReal) = v j := by
  pointwise [k0_pay2]

theorem pay3_apply (v : Vec Ideal S512x512 .bf16) (j : S512x512.Idx) : (k0_pay3 (F := Ideal) v j : EReal) = sgm (v j) := by
  pointwise [k0_pay3, sgm]

theorem pay4_apply (v w : Vec Ideal S512x512 .bf16) (a : Fin 1) (p q : Fin 512) :
    (k0_pay4 (F := Ideal) v w (ValueIdx.ix3 a p q) : EReal) = v (ValueIdx.ix2 p q) * sgm (w (ValueIdx.ix2 p q)) := by
  unfold k0_pay4
  rw [ValueIdx.shapeCast_ab_1ab_apply]
  show (k0_pay2 v (ValueIdx.ix2 p q) : EReal) * k0_pay3 w (ValueIdx.ix2 p q) = _
  rw [pay2_apply, pay3_apply]

theorem pay5_apply (i : grid0.Coords) (v w : Vec Ideal S32x512 .bf16) (j : S32x512.Idx) :
    (k0_pay5 (F := Ideal) i v w j : EReal) = if 0 < (i 0).val then v j * sgm (w j) else 0 := by
  have h : (k0_pay5 (F := Ideal) i v w j : EReal) = Scalar.select (Scalar.cmpi CmpIPredicate.sgt (BitVec.ofNat 32 (i 0).val) 0#32)
      (v j * sgm (w j)) 0 := by pointwise [k0_pay5, sgm]
  rw [h, sgt0]
  by_cases hi : 0 < (i 0).val
  · rw [if_pos hi, if_pos hi]; rfl
  · rw [if_neg hi, if_neg hi]; rfl

theorem pay16_apply (i : grid0.Coords) (v : Vec Ideal S32x512 .f32) (a : Fin 1) (p : Fin 32) (q : Fin 512) :
    (k0_pay16 (F := Ideal) (BitVec.ofNat 32 (i 0).val) v (ValueIdx.ix3 a p q) : EReal)
      = if (i 0).val < 15 then v (ValueIdx.ix2 p q) else 0 := by
  unfold k0_pay16
  rw [ValueIdx.shapeCast_ab_1ab_apply, slt15]
  by_cases hi : (i 0).val < 15
  · rw [if_pos hi, if_pos hi]; rfl
  · rw [if_neg hi, if_neg hi]
    show (Ideal.ofBits .f32 0x00000000#32 : EReal) = 0
    pointwise

theorem addUnit {n : ℕ} (x : (⟨2, ![n, 512]⟩ : Shape).Idx → EReal) (h : (⟨2, ![n, 512]⟩ : Shape).ShapeCasts ⟨3, ![1, n, 512]⟩)
    (k : (⟨3, ![1, n, 512]⟩ : Shape).Idx) : shapeCast ⟨3, ![1, n, 512]⟩ x h k = x (ValueIdx.ix2 (k 1) (k 2)) := by
  conv_lhs => rw [ValueIdx.eq_ix3 k]
  exact ValueIdx.shapeCast_ab_1ab_apply x h (k 0) (k 1) (k 2)

theorem dropUnit {n : ℕ} (x : (⟨3, ![1, n, 512]⟩ : Shape).Idx → EReal) (h : (⟨3, ![1, n, 512]⟩ : Shape).ShapeCasts ⟨2, ![n, 512]⟩)
    (p : Fin n) (q : Fin 512) : shapeCast ⟨2, ![n, 512]⟩ x h (ValueIdx.ix2 p q) = x (ValueIdx.ix3 (0 : Fin 1) p q) :=
  ValueIdx.shapeCast_1ab_ab_apply x h p q

/-- A block of rows cast to two axes and back reads as it did. -/
theorem castTwice {n : ℕ} (x : (⟨3, ![1, n, 512]⟩ : Shape).Idx → EReal) (h : (⟨3, ![1, n, 512]⟩ : Shape).ShapeCasts ⟨2, ![n, 512]⟩)
    (h' : (⟨2, ![n, 512]⟩ : Shape).ShapeCasts ⟨3, ![1, n, 512]⟩) (k : (⟨3, ![1, n, 512]⟩ : Shape).Idx) :
    shapeCast ⟨3, ![1, n, 512]⟩ (shapeCast ⟨2, ![n, 512]⟩ x h) h' k = x (ValueIdx.ix3 (0 : Fin 1) (k 1) (k 2)) := by
  rw [addUnit]
  exact dropUnit x h (k 1) (k 2)

variable (c : Dev nD) (i : grid0.Coords)
  (arg1 : Memref sig .tc .vmem S512x1792 .bf16) (harg1 : arg1.IsWhole) (arg2 : Memref sig .tc .vmem S32x1792 .bf16) (harg2 : arg2.IsWhole)
  (arg3 : Memref sig .tc .vmem S512x512 .f32) (harg3 : arg3.IsWhole) (arg4 : Memref sig .tc .vmem S32x512 .f32) (harg4 : arg4.IsWhole)
  (arg8 arg9 : Memref sig .tc .vmem S8x544x512 .f32)
  (x0 : Vec Ideal S512x1792 .bf16) (x1 : Vec Ideal S32x1792 .bf16) (x2 : Vec Ideal S512x512 .f32) (x3 : Vec Ideal S32x512 .f32)

/-- A place in the first copy, as the index of a block of `n` rows stored from row `o`. -/
theorem emb0 (o n : ℕ) (inb : ∀ a, ![0, o, 0] a + (![1, n, 512] : Fin 3 → ℕ) a ≤ S8x544x512.size a) (y : S8x544x512.Idx)
    (h0 : (y 0).val = 0) (h1 : o ≤ (y 1).val) (h2 : (y 1).val - o < n) :
    (Rect.unit (s := S8x544x512) ![0, o, 0] ![1, n, 512] inb).emb (ValueIdx.ix3 (0 : Fin 1) (⟨(y 1).val - o, h2⟩ : Fin n) (y 2)) = y := by
  refine Rect.emb_eq_of_coords _ _ _ fun a => ?_
  match a with
  | ⟨0, _⟩ => show (y 0).val = 0 + 1 * 0; omega
  | ⟨1, _⟩ => show (y 1).val = o + 1 * ((y 1).val - o); omega
  | ⟨2, _⟩ => show (y 2).val = 0 + 1 * (y 2).val; omega

/-- The first copy, stored as two blocks of rows. -/
theorem Good.two {o1 n1 o2 n2 : ℕ} {E : ℕ → ℕ → EReal} (inb1 : ∀ a, ![0, o1, 0] a + (![1, n1, 512] : Fin 3 → ℕ) a ≤ S8x544x512.size a)
    (inb2 : ∀ a, ![0, o2, 0] a + (![1, n2, 512] : Fin 3 → ℕ) a ≤ S8x544x512.size a)
    (w1 : (⟨3, ![1, n1, 512]⟩ : Shape).Idx → Ideal .f32) (w2 : (⟨3, ![1, n2, 512]⟩ : Shape).Idx → Ideal .f32)
    (hcov : ∀ q < 544, (o1 ≤ q ∧ q - o1 < n1) ∨ (o2 ≤ q ∧ q - o2 < n2))
    (h1 : ∀ (p : Fin n1) (q : Fin 512), (w1 (ValueIdx.ix3 (0 : Fin 1) p q) : EReal) = E (o1 + p.val) q.val)
    (h2 : ∀ (p : Fin n2) (q : Fin 512), (w2 (ValueIdx.ix3 (0 : Fin 1) p q) : EReal) = E (o2 + p.val) q.val) :
    Good [(⟨Rect.unit ![0, o1, 0] ![1, n1, 512] inb1, w1⟩ : View.Piece (Elt Ideal) S8x544x512 .f32),
      ⟨Rect.unit ![0, o2, 0] ![1, n2, 512] inb2, w2⟩] 1 E := by
  intro y h0 _
  have e0 : (y 0).val = 0 := by omega
  have hy : (y 1).val < 544 := (y 1).isLt
  by_cases hm : o1 ≤ (y 1).val ∧ (y 1).val - o1 < n1
  · have hc := View.canon_cons_emb (Val := Elt Ideal) (e := .f32) (Rect.unit (s := S8x544x512) ![0, o1, 0] ![1, n1, 512] inb1) w1
      [⟨Rect.unit ![0, o2, 0] ![1, n2, 512] inb2, w2⟩] (ValueIdx.ix3 (0 : Fin 1) (⟨(y 1).val - o1, hm.2⟩ : Fin n1) (y 2))
    rw [emb0 o1 n1 inb1 y e0 hm.1 hm.2] at hc
    rw [hc]
    refine (h1 _ _).trans ?_
    rw [e0, Nat.zero_add]
    show E (o1 + ((y 1).val - o1)) _ = _
    rw [Nat.add_sub_cancel' hm.1]
  · have hm2 := (hcov _ hy).resolve_left hm
    rw [View.canon_cons_of_not_mem _ _ (Rect.not_mem_set_of_axis _ y 1 o1 n1 rfl rfl rfl (by omega))]
    have hc := View.canon_cons_emb (Val := Elt Ideal) (e := .f32) (Rect.unit (s := S8x544x512) ![0, o2, 0] ![1, n2, 512] inb2) w2
      [] (ValueIdx.ix3 (0 : Fin 1) (⟨(y 1).val - o2, hm2.2⟩ : Fin n2) (y 2))
    rw [emb0 o2 n2 inb2 y e0 hm2.1 hm2.2] at hc
    rw [hc]
    refine (h2 _ _).trans ?_
    rw [e0, Nat.zero_add]
    show E (o2 + ((y 1).val - o2)) _ = _
    rw [Nat.add_sub_cancel' hm2.1]

/-- A load of a rectangle of a whole buffer that holds the block `x`. -/
theorem ldU {n0 n1 r0 r1 o0 o1 : ℕ} {e : EltTy} (m : Memref sig .tc .vmem ⟨2, ![n0, n1]⟩ e) (hm : m.IsWhole) (x : (⟨2, ![n0, n1]⟩ : Shape).Idx → Elt Ideal e)
    (inb : ∀ a, ![o0, o1] a + (![r0, r1] : Fin 2 → ℕ) a ≤ (⟨2, ![n0, n1]⟩ : Shape).size a) (j : (⟨2, ![r0, r1]⟩ : Shape).Idx) :
    ∃ h0 h1, View.readAt (Elt Ideal) m.view (Rect.unit (s := ⟨2, ![n0, n1]⟩) ![o0, o1] ![r0, r1] inb).toLoadRect (hm.unread x) j
      = x (ValueIdx.ix2 (⟨o0 + (j 0).val, h0⟩ : Fin n0) (⟨o1 + (j 1).val, h1⟩ : Fin n1)) := by
  have a0 : o0 + r0 ≤ n0 := inb 0
  have a1 : o1 + r1 ≤ n1 := inb 1
  have b0 : (j 0).val < r0 := (j 0).isLt
  have b1 : (j 1).val < r1 := (j 1).isLt
  refine ⟨by omega, by omega, ?_⟩
  rw [Memref.IsWhole.readAt_unread]
  refine congrArg x (funext fun a => Fin.ext ?_)
  match a with
  | ⟨0, _⟩ => show o0 + 1 * (j 0).val = o0 + (j 0).val; omega
  | ⟨1, _⟩ => show o1 + 1 * (j 1).val = o1 + (j 1).val; omega

/-- The same at real elements, through the function of two natural numbers. -/
theorem ldN {n0 n1 r0 r1 o0 o1 : ℕ} (m : Memref sig .tc .vmem ⟨2, ![n0, n1]⟩ .f32) (hm : m.IsWhole)
    (x : (⟨2, ![n0, n1]⟩ : Shape).Idx → Ideal .f32)
    (inb : ∀ a, ![o0, o1] a + (![r0, r1] : Fin 2 → ℕ) a ≤ (⟨2, ![n0, n1]⟩ : Shape).size a) (j : (⟨2, ![r0, r1]⟩ : Shape).Idx) :
    (View.readAt (Elt Ideal) m.view (Rect.unit (s := ⟨2, ![n0, n1]⟩) ![o0, o1] ![r0, r1] inb).toLoadRect (hm.unread x) j : EReal)
      = N2 x (o0 + (j 0).val) (o1 + (j 1).val) := by
  obtain ⟨h0, h1, h⟩ := ldU m hm x inb j
  rw [N2_ix x _ _ h0 h1]
  exact h

/-- The same at real elements, through the function of two natural numbers. -/
theorem ldNb {n0 n1 r0 r1 o0 o1 : ℕ} (m : Memref sig .tc .vmem ⟨2, ![n0, n1]⟩ .bf16) (hm : m.IsWhole)
    (x : (⟨2, ![n0, n1]⟩ : Shape).Idx → Ideal .bf16)
    (inb : ∀ a, ![o0, o1] a + (![r0, r1] : Fin 2 → ℕ) a ≤ (⟨2, ![n0, n1]⟩ : Shape).size a) (j : (⟨2, ![r0, r1]⟩ : Shape).Idx) :
    (View.readAt (Elt Ideal) m.view (Rect.unit (s := ⟨2, ![n0, n1]⟩) ![o0, o1] ![r0, r1] inb).toLoadRect (hm.unread x) j : EReal)
      = N2 x (o0 + (j 0).val) (o1 + (j 1).val) := by
  obtain ⟨h0, h1, h⟩ := ldU m hm x inb j
  rw [N2_ix x _ _ h0 h1]
  exact h

theorem goodD2 : Good (kernelRun0_B.sl.HS1_2 (F := Ideal) c i arg3 harg3 arg4 harg4 x2 x3) 1 (dyE (i 0).val x2 x3) := by
  unfold kernelRun0_B.sl.HS1_2
  refine Good.two _ _ _ _ (by omega) (fun p q => ?_) fun p q => ?_
  · rw [pay16_apply, ldN]
    unfold dyE
    rw [if_neg (show ¬ 512 + p.val < 512 by omega), Nat.add_sub_cancel_left]
    show (if (i 0).val < 15 then N2 x3 (0 + p.val) (0 + q.val) else 0) = _
    rw [Nat.zero_add, Nat.zero_add]
  · unfold k0_pay15
    rw [ValueIdx.shapeCast_ab_1ab_apply, ldN]
    unfold dyE
    have : p.val < 512 := p.isLt
    rw [if_pos (by omega)]
    show N2 x2 (0 + p.val) (0 + q.val) = N2 x2 (0 + p.val) q.val
    rw [Nat.zero_add q.val]

theorem goodC2 : Good (kernelRun0_B.sl.HS0_2 (F := Ideal) c i arg1 harg1 arg2 harg2 x0 x1) 1 (cE (i 0).val x0 x1) := by
  unfold kernelRun0_B.sl.HS0_2 kernelRun0_B.sl.v35 kernelRun0_B.sl.r_2
  refine Good.two _ _ _ _ (by omega) (fun p q => ?_) fun p q => ?_
  · rw [ValueIdx.shapeCast_ab_1ab_apply, pay5_apply, ldNb, ldNb]
    unfold cE glu
    have : p.val < 32 := p.isLt
    rw [if_pos (show 0 + p.val < 32 by omega)]
  · rw [pay4_apply, ldNb, ldNb]
    unfold cE glu
    rw [if_neg (show ¬ 32 + p.val < 32 by omega), Nat.add_sub_cancel_left]
    show N2 x0 (0 + p.val) (768 + q.val) * sgm (N2 x0 (0 + p.val) (1280 + q.val)) = _
    rw [Nat.zero_add]

theorem goodD3 : Good (kernelRun0_B.sl.HS1_3 (F := Ideal) c i arg3 harg3 arg4 harg4 arg9 x2 x3) 2 (dyE (i 0).val x2 x3) := by
  unfold kernelRun0_B.sl.HS1_3 kernelRun0_B.sl.v86 kernelRun0_B.sl.r_3 k0_pay17 kernelRun0_B.sl.v82
  refine Good.cons (goodD2 c i arg3 harg3 arg4 harg4 x2 x3) (by omega) _ _ fun x => ?_
  refine (castTwice _ _ _ _).trans ?_
  refine (Good.read (goodD2 c i arg3 harg3 arg4 harg4 x2 x3) _ _ (by omega) (by omega) _).trans ?_
  rw [Nat.zero_add]

theorem goodD4 : Good (kernelRun0_B.sl.HS1_4 (F := Ideal) c i arg3 harg3 arg4 harg4 arg9 x2 x3) 3 (dyE (i 0).val x2 x3) := by
  unfold kernelRun0_B.sl.HS1_4 kernelRun0_B.sl.v91 kernelRun0_B.sl.v88 kernelRun0_B.sl.v87
  refine Good.cons (goodD3 c i arg3 harg3 arg4 harg4 arg9 x2 x3) (by omega) _ _ fun x => ?_
  refine (castTwice _ _ _ _).trans ?_
  refine (Good.read (goodD3 c i arg3 harg3 arg4 harg4 arg9 x2 x3) _ _ (by omega) (by omega) _).trans ?_
  rw [Nat.zero_add]

theorem goodD5 : Good (kernelRun0_B.sl.HS1_5 (F := Ideal) c i arg3 harg3 arg4 harg4 arg9 x2 x3) 4 (dyE (i 0).val x2 x3) := by
  unfold kernelRun0_B.sl.HS1_5 kernelRun0_B.sl.v96 kernelRun0_B.sl.v93 kernelRun0_B.sl.v92
  refine Good.cons (goodD4 c i arg3 harg3 arg4 harg4 arg9 x2 x3) (by omega) _ _ fun x => ?_
  refine (castTwice _ _ _ _).trans ?_
  refine (Good.read (goodD4 c i arg3 harg3 arg4 harg4 arg9 x2 x3) _ _ (by omega) (by omega) _).trans ?_
  rw [Nat.zero_add]

theorem goodD6 : Good (kernelRun0_B.sl.HS1_6 (F := Ideal) c i arg3 harg3 arg4 harg4 arg9 x2 x3) 5 (dyE (i 0).val x2 x3) := by
  unfold kernelRun0_B.sl.HS1_6 kernelRun0_B.sl.v101 kernelRun0_B.sl.v98 kernelRun0_B.sl.v97
  refine Good.cons (goodD5 c i arg3 harg3 arg4 harg4 arg9 x2 x3) (by omega) _ _ fun x => ?_
  refine (castTwice _ _ _ _).trans ?_
  refine (Good.read (goodD5 c i arg3 harg3 arg4 harg4 arg9 x2 x3) _ _ (by omega) (by omega) _).trans ?_
  rw [Nat.zero_add]

theorem goodD7 : Good (kernelRun0_B.sl.HS1_7 (F := Ideal) c i arg3 harg3 arg4 harg4 arg9 x2 x3) 6 (dyE (i 0).val x2 x3) := by
  unfold kernelRun0_B.sl.HS1_7 kernelRun0_B.sl.v106 kernelRun0_B.sl.v103 kernelRun0_B.sl.v102
  refine Good.cons (goodD6 c i arg3 harg3 arg4 harg4 arg9 x2 x3) (by omega) _ _ fun x => ?_
  refine (castTwice _ _ _ _).trans ?_
  refine (Good.read (goodD6 c i arg3 harg3 arg4 harg4 arg9 x2 x3) _ _ (by omega) (by omega) _).trans ?_
  rw [Nat.zero_add]

theorem goodD8 : Good (kernelRun0_B.sl.HS1_8 (F := Ideal) c i arg3 harg3 arg4 harg4 arg9 x2 x3) 7 (dyE (i 0).val x2 x3) := by
  unfold kernelRun0_B.sl.HS1_8 k0_pay24 kernelRun0_B.sl.v108 kernelRun0_B.sl.v107
  refine Good.cons (goodD7 c i arg3 harg3 arg4 harg4 arg9 x2 x3) (by omega) _ _ fun x => ?_
  refine (castTwice _ _ _ _).trans ?_
  refine (Good.read (goodD7 c i arg3 harg3 arg4 harg4 arg9 x2 x3) _ _ (by omega) (by omega) _).trans ?_
  rw [Nat.zero_add]

theorem goodD9 : Good (kernelRun0_B.sl.HS1_9 (F := Ideal) c i arg3 harg3 arg4 harg4 arg9 x2 x3) 8 (dyE (i 0).val x2 x3) := by
  unfold kernelRun0_B.sl.HS1_9 k0_pay25 kernelRun0_B.sl.v112
  refine Good.cons (goodD8 c i arg3 harg3 arg4 harg4 arg9 x2 x3) (by omega) _ _ fun x => ?_
  refine (castTwice _ _ _ _).trans ?_
  refine (Good.read (goodD8 c i arg3 harg3 arg4 harg4 arg9 x2 x3) _ _ (by omega) (by omega) _).trans ?_
  rw [Nat.zero_add]

theorem goodC3 : Good (kernelRun0_B.sl.HS0_3 (F := Ideal) c i arg1 harg1 arg2 harg2 arg8 x0 x1) 2 (cE (i 0).val x0 x1) := by
  unfold kernelRun0_B.sl.HS0_3 kernelRun0_B.sl.v40 kernelRun0_B.sl.v37 kernelRun0_B.sl.v36
  refine Good.cons (goodC2 c i arg1 harg1 arg2 harg2 x0 x1) (by omega) _ _ fun x => ?_
  refine (castTwice _ _ _ _).trans ?_
  refine (Good.read (goodC2 c i arg1 harg1 arg2 harg2 x0 x1) _ _ (by omega) (by omega) _).trans ?_
  rw [Nat.zero_add]

theorem goodC4 : Good (kernelRun0_B.sl.HS0_4 (F := Ideal) c i arg1 harg1 arg2 harg2 arg8 x0 x1) 3 (cE (i 0).val x0 x1) := by
  unfold kernelRun0_B.sl.HS0_4 kernelRun0_B.sl.v45 kernelRun0_B.sl.v42 kernelRun0_B.sl.v41
  refine Good.cons (goodC3 c i arg1 harg1 arg2 harg2 arg8 x0 x1) (by omega) _ _ fun x => ?_
  refine (castTwice _ _ _ _).trans ?_
  refine (Good.read (goodC3 c i arg1 harg1 arg2 harg2 arg8 x0 x1) _ _ (by omega) (by omega) _).trans ?_
  rw [Nat.zero_add]

theorem goodC5 : Good (kernelRun0_B.sl.HS0_5 (F := Ideal) c i arg1 harg1 arg2 harg2 arg8 x0 x1) 4 (cE (i 0).val x0 x1) := by
  unfold kernelRun0_B.sl.HS0_5 kernelRun0_B.sl.v50 kernelRun0_B.sl.v47 kernelRun0_B.sl.v46
  refine Good.cons (goodC4 c i arg1 harg1 arg2 harg2 arg8 x0 x1) (by omega) _ _ fun x => ?_
  refine (castTwice _ _ _ _).trans ?_
  refine (Good.read (goodC4 c i arg1 harg1 arg2 harg2 arg8 x0 x1) _ _ (by omega) (by omega) _).trans ?_
  rw [Nat.zero_add]

theorem goodC6 : Good (kernelRun0_B.sl.HS0_6 (F := Ideal) c i arg1 harg1 arg2 harg2 arg8 x0 x1) 5 (cE (i 0).val x0 x1) := by
  unfold kernelRun0_B.sl.HS0_6 kernelRun0_B.sl.v55 kernelRun0_B.sl.v52 kernelRun0_B.sl.v51
  refine Good.cons (goodC5 c i arg1 harg1 arg2 harg2 arg8 x0 x1) (by omega) _ _ fun x => ?_
  refine (castTwice _ _ _ _).trans ?_
  refine (Good.read (goodC5 c i arg1 harg1 arg2 harg2 arg8 x0 x1) _ _ (by omega) (by omega) _).trans ?_
  rw [Nat.zero_add]

theorem goodC7 : Good (kernelRun0_B.sl.HS0_7 (F := Ideal) c i arg1 harg1 arg2 harg2 arg8 x0 x1) 6 (cE (i 0).val x0 x1) := by
  unfold kernelRun0_B.sl.HS0_7 k0_pay12 kernelRun0_B.sl.v57 kernelRun0_B.sl.v56
  refine Good.cons (goodC6 c i arg1 harg1 arg2 harg2 arg8 x0 x1) (by omega) _ _ fun x => ?_
  refine (castTwice _ _ _ _).trans ?_
  refine (Good.read (goodC6 c i arg1 harg1 arg2 harg2 arg8 x0 x1) _ _ (by omega) (by omega) _).trans ?_
  rw [Nat.zero_add]

theorem goodC8 : Good (kernelRun0_B.sl.HS0_8 (F := Ideal) c i arg1 harg1 arg2 harg2 arg8 x0 x1) 7 (cE (i 0).val x0 x1) := by
  unfold kernelRun0_B.sl.HS0_8 k0_pay13 kernelRun0_B.sl.v61
  refine Good.cons (goodC7 c i arg1 harg1 arg2 harg2 arg8 x0 x1) (by omega) _ _ fun x => ?_
  refine (castTwice _ _ _ _).trans ?_
  refine (Good.read (goodC7 c i arg1 harg1 arg2 harg2 arg8 x0 x1) _ _ (by omega) (by omega) _).trans ?_
  rw [Nat.zero_add]

theorem goodC9 : Good (kernelRun0_B.sl.HS0_9 (F := Ideal) c i arg1 harg1 arg2 harg2 arg8 x0 x1) 8 (cE (i 0).val x0 x1) := by
  unfold kernelRun0_B.sl.HS0_9 k0_pay14 kernelRun0_B.sl.v66
  refine Good.cons (goodC8 c i arg1 harg1 arg2 harg2 arg8 x0 x1) (by omega) _ _ fun x => ?_
  refine (castTwice _ _ _ _).trans ?_
  refine (Good.read (goodC8 c i arg1 harg1 arg2 harg2 arg8 x0 x1) _ _ (by omega) (by omega) _).trans ?_
  rw [Nat.zero_add]

end Conv
-- ==== Proof.Conv.Loads.lean ====
/- Loads of the run, and the elementwise reads its payloads are made of. -/
module

public import proofs.«01_k».proof.Proof.Conv.Copies

@[expose] public section

set_option maxRecDepth 16384

noncomputable section

namespace Conv

open Idealize.ShloMosaic Idealize.ShloMosaic.TcCoe Idealize.SL.Sem
open Cert.KernelIdeal Cert.KernelIdeal.Gen

section Elementwise

variable {n : ℕ}

theorem mulf_at (a b : FVec Ideal ⟨2, ![n, 512]⟩ .f32) (p : Fin n) (q : Fin 512) :
    (mulf a b (ValueIdx.ix2 p q) : EReal) = a (ValueIdx.ix2 p q) * b (ValueIdx.ix2 p q) := rfl
theorem addf_at (a b : FVec Ideal ⟨2, ![n, 512]⟩ .f32) (p : Fin n) (q : Fin 512) :
    (addf a b (ValueIdx.ix2 p q) : EReal) = a (ValueIdx.ix2 p q) + b (ValueIdx.ix2 p q) := rfl
theorem subf_at (a b : FVec Ideal ⟨2, ![n, 512]⟩ .f32) (p : Fin n) (q : Fin 512) :
    (subf a b (ValueIdx.ix2 p q) : EReal) = a (ValueIdx.ix2 p q) - b (ValueIdx.ix2 p q) := rfl
theorem truncf_at (a : FVec Ideal ⟨2, ![n, 512]⟩ .f32) (h : FTy.bf16.bits < FTy.f32.bits) (p : Fin n) (q : Fin 512) :
    (truncf .bf16 a h (ValueIdx.ix2 p q) : EReal) = a (ValueIdx.ix2 p q) := rfl
theorem zero_at (p : Fin n) (q : Fin 512) :
    (broadcast (⟨2, ![n, 512]⟩ : Shape) (Scalar.ofBits (F := Ideal) .f32 0x00000000#32) (ValueIdx.ix2 p q) : EReal) = 0 := by
  show (Ideal.ofBits .f32 0x00000000#32 : EReal) = 0
  pointwise
theorem one_at (p : Fin n) (q : Fin 512) :
    (broadcast (⟨2, ![n, 512]⟩ : Shape) (Scalar.ofBits (F := Ideal) .f32 0x3F800000#32) (ValueIdx.ix2 p q) : EReal) = 1 := by
  show (Ideal.ofBits .f32 0x3F800000#32 : EReal) = 1
  pointwise
theorem row_at (w : FVec Ideal ⟨2, ![1, 512]⟩ .f32) (h : (⟨2, ![1, 512]⟩ : Shape).Broadcasts ⟨2, ![n, 512]⟩) (p : Fin n) (q : Fin 512) :
    (broadcastTo ⟨2, ![n, 512]⟩ w h (ValueIdx.ix2 p q) : EReal) = w (ValueIdx.ix2 (0 : Fin 1) q) := by
  refine congrArg w (funext fun a => Fin.ext ?_)
  match a with
  | ⟨0, _⟩ => rfl
  | ⟨1, _⟩ => rfl
theorem cut_at {o : ℕ} (x : FVec Ideal S512x512 .f32) (h : S512x512.Slices ![o, 0] ⟨2, ![n, 512]⟩) (p : Fin n) (q : Fin 512) (hp : o + p.val < 512) :
    (extractStridedSlice ⟨2, ![n, 512]⟩ ![o, 0] x h (ValueIdx.ix2 p q) : EReal) = x (ValueIdx.ix2 (⟨o + p.val, hp⟩ : Fin 512) q) := by
  refine congrArg x (funext fun a => Fin.ext ?_)
  match a with
  | ⟨0, _⟩ => rfl
  | ⟨1, _⟩ => exact Nat.zero_add _

end Elementwise

variable (c : Dev nD) (i : grid0.Coords)
  (arg1 : Memref sig .tc .vmem S512x1792 .bf16) (harg1 : arg1.IsWhole) (arg2 : Memref sig .tc .vmem S32x1792 .bf16) (harg2 : arg2.IsWhole)
  (arg3 : Memref sig .tc .vmem S512x512 .f32) (harg3 : arg3.IsWhole) (arg4 : Memref sig .tc .vmem S32x512 .f32) (harg4 : arg4.IsWhole)
  (arg5 : Memref sig .tc .vmem S31x512 .f32) (harg5 : arg5.IsWhole)
  (arg8 arg9 : Memref sig .tc .vmem S8x544x512 .f32)
  (x0 : Vec Ideal S512x1792 .bf16) (x1 : Vec Ideal S32x1792 .bf16) (x2 : Vec Ideal S512x512 .f32) (x3 : Vec Ideal S32x512 .f32)
  (x4 : Vec Ideal S31x512 .f32)

/-- A load of 64 rows of the copies of `dy`. -/
theorem loadD {p q : ℕ} (inb : ∀ a, ![p, q, 0] a + (![1, 64, 512] : Fin 3 → ℕ) a ≤ S8x544x512.size a)
    (hp : p < 8) (hq : p = 0 ∨ q + 64 ≤ 536) (a : Fin 64) (b : Fin 512) :
    (arg9.view.readCov (kernelRun0_B.sl.HS1_9 (F := Ideal) c i arg3 harg3 arg4 harg4 arg9 x2 x3)
      (Rect.unit (s := S8x544x512) ![p, q, 0] ![1, 64, 512] inb).toLoadRect (ValueIdx.ix3 (0 : Fin 1) a b) : EReal)
      = dyE (i 0).val x2 x3 (p + q + a.val) b.val :=
  Good.read (goodD9 c i arg3 harg3 arg4 harg4 arg9 x2 x3) _ inb hp hq _

/-- A load of 64 rows of the copies of the gated values. -/
theorem loadC {p q : ℕ} (inb : ∀ a, ![p, q, 0] a + (![1, 64, 512] : Fin 3 → ℕ) a ≤ S8x544x512.size a)
    (hp : p < 8) (hq : p = 0 ∨ q + 64 ≤ 536) (a : Fin 64) (b : Fin 512) :
    (arg8.view.readCov (kernelRun0_B.sl.HS0_9 (F := Ideal) c i arg1 harg1 arg2 harg2 arg8 x0 x1)
      (Rect.unit (s := S8x544x512) ![p, q, 0] ![1, 64, 512] inb).toLoadRect (ValueIdx.ix3 (0 : Fin 1) a b) : EReal)
      = cE (i 0).val x0 x1 (p + q + a.val) b.val :=
  Good.read (goodC9 c i arg1 harg1 arg2 harg2 arg8 x0 x1) _ inb hp hq _

/-- A load of one row of the weights. -/
theorem loadW {j : ℕ} (inb : ∀ a, ![j, 0] a + (![1, 512] : Fin 2 → ℕ) a ≤ S31x512.size a) (q : Fin 512) :
    (View.readAt (Elt Ideal) arg5.view (Rect.unit (s := S31x512) ![j, 0] ![1, 512] inb).toLoadRect (harg5.unread x4) (ValueIdx.ix2 (0 : Fin 1) q) : EReal)
      = N2 x4 j q.val := by
  refine (ldN arg5 harg5 x4 inb _).trans ?_
  show N2 x4 (j + 0) (0 + q.val) = _
  rw [Nat.zero_add]; rfl

/-- A load of 64 rows of the block of `dy`. -/
theorem loadY {o : ℕ} (inb : ∀ a, ![o, 0] a + (![64, 512] : Fin 2 → ℕ) a ≤ S512x512.size a) (p : Fin 64) (q : Fin 512) :
    (View.readAt (Elt Ideal) arg3.view (Rect.unit (s := S512x512) ![o, 0] ![64, 512] inb).toLoadRect (harg3.unread x2) (ValueIdx.ix2 p q) : EReal)
      = N2 x2 (o + p.val) q.val := by
  refine (ldN arg3 harg3 x2 inb _).trans ?_
  show N2 x2 (o + p.val) (0 + q.val) = _
  rw [Nat.zero_add]

/-- The gate's value rows, cut from the block. -/
theorem rowsA {o : ℕ} (h : S512x512.Slices ![o, 0] S64x512) (p : Fin 64) (q : Fin 512) (ho : o ≤ 448) :
    (extractStridedSlice S64x512 ![o, 0] (kernelRun0_B.sl.r (F := Ideal) c arg1 harg1 x0) h (ValueIdx.ix2 p q) : EReal)
      = N2 x0 (o + p.val) (768 + q.val) := by
  rw [cut_at _ h p q (by omega)]
  unfold kernelRun0_B.sl.r
  rw [pay2_apply, ldNb]
  show N2 x0 (0 + (o + p.val)) _ = _
  rw [Nat.zero_add]

theorem rowsS {o : ℕ} (h : S512x512.Slices ![o, 0] S64x512) (p : Fin 64) (q : Fin 512) (ho : o ≤ 448) :
    (extractStridedSlice S64x512 ![o, 0] (kernelRun0_B.sl.r_1 (F := Ideal) c arg1 harg1 x0) h (ValueIdx.ix2 p q) : EReal)
      = sgm (N2 x0 (o + p.val) (1280 + q.val)) := by
  rw [cut_at _ h p q (by omega)]
  unfold kernelRun0_B.sl.r_1
  rw [pay3_apply, ldNb]
  show sgm (N2 x0 (0 + (o + p.val)) _) = _
  rw [Nat.zero_add]

/-- The convolution's gradient at row `ρ` of a block: 31 shifted rows of `dy` weighted and added. -/
def accE (ip : ℕ) (x2 : S512x512.Idx → EReal) (x3 : S32x512.Idx → EReal) (x4 : S31x512.Idx → EReal) (ρ ch : ℕ) : EReal :=
  ∑ j ∈ Finset.range 31, dyE ip x2 x3 (30 - j + ρ) ch * N2 x4 j ch

end Conv
-- ==== Proof.Conv.Part.lean ====
/- The scratch of partial sums: eight tiles of rows are added into 31 slots, one slot after the other, and each slot is
   folded into its row of the weight gradient. The steps, for any list of stores. -/
module

public import proofs.«01_k».proof.Proof.Conv.Loads

@[expose] public section

set_option maxRecDepth 16384

noncomputable section

namespace Conv

open Idealize.ShloMosaic Idealize.ShloMosaic.TcCoe Idealize.SL.Sem
open Cert.KernelIdeal Cert.KernelIdeal.Gen

theorem addUnit' {n : ℕ} (x : (⟨2, ![n, 512]⟩ : Shape).Idx → EReal) (h : (⟨2, ![n, 512]⟩ : Shape).ShapeCasts ⟨3, ![1, n, 512]⟩)
    (p : Fin n) (q : Fin 512) : shapeCast ⟨3, ![1, n, 512]⟩ x h (ValueIdx.ix3 (0 : Fin 1) p q) = x (ValueIdx.ix2 p q) :=
  addUnit x h _

/-- A tile of 64 rows times 64 rows, added over the eight groups of eight rows. -/
def partPay (y : FVec Ideal S64x512 .f32) (cl : Vec Ideal S1x64x512 .f32) : FVec Ideal S8x512 .f32 :=
  multiReduction .add [0] S8x512 (shapeCast S8x8x512 (mulf y (shapeCast S64x512 cl shapeCasts_S1x64x512_S64x512))
    shapeCasts_S64x512_S8x8x512) 0x00000000#32 reduces_S8x8x512_S8x512 (.inl rfl) rfl

/-- The first tile's store. -/
def firstPay (y : FVec Ideal S64x512 .f32) (cl : Vec Ideal S1x64x512 .f32) : FVec Ideal S1x8x512 .f32 :=
  shapeCast S1x8x512 (partPay y cl) shapeCasts_S8x512_S1x8x512

/-- A later tile's store. -/
def stepPay (y : FVec Ideal S64x512 .f32) (cl : Vec Ideal S1x64x512 .f32) (old : Vec Ideal S1x8x512 .f32) : FVec Ideal S1x8x512 .f32 :=
  shapeCast S1x8x512 (addf (partPay y cl) (shapeCast S8x512 old shapeCasts_S1x8x512_S8x512)) shapeCasts_S8x512_S1x8x512

/-- The store of one row of the weight gradient. -/
def rowPay (prev : Vec Ideal S1x512 .f32) (part : Vec Ideal S1x8x512 .f32) : FVec Ideal S1x512 .f32 :=
  addf (shapeCast S1x512 prev shapeCasts_S1x512_S1x512)
    (shapeCast S1x512 (multiReduction .add [0] S512 (shapeCast S8x512 part shapeCasts_S1x8x512_S8x512) 0x00000000#32
      reduces_S8x512_S512 (.inl rfl) rfl) shapeCasts_S512_S1x512)

theorem partPay_at (y : FVec Ideal S64x512 .f32) (cl : Vec Ideal S1x64x512 .f32) (s : Fin 8) (q : Fin 512) :
    (partPay y cl (ValueIdx.ix2 s q) : EReal) = ∑ a : Fin 8,
      y (ValueIdx.ix2 (⟨a.val * 8 + s.val, by omega⟩ : Fin 64) q) * cl (ValueIdx.ix3 (0 : Fin 1) (⟨a.val * 8 + s.val, by omega⟩ : Fin 64) q) := by
  pointwise [partPay]
  refine Finset.sum_congr rfl fun a _ => ?_
  congr 1

theorem rowPay_at (prev : Vec Ideal S1x512 .f32) (part : Vec Ideal S1x8x512 .f32) (q : Fin 512) :
    (rowPay prev part (ValueIdx.ix2 (0 : Fin 1) q) : EReal)
      = prev (ValueIdx.ix2 (0 : Fin 1) q) + ∑ s : Fin 8, part (ValueIdx.ix3 (0 : Fin 1) s q) := by
  pointwise [rowPay]
  refine congrArg (fun z : EReal => (prev (ValueIdx.ix2 0 q) : EReal) + z) (Finset.sum_congr rfl fun a _ => ?_)
  rfl

/-- What one tile adds to slot `j`, sublane `s`, channel `ch`. -/
def tileE (ip : ℕ) (x0 : S512x1792.Idx → EReal) (x1 : S32x1792.Idx → EReal) (x2 : S512x512.Idx → EReal) (t j s ch : ℕ) : EReal :=
  ∑ a : Fin 8, N2 x2 (64 * t + (a.val * 8 + s)) ch * cE ip x0 x1 (2 + j + 64 * t + (a.val * 8 + s)) ch

/-- Slots below `j` hold `t + 1` tiles, the others `t` (and anything where `t` is zero). -/
def PInv (ip : ℕ) (x0 : S512x1792.Idx → EReal) (x1 : S32x1792.Idx → EReal) (x2 : S512x512.Idx → EReal)
    (L : List (View.Piece (Elt Ideal) S31x8x512 .f32)) (t j : ℕ) : Prop :=
  ∀ y : S31x8x512.Idx,
    ((y 0).val < j → (View.canon (Val := Elt Ideal) L y : EReal) = ∑ k ∈ Finset.range (t + 1), tileE ip x0 x1 x2 k (y 0).val (y 1).val (y 2).val) ∧
    (j ≤ (y 0).val → 0 < t → (View.canon (Val := Elt Ideal) L y : EReal) = ∑ k ∈ Finset.range t, tileE ip x0 x1 x2 k (y 0).val (y 1).val (y 2).val)

section Steps

variable {c : Dev nD} {i : grid0.Coords}
  {arg1 : Memref sig .tc .vmem S512x1792 .bf16} {harg1 : arg1.IsWhole} {arg2 : Memref sig .tc .vmem S32x1792 .bf16} {harg2 : arg2.IsWhole}
  {arg3 : Memref sig .tc .vmem S512x512 .f32} {harg3 : arg3.IsWhole}
  {arg8 : Memref sig .tc .vmem S8x544x512 .f32} {arg10 : Memref sig .tc .vmem S31x8x512 .f32}
  {x0 : Vec Ideal S512x1792 .bf16} {x1 : Vec Ideal S32x1792 .bf16} {x2 : Vec Ideal S512x512 .f32}
  {L : List (View.Piece (Elt Ideal) S31x8x512 .f32)} {t j p q : ℕ}

theorem PInv.nil (ip : ℕ) (x0 : S512x1792.Idx → EReal) (x1 : S32x1792.Idx → EReal) (x2 : S512x512.Idx → EReal) :
    PInv ip x0 x1 x2 [] 0 0 :=
  fun _ => ⟨fun h => absurd h (Nat.not_lt_zero _), fun _ h => absurd h (Nat.lt_irrefl _)⟩

theorem PInv.roll {ip : ℕ} {x0 : S512x1792.Idx → EReal} {x1 : S32x1792.Idx → EReal} {x2 : S512x512.Idx → EReal} {t' : ℕ}
    (h : PInv ip x0 x1 x2 L t 31) (ht : t + 1 = t' := by rfl) : PInv ip x0 x1 x2 L t' 0 := by
  subst ht
  exact fun y => ⟨fun h' => absurd h' (Nat.not_lt_zero _), fun _ _ => (h y).1 (y 0).isLt⟩

/-- A slot stored anew. -/
theorem PInv.put {ip : ℕ} {x0 : S512x1792.Idx → EReal} {x1 : S32x1792.Idx → EReal} {x2 : S512x512.Idx → EReal}
    (h : PInv ip x0 x1 x2 L t j) (inb : ∀ a, ![j, 0, 0] a + (![1, 8, 512] : Fin 3 → ℕ) a ≤ S31x8x512.size a)
    (w : S1x8x512.Idx → Ideal .f32)
    (hw : ∀ (s : Fin 8) (q : Fin 512), (w (ValueIdx.ix3 (0 : Fin 1) s q) : EReal)
      = ∑ k ∈ Finset.range (t + 1), tileE ip x0 x1 x2 k j s.val q.val) :
    PInv ip x0 x1 x2 ((⟨Rect.unit (s := S31x8x512) ![j, 0, 0] ![1, 8, 512] inb, w⟩ : View.Piece (Elt Ideal) S31x8x512 .f32) :: L) t (j + 1) := by
  intro y
  by_cases hy : (y 0).val = j
  · have e : (Rect.unit (s := S31x8x512) ![j, 0, 0] ![1, 8, 512] inb).emb (ValueIdx.ix3 (0 : Fin 1) (y 1) (y 2)) = y := by
      refine Rect.emb_eq_of_coords _ _ _ fun a => ?_
      match a with
      | ⟨0, _⟩ => show (y 0).val = j + 1 * 0; omega
      | ⟨1, _⟩ => show (y 1).val = 0 + 1 * (y 1).val; omega
      | ⟨2, _⟩ => show (y 2).val = 0 + 1 * (y 2).val; omega
    have hc := View.canon_cons_emb (Val := Elt Ideal) (e := .f32) (Rect.unit (s := S31x8x512) ![j, 0, 0] ![1, 8, 512] inb) w L
      (ValueIdx.ix3 (0 : Fin 1) (y 1) (y 2))
    rw [e] at hc
    refine ⟨fun _ => ?_, fun h' => absurd h' (by omega)⟩
    rw [hc, hy]
    exact hw (y 1) (y 2)
  · rw [View.canon_cons_of_not_mem _ _ (Rect.not_mem_set_of_axis _ y 0 j 1 rfl rfl rfl (by omega))]
    exact ⟨fun h' => (h y).1 (by omega), fun h' => (h y).2 (by omega)⟩

/-- What a load of a slot reads. -/
theorem slot_at (inb : ∀ a, ![j, 0, 0] a + (![1, 8, 512] : Fin 3 → ℕ) a ≤ S31x8x512.size a) (hj : j < 31) (s : Fin 8) (q : Fin 512) :
    arg10.view.readCov L (Rect.unit (s := S31x8x512) ![j, 0, 0] ![1, 8, 512] inb).toLoadRect (ValueIdx.ix3 (0 : Fin 1) s q)
      = View.canon (Val := Elt Ideal) L (ValueIdx.ix3 (⟨j, hj⟩ : Fin 31) s q) := by
  rw [View.readCov_eq_canon']
  refine congrArg (View.canon (Val := Elt Ideal) L) (funext fun a => Fin.ext ?_)
  match a with
  | ⟨0, _⟩ => show j + 1 * 0 = j; omega
  | ⟨1, _⟩ => show 0 + 1 * s.val = s.val; omega
  | ⟨2, _⟩ => show 0 + 1 * q.val = q.val; omega

/-- The tile's part of a store, from the loads it is made of. -/
theorem part_of_loads (iy : ∀ a, ![64 * t, 0] a + (![64, 512] : Fin 2 → ℕ) a ≤ S512x512.size a)
    (ic : ∀ a, ![p, q, 0] a + (![1, 64, 512] : Fin 3 → ℕ) a ≤ S8x544x512.size a)
    (hp : p < 8) (hq : p = 0 ∨ q + 64 ≤ 536) (hpq : p + q = 2 + j + 64 * t) (s : Fin 8) (ch : Fin 512) :
    (partPay (View.readAt (Elt Ideal) arg3.view (Rect.unit (s := S512x512) ![64 * t, 0] ![64, 512] iy).toLoadRect (harg3.unread x2))
      (arg8.view.readCov (kernelRun0_B.sl.HS0_9 (F := Ideal) c i arg1 harg1 arg2 harg2 arg8 x0 x1)
        (Rect.unit (s := S8x544x512) ![p, q, 0] ![1, 64, 512] ic).toLoadRect) (ValueIdx.ix2 s ch) : EReal)
      = tileE (i 0).val x0 x1 x2 t j s.val ch.val := by
  rw [partPay_at]
  unfold tileE
  refine Finset.sum_congr rfl fun a _ => ?_
  rw [loadY, loadC _ _ _ _ _ _ _ _ _ ic hp hq, hpq]

theorem PInv.first {j' y : ℕ} (h : PInv (i 0).val x0 x1 x2 L 0 j)
    (inb : ∀ a, ![j, 0, 0] a + (![1, 8, 512] : Fin 3 → ℕ) a ≤ S31x8x512.size a)
    (iy : ∀ a, ![y, 0] a + (![64, 512] : Fin 2 → ℕ) a ≤ S512x512.size a)
    (ic : ∀ a, ![p, q, 0] a + (![1, 64, 512] : Fin 3 → ℕ) a ≤ S8x544x512.size a)
    (hy : y = 0 := by rfl) (hp : p < 8 := by decide) (hq : p = 0 ∨ q + 64 ≤ 536 := by decide) (hpq : p + q = 2 + j := by rfl)
    (hj' : j + 1 = j' := by rfl) :
    PInv (i 0).val x0 x1 x2 ((⟨Rect.unit (s := S31x8x512) ![j, 0, 0] ![1, 8, 512] inb,
      firstPay (View.readAt (Elt Ideal) arg3.view (Rect.unit (s := S512x512) ![y, 0] ![64, 512] iy).toLoadRect (harg3.unread x2))
        (arg8.view.readCov (kernelRun0_B.sl.HS0_9 (F := Ideal) c i arg1 harg1 arg2 harg2 arg8 x0 x1)
          (Rect.unit (s := S8x544x512) ![p, q, 0] ![1, 64, 512] ic).toLoadRect)⟩ : View.Piece (Elt Ideal) S31x8x512 .f32) :: L) 0 j' := by
  subst hj' hy
  refine h.put inb _ fun s ch => ?_
  unfold firstPay
  rw [addUnit']
  refine (part_of_loads (t := 0) iy ic hp hq hpq s ch).trans ?_
  rw [Finset.sum_range_one]

theorem PInv.step {j' y : ℕ} (h : PInv (i 0).val x0 x1 x2 L t j)
    (inb : ∀ a, ![j, 0, 0] a + (![1, 8, 512] : Fin 3 → ℕ) a ≤ S31x8x512.size a)
    (inb' : ∀ a, ![j, 0, 0] a + (![1, 8, 512] : Fin 3 → ℕ) a ≤ S31x8x512.size a)
    (iy : ∀ a, ![y, 0] a + (![64, 512] : Fin 2 → ℕ) a ≤ S512x512.size a)
    (ic : ∀ a, ![p, q, 0] a + (![1, 64, 512] : Fin 3 → ℕ) a ≤ S8x544x512.size a)
    (hy : y = 64 * t := by rfl) (ht : 0 < t := by decide) (hj : j < 31 := by decide)
    (hp : p < 8 := by decide) (hq : p = 0 ∨ q + 64 ≤ 536 := by decide) (hpq : p + q = 2 + j + 64 * t := by rfl)
    (hj' : j + 1 = j' := by rfl) :
    PInv (i 0).val x0 x1 x2 ((⟨Rect.unit (s := S31x8x512) ![j, 0, 0] ![1, 8, 512] inb,
      stepPay (View.readAt (Elt Ideal) arg3.view (Rect.unit (s := S512x512) ![y, 0] ![64, 512] iy).toLoadRect (harg3.unread x2))
        (arg8.view.readCov (kernelRun0_B.sl.HS0_9 (F := Ideal) c i arg1 harg1 arg2 harg2 arg8 x0 x1)
          (Rect.unit (s := S8x544x512) ![p, q, 0] ![1, 64, 512] ic).toLoadRect)
        (arg10.view.readCov L (Rect.unit (s := S31x8x512) ![j, 0, 0] ![1, 8, 512] inb').toLoadRect)⟩ : View.Piece (Elt Ideal) S31x8x512 .f32) :: L) t j' := by
  subst hj' hy
  refine h.put inb _ fun s ch => ?_
  unfold stepPay
  rw [addUnit']
  show (partPay _ _ (ValueIdx.ix2 s ch) : EReal) + shapeCast S8x512 _ _ (ValueIdx.ix2 s ch) = _
  rw [part_of_loads iy ic hp hq hpq s ch, dropUnit, slot_at inb' hj s ch, (h _).2 (le_refl j) ht, Finset.sum_range_succ]
  exact add_comm _ _

end Steps

end Conv
-- ==== Proof.Conv.PartsA.lean ====
/- The partial sums after each store of the first tiles. -/
module

public import proofs.«01_k».proof.Proof.Conv.Part

@[expose] public section

set_option maxRecDepth 16384
set_option maxHeartbeats 1000000

noncomputable section

namespace Conv

open Idealize.ShloMosaic Idealize.ShloMosaic.TcCoe Idealize.SL.Sem
open Cert.KernelIdeal Cert.KernelIdeal.Gen

variable (c : Dev nD) (i : grid0.Coords)
  (arg1 : Memref sig .tc .vmem S512x1792 .bf16) (harg1 : arg1.IsWhole) (arg2 : Memref sig .tc .vmem S32x1792 .bf16) (harg2 : arg2.IsWhole)
  (arg3 : Memref sig .tc .vmem S512x512 .f32) (harg3 : arg3.IsWhole)
  (arg8 : Memref sig .tc .vmem S8x544x512 .f32) (arg10 : Memref sig .tc .vmem S31x8x512 .f32)
  (x0 : Vec Ideal S512x1792 .bf16) (x1 : Vec Ideal S32x1792 .bf16) (x2 : Vec Ideal S512x512 .f32)

theorem part31 : PInv (i 0).val x0 x1 x2 (kernelRun0_B.sl.HS2_31 (F := Ideal) c i arg1 harg1 arg2 harg2 arg3 harg3 arg8 x0 x1 x2) 0 31 :=
  (PInv.first (PInv.first (PInv.first (PInv.first (PInv.first (PInv.first (PInv.first (PInv.first (PInv.first (PInv.first (PInv.first (PInv.first (PInv.first (PInv.first (PInv.first (PInv.first (PInv.first (PInv.first (PInv.first (PInv.first (PInv.first (PInv.first (PInv.first (PInv.first (PInv.first (PInv.first (PInv.first (PInv.first (PInv.first (PInv.first (PInv.first (PInv.nil _ _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _)

theorem part32 : PInv (i 0).val x0 x1 x2 (kernelRun0_B.sl.HS2_32 (F := Ideal) c i arg1 harg1 arg2 harg2 arg3 harg3 arg8 arg10 x0 x1 x2) 1 1 :=
  PInv.step ((part31 c i arg1 harg1 arg2 harg2 arg3 harg3 arg8 x0 x1 x2).roll) _ _ _ _

theorem part33 : PInv (i 0).val x0 x1 x2 (kernelRun0_B.sl.HS2_33 (F := Ideal) c i arg1 harg1 arg2 harg2 arg3 harg3 arg8 arg10 x0 x1 x2) 1 2 :=
  PInv.step (part32 c i arg1 harg1 arg2 harg2 arg3 harg3 arg8 arg10 x0 x1 x2) _ _ _ _

theorem part34 : PInv (i 0).val x0 x1 x2 (kernelRun0_B.sl.HS2_34 (F := Ideal) c i arg1 harg1 arg2 harg2 arg3 harg3 arg8 arg10 x0 x1 x2) 1 3 :=
  PInv.step (part33 c i arg1 harg1 arg2 harg2 arg3 harg3 arg8 arg10 x0 x1 x2) _ _ _ _

theorem part35 : PInv (i 0).val x0 x1 x2 (kernelRun0_B.sl.HS2_35 (F := Ideal) c i arg1 harg1 arg2 harg2 arg3 harg3 arg8 arg10 x0 x1 x2) 1 4 :=
  PInv.step (part34 c i arg1 harg1 arg2 harg2 arg3 harg3 arg8 arg10 x0 x1 x2) _ _ _ _

theorem part36 : PInv (i 0).val x0 x1 x2 (kernelRun0_B.sl.HS2_36 (F := Ideal) c i arg1 harg1 arg2 harg2 arg3 harg3 arg8 arg10 x0 x1 x2) 1 5 :=
  PInv.step (part35 c i arg1 harg1 arg2 harg2 arg3 harg3 arg8 arg10 x0 x1 x2) _ _ _ _

theorem part37 : PInv (i 0).val x0 x1 x2 (kernelRun0_B.sl.HS2_37 (F := Ideal) c i arg1 harg1 arg2 harg2 arg3 harg3 arg8 arg10 x0 x1 x2) 1 6 :=
  PInv.step (part36 c i arg1 harg1 arg2 harg2 arg3 harg3 arg8 arg10 x0 x1 x2) _ _ _ _

theorem part38 : PInv (i 0).val x0 x1 x2 (kernelRun0_B.sl.HS2_38 (F := Ideal) c i arg1 harg1 arg2 harg2 arg3 harg3 arg8 arg10 x0 x1 x2) 1 7 :=
  PInv.step (part37 c i arg1 harg1 arg2 harg2 arg3 harg3 arg8 arg10 x0 x1 x2) _ _ _ _

theorem part39 : PInv (i 0).val x0 x1 x2 (kernelRun0_B.sl.HS2_39 (F := Ideal) c i arg1 harg1 arg2 harg2 arg3 harg3 arg8 arg10 x0 x1 x2) 1 8 :=
  PInv.step (part38 c i arg1 harg1 arg2 harg2 arg3 harg3 arg8 arg10 x0 x1 x2) _ _ _ _

theorem part40 : PInv (i 0).val x0 x1 x2 (kernelRun0_B.sl.HS2_40 (F := Ideal) c i arg1 harg1 arg2 harg2 arg3 harg3 arg8 arg10 x0 x1 x2) 1 9 :=
  PInv.step (part39 c i arg1 harg1 arg2 harg2 arg3 harg3 arg8 arg10 x0 x1 x2) _ _ _ _

theorem part41 : PInv (i 0).val x0 x1 x2 (kernelRun0_B.sl.HS2_41 (F := Ideal) c i arg1 harg1 arg2 harg2 arg3 harg3 arg8 arg10 x0 x1 x2) 1 10 :=
  PInv.step (part40 c i arg1 harg1 arg2 harg2 arg3 harg3 arg8 arg10 x0 x1 x2) _ _ _ _

theorem part42 : PInv (i 0).val x0 x1 x2 (kernelRun0_B.sl.HS2_42 (F := Ideal) c i arg1 harg1 arg2 harg2 arg3 harg3 arg8 arg10 x0 x1 x2) 1 11 :=
  PInv.step (part41 c i arg1 harg1 arg2 harg2 arg3 harg3 arg8 arg10 x0 x1 x2) _ _ _ _

theorem part43 : PInv (i 0).val x0 x1 x2 (kernelRun0_B.sl.HS2_43 (F := Ideal) c i arg1 harg1 arg2 harg2 arg3 harg3 arg8 arg10 x0 x1 x2) 1 12 :=
  PInv.step (part42 c i arg1 harg1 arg2 harg2 arg3 harg3 arg8 arg10 x0 x1 x2) _ _ _ _

theorem part44 : PInv (i 0).val x0 x1 x2 (kernelRun0_B.sl.HS2_44 (F := Ideal) c i arg1 harg1 arg2 harg2 arg3 harg3 arg8 arg10 x0 x1 x2) 1 13 :=
  PInv.step (part43 c i arg1 harg1 arg2 harg2 arg3 harg3 arg8 arg10 x0 x1 x2) _ _ _ _

theorem part45 : PInv (i 0).val x0 x1 x2 (kernelRun0_B.sl.HS2_45 (F := Ideal) c i arg1 harg1 arg2 harg2 arg3 harg3 arg8 arg10 x0 x1 x2) 1 14 :=
  PInv.step (part44 c i arg1 harg1 arg2 harg2 arg3 harg3 arg8 arg10 x0 x1 x2) _ _ _ _

theorem part46 : PInv (i 0).val x0 x1 x2 (kernelRun0_B.sl.HS2_46 (F := Ideal) c i arg1 harg1 arg2 harg2 arg3 harg3 arg8 arg10 x0 x1 x2) 1 15 :=
  PInv.step (part45 c i arg1 harg1 arg2 harg2 arg3 harg3 arg8 arg10 x0 x1 x2) _ _ _ _

theorem part47 : PInv (i 0).val x0 x1 x2 (kernelRun0_B.sl.HS2_47 (F := Ideal) c i arg1 harg1 arg2 harg2 arg3 harg3 arg8 arg10 x0 x1 x2) 1 16 :=
  PInv.step (part46 c i arg1 harg1 arg2 harg2 arg3 harg3 arg8 arg10 x0 x1 x2) _ _ _ _

theorem part48 : PInv (i 0).val x0 x1 x2 (kernelRun0_B.sl.HS2_48 (F := Ideal) c i arg1 harg1 arg2 harg2 arg3 harg3 arg8 arg10 x0 x1 x2) 1 17 :=
  PInv.step (part47 c i arg1 harg1 arg2 harg2 arg3 harg3 arg8 arg10 x0 x1 x2) _ _ _ _

theorem part49 : PInv (i 0).val x0 x1 x2 (kernelRun0_B.sl.HS2_49 (F := Ideal) c i arg1 harg1 arg2 harg2 arg3 harg3 arg8 arg10 x0 x1 x2) 1 18 :=
  PInv.step (part48 c i arg1 harg1 arg2 harg2 arg3 harg3 arg8 arg10 x0 x1 x2) _ _ _ _

theorem part50 : PInv (i 0).val x0 x1 x2 (kernelRun0_B.sl.HS2_50 (F := Ideal) c i arg1 harg1 arg2 harg2 arg3 harg3 arg8 arg10 x0 x1 x2) 1 19 :=
  PInv.step (part49 c i arg1 harg1 arg2 harg2 arg3 harg3 arg8 arg10 x0 x1 x2) _ _ _ _

theorem part51 : PInv (i 0).val x0 x1 x2 (kernelRun0_B.sl.HS2_51 (F := Ideal) c i arg1 harg1 arg2 harg2 arg3 harg3 arg8 arg10 x0 x1 x2) 1 20 :=
  PInv.step (part50 c i arg1 harg1 arg2 harg2 arg3 harg3 arg8 arg10 x0 x1 x2) _ _ _ _

theorem part52 : PInv (i 0).val x0 x1 x2 (kernelRun0_B.sl.HS2_52 (F := Ideal) c i arg1 harg1 arg2 harg2 arg3 harg3 arg8 arg10 x0 x1 x2) 1 21 :=
  PInv.step (part51 c i arg1 harg1 arg2 harg2 arg3 harg3 arg8 arg10 x0 x1 x2) _ _ _ _

theorem part53 : PInv (i 0).val x0 x1 x2 (kernelRun0_B.sl.HS2_53 (F := Ideal) c i arg1 harg1 arg2 harg2 arg3 harg3 arg8 arg10 x0 x1 x2) 1 22 :=
  PInv.step (part52 c i arg1 harg1 arg2 harg2 arg3 harg3 arg8 arg10 x0 x1 x2) _ _ _ _

theorem part54 : PInv (i 0).val x0 x1 x2 (kernelRun0_B.sl.HS2_54 (F := Ideal) c i arg1 harg1 arg2 harg2 arg3 harg3 arg8 arg10 x0 x1 x2) 1 23 :=
  PInv.step (part53 c i arg1 harg1 arg2 harg2 arg3 harg3 arg8 arg10 x0 x1 x2) _ _ _ _

theorem part55 : PInv (i 0).val x0 x1 x2 (kernelRun0_B.sl.HS2_55 (F := Ideal) c i arg1 harg1 arg2 harg2 arg3 harg3 arg8 arg10 x0 x1 x2) 1 24 :=
  PInv.step (part54 c i arg1 harg1 arg2 harg2 arg3 harg3 arg8 arg10 x0 x1 x2) _ _ _ _

theorem part56 : PInv (i 0).val x0 x1 x2 (kernelRun0_B.sl.HS2_56 (F := Ideal) c i arg1 harg1 arg2 harg2 arg3 harg3 arg8 arg10 x0 x1 x2) 1 25 :=
  PInv.step (part55 c i arg1 harg1 arg2 harg2 arg3 harg3 arg8 arg10 x0 x1 x2) _ _ _ _

theorem part57 : PInv (i 0).val x0 x1 x2 (kernelRun0_B.sl.HS2_57 (F := Ideal) c i arg1 harg1 arg2 harg2 arg3 harg3 arg8 arg10 x0 x1 x2) 1 26 :=
  PInv.step (part56 c i arg1 harg1 arg2 harg2 arg3 harg3 arg8 arg10 x0 x1 x2) _ _ _ _

theorem part58 : PInv (i 0).val x0 x1 x2 (kernelRun0_B.sl.HS2_58 (F := Ideal) c i arg1 harg1 arg2 harg2 arg3 harg3 arg8 arg10 x0 x1 x2) 1 27 :=
  PInv.step (part57 c i arg1 harg1 arg2 harg2 arg3 harg3 arg8 arg10 x0 x1 x2) _ _ _ _

theorem part59 : PInv (i 0).val x0 x1 x2 (kernelRun0_B.sl.HS2_59 (F := Ideal) c i arg1 harg1 arg2 harg2 arg3 harg3 arg8 arg10 x0 x1 x2) 1 28 :=
  PInv.step (part58 c i arg1 harg1 arg2 harg2 arg3 harg3 arg8 arg10 x0 x1 x2) _ _ _ _

theorem part60 : PInv (i 0).val x0 x1 x2 (kernelRun0_B.sl.HS2_60 (F := Ideal) c i arg1 harg1 arg2 harg2 arg3 harg3 arg8 arg10 x0 x1 x2) 1 29 :=
  PInv.step (part59 c i arg1 harg1 arg2 harg2 arg3 harg3 arg8 arg10 x0 x1 x2) _ _ _ _

theorem part61 : PInv (i 0).val x0 x1 x2 (kernelRun0_B.sl.HS2_61 (F := Ideal) c i arg1 harg1 arg2 harg2 arg3 harg3 arg8 arg10 x0 x1 x2) 1 30 :=
  PInv.step (part60 c i arg1 harg1 arg2 harg2 arg3 harg3 arg8 arg10 x0 x1 x2) _ _ _ _

theorem part62 : PInv (i 0).val x0 x1 x2 (kernelRun0_B.sl.HS2_62 (F := Ideal) c i arg1 harg1 arg2 harg2 arg3 harg3 arg8 arg10 x0 x1 x2) 1 31 :=
  PInv.step (part61 c i arg1 harg1 arg2 harg2 arg3 harg3 arg8 arg10 x0 x1 x2) _ _ _ _

theorem part63 : PInv (i 0).val x0 x1 x2 (kernelRun0_B.sl.HS2_63 (F := Ideal) c i arg1 harg1 arg2 harg2 arg3 harg3 arg8 arg10 x0 x1 x2) 2 1 :=
  PInv.step ((part62 c i arg1 harg1 arg2 harg2 arg3 harg3 arg8 arg10 x0 x1 x2).roll) _ _ _ _

theorem part64 : PInv (i 0).val x0 x1 x2 (kernelRun0_B.sl.HS2_64 (F := Ideal) c i arg1 harg1 arg2 harg2 arg3 harg3 arg8 arg10 x0 x1 x2) 2 2 :=
  PInv.step (part63 c i arg1 harg1 arg2 harg2 arg3 harg3 arg8 arg10 x0 x1 x2) _ _ _ _

theorem part65 : PInv (i 0).val x0 x1 x2 (kernelRun0_B.sl.HS2_65 (F := Ideal) c i arg1 harg1 arg2 harg2 arg3 harg3 arg8 arg10 x0 x1 x2) 2 3 :=
  PInv.step (part64 c i arg1 harg1 arg2 harg2 arg3 harg3 arg8 arg10 x0 x1 x2) _ _ _ _

theorem part66 : PInv (i 0).val x0 x1 x2 (kernelRun0_B.sl.HS2_66 (F := Ideal) c i arg1 harg1 arg2 harg2 arg3 harg3 arg8 arg10 x0 x1 x2) 2 4 :=
  PInv.step (part65 c i arg1 harg1 arg2 harg2 arg3 harg3 arg8 arg10 x0 x1 x2) _ _ _ _

theorem part67 : PInv (i 0).val x0 x1 x2 (kernelRun0_B.sl.HS2_67 (F := Ideal) c i arg1 harg1 arg2 harg2 arg3 harg3 arg8 arg10 x0 x1 x2) 2 5 :=
  PInv.step (part66 c i arg1 harg1 arg2 harg2 arg3 harg3 arg8 arg10 x0 x1 x2) _ _ _ _

theorem part68 : PInv (i 0).val x0 x1 x2 (kernelRun0_B.sl.HS2_68 (F := Ideal) c i arg1 harg1 arg2 harg2 arg3 harg3 arg8 arg10 x0 x1 x2) 2 6 :=
  PInv.step (part67 c i arg1 harg1 arg2 harg2 arg3 harg3 arg8 arg10 x0 x1 x2) _ _ _ _

theorem part69 : PInv (i 0).val x0 x1 x2 (kernelRun0_B.sl.HS2_69 (F := Ideal) c i arg1 harg1 arg2 harg2 arg3 harg3 arg8 arg10 x0 x1 x2) 2 7 :=
  PInv.step (part68 c i arg1 harg1 arg2 harg2 arg3 harg3 arg8 arg10 x0 x1 x2) _ _ _ _

theorem part70 : PInv (i 0).val x0 x1 x2 (kernelRun0_B.sl.HS2_70 (F := Ideal) c i arg1 harg1 arg2 harg2 arg3 harg3 arg8 arg10 x0 x1 x2) 2 8 :=
  PInv.step (part69 c i arg1 harg1 arg2 harg2 arg3 harg3 arg8 arg10 x0 x1 x2) _ _ _ _

theorem part71 : PInv (i 0).val x0 x1 x2 (kernelRun0_B.sl.HS2_71 (F := Ideal) c i arg1 harg1 arg2 harg2 arg3 harg3 arg8 arg10 x0 x1 x2) 2 9 :=
  PInv.step (part70 c i arg1 harg1 arg2 harg2 arg3 harg3 arg8 arg10 x0 x1 x2) _ _ _ _

theorem part72 : PInv (i 0).val x0 x1 x2 (kernelRun0_B.sl.HS2_72 (F := Ideal) c i arg1 harg1 arg2 harg2 arg3 harg3 arg8 arg10 x0 x1 x2) 2 10 :=
  PInv.step (part71 c i arg1 harg1 arg2 harg2 arg3 harg3 arg8 arg10 x0 x1 x2) _ _ _ _

theorem part73 : PInv (i 0).val x0 x1 x2 (kernelRun0_B.sl.HS2_73 (F := Ideal) c i arg1 harg1 arg2 harg2 arg3 harg3 arg8 arg10 x0 x1 x2) 2 11 :=
  PInv.step (part72 c i arg1 harg1 arg2 harg2 arg3 harg3 arg8 arg10 x0 x1 x2) _ _ _ _

theorem part74 : PInv (i 0).val x0 x1 x2 (kernelRun0_B.sl.HS2_74 (F := Ideal) c i arg1 harg1 arg2 harg2 arg3 harg3 arg8 arg10 x0 x1 x2) 2 12 :=
  PInv.step (part73 c i arg1 harg1 arg2 harg2 arg3 harg3 arg8 arg10 x0 x1 x2) _ _ _ _

theorem part75 : PInv (i 0).val x0 x1 x2 (kernelRun0_B.sl.HS2_75 (F := Ideal) c i arg1 harg1 arg2 harg2 arg3 harg3 arg8 arg10 x0 x1 x2) 2 13 :=
  PInv.step (part74 c i arg1 harg1 arg2 harg2 arg3 harg3 arg8 arg10 x0 x1 x2) _ _ _ _

theorem part76 : PInv (i 0).val x0 x1 x2 (kernelRun0_B.sl.HS2_76 (F := Ideal) c i arg1 harg1 arg2 harg2 arg3 harg3 arg8 arg10 x0 x1 x2) 2 14 :=
  PInv.step (part75 c i arg1 harg1 arg2 harg2 arg3 harg3 arg8 arg10 x0 x1 x2) _ _ _ _

theorem part77 : PInv (i 0).val x0 x1 x2 (kernelRun0_B.sl.HS2_77 (F := Ideal) c i arg1 harg1 arg2 harg2 arg3 harg3 arg8 arg10 x0 x1 x2) 2 15 :=
  PInv.step (part76 c i arg1 harg1 arg2 harg2 arg3 harg3 arg8 arg10 x0 x1 x2) _ _ _ _

theorem part78 : PInv (i 0).val x0 x1 x2 (kernelRun0_B.sl.HS2_78 (F := Ideal) c i arg1 harg1 arg2 harg2 arg3 harg3 arg8 arg10 x0 x1 x2) 2 16 :=
  PInv.step (part77 c i arg1 harg1 arg2 harg2 arg3 harg3 arg8 arg10 x0 x1 x2) _ _ _ _

theorem part79 : PInv (i 0).val x0 x1 x2 (kernelRun0_B.sl.HS2_79 (F := Ideal) c i arg1 harg1 arg2 harg2 arg3 harg3 arg8 arg10 x0 x1 x2) 2 17 :=
  PInv.step (part78 c i arg1 harg1 arg2 harg2 arg3 harg3 arg8 arg10 x0 x1 x2) _ _ _ _

theorem part80 : PInv (i 0).val x0 x1 x2 (kernelRun0_B.sl.HS2_80 (F := Ideal) c i arg1 harg1 arg2 harg2 arg3 harg3 arg8 arg10 x0 x1 x2) 2 18 :=
  PInv.step (part79 c i arg1 harg1 arg2 harg2 arg3 harg3 arg8 arg10 x0 x1 x2) _ _ _ _

theorem part81 : PInv (i 0).val x0 x1 x2 (kernelRun0_B.sl.HS2_81 (F := Ideal) c i arg1 harg1 arg2 harg2 arg3 harg3 arg8 arg10 x0 x1 x2) 2 19 :=
  PInv.step (part80 c i arg1 harg1 arg2 harg2 arg3 harg3 arg8 arg10 x0 x1 x2) _ _ _ _

theorem part82 : PInv (i 0).val x0 x1 x2 (kernelRun0_B.sl.HS2_82 (F := Ideal) c i arg1 harg1 arg2 harg2 arg3 harg3 arg8 arg10 x0 x1 x2) 2 20 :=
  PInv.step (part81 c i arg1 harg1 arg2 harg2 arg3 harg3 arg8 arg10 x0 x1 x2) _ _ _ _

theorem part83 : PInv (i 0).val x0 x1 x2 (kernelRun0_B.sl.HS2_83 (F := Ideal) c i arg1 harg1 arg2 harg2 arg3 harg3 arg8 arg10 x0 x1 x2) 2 21 :=
  PInv.step (part82 c i arg1 harg1 arg2 harg2 arg3 harg3 arg8 arg10 x0 x1 x2) _ _ _ _

theorem part84 : PInv (i 0).val x0 x1 x2 (kernelRun0_B.sl.HS2_84 (F := Ideal) c i arg1 harg1 arg2 harg2 arg3 harg3 arg8 arg10 x0 x1 x2) 2 22 :=
  PInv.step (part83 c i arg1 harg1 arg2 harg2 arg3 harg3 arg8 arg10 x0 x1 x2) _ _ _ _

theorem part85 : PInv (i 0).val x0 x1 x2 (kernelRun0_B.sl.HS2_85 (F := Ideal) c i arg1 harg1 arg2 harg2 arg3 harg3 arg8 arg10 x0 x1 x2) 2 23 :=
  PInv.step (part84 c i arg1 harg1 arg2 harg2 arg3 harg3 arg8 arg10 x0 x1 x2) _ _ _ _

theorem part86 : PInv (i 0).val x0 x1 x2 (kernelRun0_B.sl.HS2_86 (F := Ideal) c i arg1 harg1 arg2 harg2 arg3 harg3 arg8 arg10 x0 x1 x2) 2 24 :=
  PInv.step (part85 c i arg1 harg1 arg2 harg2 arg3 harg3 arg8 arg10 x0 x1 x2) _ _ _ _

theorem part87 : PInv (i 0).val x0 x1 x2 (kernelRun0_B.sl.HS2_87 (F := Ideal) c i arg1 harg1 arg2 harg2 arg3 harg3 arg8 arg10 x0 x1 x2) 2 25 :=
  PInv.step (part86 c i arg1 harg1 arg2 harg2 arg3 harg3 arg8 arg10 x0 x1 x2) _ _ _ _

theorem part88 : PInv (i 0).val x0 x1 x2 (kernelRun0_B.sl.HS2_88 (F := Ideal) c i arg1 harg1 arg2 harg2 arg3 harg3 arg8 arg10 x0 x1 x2) 2 26 :=
  PInv.step (part87 c i arg1 harg1 arg2 harg2 arg3 harg3 arg8 arg10 x0 x1 x2) _ _ _ _

theorem part89 : PInv (i 0).val x0 x1 x2 (kernelRun0_B.sl.HS2_89 (F := Ideal) c i arg1 harg1 arg2 harg2 arg3 harg3 arg8 arg10 x0 x1 x2) 2 27 :=
  PInv.step (part88 c i arg1 harg1 arg2 harg2 arg3 harg3 arg8 arg10 x0 x1 x2) _ _ _ _

theorem part90 : PInv (i 0).val x0 x1 x2 (kernelRun0_B.sl.HS2_90 (F := Ideal) c i arg1 harg1 arg2 harg2 arg3 harg3 arg8 arg10 x0 x1 x2) 2 28 :=
  PInv.step (part89 c i arg1 harg1 arg2 harg2 arg3 harg3 arg8 arg10 x0 x1 x2) _ _ _ _

theorem part91 : PInv (i 0).val x0 x1 x2 (kernelRun0_B.sl.HS2_91 (F := Ideal) c i arg1 harg1 arg2 harg2 arg3 harg3 arg8 arg10 x0 x1 x2) 2 29 :=
  PInv.step (part90 c i arg1 harg1 arg2 harg2 arg3 harg3 arg8 arg10 x0 x1 x2) _ _ _ _

theorem part92 : PInv (i 0).val x0 x1 x2 (kernelRun0_B.sl.HS2_92 (F := Ideal) c i arg1 harg1 arg2 harg2 arg3 harg3 arg8 arg10 x0 x1 x2) 2 30 :=
  PInv.step (part91 c i arg1 harg1 arg2 harg2 arg3 harg3 arg8 arg10 x0 x1 x2) _ _ _ _

theorem part93 : PInv (i 0).val x0 x1 x2 (kernelRun0_B.sl.HS2_93 (F := Ideal) c i arg1 harg1 arg2 harg2 arg3 harg3 arg8 arg10 x0 x1 x2) 2 31 :=
  PInv.step (part92 c i arg1 harg1 arg2 harg2 arg3 harg3 arg8 arg10 x0 x1 x2) _ _ _ _

theorem part94 : PInv (i 0).val x0 x1 x2 (kernelRun0_B.sl.HS2_94 (F := Ideal) c i arg1 harg1 arg2 harg2 arg3 harg3 arg8 arg10 x0 x1 x2) 3 1 :=
  PInv.step ((part93 c i arg1 harg1 arg2 harg2 arg3 harg3 arg8 arg10 x0 x1 x2).roll) _ _ _ _

theorem part95 : PInv (i 0).val x0 x1 x2 (kernelRun0_B.sl.HS2_95 (F := Ideal) c i arg1 harg1 arg2 harg2 arg3 harg3 arg8 arg10 x0 x1 x2) 3 2 :=
  PInv.step (part94 c i arg1 harg1 arg2 harg2 arg3 harg3 arg8 arg10 x0 x1 x2) _ _ _ _

theorem part96 : PInv (i 0).val x0 x1 x2 (kernelRun0_B.sl.HS2_96 (F := Ideal) c i arg1 harg1 arg2 harg2 arg3 harg3 arg8 arg10 x0 x1 x2) 3 3 :=
  PInv.step (part95 c i arg1 harg1 arg2 harg2 arg3 harg3 arg8 arg10 x0 x1 x2) _ _ _ _

theorem part97 : PInv (i 0).val x0 x1 x2 (kernelRun0_B.sl.HS2_97 (F := Ideal) c i arg1 harg1 arg2 harg2 arg3 harg3 arg8 arg10 x0 x1 x2) 3 4 :=
  PInv.step (part96 c i arg1 harg1 arg2 harg2 arg3 harg3 arg8 arg10 x0 x1 x2) _ _ _ _

theorem part98 : PInv (i 0).val x0 x1 x2 (kernelRun0_B.sl.HS2_98 (F := Ideal) c i arg1 harg1 arg2 harg2 arg3 harg3 arg8 arg10 x0 x1 x2) 3 5 :=
  PInv.step (part97 c i arg1 harg1 arg2 harg2 arg3 harg3 arg8 arg10 x0 x1 x2) _ _ _ _

theorem part99 : PInv (i 0).val x0 x1 x2 (kernelRun0_B.sl.HS2_99 (F := Ideal) c i arg1 harg1 arg2 harg2 arg3 harg3 arg8 arg10 x0 x1 x2) 3 6 :=
  PInv.step (part98 c i arg1 harg1 arg2 harg2 arg3 harg3 arg8 arg10 x0 x1 x2) _ _ _ _

theorem part100 : PInv (i 0).val x0 x1 x2 (kernelRun0_B.sl.HS2_100 (F := Ideal) c i arg1 harg1 arg2 harg2 arg3 harg3 arg8 arg10 x0 x1 x2) 3 7 :=
  PInv.step (part99 c i arg1 harg1 arg2 harg2 arg3 harg3 arg8 arg10 x0 x1 x2) _ _ _ _

theorem part101 : PInv (i 0).val x0 x1 x2 (kernelRun0_B.sl.HS2_101 (F := Ideal) c i arg1 harg1 arg2 harg2 arg3 harg3 arg8 arg10 x0 x1 x2) 3 8 :=
  PInv.step (part100 c i arg1 harg1 arg2 harg2 arg3 harg3 arg8 arg10 x0 x1 x2) _ _ _ _

theorem part102 : PInv (i 0).val x0 x1 x2 (kernelRun0_B.sl.HS2_102 (F := Ideal) c i arg1 harg1 arg2 harg2 arg3 harg3 arg8 arg10 x0 x1 x2) 3 9 :=
  PInv.step (part101 c i arg1 harg1 arg2 harg2 arg3 harg3 arg8 arg10 x0 x1 x2) _ _ _ _

theorem part103 : PInv (i 0).val x0 x1 x2 (kernelRun0_B.sl.HS2_103 (F := Ideal) c i arg1 harg1 arg2 harg2 arg3 harg3 arg8 arg10 x0 x1 x2) 3 10 :=
  PInv.step (part102 c i arg1 harg1 arg2 harg2 arg3 harg3 arg8 arg10 x0 x1 x2) _ _ _ _

theorem part104 : PInv (i 0).val x0 x1 x2 (kernelRun0_B.sl.HS2_104 (F := Ideal) c i arg1 harg1 arg2 harg2 arg3 harg3 arg8 arg10 x0 x1 x2) 3 11 :=
  PInv.step (part103 c i arg1 harg1 arg2 harg2 arg3 harg3 arg8 arg10 x0 x1 x2) _ _ _ _

theorem part105 : PInv (i 0).val x0 x1 x2 (kernelRun0_B.sl.HS2_105 (F := Ideal) c i arg1 harg1 arg2 harg2 arg3 harg3 arg8 arg10 x0 x1 x2) 3 12 :=
  PInv.step (part104 c i arg1 harg1 arg2 harg2 arg3 harg3 arg8 arg10 x0 x1 x2) _ _ _ _

theorem part106 : PInv (i 0).val x0 x1 x2 (kernelRun0_B.sl.HS2_106 (F := Ideal) c i arg1 harg1 arg2 harg2 arg3 harg3 arg8 arg10 x0 x1 x2) 3 13 :=
  PInv.step (part105 c i arg1 harg1 arg2 harg2 arg3 harg3 arg8 arg10 x0 x1 x2) _ _ _ _

theorem part107 : PInv (i 0).val x0 x1 x2 (kernelRun0_B.sl.HS2_107 (F := Ideal) c i arg1 harg1 arg2 harg2 arg3 harg3 arg8 arg10 x0 x1 x2) 3 14 :=
  PInv.step (part106 c i arg1 harg1 arg2 harg2 arg3 harg3 arg8 arg10 x0 x1 x2) _ _ _ _

theorem part108 : PInv (i 0).val x0 x1 x2 (kernelRun0_B.sl.HS2_108 (F := Ideal) c i arg1 harg1 arg2 harg2 arg3 harg3 arg8 arg10 x0 x1 x2) 3 15 :=
  PInv.step (part107 c i arg1 harg1 arg2 harg2 arg3 harg3 arg8 arg10 x0 x1 x2) _ _ _ _

theorem part109 : PInv (i 0).val x0 x1 x2 (kernelRun0_B.sl.HS2_109 (F := Ideal) c i arg1 harg1 arg2 harg2 arg3 harg3 arg8 arg10 x0 x1 x2) 3 16 :=
  PInv.step (part108 c i arg1 harg1 arg2 harg2 arg3 harg3 arg8 arg10 x0 x1 x2) _ _ _ _

theorem part110 : PInv (i 0).val x0 x1 x2 (kernelRun0_B.sl.HS2_110 (F := Ideal) c i arg1 harg1 arg2 harg2 arg3 harg3 arg8 arg10 x0 x1 x2) 3 17 :=
  PInv.step (part109 c i arg1 harg1 arg2 harg2 arg3 harg3 arg8 arg10 x0 x1 x2) _ _ _ _

theorem part111 : PInv (i 0).val x0 x1 x2 (kernelRun0_B.sl.HS2_111 (F := Ideal) c i arg1 harg1 arg2 harg2 arg3 harg3 arg8 arg10 x0 x1 x2) 3 18 :=
  PInv.step (part110 c i arg1 harg1 arg2 harg2 arg3 harg3 arg8 arg10 x0 x1 x2) _ _ _ _

theorem part112 : PInv (i 0).val x0 x1 x2 (kernelRun0_B.sl.HS2_112 (F := Ideal) c i arg1 harg1 arg2 harg2 arg3 harg3 arg8 arg10 x0 x1 x2) 3 19 :=
  PInv.step (part111 c i arg1 harg1 arg2 harg2 arg3 harg3 arg8 arg10 x0 x1 x2) _ _ _ _

theorem part113 : PInv (i 0).val x0 x1 x2 (kernelRun0_B.sl.HS2_113 (F := Ideal) c i arg1 harg1 arg2 harg2 arg3 harg3 arg8 arg10 x0 x1 x2) 3 20 :=
  PInv.step (part112 c i arg1 harg1 arg2 harg2 arg3 harg3 arg8 arg10 x0 x1 x2) _ _ _ _

theorem part114 : PInv (i 0).val x0 x1 x2 (kernelRun0_B.sl.HS2_114 (F := Ideal) c i arg1 harg1 arg2 harg2 arg3 harg3 arg8 arg10 x0 x1 x2) 3 21 :=
  PInv.step (part113 c i arg1 harg1 arg2 harg2 arg3 harg3 arg8 arg10 x0 x1 x2) _ _ _ _

theorem part115 : PInv (i 0).val x0 x1 x2 (kernelRun0_B.sl.HS2_115 (F := Ideal) c i arg1 harg1 arg2 harg2 arg3 harg3 arg8 arg10 x0 x1 x2) 3 22 :=
  PInv.step (part114 c i arg1 harg1 arg2 harg2 arg3 harg3 arg8 arg10 x0 x1 x2) _ _ _ _

theorem part116 : PInv (i 0).val x0 x1 x2 (kernelRun0_B.sl.HS2_116 (F := Ideal) c i arg1 harg1 arg2 harg2 arg3 harg3 arg8 arg10 x0 x1 x2) 3 23 :=
  PInv.step (part115 c i arg1 harg1 arg2 harg2 arg3 harg3 arg8 arg10 x0 x1 x2) _ _ _ _

theorem part117 : PInv (i 0).val x0 x1 x2 (kernelRun0_B.sl.HS2_117 (F := Ideal) c i arg1 harg1 arg2 harg2 arg3 harg3 arg8 arg10 x0 x1 x2) 3 24 :=
  PInv.step (part116 c i arg1 harg1 arg2 harg2 arg3 harg3 arg8 arg10 x0 x1 x2) _ _ _ _

theorem part118 : PInv (i 0).val x0 x1 x2 (kernelRun0_B.sl.HS2_118 (F := Ideal) c i arg1 harg1 arg2 harg2 arg3 harg3 arg8 arg10 x0 x1 x2) 3 25 :=
  PInv.step (part117 c i arg1 harg1 arg2 harg2 arg3 harg3 arg8 arg10 x0 x1 x2) _ _ _ _

theorem part119 : PInv (i 0).val x0 x1 x2 (kernelRun0_B.sl.HS2_119 (F := Ideal) c i arg1 harg1 arg2 harg2 arg3 harg3 arg8 arg10 x0 x1 x2) 3 26 :=
  PInv.step (part118 c i arg1 harg1 arg2 harg2 arg3 harg3 arg8 arg10 x0 x1 x2) _ _ _ _

theorem part120 : PInv (i 0).val x0 x1 x2 (kernelRun0_B.sl.HS2_120 (F := Ideal) c i arg1 harg1 arg2 harg2 arg3 harg3 arg8 arg10 x0 x1 x2) 3 27 :=
  PInv.step (part119 c i arg1 harg1 arg2 harg2 arg3 harg3 arg8 arg10 x0 x1 x2) _ _ _ _

theorem part121 : PInv (i 0).val x0 x1 x2 (kernelRun0_B.sl.HS2_121 (F := Ideal) c i arg1 harg1 arg2 harg2 arg3 harg3 arg8 arg10 x0 x1 x2) 3 28 :=
  PInv.step (part120 c i arg1 harg1 arg2 harg2 arg3 harg3 arg8 arg10 x0 x1 x2) _ _ _ _

theorem part122 : PInv (i 0).val x0 x1 x2 (kernelRun0_B.sl.HS2_122 (F := Ideal) c i arg1 harg1 arg2 harg2 arg3 harg3 arg8 arg10 x0 x1 x2) 3 29 :=
  PInv.step (part121 c i arg1 harg1 arg2 harg2 arg3 harg3 arg8 arg10 x0 x1 x2) _ _ _ _

theorem part123 : PInv (i 0).val x0 x1 x2 (kernelRun0_B.sl.HS2_123 (F := Ideal) c i arg1 harg1 arg2 harg2 arg3 harg3 arg8 arg10 x0 x1 x2) 3 30 :=
  PInv.step (part122 c i arg1 harg1 arg2 harg2 arg3 harg3 arg8 arg10 x0 x1 x2) _ _ _ _

theorem part124 : PInv (i 0).val x0 x1 x2 (kernelRun0_B.sl.HS2_124 (F := Ideal) c i arg1 harg1 arg2 harg2 arg3 harg3 arg8 arg10 x0 x1 x2) 3 31 :=
  PInv.step (part123 c i arg1 harg1 arg2 harg2 arg3 harg3 arg8 arg10 x0 x1 x2) _ _ _ _

theorem part125 : PInv (i 0).val x0 x1 x2 (kernelRun0_B.sl.HS2_125 (F := Ideal) c i arg1 harg1 arg2 harg2 arg3 harg3 arg8 arg10 x0 x1 x2) 4 1 :=
  PInv.step ((part124 c i arg1 harg1 arg2 harg2 arg3 harg3 arg8 arg10 x0 x1 x2).roll) _ _ _ _

theorem part126 : PInv (i 0).val x0 x1 x2 (kernelRun0_B.sl.HS2_126 (F := Ideal) c i arg1 harg1 arg2 harg2 arg3 harg3 arg8 arg10 x0 x1 x2) 4 2 :=
  PInv.step (part125 c i arg1 harg1 arg2 harg2 arg3 harg3 arg8 arg10 x0 x1 x2) _ _ _ _

theorem part127 : PInv (i 0).val x0 x1 x2 (kernelRun0_B.sl.HS2_127 (F := Ideal) c i arg1 harg1 arg2 harg2 arg3 harg3 arg8 arg10 x0 x1 x2) 4 3 :=
  PInv.step (part126 c i arg1 harg1 arg2 harg2 arg3 harg3 arg8 arg10 x0 x1 x2) _ _ _ _

theorem part128 : PInv (i 0).val x0 x1 x2 (kernelRun0_B.sl.HS2_128 (F := Ideal) c i arg1 harg1 arg2 harg2 arg3 harg3 arg8 arg10 x0 x1 x2) 4 4 :=
  PInv.step (part127 c i arg1 harg1 arg2 harg2 arg3 harg3 arg8 arg10 x0 x1 x2) _ _ _ _

theorem part129 : PInv (i 0).val x0 x1 x2 (kernelRun0_B.sl.HS2_129 (F := Ideal) c i arg1 harg1 arg2 harg2 arg3 harg3 arg8 arg10 x0 x1 x2) 4 5 :=
  PInv.step (part128 c i arg1 harg1 arg2 harg2 arg3 harg3 arg8 arg10 x0 x1 x2) _ _ _ _

theorem part130 : PInv (i 0).val x0 x1 x2 (kernelRun0_B.sl.HS2_130 (F := Ideal) c i arg1 harg1 arg2 harg2 arg3 harg3 arg8 arg10 x0 x1 x2) 4 6 :=
  PInv.step (part129 c i arg1 harg1 arg2 harg2 arg3 harg3 arg8 arg10 x0 x1 x2) _ _ _ _

theorem part131 : PInv (i 0).val x0 x1 x2 (kernelRun0_B.sl.HS2_131 (F := Ideal) c i arg1 harg1 arg2 harg2 arg3 harg3 arg8 arg10 x0 x1 x2) 4 7 :=
  PInv.step (part130 c i arg1 harg1 arg2 harg2 arg3 harg3 arg8 arg10 x0 x1 x2) _ _ _ _

theorem part132 : PInv (i 0).val x0 x1 x2 (kernelRun0_B.sl.HS2_132 (F := Ideal) c i arg1 harg1 arg2 harg2 arg3 harg3 arg8 arg10 x0 x1 x2) 4 8 :=
  PInv.step (part131 c i arg1 harg1 arg2 harg2 arg3 harg3 arg8 arg10 x0 x1 x2) _ _ _ _

theorem part133 : PInv (i 0).val x0 x1 x2 (kernelRun0_B.sl.HS2_133 (F := Ideal) c i arg1 harg1 arg2 harg2 arg3 harg3 arg8 arg10 x0 x1 x2) 4 9 :=
  PInv.step (part132 c i arg1 harg1 arg2 harg2 arg3 harg3 arg8 arg10 x0 x1 x2) _ _ _ _

theorem part134 : PInv (i 0).val x0 x1 x2 (kernelRun0_B.sl.HS2_134 (F := Ideal) c i arg1 harg1 arg2 harg2 arg3 harg3 arg8 arg10 x0 x1 x2) 4 10 :=
  PInv.step (part133 c i arg1 harg1 arg2 harg2 arg3 harg3 arg8 arg10 x0 x1 x2) _ _ _ _

theorem part135 : PInv (i 0).val x0 x1 x2 (kernelRun0_B.sl.HS2_135 (F := Ideal) c i arg1 harg1 arg2 harg2 arg3 harg3 arg8 arg10 x0 x1 x2) 4 11 :=
  PInv.step (part134 c i arg1 harg1 arg2 harg2 arg3 harg3 arg8 arg10 x0 x1 x2) _ _ _ _

theorem part136 : PInv (i 0).val x0 x1 x2 (kernelRun0_B.sl.HS2_136 (F := Ideal) c i arg1 harg1 arg2 harg2 arg3 harg3 arg8 arg10 x0 x1 x2) 4 12 :=
  PInv.step (part135 c i arg1 harg1 arg2 harg2 arg3 harg3 arg8 arg10 x0 x1 x2) _ _ _ _

theorem part137 : PInv (i 0).val x0 x1 x2 (kernelRun0_B.sl.HS2_137 (F := Ideal) c i arg1 harg1 arg2 harg2 arg3 harg3 arg8 arg10 x0 x1 x2) 4 13 :=
  PInv.step (part136 c i arg1 harg1 arg2 harg2 arg3 harg3 arg8 arg10 x0 x1 x2) _ _ _ _

theorem part138 : PInv (i 0).val x0 x1 x2 (kernelRun0_B.sl.HS2_138 (F := Ideal) c i arg1 harg1 arg2 harg2 arg3 harg3 arg8 arg10 x0 x1 x2) 4 14 :=
  PInv.step (part137 c i arg1 harg1 arg2 harg2 arg3 harg3 arg8 arg10 x0 x1 x2) _ _ _ _

theorem part139 : PInv (i 0).val x0 x1 x2 (kernelRun0_B.sl.HS2_139 (F := Ideal) c i arg1 harg1 arg2 harg2 arg3 harg3 arg8 arg10 x0 x1 x2) 4 15 :=
  PInv.step (part138 c i arg1 harg1 arg2 harg2 arg3 harg3 arg8 arg10 x0 x1 x2) _ _ _ _

theorem part140 : PInv (i 0).val x0 x1 x2 (kernelRun0_B.sl.HS2_140 (F := Ideal) c i arg1 harg1 arg2 harg2 arg3 harg3 arg8 arg10 x0 x1 x2) 4 16 :=
  PInv.step (part139 c i arg1 harg1 arg2 harg2 arg3 harg3 arg8 arg10 x0 x1 x2) _ _ _ _

end Conv
-- ==== Proof.Conv.PartsB.lean ====
/- The partial sums after each store of the last tiles. -/
module

public import proofs.«01_k».proof.Proof.Conv.PartsA

@[expose] public section

set_option maxRecDepth 16384
set_option maxHeartbeats 1000000

noncomputable section

namespace Conv

open Idealize.ShloMosaic Idealize.ShloMosaic.TcCoe Idealize.SL.Sem
open Cert.KernelIdeal Cert.KernelIdeal.Gen

variable (c : Dev nD) (i : grid0.Coords)
  (arg1 : Memref sig .tc .vmem S512x1792 .bf16) (harg1 : arg1.IsWhole) (arg2 : Memref sig .tc .vmem S32x1792 .bf16) (harg2 : arg2.IsWhole)
  (arg3 : Memref sig .tc .vmem S512x512 .f32) (harg3 : arg3.IsWhole)
  (arg8 : Memref sig .tc .vmem S8x544x512 .f32) (arg10 : Memref sig .tc .vmem S31x8x512 .f32)
  (x0 : Vec Ideal S512x1792 .bf16) (x1 : Vec Ideal S32x1792 .bf16) (x2 : Vec Ideal S512x512 .f32)

theorem part141 : PInv (i 0).val x0 x1 x2 (kernelRun0_B.sl.HS2_141 (F := Ideal) c i arg1 harg1 arg2 harg2 arg3 harg3 arg8 arg10 x0 x1 x2) 4 17 :=
  PInv.step (part140 c i arg1 harg1 arg2 harg2 arg3 harg3 arg8 arg10 x0 x1 x2) _ _ _ _

theorem part142 : PInv (i 0).val x0 x1 x2 (kernelRun0_B.sl.HS2_142 (F := Ideal) c i arg1 harg1 arg2 harg2 arg3 harg3 arg8 arg10 x0 x1 x2) 4 18 :=
  PInv.step (part141 c i arg1 harg1 arg2 harg2 arg3 harg3 arg8 arg10 x0 x1 x2) _ _ _ _

theorem part143 : PInv (i 0).val x0 x1 x2 (kernelRun0_B.sl.HS2_143 (F := Ideal) c i arg1 harg1 arg2 harg2 arg3 harg3 arg8 arg10 x0 x1 x2) 4 19 :=
  PInv.step (part142 c i arg1 harg1 arg2 harg2 arg3 harg3 arg8 arg10 x0 x1 x2) _ _ _ _

theorem part144 : PInv (i 0).val x0 x1 x2 (kernelRun0_B.sl.HS2_144 (F := Ideal) c i arg1 harg1 arg2 harg2 arg3 harg3 arg8 arg10 x0 x1 x2) 4 20 :=
  PInv.step (part143 c i arg1 harg1 arg2 harg2 arg3 harg3 arg8 arg10 x0 x1 x2) _ _ _ _

theorem part145 : PInv (i 0).val x0 x1 x2 (kernelRun0_B.sl.HS2_145 (F := Ideal) c i arg1 harg1 arg2 harg2 arg3 harg3 arg8 arg10 x0 x1 x2) 4 21 :=
  PInv.step (part144 c i arg1 harg1 arg2 harg2 arg3 harg3 arg8 arg10 x0 x1 x2) _ _ _ _

theorem part146 : PInv (i 0).val x0 x1 x2 (kernelRun0_B.sl.HS2_146 (F := Ideal) c i arg1 harg1 arg2 harg2 arg3 harg3 arg8 arg10 x0 x1 x2) 4 22 :=
  PInv.step (part145 c i arg1 harg1 arg2 harg2 arg3 harg3 arg8 arg10 x0 x1 x2) _ _ _ _

theorem part147 : PInv (i 0).val x0 x1 x2 (kernelRun0_B.sl.HS2_147 (F := Ideal) c i arg1 harg1 arg2 harg2 arg3 harg3 arg8 arg10 x0 x1 x2) 4 23 :=
  PInv.step (part146 c i arg1 harg1 arg2 harg2 arg3 harg3 arg8 arg10 x0 x1 x2) _ _ _ _

theorem part148 : PInv (i 0).val x0 x1 x2 (kernelRun0_B.sl.HS2_148 (F := Ideal) c i arg1 harg1 arg2 harg2 arg3 harg3 arg8 arg10 x0 x1 x2) 4 24 :=
  PInv.step (part147 c i arg1 harg1 arg2 harg2 arg3 harg3 arg8 arg10 x0 x1 x2) _ _ _ _

theorem part149 : PInv (i 0).val x0 x1 x2 (kernelRun0_B.sl.HS2_149 (F := Ideal) c i arg1 harg1 arg2 harg2 arg3 harg3 arg8 arg10 x0 x1 x2) 4 25 :=
  PInv.step (part148 c i arg1 harg1 arg2 harg2 arg3 harg3 arg8 arg10 x0 x1 x2) _ _ _ _

theorem part150 : PInv (i 0).val x0 x1 x2 (kernelRun0_B.sl.HS2_150 (F := Ideal) c i arg1 harg1 arg2 harg2 arg3 harg3 arg8 arg10 x0 x1 x2) 4 26 :=
  PInv.step (part149 c i arg1 harg1 arg2 harg2 arg3 harg3 arg8 arg10 x0 x1 x2) _ _ _ _

theorem part151 : PInv (i 0).val x0 x1 x2 (kernelRun0_B.sl.HS2_151 (F := Ideal) c i arg1 harg1 arg2 harg2 arg3 harg3 arg8 arg10 x0 x1 x2) 4 27 :=
  PInv.step (part150 c i arg1 harg1 arg2 harg2 arg3 harg3 arg8 arg10 x0 x1 x2) _ _ _ _

theorem part152 : PInv (i 0).val x0 x1 x2 (kernelRun0_B.sl.HS2_152 (F := Ideal) c i arg1 harg1 arg2 harg2 arg3 harg3 arg8 arg10 x0 x1 x2) 4 28 :=
  PInv.step (part151 c i arg1 harg1 arg2 harg2 arg3 harg3 arg8 arg10 x0 x1 x2) _ _ _ _

theorem part153 : PInv (i 0).val x0 x1 x2 (kernelRun0_B.sl.HS2_153 (F := Ideal) c i arg1 harg1 arg2 harg2 arg3 harg3 arg8 arg10 x0 x1 x2) 4 29 :=
  PInv.step (part152 c i arg1 harg1 arg2 harg2 arg3 harg3 arg8 arg10 x0 x1 x2) _ _ _ _

theorem part154 : PInv (i 0).val x0 x1 x2 (kernelRun0_B.sl.HS2_154 (F := Ideal) c i arg1 harg1 arg2 harg2 arg3 harg3 arg8 arg10 x0 x1 x2) 4 30 :=
  PInv.step (part153 c i arg1 harg1 arg2 harg2 arg3 harg3 arg8 arg10 x0 x1 x2) _ _ _ _

theorem part155 : PInv (i 0).val x0 x1 x2 (kernelRun0_B.sl.HS2_155 (F := Ideal) c i arg1 harg1 arg2 harg2 arg3 harg3 arg8 arg10 x0 x1 x2) 4 31 :=
  PInv.step (part154 c i arg1 harg1 arg2 harg2 arg3 harg3 arg8 arg10 x0 x1 x2) _ _ _ _

theorem part156 : PInv (i 0).val x0 x1 x2 (kernelRun0_B.sl.HS2_156 (F := Ideal) c i arg1 harg1 arg2 harg2 arg3 harg3 arg8 arg10 x0 x1 x2) 5 1 :=
  PInv.step ((part155 c i arg1 harg1 arg2 harg2 arg3 harg3 arg8 arg10 x0 x1 x2).roll) _ _ _ _

theorem part157 : PInv (i 0).val x0 x1 x2 (kernelRun0_B.sl.HS2_157 (F := Ideal) c i arg1 harg1 arg2 harg2 arg3 harg3 arg8 arg10 x0 x1 x2) 5 2 :=
  PInv.step (part156 c i arg1 harg1 arg2 harg2 arg3 harg3 arg8 arg10 x0 x1 x2) _ _ _ _

theorem part158 : PInv (i 0).val x0 x1 x2 (kernelRun0_B.sl.HS2_158 (F := Ideal) c i arg1 harg1 arg2 harg2 arg3 harg3 arg8 arg10 x0 x1 x2) 5 3 :=
  PInv.step (part157 c i arg1 harg1 arg2 harg2 arg3 harg3 arg8 arg10 x0 x1 x2) _ _ _ _

theorem part159 : PInv (i 0).val x0 x1 x2 (kernelRun0_B.sl.HS2_159 (F := Ideal) c i arg1 harg1 arg2 harg2 arg3 harg3 arg8 arg10 x0 x1 x2) 5 4 :=
  PInv.step (part158 c i arg1 harg1 arg2 harg2 arg3 harg3 arg8 arg10 x0 x1 x2) _ _ _ _

theorem part160 : PInv (i 0).val x0 x1 x2 (kernelRun0_B.sl.HS2_160 (F := Ideal) c i arg1 harg1 arg2 harg2 arg3 harg3 arg8 arg10 x0 x1 x2) 5 5 :=
  PInv.step (part159 c i arg1 harg1 arg2 harg2 arg3 harg3 arg8 arg10 x0 x1 x2) _ _ _ _

theorem part161 : PInv (i 0).val x0 x1 x2 (kernelRun0_B.sl.HS2_161 (F := Ideal) c i arg1 harg1 arg2 harg2 arg3 harg3 arg8 arg10 x0 x1 x2) 5 6 :=
  PInv.step (part160 c i arg1 harg1 arg2 harg2 arg3 harg3 arg8 arg10 x0 x1 x2) _ _ _ _

theorem part162 : PInv (i 0).val x0 x1 x2 (kernelRun0_B.sl.HS2_162 (F := Ideal) c i arg1 harg1 arg2 harg2 arg3 harg3 arg8 arg10 x0 x1 x2) 5 7 :=
  PInv.step (part161 c i arg1 harg1 arg2 harg2 arg3 harg3 arg8 arg10 x0 x1 x2) _ _ _ _

theorem part163 : PInv (i 0).val x0 x1 x2 (kernelRun0_B.sl.HS2_163 (F := Ideal) c i arg1 harg1 arg2 harg2 arg3 harg3 arg8 arg10 x0 x1 x2) 5 8 :=
  PInv.step (part162 c i arg1 harg1 arg2 harg2 arg3 harg3 arg8 arg10 x0 x1 x2) _ _ _ _

theorem part164 : PInv (i 0).val x0 x1 x2 (kernelRun0_B.sl.HS2_164 (F := Ideal) c i arg1 harg1 arg2 harg2 arg3 harg3 arg8 arg10 x0 x1 x2) 5 9 :=
  PInv.step (part163 c i arg1 harg1 arg2 harg2 arg3 harg3 arg8 arg10 x0 x1 x2) _ _ _ _

theorem part165 : PInv (i 0).val x0 x1 x2 (kernelRun0_B.sl.HS2_165 (F := Ideal) c i arg1 harg1 arg2 harg2 arg3 harg3 arg8 arg10 x0 x1 x2) 5 10 :=
  PInv.step (part164 c i arg1 harg1 arg2 harg2 arg3 harg3 arg8 arg10 x0 x1 x2) _ _ _ _

theorem part166 : PInv (i 0).val x0 x1 x2 (kernelRun0_B.sl.HS2_166 (F := Ideal) c i arg1 harg1 arg2 harg2 arg3 harg3 arg8 arg10 x0 x1 x2) 5 11 :=
  PInv.step (part165 c i arg1 harg1 arg2 harg2 arg3 harg3 arg8 arg10 x0 x1 x2) _ _ _ _

theorem part167 : PInv (i 0).val x0 x1 x2 (kernelRun0_B.sl.HS2_167 (F := Ideal) c i arg1 harg1 arg2 harg2 arg3 harg3 arg8 arg10 x0 x1 x2) 5 12 :=
  PInv.step (part166 c i arg1 harg1 arg2 harg2 arg3 harg3 arg8 arg10 x0 x1 x2) _ _ _ _

theorem part168 : PInv (i 0).val x0 x1 x2 (kernelRun0_B.sl.HS2_168 (F := Ideal) c i arg1 harg1 arg2 harg2 arg3 harg3 arg8 arg10 x0 x1 x2) 5 13 :=
  PInv.step (part167 c i arg1 harg1 arg2 harg2 arg3 harg3 arg8 arg10 x0 x1 x2) _ _ _ _

theorem part169 : PInv (i 0).val x0 x1 x2 (kernelRun0_B.sl.HS2_169 (F := Ideal) c i arg1 harg1 arg2 harg2 arg3 harg3 arg8 arg10 x0 x1 x2) 5 14 :=
  PInv.step (part168 c i arg1 harg1 arg2 harg2 arg3 harg3 arg8 arg10 x0 x1 x2) _ _ _ _

theorem part170 : PInv (i 0).val x0 x1 x2 (kernelRun0_B.sl.HS2_170 (F := Ideal) c i arg1 harg1 arg2 harg2 arg3 harg3 arg8 arg10 x0 x1 x2) 5 15 :=
  PInv.step (part169 c i arg1 harg1 arg2 harg2 arg3 harg3 arg8 arg10 x0 x1 x2) _ _ _ _

theorem part171 : PInv (i 0).val x0 x1 x2 (kernelRun0_B.sl.HS2_171 (F := Ideal) c i arg1 harg1 arg2 harg2 arg3 harg3 arg8 arg10 x0 x1 x2) 5 16 :=
  PInv.step (part170 c i arg1 harg1 arg2 harg2 arg3 harg3 arg8 arg10 x0 x1 x2) _ _ _ _

theorem part172 : PInv (i 0).val x0 x1 x2 (kernelRun0_B.sl.HS2_172 (F := Ideal) c i arg1 harg1 arg2 harg2 arg3 harg3 arg8 arg10 x0 x1 x2) 5 17 :=
  PInv.step (part171 c i arg1 harg1 arg2 harg2 arg3 harg3 arg8 arg10 x0 x1 x2) _ _ _ _

theorem part173 : PInv (i 0).val x0 x1 x2 (kernelRun0_B.sl.HS2_173 (F := Ideal) c i arg1 harg1 arg2 harg2 arg3 harg3 arg8 arg10 x0 x1 x2) 5 18 :=
  PInv.step (part172 c i arg1 harg1 arg2 harg2 arg3 harg3 arg8 arg10 x0 x1 x2) _ _ _ _

theorem part174 : PInv (i 0).val x0 x1 x2 (kernelRun0_B.sl.HS2_174 (F := Ideal) c i arg1 harg1 arg2 harg2 arg3 harg3 arg8 arg10 x0 x1 x2) 5 19 :=
  PInv.step (part173 c i arg1 harg1 arg2 harg2 arg3 harg3 arg8 arg10 x0 x1 x2) _ _ _ _

theorem part175 : PInv (i 0).val x0 x1 x2 (kernelRun0_B.sl.HS2_175 (F := Ideal) c i arg1 harg1 arg2 harg2 arg3 harg3 arg8 arg10 x0 x1 x2) 5 20 :=
  PInv.step (part174 c i arg1 harg1 arg2 harg2 arg3 harg3 arg8 arg10 x0 x1 x2) _ _ _ _

theorem part176 : PInv (i 0).val x0 x1 x2 (kernelRun0_B.sl.HS2_176 (F := Ideal) c i arg1 harg1 arg2 harg2 arg3 harg3 arg8 arg10 x0 x1 x2) 5 21 :=
  PInv.step (part175 c i arg1 harg1 arg2 harg2 arg3 harg3 arg8 arg10 x0 x1 x2) _ _ _ _

theorem part177 : PInv (i 0).val x0 x1 x2 (kernelRun0_B.sl.HS2_177 (F := Ideal) c i arg1 harg1 arg2 harg2 arg3 harg3 arg8 arg10 x0 x1 x2) 5 22 :=
  PInv.step (part176 c i arg1 harg1 arg2 harg2 arg3 harg3 arg8 arg10 x0 x1 x2) _ _ _ _

theorem part178 : PInv (i 0).val x0 x1 x2 (kernelRun0_B.sl.HS2_178 (F := Ideal) c i arg1 harg1 arg2 harg2 arg3 harg3 arg8 arg10 x0 x1 x2) 5 23 :=
  PInv.step (part177 c i arg1 harg1 arg2 harg2 arg3 harg3 arg8 arg10 x0 x1 x2) _ _ _ _

theorem part179 : PInv (i 0).val x0 x1 x2 (kernelRun0_B.sl.HS2_179 (F := Ideal) c i arg1 harg1 arg2 harg2 arg3 harg3 arg8 arg10 x0 x1 x2) 5 24 :=
  PInv.step (part178 c i arg1 harg1 arg2 harg2 arg3 harg3 arg8 arg10 x0 x1 x2) _ _ _ _

theorem part180 : PInv (i 0).val x0 x1 x2 (kernelRun0_B.sl.HS2_180 (F := Ideal) c i arg1 harg1 arg2 harg2 arg3 harg3 arg8 arg10 x0 x1 x2) 5 25 :=
  PInv.step (part179 c i arg1 harg1 arg2 harg2 arg3 harg3 arg8 arg10 x0 x1 x2) _ _ _ _

theorem part181 : PInv (i 0).val x0 x1 x2 (kernelRun0_B.sl.HS2_181 (F := Ideal) c i arg1 harg1 arg2 harg2 arg3 harg3 arg8 arg10 x0 x1 x2) 5 26 :=
  PInv.step (part180 c i arg1 harg1 arg2 harg2 arg3 harg3 arg8 arg10 x0 x1 x2) _ _ _ _

theorem part182 : PInv (i 0).val x0 x1 x2 (kernelRun0_B.sl.HS2_182 (F := Ideal) c i arg1 harg1 arg2 harg2 arg3 harg3 arg8 arg10 x0 x1 x2) 5 27 :=
  PInv.step (part181 c i arg1 harg1 arg2 harg2 arg3 harg3 arg8 arg10 x0 x1 x2) _ _ _ _

theorem part183 : PInv (i 0).val x0 x1 x2 (kernelRun0_B.sl.HS2_183 (F := Ideal) c i arg1 harg1 arg2 harg2 arg3 harg3 arg8 arg10 x0 x1 x2) 5 28 :=
  PInv.step (part182 c i arg1 harg1 arg2 harg2 arg3 harg3 arg8 arg10 x0 x1 x2) _ _ _ _

theorem part184 : PInv (i 0).val x0 x1 x2 (kernelRun0_B.sl.HS2_184 (F := Ideal) c i arg1 harg1 arg2 harg2 arg3 harg3 arg8 arg10 x0 x1 x2) 5 29 :=
  PInv.step (part183 c i arg1 harg1 arg2 harg2 arg3 harg3 arg8 arg10 x0 x1 x2) _ _ _ _

theorem part185 : PInv (i 0).val x0 x1 x2 (kernelRun0_B.sl.HS2_185 (F := Ideal) c i arg1 harg1 arg2 harg2 arg3 harg3 arg8 arg10 x0 x1 x2) 5 30 :=
  PInv.step (part184 c i arg1 harg1 arg2 harg2 arg3 harg3 arg8 arg10 x0 x1 x2) _ _ _ _

theorem part186 : PInv (i 0).val x0 x1 x2 (kernelRun0_B.sl.HS2_186 (F := Ideal) c i arg1 harg1 arg2 harg2 arg3 harg3 arg8 arg10 x0 x1 x2) 5 31 :=
  PInv.step (part185 c i arg1 harg1 arg2 harg2 arg3 harg3 arg8 arg10 x0 x1 x2) _ _ _ _

theorem part187 : PInv (i 0).val x0 x1 x2 (kernelRun0_B.sl.HS2_187 (F := Ideal) c i arg1 harg1 arg2 harg2 arg3 harg3 arg8 arg10 x0 x1 x2) 6 1 :=
  PInv.step ((part186 c i arg1 harg1 arg2 harg2 arg3 harg3 arg8 arg10 x0 x1 x2).roll) _ _ _ _

theorem part188 : PInv (i 0).val x0 x1 x2 (kernelRun0_B.sl.HS2_188 (F := Ideal) c i arg1 harg1 arg2 harg2 arg3 harg3 arg8 arg10 x0 x1 x2) 6 2 :=
  PInv.step (part187 c i arg1 harg1 arg2 harg2 arg3 harg3 arg8 arg10 x0 x1 x2) _ _ _ _

theorem part189 : PInv (i 0).val x0 x1 x2 (kernelRun0_B.sl.HS2_189 (F := Ideal) c i arg1 harg1 arg2 harg2 arg3 harg3 arg8 arg10 x0 x1 x2) 6 3 :=
  PInv.step (part188 c i arg1 harg1 arg2 harg2 arg3 harg3 arg8 arg10 x0 x1 x2) _ _ _ _

theorem part190 : PInv (i 0).val x0 x1 x2 (kernelRun0_B.sl.HS2_190 (F := Ideal) c i arg1 harg1 arg2 harg2 arg3 harg3 arg8 arg10 x0 x1 x2) 6 4 :=
  PInv.step (part189 c i arg1 harg1 arg2 harg2 arg3 harg3 arg8 arg10 x0 x1 x2) _ _ _ _

theorem part191 : PInv (i 0).val x0 x1 x2 (kernelRun0_B.sl.HS2_191 (F := Ideal) c i arg1 harg1 arg2 harg2 arg3 harg3 arg8 arg10 x0 x1 x2) 6 5 :=
  PInv.step (part190 c i arg1 harg1 arg2 harg2 arg3 harg3 arg8 arg10 x0 x1 x2) _ _ _ _

theorem part192 : PInv (i 0).val x0 x1 x2 (kernelRun0_B.sl.HS2_192 (F := Ideal) c i arg1 harg1 arg2 harg2 arg3 harg3 arg8 arg10 x0 x1 x2) 6 6 :=
  PInv.step (part191 c i arg1 harg1 arg2 harg2 arg3 harg3 arg8 arg10 x0 x1 x2) _ _ _ _

theorem part193 : PInv (i 0).val x0 x1 x2 (kernelRun0_B.sl.HS2_193 (F := Ideal) c i arg1 harg1 arg2 harg2 arg3 harg3 arg8 arg10 x0 x1 x2) 6 7 :=
  PInv.step (part192 c i arg1 harg1 arg2 harg2 arg3 harg3 arg8 arg10 x0 x1 x2) _ _ _ _

theorem part194 : PInv (i 0).val x0 x1 x2 (kernelRun0_B.sl.HS2_194 (F := Ideal) c i arg1 harg1 arg2 harg2 arg3 harg3 arg8 arg10 x0 x1 x2) 6 8 :=
  PInv.step (part193 c i arg1 harg1 arg2 harg2 arg3 harg3 arg8 arg10 x0 x1 x2) _ _ _ _

theorem part195 : PInv (i 0).val x0 x1 x2 (kernelRun0_B.sl.HS2_195 (F := Ideal) c i arg1 harg1 arg2 harg2 arg3 harg3 arg8 arg10 x0 x1 x2) 6 9 :=
  PInv.step (part194 c i arg1 harg1 arg2 harg2 arg3 harg3 arg8 arg10 x0 x1 x2) _ _ _ _

theorem part196 : PInv (i 0).val x0 x1 x2 (kernelRun0_B.sl.HS2_196 (F := Ideal) c i arg1 harg1 arg2 harg2 arg3 harg3 arg8 arg10 x0 x1 x2) 6 10 :=
  PInv.step (part195 c i arg1 harg1 arg2 harg2 arg3 harg3 arg8 arg10 x0 x1 x2) _ _ _ _

theorem part197 : PInv (i 0).val x0 x1 x2 (kernelRun0_B.sl.HS2_197 (F := Ideal) c i arg1 harg1 arg2 harg2 arg3 harg3 arg8 arg10 x0 x1 x2) 6 11 :=
  PInv.step (part196 c i arg1 harg1 arg2 harg2 arg3 harg3 arg8 arg10 x0 x1 x2) _ _ _ _

theorem part198 : PInv (i 0).val x0 x1 x2 (kernelRun0_B.sl.HS2_198 (F := Ideal) c i arg1 harg1 arg2 harg2 arg3 harg3 arg8 arg10 x0 x1 x2) 6 12 :=
  PInv.step (part197 c i arg1 harg1 arg2 harg2 arg3 harg3 arg8 arg10 x0 x1 x2) _ _ _ _

theorem part199 : PInv (i 0).val x0 x1 x2 (kernelRun0_B.sl.HS2_199 (F := Ideal) c i arg1 harg1 arg2 harg2 arg3 harg3 arg8 arg10 x0 x1 x2) 6 13 :=
  PInv.step (part198 c i arg1 harg1 arg2 harg2 arg3 harg3 arg8 arg10 x0 x1 x2) _ _ _ _

theorem part200 : PInv (i 0).val x0 x1 x2 (kernelRun0_B.sl.HS2_200 (F := Ideal) c i arg1 harg1 arg2 harg2 arg3 harg3 arg8 arg10 x0 x1 x2) 6 14 :=
  PInv.step (part199 c i arg1 harg1 arg2 harg2 arg3 harg3 arg8 arg10 x0 x1 x2) _ _ _ _

theorem part201 : PInv (i 0).val x0 x1 x2 (kernelRun0_B.sl.HS2_201 (F := Ideal) c i arg1 harg1 arg2 harg2 arg3 harg3 arg8 arg10 x0 x1 x2) 6 15 :=
  PInv.step (part200 c i arg1 harg1 arg2 harg2 arg3 harg3 arg8 arg10 x0 x1 x2) _ _ _ _

theorem part202 : PInv (i 0).val x0 x1 x2 (kernelRun0_B.sl.HS2_202 (F := Ideal) c i arg1 harg1 arg2 harg2 arg3 harg3 arg8 arg10 x0 x1 x2) 6 16 :=
  PInv.step (part201 c i arg1 harg1 arg2 harg2 arg3 harg3 arg8 arg10 x0 x1 x2) _ _ _ _

theorem part203 : PInv (i 0).val x0 x1 x2 (kernelRun0_B.sl.HS2_203 (F := Ideal) c i arg1 harg1 arg2 harg2 arg3 harg3 arg8 arg10 x0 x1 x2) 6 17 :=
  PInv.step (part202 c i arg1 harg1 arg2 harg2 arg3 harg3 arg8 arg10 x0 x1 x2) _ _ _ _

theorem part204 : PInv (i 0).val x0 x1 x2 (kernelRun0_B.sl.HS2_204 (F := Ideal) c i arg1 harg1 arg2 harg2 arg3 harg3 arg8 arg10 x0 x1 x2) 6 18 :=
  PInv.step (part203 c i arg1 harg1 arg2 harg2 arg3 harg3 arg8 arg10 x0 x1 x2) _ _ _ _

theorem part205 : PInv (i 0).val x0 x1 x2 (kernelRun0_B.sl.HS2_205 (F := Ideal) c i arg1 harg1 arg2 harg2 arg3 harg3 arg8 arg10 x0 x1 x2) 6 19 :=
  PInv.step (part204 c i arg1 harg1 arg2 harg2 arg3 harg3 arg8 arg10 x0 x1 x2) _ _ _ _

theorem part206 : PInv (i 0).val x0 x1 x2 (kernelRun0_B.sl.HS2_206 (F := Ideal) c i arg1 harg1 arg2 harg2 arg3 harg3 arg8 arg10 x0 x1 x2) 6 20 :=
  PInv.step (part205 c i arg1 harg1 arg2 harg2 arg3 harg3 arg8 arg10 x0 x1 x2) _ _ _ _

theorem part207 : PInv (i 0).val x0 x1 x2 (kernelRun0_B.sl.HS2_207 (F := Ideal) c i arg1 harg1 arg2 harg2 arg3 harg3 arg8 arg10 x0 x1 x2) 6 21 :=
  PInv.step (part206 c i arg1 harg1 arg2 harg2 arg3 harg3 arg8 arg10 x0 x1 x2) _ _ _ _

theorem part208 : PInv (i 0).val x0 x1 x2 (kernelRun0_B.sl.HS2_208 (F := Ideal) c i arg1 harg1 arg2 harg2 arg3 harg3 arg8 arg10 x0 x1 x2) 6 22 :=
  PInv.step (part207 c i arg1 harg1 arg2 harg2 arg3 harg3 arg8 arg10 x0 x1 x2) _ _ _ _

theorem part209 : PInv (i 0).val x0 x1 x2 (kernelRun0_B.sl.HS2_209 (F := Ideal) c i arg1 harg1 arg2 harg2 arg3 harg3 arg8 arg10 x0 x1 x2) 6 23 :=
  PInv.step (part208 c i arg1 harg1 arg2 harg2 arg3 harg3 arg8 arg10 x0 x1 x2) _ _ _ _

theorem part210 : PInv (i 0).val x0 x1 x2 (kernelRun0_B.sl.HS2_210 (F := Ideal) c i arg1 harg1 arg2 harg2 arg3 harg3 arg8 arg10 x0 x1 x2) 6 24 :=
  PInv.step (part209 c i arg1 harg1 arg2 harg2 arg3 harg3 arg8 arg10 x0 x1 x2) _ _ _ _

theorem part211 : PInv (i 0).val x0 x1 x2 (kernelRun0_B.sl.HS2_211 (F := Ideal) c i arg1 harg1 arg2 harg2 arg3 harg3 arg8 arg10 x0 x1 x2) 6 25 :=
  PInv.step (part210 c i arg1 harg1 arg2 harg2 arg3 harg3 arg8 arg10 x0 x1 x2) _ _ _ _

theorem part212 : PInv (i 0).val x0 x1 x2 (kernelRun0_B.sl.HS2_212 (F := Ideal) c i arg1 harg1 arg2 harg2 arg3 harg3 arg8 arg10 x0 x1 x2) 6 26 :=
  PInv.step (part211 c i arg1 harg1 arg2 harg2 arg3 harg3 arg8 arg10 x0 x1 x2) _ _ _ _

theorem part213 : PInv (i 0).val x0 x1 x2 (kernelRun0_B.sl.HS2_213 (F := Ideal) c i arg1 harg1 arg2 harg2 arg3 harg3 arg8 arg10 x0 x1 x2) 6 27 :=
  PInv.step (part212 c i arg1 harg1 arg2 harg2 arg3 harg3 arg8 arg10 x0 x1 x2) _ _ _ _

theorem part214 : PInv (i 0).val x0 x1 x2 (kernelRun0_B.sl.HS2_214 (F := Ideal) c i arg1 harg1 arg2 harg2 arg3 harg3 arg8 arg10 x0 x1 x2) 6 28 :=
  PInv.step (part213 c i arg1 harg1 arg2 harg2 arg3 harg3 arg8 arg10 x0 x1 x2) _ _ _ _

theorem part215 : PInv (i 0).val x0 x1 x2 (kernelRun0_B.sl.HS2_215 (F := Ideal) c i arg1 harg1 arg2 harg2 arg3 harg3 arg8 arg10 x0 x1 x2) 6 29 :=
  PInv.step (part214 c i arg1 harg1 arg2 harg2 arg3 harg3 arg8 arg10 x0 x1 x2) _ _ _ _

theorem part216 : PInv (i 0).val x0 x1 x2 (kernelRun0_B.sl.HS2_216 (F := Ideal) c i arg1 harg1 arg2 harg2 arg3 harg3 arg8 arg10 x0 x1 x2) 6 30 :=
  PInv.step (part215 c i arg1 harg1 arg2 harg2 arg3 harg3 arg8 arg10 x0 x1 x2) _ _ _ _

theorem part217 : PInv (i 0).val x0 x1 x2 (kernelRun0_B.sl.HS2_217 (F := Ideal) c i arg1 harg1 arg2 harg2 arg3 harg3 arg8 arg10 x0 x1 x2) 6 31 :=
  PInv.step (part216 c i arg1 harg1 arg2 harg2 arg3 harg3 arg8 arg10 x0 x1 x2) _ _ _ _

theorem part218 : PInv (i 0).val x0 x1 x2 (kernelRun0_B.sl.HS2_218 (F := Ideal) c i arg1 harg1 arg2 harg2 arg3 harg3 arg8 arg10 x0 x1 x2) 7 1 :=
  PInv.step ((part217 c i arg1 harg1 arg2 harg2 arg3 harg3 arg8 arg10 x0 x1 x2).roll) _ _ _ _

theorem part219 : PInv (i 0).val x0 x1 x2 (kernelRun0_B.sl.HS2_219 (F := Ideal) c i arg1 harg1 arg2 harg2 arg3 harg3 arg8 arg10 x0 x1 x2) 7 2 :=
  PInv.step (part218 c i arg1 harg1 arg2 harg2 arg3 harg3 arg8 arg10 x0 x1 x2) _ _ _ _

theorem part220 : PInv (i 0).val x0 x1 x2 (kernelRun0_B.sl.HS2_220 (F := Ideal) c i arg1 harg1 arg2 harg2 arg3 harg3 arg8 arg10 x0 x1 x2) 7 3 :=
  PInv.step (part219 c i arg1 harg1 arg2 harg2 arg3 harg3 arg8 arg10 x0 x1 x2) _ _ _ _

theorem part221 : PInv (i 0).val x0 x1 x2 (kernelRun0_B.sl.HS2_221 (F := Ideal) c i arg1 harg1 arg2 harg2 arg3 harg3 arg8 arg10 x0 x1 x2) 7 4 :=
  PInv.step (part220 c i arg1 harg1 arg2 harg2 arg3 harg3 arg8 arg10 x0 x1 x2) _ _ _ _

theorem part222 : PInv (i 0).val x0 x1 x2 (kernelRun0_B.sl.HS2_222 (F := Ideal) c i arg1 harg1 arg2 harg2 arg3 harg3 arg8 arg10 x0 x1 x2) 7 5 :=
  PInv.step (part221 c i arg1 harg1 arg2 harg2 arg3 harg3 arg8 arg10 x0 x1 x2) _ _ _ _

theorem part223 : PInv (i 0).val x0 x1 x2 (kernelRun0_B.sl.HS2_223 (F := Ideal) c i arg1 harg1 arg2 harg2 arg3 harg3 arg8 arg10 x0 x1 x2) 7 6 :=
  PInv.step (part222 c i arg1 harg1 arg2 harg2 arg3 harg3 arg8 arg10 x0 x1 x2) _ _ _ _

theorem part224 : PInv (i 0).val x0 x1 x2 (kernelRun0_B.sl.HS2_224 (F := Ideal) c i arg1 harg1 arg2 harg2 arg3 harg3 arg8 arg10 x0 x1 x2) 7 7 :=
  PInv.step (part223 c i arg1 harg1 arg2 harg2 arg3 harg3 arg8 arg10 x0 x1 x2) _ _ _ _

theorem part225 : PInv (i 0).val x0 x1 x2 (kernelRun0_B.sl.HS2_225 (F := Ideal) c i arg1 harg1 arg2 harg2 arg3 harg3 arg8 arg10 x0 x1 x2) 7 8 :=
  PInv.step (part224 c i arg1 harg1 arg2 harg2 arg3 harg3 arg8 arg10 x0 x1 x2) _ _ _ _

theorem part226 : PInv (i 0).val x0 x1 x2 (kernelRun0_B.sl.HS2_226 (F := Ideal) c i arg1 harg1 arg2 harg2 arg3 harg3 arg8 arg10 x0 x1 x2) 7 9 :=
  PInv.step (part225 c i arg1 harg1 arg2 harg2 arg3 harg3 arg8 arg10 x0 x1 x2) _ _ _ _

theorem part227 : PInv (i 0).val x0 x1 x2 (kernelRun0_B.sl.HS2_227 (F := Ideal) c i arg1 harg1 arg2 harg2 arg3 harg3 arg8 arg10 x0 x1 x2) 7 10 :=
  PInv.step (part226 c i arg1 harg1 arg2 harg2 arg3 harg3 arg8 arg10 x0 x1 x2) _ _ _ _

theorem part228 : PInv (i 0).val x0 x1 x2 (kernelRun0_B.sl.HS2_228 (F := Ideal) c i arg1 harg1 arg2 harg2 arg3 harg3 arg8 arg10 x0 x1 x2) 7 11 :=
  PInv.step (part227 c i arg1 harg1 arg2 harg2 arg3 harg3 arg8 arg10 x0 x1 x2) _ _ _ _

theorem part229 : PInv (i 0).val x0 x1 x2 (kernelRun0_B.sl.HS2_229 (F := Ideal) c i arg1 harg1 arg2 harg2 arg3 harg3 arg8 arg10 x0 x1 x2) 7 12 :=
  PInv.step (part228 c i arg1 harg1 arg2 harg2 arg3 harg3 arg8 arg10 x0 x1 x2) _ _ _ _

theorem part230 : PInv (i 0).val x0 x1 x2 (kernelRun0_B.sl.HS2_230 (F := Ideal) c i arg1 harg1 arg2 harg2 arg3 harg3 arg8 arg10 x0 x1 x2) 7 13 :=
  PInv.step (part229 c i arg1 harg1 arg2 harg2 arg3 harg3 arg8 arg10 x0 x1 x2) _ _ _ _

theorem part231 : PInv (i 0).val x0 x1 x2 (kernelRun0_B.sl.HS2_231 (F := Ideal) c i arg1 harg1 arg2 harg2 arg3 harg3 arg8 arg10 x0 x1 x2) 7 14 :=
  PInv.step (part230 c i arg1 harg1 arg2 harg2 arg3 harg3 arg8 arg10 x0 x1 x2) _ _ _ _

theorem part232 : PInv (i 0).val x0 x1 x2 (kernelRun0_B.sl.HS2_232 (F := Ideal) c i arg1 harg1 arg2 harg2 arg3 harg3 arg8 arg10 x0 x1 x2) 7 15 :=
  PInv.step (part231 c i arg1 harg1 arg2 harg2 arg3 harg3 arg8 arg10 x0 x1 x2) _ _ _ _

theorem part233 : PInv (i 0).val x0 x1 x2 (kernelRun0_B.sl.HS2_233 (F := Ideal) c i arg1 harg1 arg2 harg2 arg3 harg3 arg8 arg10 x0 x1 x2) 7 16 :=
  PInv.step (part232 c i arg1 harg1 arg2 harg2 arg3 harg3 arg8 arg10 x0 x1 x2) _ _ _ _

theorem part234 : PInv (i 0).val x0 x1 x2 (kernelRun0_B.sl.HS2_234 (F := Ideal) c i arg1 harg1 arg2 harg2 arg3 harg3 arg8 arg10 x0 x1 x2) 7 17 :=
  PInv.step (part233 c i arg1 harg1 arg2 harg2 arg3 harg3 arg8 arg10 x0 x1 x2) _ _ _ _

theorem part235 : PInv (i 0).val x0 x1 x2 (kernelRun0_B.sl.HS2_235 (F := Ideal) c i arg1 harg1 arg2 harg2 arg3 harg3 arg8 arg10 x0 x1 x2) 7 18 :=
  PInv.step (part234 c i arg1 harg1 arg2 harg2 arg3 harg3 arg8 arg10 x0 x1 x2) _ _ _ _

theorem part236 : PInv (i 0).val x0 x1 x2 (kernelRun0_B.sl.HS2_236 (F := Ideal) c i arg1 harg1 arg2 harg2 arg3 harg3 arg8 arg10 x0 x1 x2) 7 19 :=
  PInv.step (part235 c i arg1 harg1 arg2 harg2 arg3 harg3 arg8 arg10 x0 x1 x2) _ _ _ _

theorem part237 : PInv (i 0).val x0 x1 x2 (kernelRun0_B.sl.HS2_237 (F := Ideal) c i arg1 harg1 arg2 harg2 arg3 harg3 arg8 arg10 x0 x1 x2) 7 20 :=
  PInv.step (part236 c i arg1 harg1 arg2 harg2 arg3 harg3 arg8 arg10 x0 x1 x2) _ _ _ _

theorem part238 : PInv (i 0).val x0 x1 x2 (kernelRun0_B.sl.HS2_238 (F := Ideal) c i arg1 harg1 arg2 harg2 arg3 harg3 arg8 arg10 x0 x1 x2) 7 21 :=
  PInv.step (part237 c i arg1 harg1 arg2 harg2 arg3 harg3 arg8 arg10 x0 x1 x2) _ _ _ _

theorem part239 : PInv (i 0).val x0 x1 x2 (kernelRun0_B.sl.HS2_239 (F := Ideal) c i arg1 harg1 arg2 harg2 arg3 harg3 arg8 arg10 x0 x1 x2) 7 22 :=
  PInv.step (part238 c i arg1 harg1 arg2 harg2 arg3 harg3 arg8 arg10 x0 x1 x2) _ _ _ _

theorem part240 : PInv (i 0).val x0 x1 x2 (kernelRun0_B.sl.HS2_240 (F := Ideal) c i arg1 harg1 arg2 harg2 arg3 harg3 arg8 arg10 x0 x1 x2) 7 23 :=
  PInv.step (part239 c i arg1 harg1 arg2 harg2 arg3 harg3 arg8 arg10 x0 x1 x2) _ _ _ _

theorem part241 : PInv (i 0).val x0 x1 x2 (kernelRun0_B.sl.HS2_241 (F := Ideal) c i arg1 harg1 arg2 harg2 arg3 harg3 arg8 arg10 x0 x1 x2) 7 24 :=
  PInv.step (part240 c i arg1 harg1 arg2 harg2 arg3 harg3 arg8 arg10 x0 x1 x2) _ _ _ _

theorem part242 : PInv (i 0).val x0 x1 x2 (kernelRun0_B.sl.HS2_242 (F := Ideal) c i arg1 harg1 arg2 harg2 arg3 harg3 arg8 arg10 x0 x1 x2) 7 25 :=
  PInv.step (part241 c i arg1 harg1 arg2 harg2 arg3 harg3 arg8 arg10 x0 x1 x2) _ _ _ _

theorem part243 : PInv (i 0).val x0 x1 x2 (kernelRun0_B.sl.HS2_243 (F := Ideal) c i arg1 harg1 arg2 harg2 arg3 harg3 arg8 arg10 x0 x1 x2) 7 26 :=
  PInv.step (part242 c i arg1 harg1 arg2 harg2 arg3 harg3 arg8 arg10 x0 x1 x2) _ _ _ _

theorem part244 : PInv (i 0).val x0 x1 x2 (kernelRun0_B.sl.HS2_244 (F := Ideal) c i arg1 harg1 arg2 harg2 arg3 harg3 arg8 arg10 x0 x1 x2) 7 27 :=
  PInv.step (part243 c i arg1 harg1 arg2 harg2 arg3 harg3 arg8 arg10 x0 x1 x2) _ _ _ _

theorem part245 : PInv (i 0).val x0 x1 x2 (kernelRun0_B.sl.HS2_245 (F := Ideal) c i arg1 harg1 arg2 harg2 arg3 harg3 arg8 arg10 x0 x1 x2) 7 28 :=
  PInv.step (part244 c i arg1 harg1 arg2 harg2 arg3 harg3 arg8 arg10 x0 x1 x2) _ _ _ _

theorem part246 : PInv (i 0).val x0 x1 x2 (kernelRun0_B.sl.HS2_246 (F := Ideal) c i arg1 harg1 arg2 harg2 arg3 harg3 arg8 arg10 x0 x1 x2) 7 29 :=
  PInv.step (part245 c i arg1 harg1 arg2 harg2 arg3 harg3 arg8 arg10 x0 x1 x2) _ _ _ _

theorem part247 : PInv (i 0).val x0 x1 x2 (kernelRun0_B.sl.HS2_247 (F := Ideal) c i arg1 harg1 arg2 harg2 arg3 harg3 arg8 arg10 x0 x1 x2) 7 30 :=
  PInv.step (part246 c i arg1 harg1 arg2 harg2 arg3 harg3 arg8 arg10 x0 x1 x2) _ _ _ _

theorem part248 : PInv (i 0).val x0 x1 x2 (kernelRun0_B.sl.HS2_248 (F := Ideal) c i arg1 harg1 arg2 harg2 arg3 harg3 arg8 arg10 x0 x1 x2) 7 31 :=
  PInv.step (part247 c i arg1 harg1 arg2 harg2 arg3 harg3 arg8 arg10 x0 x1 x2) _ _ _ _

end Conv
-- ==== Proof.Conv.Rows.lean ====
/- The rows of the weight gradient after each store, at the first grid point and at the others. -/
module

public import proofs.«01_k».proof.Proof.Conv.PartsB

@[expose] public section

set_option maxRecDepth 16384
set_option maxHeartbeats 1000000

noncomputable section

namespace Conv

open Idealize.ShloMosaic Idealize.ShloMosaic.TcCoe Idealize.SL.Sem
open Cert.KernelIdeal Cert.KernelIdeal.Gen

variable (c : Dev nD) (i : grid0.Coords)
  (arg1 : Memref sig .tc .vmem S512x1792 .bf16) (harg1 : arg1.IsWhole) (arg2 : Memref sig .tc .vmem S32x1792 .bf16) (harg2 : arg2.IsWhole)
  (arg3 : Memref sig .tc .vmem S512x512 .f32) (harg3 : arg3.IsWhole)
  (arg8 : Memref sig .tc .vmem S8x544x512 .f32) (arg10 : Memref sig .tc .vmem S31x8x512 .f32)
  (arg7 : Memref sig .tc .vmem S31x512 .f32) (harg7 : arg7.IsWhole)
  (x0 : Vec Ideal S512x1792 .bf16) (x1 : Vec Ideal S32x1792 .bf16) (x2 : Vec Ideal S512x512 .f32)

/-- What one grid point adds to row `j`, channel `ch`. -/
def rowSum (ip : ℕ) (x0 : S512x1792.Idx → EReal) (x1 : S32x1792.Idx → EReal) (x2 : S512x512.Idx → EReal) (j ch : ℕ) : EReal :=
  ∑ s : Fin 8, ∑ k ∈ Finset.range 8, tileE ip x0 x1 x2 k j s.val ch

/-- Rows below `j` hold the base and the point's sum; where the base was stored before, the others hold the base. -/
def RInv (stored : Prop) (base : ℕ → ℕ → EReal) (ip : ℕ) (x0 : S512x1792.Idx → EReal) (x1 : S32x1792.Idx → EReal)
    (x2 : S512x512.Idx → EReal) (L : List (View.Piece (Elt Ideal) S31x512 .f32)) (j : ℕ) : Prop :=
  ∀ y : S31x512.Idx,
    ((y 0).val < j → (View.canon (Val := Elt Ideal) L y : EReal) = base (y 0).val (y 1).val + rowSum ip x0 x1 x2 (y 0).val (y 1).val) ∧
    (stored → j ≤ (y 0).val → (View.canon (Val := Elt Ideal) L y : EReal) = base (y 0).val (y 1).val)

theorem RInv.nil (base : ℕ → ℕ → EReal) (ip : ℕ) (x0 : S512x1792.Idx → EReal) (x1 : S32x1792.Idx → EReal)
    (x2 : S512x512.Idx → EReal) : RInv False base ip x0 x1 x2 [] 0 :=
  fun _ => ⟨fun h => absurd h (Nat.not_lt_zero _), fun h => h.elim⟩

section Steps

variable {c : Dev nD} {i : grid0.Coords}
  {arg1 : Memref sig .tc .vmem S512x1792 .bf16} {harg1 : arg1.IsWhole} {arg2 : Memref sig .tc .vmem S32x1792 .bf16} {harg2 : arg2.IsWhole}
  {arg3 : Memref sig .tc .vmem S512x512 .f32} {harg3 : arg3.IsWhole}
  {arg8 : Memref sig .tc .vmem S8x544x512 .f32} {arg10 : Memref sig .tc .vmem S31x8x512 .f32}
  {arg7 : Memref sig .tc .vmem S31x512 .f32} {harg7 : arg7.IsWhole}
  {x0 : Vec Ideal S512x1792 .bf16} {x1 : Vec Ideal S32x1792 .bf16} {x2 : Vec Ideal S512x512 .f32}
  {xo6 : Vec Ideal S31x512 .f32} {stored : Prop} {base : ℕ → ℕ → EReal}
  {L : List (View.Piece (Elt Ideal) S31x512 .f32)} {j j' : ℕ}

/-- A row stored anew. -/
theorem RInv.put (h : RInv stored base (i 0).val x0 x1 x2 L j) (inb : ∀ a, ![j, 0] a + (![1, 512] : Fin 2 → ℕ) a ≤ S31x512.size a)
    (prev : Vec Ideal S1x512 .f32) (hprev : ∀ q : Fin 512, (prev (ValueIdx.ix2 (0 : Fin 1) q) : EReal) = base j q.val)
    (inb' : ∀ a, ![j, 0, 0] a + (![1, 8, 512] : Fin 3 → ℕ) a ≤ S31x8x512.size a) (hj : j < 31) (hj' : j + 1 = j') :
    RInv stored base (i 0).val x0 x1 x2 ((⟨Rect.unit (s := S31x512) ![j, 0] ![1, 512] inb,
      rowPay prev (arg10.view.readCov (kernelRun0_B.sl.HS2_248 (F := Ideal) c i arg1 harg1 arg2 harg2 arg3 harg3 arg8 arg10 x0 x1 x2)
        (Rect.unit (s := S31x8x512) ![j, 0, 0] ![1, 8, 512] inb').toLoadRect)⟩ : View.Piece (Elt Ideal) S31x512 .f32) :: L) j' := by
  subst hj'
  intro y
  by_cases hy : (y 0).val = j
  · have e : (Rect.unit (s := S31x512) ![j, 0] ![1, 512] inb).emb (ValueIdx.ix2 (0 : Fin 1) (y 1)) = y := by
      refine Rect.emb_eq_of_coords _ _ _ fun a => ?_
      match a with
      | ⟨0, _⟩ => show (y 0).val = j + 1 * 0; omega
      | ⟨1, _⟩ => show (y 1).val = 0 + 1 * (y 1).val; omega
    refine ⟨fun _ => ?_, fun _ h' => absurd h' (by omega)⟩
    conv_lhs => rw [← e]
    rw [View.canon_cons_emb, hy]
    refine (rowPay_at _ _ (y 1)).trans (congrArg₂ (fun a b : EReal => a + b) (hprev (y 1)) (Finset.sum_congr rfl fun s _ => ?_))
    refine (slot_at inb' hj s (y 1)).trans ?_
    exact (part248 c i arg1 harg1 arg2 harg2 arg3 harg3 arg8 arg10 x0 x1 x2 _).1 hj
  · rw [View.canon_cons_of_not_mem _ _ (Rect.not_mem_set_of_axis _ y 0 j 1 rfl rfl rfl (by omega))]
    exact ⟨fun h' => (h y).1 (by omega), fun hs h' => (h y).2 hs (by omega)⟩

/-- A row added to what the buffer held before the point. -/
theorem RInv.add (h : RInv False (N2 xo6) (i 0).val x0 x1 x2 L j)
    (inb : ∀ a, ![j, 0] a + (![1, 512] : Fin 2 → ℕ) a ≤ S31x512.size a)
    (inb1 : ∀ a, ![j, 0] a + (![1, 512] : Fin 2 → ℕ) a ≤ S31x512.size a)
    (inb' : ∀ a, ![j, 0, 0] a + (![1, 8, 512] : Fin 3 → ℕ) a ≤ S31x8x512.size a) (hj : j < 31 := by decide) (hj' : j + 1 = j' := by rfl) :
    RInv False (N2 xo6) (i 0).val x0 x1 x2 ((⟨Rect.unit (s := S31x512) ![j, 0] ![1, 512] inb,
      rowPay (View.readAt (Elt Ideal) arg7.view (Rect.unit (s := S31x512) ![j, 0] ![1, 512] inb1).toLoadRect (harg7.unread xo6))
        (arg10.view.readCov (kernelRun0_B.sl.HS2_248 (F := Ideal) c i arg1 harg1 arg2 harg2 arg3 harg3 arg8 arg10 x0 x1 x2)
        (Rect.unit (s := S31x8x512) ![j, 0, 0] ![1, 8, 512] inb').toLoadRect)⟩ : View.Piece (Elt Ideal) S31x512 .f32) :: L) j' :=
  h.put inb _ (fun q => loadW arg7 harg7 xo6 inb1 q) inb' hj hj'

/-- A row added to what this point stored before. -/
theorem RInv.addStored (h : RInv True base (i 0).val x0 x1 x2 L j)
    (inb : ∀ a, ![j, 0] a + (![1, 512] : Fin 2 → ℕ) a ≤ S31x512.size a)
    (inb1 : ∀ a, ![j, 0] a + (![1, 512] : Fin 2 → ℕ) a ≤ S31x512.size a)
    (inb' : ∀ a, ![j, 0, 0] a + (![1, 8, 512] : Fin 3 → ℕ) a ≤ S31x8x512.size a) (hj : j < 31 := by decide) (hj' : j + 1 = j' := by rfl) :
    RInv True base (i 0).val x0 x1 x2 ((⟨Rect.unit (s := S31x512) ![j, 0] ![1, 512] inb,
      rowPay (arg7.view.readCov L (Rect.unit (s := S31x512) ![j, 0] ![1, 512] inb1).toLoadRect)
        (arg10.view.readCov (kernelRun0_B.sl.HS2_248 (F := Ideal) c i arg1 harg1 arg2 harg2 arg3 harg3 arg8 arg10 x0 x1 x2)
        (Rect.unit (s := S31x8x512) ![j, 0, 0] ![1, 8, 512] inb').toLoadRect)⟩ : View.Piece (Elt Ideal) S31x512 .f32) :: L) j' := by
  refine h.put inb _ (fun q => ?_) inb' hj hj'
  rw [View.readCov_eq_canon']
  have e : (Rect.unit (s := S31x512) ![j, 0] ![1, 512] inb1).toLoadRect.idx (ValueIdx.ix2 (0 : Fin 1) q)
      = ValueIdx.ix2 (⟨j, hj⟩ : Fin 31) q := by
    refine funext fun a => Fin.ext ?_
    match a with
    | ⟨0, _⟩ => show j + 1 * 0 = j; omega
    | ⟨1, _⟩ => show 0 + 1 * q.val = q.val; omega
  refine (congrArg (View.canon (Val := Elt Ideal) L) e).trans ?_
  exact (h (ValueIdx.ix2 (⟨j, hj⟩ : Fin 31) q)).2 trivial (le_refl j)

end Steps

theorem rowsA1 : RInv True (fun _ _ => 0) (i 0).val x0 x1 x2 (kernelRun0_A.sl.H6_1 (F := Ideal)) 0 := by
  refine fun y => ⟨fun h => absurd h (Nat.not_lt_zero _), fun _ _ => ?_⟩
  have e : (Rect.unit (s := S31x512) ![0, 0] S31x512.size inb_S31x512_S31x512_0_0).emb y = y := by
    refine Rect.emb_eq_of_coords _ _ _ fun a => ?_
    match a with
    | ⟨0, _⟩ => show (y 0).val = 0 + 1 * (y 0).val; omega
    | ⟨1, _⟩ => show (y 1).val = 0 + 1 * (y 1).val; omega
  conv_lhs => rw [← e]
  unfold kernelRun0_A.sl.H6_1
  rw [View.canon_cons_emb]
  pointwise [k0_pay1]

theorem rowsA2 : RInv True (fun _ _ => 0) (i 0).val x0 x1 x2 (kernelRun0_A.sl.H6_2 (F := Ideal) c i arg1 harg1 arg2 harg2 arg3 harg3 arg7 arg8 arg10 x0 x1 x2) 1 :=
  RInv.addStored (rowsA1 i x0 x1 x2) _ _ _

theorem rowsA3 : RInv True (fun _ _ => 0) (i 0).val x0 x1 x2 (kernelRun0_A.sl.H6_3 (F := Ideal) c i arg1 harg1 arg2 harg2 arg3 harg3 arg7 arg8 arg10 x0 x1 x2) 2 :=
  RInv.addStored (rowsA2 c i arg1 harg1 arg2 harg2 arg3 harg3 arg8 arg10 arg7 x0 x1 x2) _ _ _

theorem rowsA4 : RInv True (fun _ _ => 0) (i 0).val x0 x1 x2 (kernelRun0_A.sl.H6_4 (F := Ideal) c i arg1 harg1 arg2 harg2 arg3 harg3 arg7 arg8 arg10 x0 x1 x2) 3 :=
  RInv.addStored (rowsA3 c i arg1 harg1 arg2 harg2 arg3 harg3 arg8 arg10 arg7 x0 x1 x2) _ _ _

theorem rowsA5 : RInv True (fun _ _ => 0) (i 0).val x0 x1 x2 (kernelRun0_A.sl.H6_5 (F := Ideal) c i arg1 harg1 arg2 harg2 arg3 harg3 arg7 arg8 arg10 x0 x1 x2) 4 :=
  RInv.addStored (rowsA4 c i arg1 harg1 arg2 harg2 arg3 harg3 arg8 arg10 arg7 x0 x1 x2) _ _ _

theorem rowsA6 : RInv True (fun _ _ => 0) (i 0).val x0 x1 x2 (kernelRun0_A.sl.H6_6 (F := Ideal) c i arg1 harg1 arg2 harg2 arg3 harg3 arg7 arg8 arg10 x0 x1 x2) 5 :=
  RInv.addStored (rowsA5 c i arg1 harg1 arg2 harg2 arg3 harg3 arg8 arg10 arg7 x0 x1 x2) _ _ _

theorem rowsA7 : RInv True (fun _ _ => 0) (i 0).val x0 x1 x2 (kernelRun0_A.sl.H6_7 (F := Ideal) c i arg1 harg1 arg2 harg2 arg3 harg3 arg7 arg8 arg10 x0 x1 x2) 6 :=
  RInv.addStored (rowsA6 c i arg1 harg1 arg2 harg2 arg3 harg3 arg8 arg10 arg7 x0 x1 x2) _ _ _

theorem rowsA8 : RInv True (fun _ _ => 0) (i 0).val x0 x1 x2 (kernelRun0_A.sl.H6_8 (F := Ideal) c i arg1 harg1 arg2 harg2 arg3 harg3 arg7 arg8 arg10 x0 x1 x2) 7 :=
  RInv.addStored (rowsA7 c i arg1 harg1 arg2 harg2 arg3 harg3 arg8 arg10 arg7 x0 x1 x2) _ _ _

theorem rowsA9 : RInv True (fun _ _ => 0) (i 0).val x0 x1 x2 (kernelRun0_A.sl.H6_9 (F := Ideal) c i arg1 harg1 arg2 harg2 arg3 harg3 arg7 arg8 arg10 x0 x1 x2) 8 :=
  RInv.addStored (rowsA8 c i arg1 harg1 arg2 harg2 arg3 harg3 arg8 arg10 arg7 x0 x1 x2) _ _ _

theorem rowsA10 : RInv True (fun _ _ => 0) (i 0).val x0 x1 x2 (kernelRun0_A.sl.H6_10 (F := Ideal) c i arg1 harg1 arg2 harg2 arg3 harg3 arg7 arg8 arg10 x0 x1 x2) 9 :=
  RInv.addStored (rowsA9 c i arg1 harg1 arg2 harg2 arg3 harg3 arg8 arg10 arg7 x0 x1 x2) _ _ _

theorem rowsA11 : RInv True (fun _ _ => 0) (i 0).val x0 x1 x2 (kernelRun0_A.sl.H6_11 (F := Ideal) c i arg1 harg1 arg2 harg2 arg3 harg3 arg7 arg8 arg10 x0 x1 x2) 10 :=
  RInv.addStored (rowsA10 c i arg1 harg1 arg2 harg2 arg3 harg3 arg8 arg10 arg7 x0 x1 x2) _ _ _

theorem rowsA12 : RInv True (fun _ _ => 0) (i 0).val x0 x1 x2 (kernelRun0_A.sl.H6_12 (F := Ideal) c i arg1 harg1 arg2 harg2 arg3 harg3 arg7 arg8 arg10 x0 x1 x2) 11 :=
  RInv.addStored (rowsA11 c i arg1 harg1 arg2 harg2 arg3 harg3 arg8 arg10 arg7 x0 x1 x2) _ _ _

theorem rowsA13 : RInv True (fun _ _ => 0) (i 0).val x0 x1 x2 (kernelRun0_A.sl.H6_13 (F := Ideal) c i arg1 harg1 arg2 harg2 arg3 harg3 arg7 arg8 arg10 x0 x1 x2) 12 :=
  RInv.addStored (rowsA12 c i arg1 harg1 arg2 harg2 arg3 harg3 arg8 arg10 arg7 x0 x1 x2) _ _ _

theorem rowsA14 : RInv True (fun _ _ => 0) (i 0).val x0 x1 x2 (kernelRun0_A.sl.H6_14 (F := Ideal) c i arg1 harg1 arg2 harg2 arg3 harg3 arg7 arg8 arg10 x0 x1 x2) 13 :=
  RInv.addStored (rowsA13 c i arg1 harg1 arg2 harg2 arg3 harg3 arg8 arg10 arg7 x0 x1 x2) _ _ _

theorem rowsA15 : RInv True (fun _ _ => 0) (i 0).val x0 x1 x2 (kernelRun0_A.sl.H6_15 (F := Ideal) c i arg1 harg1 arg2 harg2 arg3 harg3 arg7 arg8 arg10 x0 x1 x2) 14 :=
  RInv.addStored (rowsA14 c i arg1 harg1 arg2 harg2 arg3 harg3 arg8 arg10 arg7 x0 x1 x2) _ _ _

theorem rowsA16 : RInv True (fun _ _ => 0) (i 0).val x0 x1 x2 (kernelRun0_A.sl.H6_16 (F := Ideal) c i arg1 harg1 arg2 harg2 arg3 harg3 arg7 arg8 arg10 x0 x1 x2) 15 :=
  RInv.addStored (rowsA15 c i arg1 harg1 arg2 harg2 arg3 harg3 arg8 arg10 arg7 x0 x1 x2) _ _ _

theorem rowsA17 : RInv True (fun _ _ => 0) (i 0).val x0 x1 x2 (kernelRun0_A.sl.H6_17 (F := Ideal) c i arg1 harg1 arg2 harg2 arg3 harg3 arg7 arg8 arg10 x0 x1 x2) 16 :=
  RInv.addStored (rowsA16 c i arg1 harg1 arg2 harg2 arg3 harg3 arg8 arg10 arg7 x0 x1 x2) _ _ _

theorem rowsA18 : RInv True (fun _ _ => 0) (i 0).val x0 x1 x2 (kernelRun0_A.sl.H6_18 (F := Ideal) c i arg1 harg1 arg2 harg2 arg3 harg3 arg7 arg8 arg10 x0 x1 x2) 17 :=
  RInv.addStored (rowsA17 c i arg1 harg1 arg2 harg2 arg3 harg3 arg8 arg10 arg7 x0 x1 x2) _ _ _

theorem rowsA19 : RInv True (fun _ _ => 0) (i 0).val x0 x1 x2 (kernelRun0_A.sl.H6_19 (F := Ideal) c i arg1 harg1 arg2 harg2 arg3 harg3 arg7 arg8 arg10 x0 x1 x2) 18 :=
  RInv.addStored (rowsA18 c i arg1 harg1 arg2 harg2 arg3 harg3 arg8 arg10 arg7 x0 x1 x2) _ _ _

theorem rowsA20 : RInv True (fun _ _ => 0) (i 0).val x0 x1 x2 (kernelRun0_A.sl.H6_20 (F := Ideal) c i arg1 harg1 arg2 harg2 arg3 harg3 arg7 arg8 arg10 x0 x1 x2) 19 :=
  RInv.addStored (rowsA19 c i arg1 harg1 arg2 harg2 arg3 harg3 arg8 arg10 arg7 x0 x1 x2) _ _ _

theorem rowsA21 : RInv True (fun _ _ => 0) (i 0).val x0 x1 x2 (kernelRun0_A.sl.H6_21 (F := Ideal) c i arg1 harg1 arg2 harg2 arg3 harg3 arg7 arg8 arg10 x0 x1 x2) 20 :=
  RInv.addStored (rowsA20 c i arg1 harg1 arg2 harg2 arg3 harg3 arg8 arg10 arg7 x0 x1 x2) _ _ _

theorem rowsA22 : RInv True (fun _ _ => 0) (i 0).val x0 x1 x2 (kernelRun0_A.sl.H6_22 (F := Ideal) c i arg1 harg1 arg2 harg2 arg3 harg3 arg7 arg8 arg10 x0 x1 x2) 21 :=
  RInv.addStored (rowsA21 c i arg1 harg1 arg2 harg2 arg3 harg3 arg8 arg10 arg7 x0 x1 x2) _ _ _

theorem rowsA23 : RInv True (fun _ _ => 0) (i 0).val x0 x1 x2 (kernelRun0_A.sl.H6_23 (F := Ideal) c i arg1 harg1 arg2 harg2 arg3 harg3 arg7 arg8 arg10 x0 x1 x2) 22 :=
  RInv.addStored (rowsA22 c i arg1 harg1 arg2 harg2 arg3 harg3 arg8 arg10 arg7 x0 x1 x2) _ _ _

theorem rowsA24 : RInv True (fun _ _ => 0) (i 0).val x0 x1 x2 (kernelRun0_A.sl.H6_24 (F := Ideal) c i arg1 harg1 arg2 harg2 arg3 harg3 arg7 arg8 arg10 x0 x1 x2) 23 :=
  RInv.addStored (rowsA23 c i arg1 harg1 arg2 harg2 arg3 harg3 arg8 arg10 arg7 x0 x1 x2) _ _ _

theorem rowsA25 : RInv True (fun _ _ => 0) (i 0).val x0 x1 x2 (kernelRun0_A.sl.H6_25 (F := Ideal) c i arg1 harg1 arg2 harg2 arg3 harg3 arg7 arg8 arg10 x0 x1 x2) 24 :=
  RInv.addStored (rowsA24 c i arg1 harg1 arg2 harg2 arg3 harg3 arg8 arg10 arg7 x0 x1 x2) _ _ _

theorem rowsA26 : RInv True (fun _ _ => 0) (i 0).val x0 x1 x2 (kernelRun0_A.sl.H6_26 (F := Ideal) c i arg1 harg1 arg2 harg2 arg3 harg3 arg7 arg8 arg10 x0 x1 x2) 25 :=
  RInv.addStored (rowsA25 c i arg1 harg1 arg2 harg2 arg3 harg3 arg8 arg10 arg7 x0 x1 x2) _ _ _

theorem rowsA27 : RInv True (fun _ _ => 0) (i 0).val x0 x1 x2 (kernelRun0_A.sl.H6_27 (F := Ideal) c i arg1 harg1 arg2 harg2 arg3 harg3 arg7 arg8 arg10 x0 x1 x2) 26 :=
  RInv.addStored (rowsA26 c i arg1 harg1 arg2 harg2 arg3 harg3 arg8 arg10 arg7 x0 x1 x2) _ _ _

theorem rowsA28 : RInv True (fun _ _ => 0) (i 0).val x0 x1 x2 (kernelRun0_A.sl.H6_28 (F := Ideal) c i arg1 harg1 arg2 harg2 arg3 harg3 arg7 arg8 arg10 x0 x1 x2) 27 :=
  RInv.addStored (rowsA27 c i arg1 harg1 arg2 harg2 arg3 harg3 arg8 arg10 arg7 x0 x1 x2) _ _ _

theorem rowsA29 : RInv True (fun _ _ => 0) (i 0).val x0 x1 x2 (kernelRun0_A.sl.H6_29 (F := Ideal) c i arg1 harg1 arg2 harg2 arg3 harg3 arg7 arg8 arg10 x0 x1 x2) 28 :=
  RInv.addStored (rowsA28 c i arg1 harg1 arg2 harg2 arg3 harg3 arg8 arg10 arg7 x0 x1 x2) _ _ _

theorem rowsA30 : RInv True (fun _ _ => 0) (i 0).val x0 x1 x2 (kernelRun0_A.sl.H6_30 (F := Ideal) c i arg1 harg1 arg2 harg2 arg3 harg3 arg7 arg8 arg10 x0 x1 x2) 29 :=
  RInv.addStored (rowsA29 c i arg1 harg1 arg2 harg2 arg3 harg3 arg8 arg10 arg7 x0 x1 x2) _ _ _

theorem rowsA31 : RInv True (fun _ _ => 0) (i 0).val x0 x1 x2 (kernelRun0_A.sl.H6_31 (F := Ideal) c i arg1 harg1 arg2 harg2 arg3 harg3 arg7 arg8 arg10 x0 x1 x2) 30 :=
  RInv.addStored (rowsA30 c i arg1 harg1 arg2 harg2 arg3 harg3 arg8 arg10 arg7 x0 x1 x2) _ _ _

end Conv
-- ==== Proof.Conv.TilesA.lean ====
/- What the kernel stores of rows 0 to 63, 64 to 127, 128 to 191, 192 to 255 of the gated gradient. -/
module

public import proofs.«01_k».proof.Proof.Conv.Loads

@[expose] public section

set_option maxRecDepth 16384
set_option maxHeartbeats 1000000

noncomputable section

namespace Conv

open Idealize.ShloMosaic Idealize.ShloMosaic.TcCoe Idealize.SL.Sem
open Cert.KernelIdeal Cert.KernelIdeal.Gen

variable (c : Dev nD) (i : grid0.Coords)
  (arg1 : Memref sig .tc .vmem S512x1792 .bf16) (harg1 : arg1.IsWhole)
  (arg3 : Memref sig .tc .vmem S512x512 .f32) (harg3 : arg3.IsWhole) (arg4 : Memref sig .tc .vmem S32x512 .f32) (harg4 : arg4.IsWhole)
  (arg5 : Memref sig .tc .vmem S31x512 .f32) (harg5 : arg5.IsWhole)
  (arg9 : Memref sig .tc .vmem S8x544x512 .f32)
  (x0 : Vec Ideal S512x1792 .bf16) (x2 : Vec Ideal S512x512 .f32) (x3 : Vec Ideal S32x512 .f32)
  (x4 : Vec Ideal S31x512 .f32)

theorem left0 (p : Fin 64) (q : Fin 512) :
    (k0_pay36 (kernelRun0_B.sl.r_1 c arg1 harg1 x0) (kernelRun0_B.sl.r_13 c i arg3 harg3 arg4 harg4 arg5 harg5 arg9 x2 x3 x4) (ValueIdx.ix2 p q) : EReal)
      = accE (i 0).val x2 x3 x4 (0 + p.val) q.val * sgm (N2 x0 (0 + p.val) (1280 + q.val)) := by
  unfold accE
  simp only [Finset.sum_range_succ, Finset.sum_range_zero, k0_pay26, k0_pay27, k0_pay28, k0_pay29, k0_pay30, k0_pay31, k0_pay32, k0_pay33, k0_pay34, k0_pay35, k0_pay36, k0_pay37, kernelRun0_B.sl.r_10, kernelRun0_B.sl.r_11, kernelRun0_B.sl.r_12, kernelRun0_B.sl.r_13, kernelRun0_B.sl.r_4, kernelRun0_B.sl.r_5, kernelRun0_B.sl.r_6, kernelRun0_B.sl.r_7, kernelRun0_B.sl.r_8, kernelRun0_B.sl.r_9, kernelRun0_B.sl.v118, kernelRun0_B.sl.v124, kernelRun0_B.sl.v130, kernelRun0_B.sl.v136, kernelRun0_B.sl.v142, kernelRun0_B.sl.v148, kernelRun0_B.sl.v154, kernelRun0_B.sl.v160, kernelRun0_B.sl.v166, kernelRun0_B.sl.v172, kernelRun0_B.sl.v178, kernelRun0_B.sl.v184, kernelRun0_B.sl.v190, kernelRun0_B.sl.v196, kernelRun0_B.sl.v202, kernelRun0_B.sl.v208, kernelRun0_B.sl.v214, kernelRun0_B.sl.v220, kernelRun0_B.sl.v226, kernelRun0_B.sl.v232, kernelRun0_B.sl.v238, kernelRun0_B.sl.v244, kernelRun0_B.sl.v250, kernelRun0_B.sl.v256, kernelRun0_B.sl.v262, kernelRun0_B.sl.v268, kernelRun0_B.sl.v274, kernelRun0_B.sl.v280, kernelRun0_B.sl.v286, kernelRun0_B.sl.v292, kernelRun0_B.sl.v298]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem right0 (p : Fin 64) (q : Fin 512) :
    (k0_pay37 (kernelRun0_B.sl.r c arg1 harg1 x0) (kernelRun0_B.sl.r_1 c arg1 harg1 x0) (kernelRun0_B.sl.r_13 c i arg3 harg3 arg4 harg4 arg5 harg5 arg9 x2 x3 x4) (ValueIdx.ix2 p q) : EReal)
      = accE (i 0).val x2 x3 x4 (0 + p.val) q.val * N2 x0 (0 + p.val) (768 + q.val)
          * sgm (N2 x0 (0 + p.val) (1280 + q.val)) * (1 - sgm (N2 x0 (0 + p.val) (1280 + q.val))) := by
  unfold accE
  simp only [Finset.sum_range_succ, Finset.sum_range_zero, k0_pay26, k0_pay27, k0_pay28, k0_pay29, k0_pay30, k0_pay31, k0_pay32, k0_pay33, k0_pay34, k0_pay35, k0_pay36, k0_pay37, kernelRun0_B.sl.r_10, kernelRun0_B.sl.r_11, kernelRun0_B.sl.r_12, kernelRun0_B.sl.r_13, kernelRun0_B.sl.r_4, kernelRun0_B.sl.r_5, kernelRun0_B.sl.r_6, kernelRun0_B.sl.r_7, kernelRun0_B.sl.r_8, kernelRun0_B.sl.r_9, kernelRun0_B.sl.v118, kernelRun0_B.sl.v124, kernelRun0_B.sl.v130, kernelRun0_B.sl.v136, kernelRun0_B.sl.v142, kernelRun0_B.sl.v148, kernelRun0_B.sl.v154, kernelRun0_B.sl.v160, kernelRun0_B.sl.v166, kernelRun0_B.sl.v172, kernelRun0_B.sl.v178, kernelRun0_B.sl.v184, kernelRun0_B.sl.v190, kernelRun0_B.sl.v196, kernelRun0_B.sl.v202, kernelRun0_B.sl.v208, kernelRun0_B.sl.v214, kernelRun0_B.sl.v220, kernelRun0_B.sl.v226, kernelRun0_B.sl.v232, kernelRun0_B.sl.v238, kernelRun0_B.sl.v244, kernelRun0_B.sl.v250, kernelRun0_B.sl.v256, kernelRun0_B.sl.v262, kernelRun0_B.sl.v268, kernelRun0_B.sl.v274, kernelRun0_B.sl.v280, kernelRun0_B.sl.v286, kernelRun0_B.sl.v292, kernelRun0_B.sl.v298]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem left1 (p : Fin 64) (q : Fin 512) :
    (k0_pay51 (kernelRun0_B.sl.r_1 c arg1 harg1 x0) (kernelRun0_B.sl.r_22 c i arg3 harg3 arg4 harg4 arg5 harg5 arg9 x2 x3 x4) (kernelRun0_B.sl.r_23 c i arg3 harg3 arg4 harg4 arg9 x2 x3) (kernelRun0_B.sl.r_24 c arg5 harg5 x4) (ValueIdx.ix2 p q) : EReal)
      = accE (i 0).val x2 x3 x4 (64 + p.val) q.val * sgm (N2 x0 (64 + p.val) (1280 + q.val)) := by
  unfold accE
  simp only [Finset.sum_range_succ, Finset.sum_range_zero, k0_pay38, k0_pay39, k0_pay40, k0_pay41, k0_pay42, k0_pay43, k0_pay44, k0_pay45, k0_pay46, k0_pay47, k0_pay48, k0_pay49, k0_pay50, k0_pay51, k0_pay52, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.v317, kernelRun0_B.sl.v323, kernelRun0_B.sl.v329, kernelRun0_B.sl.v335, kernelRun0_B.sl.v341, kernelRun0_B.sl.v347, kernelRun0_B.sl.v353, kernelRun0_B.sl.v359, kernelRun0_B.sl.v365, kernelRun0_B.sl.v371, kernelRun0_B.sl.v377, kernelRun0_B.sl.v383, kernelRun0_B.sl.v389, kernelRun0_B.sl.v395, kernelRun0_B.sl.v401, kernelRun0_B.sl.v407, kernelRun0_B.sl.v413, kernelRun0_B.sl.v419, kernelRun0_B.sl.v425, kernelRun0_B.sl.v431, kernelRun0_B.sl.v437, kernelRun0_B.sl.v443, kernelRun0_B.sl.v449, kernelRun0_B.sl.v455, kernelRun0_B.sl.v461, kernelRun0_B.sl.v467, kernelRun0_B.sl.v473, kernelRun0_B.sl.v479, kernelRun0_B.sl.v485, kernelRun0_B.sl.v491, kernelRun0_B.sl.v497]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem right1 (p : Fin 64) (q : Fin 512) :
    (k0_pay52 (kernelRun0_B.sl.r c arg1 harg1 x0) (kernelRun0_B.sl.r_1 c arg1 harg1 x0) (kernelRun0_B.sl.r_22 c i arg3 harg3 arg4 harg4 arg5 harg5 arg9 x2 x3 x4) (kernelRun0_B.sl.r_23 c i arg3 harg3 arg4 harg4 arg9 x2 x3) (kernelRun0_B.sl.r_24 c arg5 harg5 x4) (ValueIdx.ix2 p q) : EReal)
      = accE (i 0).val x2 x3 x4 (64 + p.val) q.val * N2 x0 (64 + p.val) (768 + q.val)
          * sgm (N2 x0 (64 + p.val) (1280 + q.val)) * (1 - sgm (N2 x0 (64 + p.val) (1280 + q.val))) := by
  unfold accE
  simp only [Finset.sum_range_succ, Finset.sum_range_zero, k0_pay38, k0_pay39, k0_pay40, k0_pay41, k0_pay42, k0_pay43, k0_pay44, k0_pay45, k0_pay46, k0_pay47, k0_pay48, k0_pay49, k0_pay50, k0_pay51, k0_pay52, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.v317, kernelRun0_B.sl.v323, kernelRun0_B.sl.v329, kernelRun0_B.sl.v335, kernelRun0_B.sl.v341, kernelRun0_B.sl.v347, kernelRun0_B.sl.v353, kernelRun0_B.sl.v359, kernelRun0_B.sl.v365, kernelRun0_B.sl.v371, kernelRun0_B.sl.v377, kernelRun0_B.sl.v383, kernelRun0_B.sl.v389, kernelRun0_B.sl.v395, kernelRun0_B.sl.v401, kernelRun0_B.sl.v407, kernelRun0_B.sl.v413, kernelRun0_B.sl.v419, kernelRun0_B.sl.v425, kernelRun0_B.sl.v431, kernelRun0_B.sl.v437, kernelRun0_B.sl.v443, kernelRun0_B.sl.v449, kernelRun0_B.sl.v455, kernelRun0_B.sl.v461, kernelRun0_B.sl.v467, kernelRun0_B.sl.v473, kernelRun0_B.sl.v479, kernelRun0_B.sl.v485, kernelRun0_B.sl.v491, kernelRun0_B.sl.v497]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem left2 (p : Fin 64) (q : Fin 512) :
    (k0_pay65 (kernelRun0_B.sl.r_1 c arg1 harg1 x0) (kernelRun0_B.sl.r_34 c i arg3 harg3 arg4 harg4 arg5 harg5 arg9 x2 x3 x4) (kernelRun0_B.sl.r_35 c i arg3 harg3 arg4 harg4 arg9 x2 x3) (View.readAt (Elt Ideal) arg5.view (Rect.unit (s := S31x512) ![30, 0] S1x512.size inb_S31x512_S1x512_30_0).toLoadRect (harg5.unread x4)) (ValueIdx.ix2 p q) : EReal)
      = accE (i 0).val x2 x3 x4 (128 + p.val) q.val * sgm (N2 x0 (128 + p.val) (1280 + q.val)) := by
  unfold accE
  simp only [Finset.sum_range_succ, Finset.sum_range_zero, k0_pay53, k0_pay54, k0_pay55, k0_pay56, k0_pay57, k0_pay58, k0_pay59, k0_pay60, k0_pay61, k0_pay62, k0_pay63, k0_pay64, k0_pay65, k0_pay66, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.v516, kernelRun0_B.sl.v522, kernelRun0_B.sl.v528, kernelRun0_B.sl.v534, kernelRun0_B.sl.v540, kernelRun0_B.sl.v546, kernelRun0_B.sl.v552, kernelRun0_B.sl.v558, kernelRun0_B.sl.v564, kernelRun0_B.sl.v570, kernelRun0_B.sl.v576, kernelRun0_B.sl.v582, kernelRun0_B.sl.v588, kernelRun0_B.sl.v594, kernelRun0_B.sl.v600, kernelRun0_B.sl.v606, kernelRun0_B.sl.v612, kernelRun0_B.sl.v618, kernelRun0_B.sl.v624, kernelRun0_B.sl.v630, kernelRun0_B.sl.v636, kernelRun0_B.sl.v642, kernelRun0_B.sl.v648, kernelRun0_B.sl.v654, kernelRun0_B.sl.v660, kernelRun0_B.sl.v666, kernelRun0_B.sl.v672, kernelRun0_B.sl.v678, kernelRun0_B.sl.v684, kernelRun0_B.sl.v690, kernelRun0_B.sl.v696]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem right2 (p : Fin 64) (q : Fin 512) :
    (k0_pay66 (kernelRun0_B.sl.r c arg1 harg1 x0) (kernelRun0_B.sl.r_1 c arg1 harg1 x0) (kernelRun0_B.sl.r_34 c i arg3 harg3 arg4 harg4 arg5 harg5 arg9 x2 x3 x4) (kernelRun0_B.sl.r_35 c i arg3 harg3 arg4 harg4 arg9 x2 x3) (View.readAt (Elt Ideal) arg5.view (Rect.unit (s := S31x512) ![30, 0] S1x512.size inb_S31x512_S1x512_30_0).toLoadRect (harg5.unread x4)) (ValueIdx.ix2 p q) : EReal)
      = accE (i 0).val x2 x3 x4 (128 + p.val) q.val * N2 x0 (128 + p.val) (768 + q.val)
          * sgm (N2 x0 (128 + p.val) (1280 + q.val)) * (1 - sgm (N2 x0 (128 + p.val) (1280 + q.val))) := by
  unfold accE
  simp only [Finset.sum_range_succ, Finset.sum_range_zero, k0_pay53, k0_pay54, k0_pay55, k0_pay56, k0_pay57, k0_pay58, k0_pay59, k0_pay60, k0_pay61, k0_pay62, k0_pay63, k0_pay64, k0_pay65, k0_pay66, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.v516, kernelRun0_B.sl.v522, kernelRun0_B.sl.v528, kernelRun0_B.sl.v534, kernelRun0_B.sl.v540, kernelRun0_B.sl.v546, kernelRun0_B.sl.v552, kernelRun0_B.sl.v558, kernelRun0_B.sl.v564, kernelRun0_B.sl.v570, kernelRun0_B.sl.v576, kernelRun0_B.sl.v582, kernelRun0_B.sl.v588, kernelRun0_B.sl.v594, kernelRun0_B.sl.v600, kernelRun0_B.sl.v606, kernelRun0_B.sl.v612, kernelRun0_B.sl.v618, kernelRun0_B.sl.v624, kernelRun0_B.sl.v630, kernelRun0_B.sl.v636, kernelRun0_B.sl.v642, kernelRun0_B.sl.v648, kernelRun0_B.sl.v654, kernelRun0_B.sl.v660, kernelRun0_B.sl.v666, kernelRun0_B.sl.v672, kernelRun0_B.sl.v678, kernelRun0_B.sl.v684, kernelRun0_B.sl.v690, kernelRun0_B.sl.v696]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem left3 (p : Fin 64) (q : Fin 512) :
    (k0_pay78 (kernelRun0_B.sl.r_1 c arg1 harg1 x0) (kernelRun0_B.sl.r_43 c i arg3 harg3 arg4 harg4 arg5 harg5 arg9 x2 x3 x4) (kernelRun0_B.sl.r_44 c i arg3 harg3 arg4 harg4 arg9 x2 x3) (View.readAt (Elt Ideal) arg5.view (Rect.unit (s := S31x512) ![30, 0] S1x512.size inb_S31x512_S1x512_30_0).toLoadRect (harg5.unread x4)) (ValueIdx.ix2 p q) : EReal)
      = accE (i 0).val x2 x3 x4 (192 + p.val) q.val * sgm (N2 x0 (192 + p.val) (1280 + q.val)) := by
  unfold accE
  simp only [Finset.sum_range_succ, Finset.sum_range_zero, k0_pay67, k0_pay68, k0_pay69, k0_pay70, k0_pay71, k0_pay72, k0_pay73, k0_pay74, k0_pay75, k0_pay76, k0_pay77, k0_pay78, k0_pay79, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.v715, kernelRun0_B.sl.v721, kernelRun0_B.sl.v727, kernelRun0_B.sl.v733, kernelRun0_B.sl.v739, kernelRun0_B.sl.v745, kernelRun0_B.sl.v751, kernelRun0_B.sl.v757, kernelRun0_B.sl.v763, kernelRun0_B.sl.v769, kernelRun0_B.sl.v775, kernelRun0_B.sl.v781, kernelRun0_B.sl.v787, kernelRun0_B.sl.v793, kernelRun0_B.sl.v799, kernelRun0_B.sl.v805, kernelRun0_B.sl.v811, kernelRun0_B.sl.v817, kernelRun0_B.sl.v823, kernelRun0_B.sl.v829, kernelRun0_B.sl.v835, kernelRun0_B.sl.v841, kernelRun0_B.sl.v847, kernelRun0_B.sl.v853, kernelRun0_B.sl.v859, kernelRun0_B.sl.v865, kernelRun0_B.sl.v871, kernelRun0_B.sl.v877, kernelRun0_B.sl.v883, kernelRun0_B.sl.v889, kernelRun0_B.sl.v895]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem right3 (p : Fin 64) (q : Fin 512) :
    (k0_pay79 (kernelRun0_B.sl.r c arg1 harg1 x0) (kernelRun0_B.sl.r_1 c arg1 harg1 x0) (kernelRun0_B.sl.r_43 c i arg3 harg3 arg4 harg4 arg5 harg5 arg9 x2 x3 x4) (kernelRun0_B.sl.r_44 c i arg3 harg3 arg4 harg4 arg9 x2 x3) (View.readAt (Elt Ideal) arg5.view (Rect.unit (s := S31x512) ![30, 0] S1x512.size inb_S31x512_S1x512_30_0).toLoadRect (harg5.unread x4)) (ValueIdx.ix2 p q) : EReal)
      = accE (i 0).val x2 x3 x4 (192 + p.val) q.val * N2 x0 (192 + p.val) (768 + q.val)
          * sgm (N2 x0 (192 + p.val) (1280 + q.val)) * (1 - sgm (N2 x0 (192 + p.val) (1280 + q.val))) := by
  unfold accE
  simp only [Finset.sum_range_succ, Finset.sum_range_zero, k0_pay67, k0_pay68, k0_pay69, k0_pay70, k0_pay71, k0_pay72, k0_pay73, k0_pay74, k0_pay75, k0_pay76, k0_pay77, k0_pay78, k0_pay79, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.v715, kernelRun0_B.sl.v721, kernelRun0_B.sl.v727, kernelRun0_B.sl.v733, kernelRun0_B.sl.v739, kernelRun0_B.sl.v745, kernelRun0_B.sl.v751, kernelRun0_B.sl.v757, kernelRun0_B.sl.v763, kernelRun0_B.sl.v769, kernelRun0_B.sl.v775, kernelRun0_B.sl.v781, kernelRun0_B.sl.v787, kernelRun0_B.sl.v793, kernelRun0_B.sl.v799, kernelRun0_B.sl.v805, kernelRun0_B.sl.v811, kernelRun0_B.sl.v817, kernelRun0_B.sl.v823, kernelRun0_B.sl.v829, kernelRun0_B.sl.v835, kernelRun0_B.sl.v841, kernelRun0_B.sl.v847, kernelRun0_B.sl.v853, kernelRun0_B.sl.v859, kernelRun0_B.sl.v865, kernelRun0_B.sl.v871, kernelRun0_B.sl.v877, kernelRun0_B.sl.v883, kernelRun0_B.sl.v889, kernelRun0_B.sl.v895]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

end Conv
-- ==== Proof.Conv.TilesB.lean ====
/- What the kernel stores of rows 256 to 319, 320 to 383, 384 to 447, 448 to 511 of the gated gradient. -/
module

public import proofs.«01_k».proof.Proof.Conv.Loads

@[expose] public section

set_option maxRecDepth 16384
set_option maxHeartbeats 1000000

noncomputable section

namespace Conv

open Idealize.ShloMosaic Idealize.ShloMosaic.TcCoe Idealize.SL.Sem
open Cert.KernelIdeal Cert.KernelIdeal.Gen

variable (c : Dev nD) (i : grid0.Coords)
  (arg1 : Memref sig .tc .vmem S512x1792 .bf16) (harg1 : arg1.IsWhole)
  (arg3 : Memref sig .tc .vmem S512x512 .f32) (harg3 : arg3.IsWhole) (arg4 : Memref sig .tc .vmem S32x512 .f32) (harg4 : arg4.IsWhole)
  (arg5 : Memref sig .tc .vmem S31x512 .f32) (harg5 : arg5.IsWhole)
  (arg9 : Memref sig .tc .vmem S8x544x512 .f32)
  (x0 : Vec Ideal S512x1792 .bf16) (x2 : Vec Ideal S512x512 .f32) (x3 : Vec Ideal S32x512 .f32)
  (x4 : Vec Ideal S31x512 .f32)

theorem left4 (p : Fin 64) (q : Fin 512) :
    (k0_pay92 (kernelRun0_B.sl.r_1 c arg1 harg1 x0) (kernelRun0_B.sl.r_54 c i arg3 harg3 arg4 harg4 arg5 harg5 arg9 x2 x3 x4) (kernelRun0_B.sl.v1094 c i arg3 harg3 arg4 harg4 arg9 x2 x3) (View.readAt (Elt Ideal) arg5.view (Rect.unit (s := S31x512) ![30, 0] S1x512.size inb_S31x512_S1x512_30_0).toLoadRect (harg5.unread x4)) (ValueIdx.ix2 p q) : EReal)
      = accE (i 0).val x2 x3 x4 (256 + p.val) q.val * sgm (N2 x0 (256 + p.val) (1280 + q.val)) := by
  unfold accE
  simp only [Finset.sum_range_succ, Finset.sum_range_zero, k0_pay80, k0_pay81, k0_pay82, k0_pay83, k0_pay84, k0_pay85, k0_pay86, k0_pay87, k0_pay88, k0_pay89, k0_pay90, k0_pay91, k0_pay92, k0_pay93, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.v1004, kernelRun0_B.sl.v1010, kernelRun0_B.sl.v1016, kernelRun0_B.sl.v1022, kernelRun0_B.sl.v1028, kernelRun0_B.sl.v1034, kernelRun0_B.sl.v1040, kernelRun0_B.sl.v1046, kernelRun0_B.sl.v1052, kernelRun0_B.sl.v1058, kernelRun0_B.sl.v1064, kernelRun0_B.sl.v1070, kernelRun0_B.sl.v1076, kernelRun0_B.sl.v1082, kernelRun0_B.sl.v1088, kernelRun0_B.sl.v1094, kernelRun0_B.sl.v914, kernelRun0_B.sl.v920, kernelRun0_B.sl.v926, kernelRun0_B.sl.v932, kernelRun0_B.sl.v938, kernelRun0_B.sl.v944, kernelRun0_B.sl.v950, kernelRun0_B.sl.v956, kernelRun0_B.sl.v962, kernelRun0_B.sl.v968, kernelRun0_B.sl.v974, kernelRun0_B.sl.v980, kernelRun0_B.sl.v986, kernelRun0_B.sl.v992, kernelRun0_B.sl.v998]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem right4 (p : Fin 64) (q : Fin 512) :
    (k0_pay93 (kernelRun0_B.sl.r c arg1 harg1 x0) (kernelRun0_B.sl.r_1 c arg1 harg1 x0) (kernelRun0_B.sl.r_54 c i arg3 harg3 arg4 harg4 arg5 harg5 arg9 x2 x3 x4) (kernelRun0_B.sl.v1094 c i arg3 harg3 arg4 harg4 arg9 x2 x3) (View.readAt (Elt Ideal) arg5.view (Rect.unit (s := S31x512) ![30, 0] S1x512.size inb_S31x512_S1x512_30_0).toLoadRect (harg5.unread x4)) (ValueIdx.ix2 p q) : EReal)
      = accE (i 0).val x2 x3 x4 (256 + p.val) q.val * N2 x0 (256 + p.val) (768 + q.val)
          * sgm (N2 x0 (256 + p.val) (1280 + q.val)) * (1 - sgm (N2 x0 (256 + p.val) (1280 + q.val))) := by
  unfold accE
  simp only [Finset.sum_range_succ, Finset.sum_range_zero, k0_pay80, k0_pay81, k0_pay82, k0_pay83, k0_pay84, k0_pay85, k0_pay86, k0_pay87, k0_pay88, k0_pay89, k0_pay90, k0_pay91, k0_pay92, k0_pay93, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.v1004, kernelRun0_B.sl.v1010, kernelRun0_B.sl.v1016, kernelRun0_B.sl.v1022, kernelRun0_B.sl.v1028, kernelRun0_B.sl.v1034, kernelRun0_B.sl.v1040, kernelRun0_B.sl.v1046, kernelRun0_B.sl.v1052, kernelRun0_B.sl.v1058, kernelRun0_B.sl.v1064, kernelRun0_B.sl.v1070, kernelRun0_B.sl.v1076, kernelRun0_B.sl.v1082, kernelRun0_B.sl.v1088, kernelRun0_B.sl.v1094, kernelRun0_B.sl.v914, kernelRun0_B.sl.v920, kernelRun0_B.sl.v926, kernelRun0_B.sl.v932, kernelRun0_B.sl.v938, kernelRun0_B.sl.v944, kernelRun0_B.sl.v950, kernelRun0_B.sl.v956, kernelRun0_B.sl.v962, kernelRun0_B.sl.v968, kernelRun0_B.sl.v974, kernelRun0_B.sl.v980, kernelRun0_B.sl.v986, kernelRun0_B.sl.v992, kernelRun0_B.sl.v998]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem left5 (p : Fin 64) (q : Fin 512) :
    (k0_pay106 (kernelRun0_B.sl.r_1 c arg1 harg1 x0) (kernelRun0_B.sl.r_65 c i arg3 harg3 arg4 harg4 arg5 harg5 arg9 x2 x3 x4) (kernelRun0_B.sl.v1293 c i arg3 harg3 arg4 harg4 arg9 x2 x3) (View.readAt (Elt Ideal) arg5.view (Rect.unit (s := S31x512) ![30, 0] S1x512.size inb_S31x512_S1x512_30_0).toLoadRect (harg5.unread x4)) (ValueIdx.ix2 p q) : EReal)
      = accE (i 0).val x2 x3 x4 (320 + p.val) q.val * sgm (N2 x0 (320 + p.val) (1280 + q.val)) := by
  unfold accE
  simp only [Finset.sum_range_succ, Finset.sum_range_zero, k0_pay100, k0_pay101, k0_pay102, k0_pay103, k0_pay104, k0_pay105, k0_pay106, k0_pay107, k0_pay94, k0_pay95, k0_pay96, k0_pay97, k0_pay98, k0_pay99, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.v1113, kernelRun0_B.sl.v1119, kernelRun0_B.sl.v1125, kernelRun0_B.sl.v1131, kernelRun0_B.sl.v1137, kernelRun0_B.sl.v1143, kernelRun0_B.sl.v1149, kernelRun0_B.sl.v1155, kernelRun0_B.sl.v1161, kernelRun0_B.sl.v1167, kernelRun0_B.sl.v1173, kernelRun0_B.sl.v1179, kernelRun0_B.sl.v1185, kernelRun0_B.sl.v1191, kernelRun0_B.sl.v1197, kernelRun0_B.sl.v1203, kernelRun0_B.sl.v1209, kernelRun0_B.sl.v1215, kernelRun0_B.sl.v1221, kernelRun0_B.sl.v1227, kernelRun0_B.sl.v1233, kernelRun0_B.sl.v1239, kernelRun0_B.sl.v1245, kernelRun0_B.sl.v1251, kernelRun0_B.sl.v1257, kernelRun0_B.sl.v1263, kernelRun0_B.sl.v1269, kernelRun0_B.sl.v1275, kernelRun0_B.sl.v1281, kernelRun0_B.sl.v1287, kernelRun0_B.sl.v1293]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem right5 (p : Fin 64) (q : Fin 512) :
    (k0_pay107 (kernelRun0_B.sl.r c arg1 harg1 x0) (kernelRun0_B.sl.r_1 c arg1 harg1 x0) (kernelRun0_B.sl.r_65 c i arg3 harg3 arg4 harg4 arg5 harg5 arg9 x2 x3 x4) (kernelRun0_B.sl.v1293 c i arg3 harg3 arg4 harg4 arg9 x2 x3) (View.readAt (Elt Ideal) arg5.view (Rect.unit (s := S31x512) ![30, 0] S1x512.size inb_S31x512_S1x512_30_0).toLoadRect (harg5.unread x4)) (ValueIdx.ix2 p q) : EReal)
      = accE (i 0).val x2 x3 x4 (320 + p.val) q.val * N2 x0 (320 + p.val) (768 + q.val)
          * sgm (N2 x0 (320 + p.val) (1280 + q.val)) * (1 - sgm (N2 x0 (320 + p.val) (1280 + q.val))) := by
  unfold accE
  simp only [Finset.sum_range_succ, Finset.sum_range_zero, k0_pay100, k0_pay101, k0_pay102, k0_pay103, k0_pay104, k0_pay105, k0_pay106, k0_pay107, k0_pay94, k0_pay95, k0_pay96, k0_pay97, k0_pay98, k0_pay99, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.v1113, kernelRun0_B.sl.v1119, kernelRun0_B.sl.v1125, kernelRun0_B.sl.v1131, kernelRun0_B.sl.v1137, kernelRun0_B.sl.v1143, kernelRun0_B.sl.v1149, kernelRun0_B.sl.v1155, kernelRun0_B.sl.v1161, kernelRun0_B.sl.v1167, kernelRun0_B.sl.v1173, kernelRun0_B.sl.v1179, kernelRun0_B.sl.v1185, kernelRun0_B.sl.v1191, kernelRun0_B.sl.v1197, kernelRun0_B.sl.v1203, kernelRun0_B.sl.v1209, kernelRun0_B.sl.v1215, kernelRun0_B.sl.v1221, kernelRun0_B.sl.v1227, kernelRun0_B.sl.v1233, kernelRun0_B.sl.v1239, kernelRun0_B.sl.v1245, kernelRun0_B.sl.v1251, kernelRun0_B.sl.v1257, kernelRun0_B.sl.v1263, kernelRun0_B.sl.v1269, kernelRun0_B.sl.v1275, kernelRun0_B.sl.v1281, kernelRun0_B.sl.v1287, kernelRun0_B.sl.v1293]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem left6 (p : Fin 64) (q : Fin 512) :
    (k0_pay120 (kernelRun0_B.sl.r_1 c arg1 harg1 x0) (kernelRun0_B.sl.r_74 c i arg3 harg3 arg4 harg4 arg5 harg5 arg9 x2 x3 x4) (kernelRun0_B.sl.r_75 c i arg3 harg3 arg4 harg4 arg5 harg5 arg9 x2 x3 x4) (kernelRun0_B.sl.v1492 c i arg3 harg3 arg4 harg4 arg9 x2 x3) (View.readAt (Elt Ideal) arg5.view (Rect.unit (s := S31x512) ![30, 0] S1x512.size inb_S31x512_S1x512_30_0).toLoadRect (harg5.unread x4)) (ValueIdx.ix2 p q) : EReal)
      = accE (i 0).val x2 x3 x4 (384 + p.val) q.val * sgm (N2 x0 (384 + p.val) (1280 + q.val)) := by
  unfold accE
  simp only [Finset.sum_range_succ, Finset.sum_range_zero, k0_pay108, k0_pay109, k0_pay110, k0_pay111, k0_pay112, k0_pay113, k0_pay114, k0_pay115, k0_pay116, k0_pay117, k0_pay118, k0_pay119, k0_pay120, k0_pay121, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.v1312, kernelRun0_B.sl.v1318, kernelRun0_B.sl.v1324, kernelRun0_B.sl.v1330, kernelRun0_B.sl.v1336, kernelRun0_B.sl.v1342, kernelRun0_B.sl.v1348, kernelRun0_B.sl.v1354, kernelRun0_B.sl.v1360, kernelRun0_B.sl.v1366, kernelRun0_B.sl.v1372, kernelRun0_B.sl.v1378, kernelRun0_B.sl.v1384, kernelRun0_B.sl.v1390, kernelRun0_B.sl.v1396, kernelRun0_B.sl.v1402, kernelRun0_B.sl.v1408, kernelRun0_B.sl.v1414, kernelRun0_B.sl.v1420, kernelRun0_B.sl.v1426, kernelRun0_B.sl.v1432, kernelRun0_B.sl.v1438, kernelRun0_B.sl.v1444, kernelRun0_B.sl.v1450, kernelRun0_B.sl.v1456, kernelRun0_B.sl.v1462, kernelRun0_B.sl.v1468, kernelRun0_B.sl.v1474, kernelRun0_B.sl.v1480, kernelRun0_B.sl.v1486, kernelRun0_B.sl.v1492]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem right6 (p : Fin 64) (q : Fin 512) :
    (k0_pay121 (kernelRun0_B.sl.r c arg1 harg1 x0) (kernelRun0_B.sl.r_1 c arg1 harg1 x0) (kernelRun0_B.sl.r_74 c i arg3 harg3 arg4 harg4 arg5 harg5 arg9 x2 x3 x4) (kernelRun0_B.sl.r_75 c i arg3 harg3 arg4 harg4 arg5 harg5 arg9 x2 x3 x4) (kernelRun0_B.sl.v1492 c i arg3 harg3 arg4 harg4 arg9 x2 x3) (View.readAt (Elt Ideal) arg5.view (Rect.unit (s := S31x512) ![30, 0] S1x512.size inb_S31x512_S1x512_30_0).toLoadRect (harg5.unread x4)) (ValueIdx.ix2 p q) : EReal)
      = accE (i 0).val x2 x3 x4 (384 + p.val) q.val * N2 x0 (384 + p.val) (768 + q.val)
          * sgm (N2 x0 (384 + p.val) (1280 + q.val)) * (1 - sgm (N2 x0 (384 + p.val) (1280 + q.val))) := by
  unfold accE
  simp only [Finset.sum_range_succ, Finset.sum_range_zero, k0_pay108, k0_pay109, k0_pay110, k0_pay111, k0_pay112, k0_pay113, k0_pay114, k0_pay115, k0_pay116, k0_pay117, k0_pay118, k0_pay119, k0_pay120, k0_pay121, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.v1312, kernelRun0_B.sl.v1318, kernelRun0_B.sl.v1324, kernelRun0_B.sl.v1330, kernelRun0_B.sl.v1336, kernelRun0_B.sl.v1342, kernelRun0_B.sl.v1348, kernelRun0_B.sl.v1354, kernelRun0_B.sl.v1360, kernelRun0_B.sl.v1366, kernelRun0_B.sl.v1372, kernelRun0_B.sl.v1378, kernelRun0_B.sl.v1384, kernelRun0_B.sl.v1390, kernelRun0_B.sl.v1396, kernelRun0_B.sl.v1402, kernelRun0_B.sl.v1408, kernelRun0_B.sl.v1414, kernelRun0_B.sl.v1420, kernelRun0_B.sl.v1426, kernelRun0_B.sl.v1432, kernelRun0_B.sl.v1438, kernelRun0_B.sl.v1444, kernelRun0_B.sl.v1450, kernelRun0_B.sl.v1456, kernelRun0_B.sl.v1462, kernelRun0_B.sl.v1468, kernelRun0_B.sl.v1474, kernelRun0_B.sl.v1480, kernelRun0_B.sl.v1486, kernelRun0_B.sl.v1492]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem left7 (p : Fin 64) (q : Fin 512) :
    (k0_pay135 (kernelRun0_B.sl.r_1 c arg1 harg1 x0) (kernelRun0_B.sl.r_85 c i arg3 harg3 arg4 harg4 arg5 harg5 arg9 x2 x3 x4) (kernelRun0_B.sl.r_86 c i arg3 harg3 arg4 harg4 arg9 x2 x3) (kernelRun0_B.sl.r_87 c arg5 harg5 x4) (kernelRun0_B.sl.v1691 c i arg3 harg3 arg4 harg4 arg9 x2 x3) (View.readAt (Elt Ideal) arg5.view (Rect.unit (s := S31x512) ![30, 0] S1x512.size inb_S31x512_S1x512_30_0).toLoadRect (harg5.unread x4)) (ValueIdx.ix2 p q) : EReal)
      = accE (i 0).val x2 x3 x4 (448 + p.val) q.val * sgm (N2 x0 (448 + p.val) (1280 + q.val)) := by
  unfold accE
  simp only [Finset.sum_range_succ, Finset.sum_range_zero, k0_pay122, k0_pay123, k0_pay124, k0_pay125, k0_pay126, k0_pay127, k0_pay128, k0_pay129, k0_pay130, k0_pay131, k0_pay132, k0_pay133, k0_pay134, k0_pay135, k0_pay136, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.v1511, kernelRun0_B.sl.v1517, kernelRun0_B.sl.v1523, kernelRun0_B.sl.v1529, kernelRun0_B.sl.v1535, kernelRun0_B.sl.v1541, kernelRun0_B.sl.v1547, kernelRun0_B.sl.v1553, kernelRun0_B.sl.v1559, kernelRun0_B.sl.v1565, kernelRun0_B.sl.v1571, kernelRun0_B.sl.v1577, kernelRun0_B.sl.v1583, kernelRun0_B.sl.v1589, kernelRun0_B.sl.v1595, kernelRun0_B.sl.v1601, kernelRun0_B.sl.v1607, kernelRun0_B.sl.v1613, kernelRun0_B.sl.v1619, kernelRun0_B.sl.v1625, kernelRun0_B.sl.v1631, kernelRun0_B.sl.v1637, kernelRun0_B.sl.v1643, kernelRun0_B.sl.v1649, kernelRun0_B.sl.v1655, kernelRun0_B.sl.v1661, kernelRun0_B.sl.v1667, kernelRun0_B.sl.v1673, kernelRun0_B.sl.v1679, kernelRun0_B.sl.v1685, kernelRun0_B.sl.v1691]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

theorem right7 (p : Fin 64) (q : Fin 512) :
    (k0_pay136 (kernelRun0_B.sl.r c arg1 harg1 x0) (kernelRun0_B.sl.r_1 c arg1 harg1 x0) (kernelRun0_B.sl.r_85 c i arg3 harg3 arg4 harg4 arg5 harg5 arg9 x2 x3 x4) (kernelRun0_B.sl.r_86 c i arg3 harg3 arg4 harg4 arg9 x2 x3) (kernelRun0_B.sl.r_87 c arg5 harg5 x4) (kernelRun0_B.sl.v1691 c i arg3 harg3 arg4 harg4 arg9 x2 x3) (View.readAt (Elt Ideal) arg5.view (Rect.unit (s := S31x512) ![30, 0] S1x512.size inb_S31x512_S1x512_30_0).toLoadRect (harg5.unread x4)) (ValueIdx.ix2 p q) : EReal)
      = accE (i 0).val x2 x3 x4 (448 + p.val) q.val * N2 x0 (448 + p.val) (768 + q.val)
          * sgm (N2 x0 (448 + p.val) (1280 + q.val)) * (1 - sgm (N2 x0 (448 + p.val) (1280 + q.val))) := by
  unfold accE
  simp only [Finset.sum_range_succ, Finset.sum_range_zero, k0_pay122, k0_pay123, k0_pay124, k0_pay125, k0_pay126, k0_pay127, k0_pay128, k0_pay129, k0_pay130, k0_pay131, k0_pay132, k0_pay133, k0_pay134, k0_pay135, k0_pay136, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.v1511, kernelRun0_B.sl.v1517, kernelRun0_B.sl.v1523, kernelRun0_B.sl.v1529, kernelRun0_B.sl.v1535, kernelRun0_B.sl.v1541, kernelRun0_B.sl.v1547, kernelRun0_B.sl.v1553, kernelRun0_B.sl.v1559, kernelRun0_B.sl.v1565, kernelRun0_B.sl.v1571, kernelRun0_B.sl.v1577, kernelRun0_B.sl.v1583, kernelRun0_B.sl.v1589, kernelRun0_B.sl.v1595, kernelRun0_B.sl.v1601, kernelRun0_B.sl.v1607, kernelRun0_B.sl.v1613, kernelRun0_B.sl.v1619, kernelRun0_B.sl.v1625, kernelRun0_B.sl.v1631, kernelRun0_B.sl.v1637, kernelRun0_B.sl.v1643, kernelRun0_B.sl.v1649, kernelRun0_B.sl.v1655, kernelRun0_B.sl.v1661, kernelRun0_B.sl.v1667, kernelRun0_B.sl.v1673, kernelRun0_B.sl.v1679, kernelRun0_B.sl.v1685, kernelRun0_B.sl.v1691]
  simp only [mulf_at, addf_at, subf_at, truncf_at, zero_at, one_at, row_at, dropUnit, loadD, loadW, rowsA, rowsS, Nat.reduceLT, Nat.reduceAdd, Nat.reduceLeDiff, Nat.reduceSub, Nat.sub_self, or_true, true_or, ← Nat.add_assoc, Nat.zero_add, Nat.sub_zero]

end Conv
-- ==== Proof.Conv.Outs.lean ====
/- What one grid point leaves in the two output blocks. -/
module

public import proofs.«01_k».proof.Proof.Conv.Rows
public import proofs.«01_k».proof.Proof.Conv.TilesA
public import proofs.«01_k».proof.Proof.Conv.TilesB

@[expose] public section

set_option maxRecDepth 16384
set_option maxHeartbeats 1000000

noncomputable section

namespace Conv

open Idealize.ShloMosaic Idealize.ShloMosaic.TcCoe Idealize.SL.Sem
open Cert.KernelIdeal Cert.KernelIdeal.Gen

/-- The gradient of one element of the gated input, from what the point's blocks hold. -/
def outE (ip : ℕ) (x0 : S512x1792.Idx → EReal) (x2 : S512x512.Idx → EReal) (x3 : S32x512.Idx → EReal) (x4 : S31x512.Idx → EReal)
    (ρ col : ℕ) : EReal :=
  if col < 512 then accE ip x2 x3 x4 ρ col * sgm (N2 x0 ρ (1280 + col))
  else accE ip x2 x3 x4 ρ (col - 512) * N2 x0 ρ (768 + (col - 512)) * sgm (N2 x0 ρ (1280 + (col - 512)))
    * (1 - sgm (N2 x0 ρ (1280 + (col - 512))))

/-- Every piece is the tile of one matrix. -/
def Agree (ip : ℕ) (x0 : S512x1792.Idx → EReal) (x2 : S512x512.Idx → EReal) (x3 : S32x512.Idx → EReal) (x4 : S31x512.Idx → EReal)
    (L : List (View.Piece (Elt Ideal) S512x1024 .bf16)) : Prop :=
  ∀ p ∈ L, ∀ x : p.1.shape.Idx, (p.2 x : EReal) = outE ip x0 x2 x3 x4 ((p.1.emb x) 0).val ((p.1.emb x) 1).val

section Steps

variable {ip : ℕ} {x0 : S512x1792.Idx → EReal} {x2 : S512x512.Idx → EReal} {x3 : S32x512.Idx → EReal} {x4 : S31x512.Idx → EReal}
  {L : List (View.Piece (Elt Ideal) S512x1024 .bf16)} {o : ℕ} {w : S64x512.Idx → Ideal .bf16}

theorem Agree.nil : Agree ip x0 x2 x3 x4 [] := fun p h => absurd h (List.not_mem_nil)

theorem Agree.left (h : Agree ip x0 x2 x3 x4 L) (inb : ∀ a, ![o, 0] a + (![64, 512] : Fin 2 → ℕ) a ≤ S512x1024.size a)
    (hw : ∀ (p : Fin 64) (q : Fin 512), (w (ValueIdx.ix2 p q) : EReal) = accE ip x2 x3 x4 (o + p.val) q.val * sgm (N2 x0 (o + p.val) (1280 + q.val))) :
    Agree ip x0 x2 x3 x4 ((⟨Rect.unit (s := S512x1024) ![o, 0] ![64, 512] inb, w⟩ : View.Piece (Elt Ideal) S512x1024 .bf16) :: L) := by
  intro p hp
  rcases List.mem_cons.mp hp with rfl | hp
  · intro x
    have e : x = ValueIdx.ix2 (x 0 : Fin 64) (x 1 : Fin 512) := by
      funext a; match a with | ⟨0, _⟩ => rfl | ⟨1, _⟩ => rfl
    show (w x : EReal) = outE ip x0 x2 x3 x4 (o + 1 * (x 0).val) (0 + 1 * (x 1).val)
    have h1 : (x 1).val < 512 := (x 1).isLt
    rw [outE, if_pos (by omega), Nat.one_mul, Nat.one_mul, Nat.zero_add]
    exact (congrArg w e).trans (hw _ _)
  · exact h p hp

theorem Agree.right (h : Agree ip x0 x2 x3 x4 L) (inb : ∀ a, ![o, 512] a + (![64, 512] : Fin 2 → ℕ) a ≤ S512x1024.size a)
    (hw : ∀ (p : Fin 64) (q : Fin 512), (w (ValueIdx.ix2 p q) : EReal) = accE ip x2 x3 x4 (o + p.val) q.val * N2 x0 (o + p.val) (768 + q.val)
      * sgm (N2 x0 (o + p.val) (1280 + q.val)) * (1 - sgm (N2 x0 (o + p.val) (1280 + q.val)))) :
    Agree ip x0 x2 x3 x4 ((⟨Rect.unit (s := S512x1024) ![o, 512] ![64, 512] inb, w⟩ : View.Piece (Elt Ideal) S512x1024 .bf16) :: L) := by
  intro p hp
  rcases List.mem_cons.mp hp with rfl | hp
  · intro x
    have e : x = ValueIdx.ix2 (x 0 : Fin 64) (x 1 : Fin 512) := by
      funext a; match a with | ⟨0, _⟩ => rfl | ⟨1, _⟩ => rfl
    show (w x : EReal) = outE ip x0 x2 x3 x4 (o + 1 * (x 0).val) (512 + 1 * (x 1).val)
    rw [outE, if_neg (by omega), Nat.one_mul, Nat.one_mul, Nat.add_sub_cancel_left]
    exact (congrArg w e).trans (hw _ _)
  · exact h p hp

end Steps

variable (c : Dev nD) (i : grid0.Coords) (arg1 : Memref sig .tc .vmem S512x1792 .bf16) (harg1 : arg1.IsWhole) (arg2 : Memref sig .tc .vmem S32x1792 .bf16) (harg2 : arg2.IsWhole) (arg3 : Memref sig .tc .vmem S512x512 .f32) (harg3 : arg3.IsWhole) (arg4 : Memref sig .tc .vmem S32x512 .f32) (harg4 : arg4.IsWhole) (arg5 : Memref sig .tc .vmem S31x512 .f32) (harg5 : arg5.IsWhole) (arg6 : Memref sig .tc .vmem S512x1024 .bf16) (harg6 : arg6.IsWhole) (arg7 : Memref sig .tc .vmem S31x512 .f32) (harg7 : arg7.IsWhole) (arg8 : Memref sig .tc .vmem S8x544x512 .f32) (harg8 : arg8.IsWhole) (arg9 : Memref sig .tc .vmem S8x544x512 .f32) (harg9 : arg9.IsWhole) (arg10 : Memref sig .tc .vmem S31x8x512 .f32) (harg10 : arg10.IsWhole)
    (x0 : Vec Ideal S512x1792 .bf16) (x1 : Vec Ideal S32x1792 .bf16) (x2 : Vec Ideal S512x512 .f32) (x3 : Vec Ideal S32x512 .f32) (x4 : Vec Ideal S31x512 .f32)
  (xo6 : Vec Ideal S31x512 .f32)

theorem pieces5_A (hc0 : cond0_0 i) : Agree (i 0).val x0 x2 x3 x4 (kernelRun0_A (F := Ideal) c i arg1 harg1 arg2 harg2 arg3 harg3 arg4 harg4 arg5 harg5 arg6 harg6 arg7 harg7 arg8 harg8 arg9 harg9 arg10 harg10 hc0 x0 x1 x2 x3 x4).1 :=
  (Agree.right (Agree.left (Agree.right (Agree.left (Agree.right (Agree.left (Agree.right (Agree.left (Agree.right (Agree.left (Agree.right (Agree.left (Agree.right (Agree.left (Agree.right (Agree.left Agree.nil _ (left0 c i arg1 harg1 arg3 harg3 arg4 harg4 arg5 harg5 arg9 x0 x2 x3 x4)) _ (right0 c i arg1 harg1 arg3 harg3 arg4 harg4 arg5 harg5 arg9 x0 x2 x3 x4)) _ (left1 c i arg1 harg1 arg3 harg3 arg4 harg4 arg5 harg5 arg9 x0 x2 x3 x4)) _ (right1 c i arg1 harg1 arg3 harg3 arg4 harg4 arg5 harg5 arg9 x0 x2 x3 x4)) _ (left2 c i arg1 harg1 arg3 harg3 arg4 harg4 arg5 harg5 arg9 x0 x2 x3 x4)) _ (right2 c i arg1 harg1 arg3 harg3 arg4 harg4 arg5 harg5 arg9 x0 x2 x3 x4)) _ (left3 c i arg1 harg1 arg3 harg3 arg4 harg4 arg5 harg5 arg9 x0 x2 x3 x4)) _ (right3 c i arg1 harg1 arg3 harg3 arg4 harg4 arg5 harg5 arg9 x0 x2 x3 x4)) _ (left4 c i arg1 harg1 arg3 harg3 arg4 harg4 arg5 harg5 arg9 x0 x2 x3 x4)) _ (right4 c i arg1 harg1 arg3 harg3 arg4 harg4 arg5 harg5 arg9 x0 x2 x3 x4)) _ (left5 c i arg1 harg1 arg3 harg3 arg4 harg4 arg5 harg5 arg9 x0 x2 x3 x4)) _ (right5 c i arg1 harg1 arg3 harg3 arg4 harg4 arg5 harg5 arg9 x0 x2 x3 x4)) _ (left6 c i arg1 harg1 arg3 harg3 arg4 harg4 arg5 harg5 arg9 x0 x2 x3 x4)) _ (right6 c i arg1 harg1 arg3 harg3 arg4 harg4 arg5 harg5 arg9 x0 x2 x3 x4)) _ (left7 c i arg1 harg1 arg3 harg3 arg4 harg4 arg5 harg5 arg9 x0 x2 x3 x4)) _ (right7 c i arg1 harg1 arg3 harg3 arg4 harg4 arg5 harg5 arg9 x0 x2 x3 x4))

theorem out5_A (hc0 : cond0_0 i) (y : S512x1024.Idx) :
    (out0_A_5 (F := Ideal) c i arg1 harg1 arg2 harg2 arg3 harg3 arg4 harg4 arg5 harg5 arg6 harg6 arg7 harg7 arg8 harg8 arg9 harg9 arg10 harg10 hc0 x0 x1 x2 x3 x4 y : EReal) = outE (i 0).val x0 x2 x3 x4 (y 0).val (y 1).val := by
  unfold out0_A_5
  rw [View.read_writes_junk_eq_canon]
  exact View.canon_apply_of_pieces (Val := Elt Ideal) (e := .bf16) (fun y => outE (i 0).val x0 x2 x3 x4 (y 0).val (y 1).val) _
    (pieces5_A c i arg1 harg1 arg2 harg2 arg3 harg3 arg4 harg4 arg5 harg5 arg6 harg6 arg7 harg7 arg8 harg8 arg9 harg9 arg10 harg10 x0 x1 x2 x3 x4 hc0) y (cover0_A_5 c i arg1 harg1 arg2 harg2 arg3 harg3 arg4 harg4 arg5 harg5 arg6 harg6 arg7 harg7 arg8 harg8 arg9 harg9 arg10 harg10 hc0 x0 x1 x2 x3 x4 y)

theorem pieces5_B (hc0 : ¬cond0_0 i) : Agree (i 0).val x0 x2 x3 x4 (kernelRun0_B (F := Ideal) c i arg1 harg1 arg2 harg2 arg3 harg3 arg4 harg4 arg5 harg5 arg6 harg6 arg7 harg7 arg8 harg8 arg9 harg9 arg10 harg10 hc0 x0 x1 x2 x3 x4 xo6).1 :=
  (Agree.right (Agree.left (Agree.right (Agree.left (Agree.right (Agree.left (Agree.right (Agree.left (Agree.right (Agree.left (Agree.right (Agree.left (Agree.right (Agree.left (Agree.right (Agree.left Agree.nil _ (left0 c i arg1 harg1 arg3 harg3 arg4 harg4 arg5 harg5 arg9 x0 x2 x3 x4)) _ (right0 c i arg1 harg1 arg3 harg3 arg4 harg4 arg5 harg5 arg9 x0 x2 x3 x4)) _ (left1 c i arg1 harg1 arg3 harg3 arg4 harg4 arg5 harg5 arg9 x0 x2 x3 x4)) _ (right1 c i arg1 harg1 arg3 harg3 arg4 harg4 arg5 harg5 arg9 x0 x2 x3 x4)) _ (left2 c i arg1 harg1 arg3 harg3 arg4 harg4 arg5 harg5 arg9 x0 x2 x3 x4)) _ (right2 c i arg1 harg1 arg3 harg3 arg4 harg4 arg5 harg5 arg9 x0 x2 x3 x4)) _ (left3 c i arg1 harg1 arg3 harg3 arg4 harg4 arg5 harg5 arg9 x0 x2 x3 x4)) _ (right3 c i arg1 harg1 arg3 harg3 arg4 harg4 arg5 harg5 arg9 x0 x2 x3 x4)) _ (left4 c i arg1 harg1 arg3 harg3 arg4 harg4 arg5 harg5 arg9 x0 x2 x3 x4)) _ (right4 c i arg1 harg1 arg3 harg3 arg4 harg4 arg5 harg5 arg9 x0 x2 x3 x4)) _ (left5 c i arg1 harg1 arg3 harg3 arg4 harg4 arg5 harg5 arg9 x0 x2 x3 x4)) _ (right5 c i arg1 harg1 arg3 harg3 arg4 harg4 arg5 harg5 arg9 x0 x2 x3 x4)) _ (left6 c i arg1 harg1 arg3 harg3 arg4 harg4 arg5 harg5 arg9 x0 x2 x3 x4)) _ (right6 c i arg1 harg1 arg3 harg3 arg4 harg4 arg5 harg5 arg9 x0 x2 x3 x4)) _ (left7 c i arg1 harg1 arg3 harg3 arg4 harg4 arg5 harg5 arg9 x0 x2 x3 x4)) _ (right7 c i arg1 harg1 arg3 harg3 arg4 harg4 arg5 harg5 arg9 x0 x2 x3 x4))

theorem out5_B (hc0 : ¬cond0_0 i) (y : S512x1024.Idx) :
    (out0_B_5 (F := Ideal) c i arg1 harg1 arg2 harg2 arg3 harg3 arg4 harg4 arg5 harg5 arg6 harg6 arg7 harg7 arg8 harg8 arg9 harg9 arg10 harg10 hc0 x0 x1 x2 x3 x4 xo6 y : EReal) = outE (i 0).val x0 x2 x3 x4 (y 0).val (y 1).val := by
  unfold out0_B_5
  rw [View.read_writes_junk_eq_canon]
  exact View.canon_apply_of_pieces (Val := Elt Ideal) (e := .bf16) (fun y => outE (i 0).val x0 x2 x3 x4 (y 0).val (y 1).val) _
    (pieces5_B c i arg1 harg1 arg2 harg2 arg3 harg3 arg4 harg4 arg5 harg5 arg6 harg6 arg7 harg7 arg8 harg8 arg9 harg9 arg10 harg10 x0 x1 x2 x3 x4 xo6 hc0) y (cover0_B_5 c i arg1 harg1 arg2 harg2 arg3 harg3 arg4 harg4 arg5 harg5 arg6 harg6 arg7 harg7 arg8 harg8 arg9 harg9 arg10 harg10 hc0 x0 x1 x2 x3 x4 xo6 y)

theorem out6_A (hc0 : cond0_0 i) (y : S31x512.Idx) :
    (out0_A_6 (F := Ideal) c i arg1 harg1 arg2 harg2 arg3 harg3 arg4 harg4 arg5 harg5 arg6 harg6 arg7 harg7 arg8 harg8 arg9 harg9 arg10 harg10 hc0 x0 x1 x2 x3 x4 y : EReal) = 0 + rowSum (i 0).val x0 x1 x2 (y 0).val (y 1).val := by
  have h : RInv True (fun _ _ => 0) (i 0).val x0 x1 x2 (kernelRun0_A (F := Ideal) c i arg1 harg1 arg2 harg2 arg3 harg3 arg4 harg4 arg5 harg5 arg6 harg6 arg7 harg7 arg8 harg8 arg9 harg9 arg10 harg10 hc0 x0 x1 x2 x3 x4).2.1 31 :=
    RInv.addStored (rowsA31 c i arg1 harg1 arg2 harg2 arg3 harg3 arg8 arg10 arg7 x0 x1 x2) _ _ _
  unfold out0_A_6
  rw [View.read_writes_junk_eq_canon]
  exact (h y).1 (y 0).isLt

theorem rows6_B (hc0 : ¬cond0_0 i) : RInv False (N2 xo6) (i 0).val x0 x1 x2 (kernelRun0_B (F := Ideal) c i arg1 harg1 arg2 harg2 arg3 harg3 arg4 harg4 arg5 harg5 arg6 harg6 arg7 harg7 arg8 harg8 arg9 harg9 arg10 harg10 hc0 x0 x1 x2 x3 x4 xo6).2.1 31 :=
  (RInv.add (RInv.add (RInv.add (RInv.add (RInv.add (RInv.add (RInv.add (RInv.add (RInv.add (RInv.add (RInv.add (RInv.add (RInv.add (RInv.add (RInv.add (RInv.add (RInv.add (RInv.add (RInv.add (RInv.add (RInv.add (RInv.add (RInv.add (RInv.add (RInv.add (RInv.add (RInv.add (RInv.add (RInv.add (RInv.add (RInv.add (RInv.nil _ _ _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _) _ _ _)

theorem out6_B (hc0 : ¬cond0_0 i) (y : S31x512.Idx) :
    (out0_B_6 (F := Ideal) c i arg1 harg1 arg2 harg2 arg3 harg3 arg4 harg4 arg5 harg5 arg6 harg6 arg7 harg7 arg8 harg8 arg9 harg9 arg10 harg10 hc0 x0 x1 x2 x3 x4 xo6 y : EReal) = xo6 y + rowSum (i 0).val x0 x1 x2 (y 0).val (y 1).val := by
  unfold out0_B_6
  rw [View.read_writes_junk_eq_canon]
  refine ((rows6_B c i arg1 harg1 arg2 harg2 arg3 harg3 arg4 harg4 arg5 harg5 arg6 harg6 arg7 harg7 arg8 harg8 arg9 harg9 arg10 harg10 x0 x1 x2 x3 x4 xo6 hc0 y).1 (y 0).isLt).trans ?_
  rw [← N2_eq xo6 y _ _ rfl rfl]

end Conv
-- ==== Proof.Conv.Ref.lean ====
/- What the reference computes, one element at a time: the weight gradient as a sum over all rows, and the gradient of
   the gated input from a sum over the taps. -/
module

public import proofs.«01_k».proof.Proof.Conv.Copies
public import proofs.«01_k».proof.Proof.Gen.ReferenceIdeal.Read
public import Idealize.ShloMosaic.Lib.Routing.OpsPair

@[expose] public section

set_option maxRecDepth 16384

noncomputable section

namespace Conv

open Idealize.ShloMosaic Idealize.ShloMosaic.TcCoe Idealize.SL.Sem
open Cert.ReferenceIdeal Cert.ReferenceIdeal.Gen Cert.ReferenceIdeal.Read

abbrev D43 := scatter_S8222x512_S8192x31x1_S8192x31x512_2_0_0_2
abbrev D30 := gather_S8222x512_S8192x31x1_S8192x31x512_2_0_n_n_0_2_1512

/-- The gated rows with `32` zero rows before them. -/
def cpad {n : ℕ} (X : (⟨2, ![n, 1792]⟩ : Shape).Idx → EReal) (q ch : ℕ) : EReal := if q < 32 then 0 else glu X (q - 32) ch

/-- The gradient of the gated rows: the sum over the taps. -/
def dcE {n : ℕ} (Y : (⟨2, ![n, 512]⟩ : Shape).Idx → EReal) (W : (⟨2, ![31, 512]⟩ : Shape).Idx → EReal) (r ch : ℕ) : EReal :=
  ∑ j ∈ Finset.range 31, N2 Y (30 + r - j) ch * N2 W j ch

section Words

theorem toInt_small (n : ℕ) (h : n < 10000) : (BitVec.ofNat 32 n).toInt = n := by
  have e : (BitVec.ofNat 32 n).toNat = n := by rw [BitVec.toNat_ofNat]; omega
  rw [BitVec.toInt_eq_toNat_of_lt (by rw [e]; omega), e]

theorem start_word (i : S8192x31x1.Idx) : val_main_v29 (F := Ideal) i = BitVec.ofNat 32 ((i 0).val + (i 1).val) := by
  have h0 : (i 0).val < 8192 := (i 0).isLt
  have h1 : (i 1).val < 31 := (i 1).isLt
  have e : val_main_v23 (F := Ideal) (idx_main_v29 i) = BitVec.ofNat 32 ((i 0).val + (i 1).val) := by
    rw [val_main_v23_apply, val_main_v21_apply, val_main_v22_apply, val_main_v18_apply, val_main_v20_apply, val_main_v17_apply,
      val_main_v19_apply]
    exact (BitVec.ofNat_add _ _).symm
  rw [val_main_v29_apply, val_main_v28_apply, val_main_v25_apply, e]
  refine Routing.wrap_of_lt _ _ ?_
  rw [BitVec.toNat_ofNat]
  omega

end Words

theorem si30 (y : S8192x31x512.Idx) (k : Fin D30.startIndexMap.length) :
    D30.siIdx y k = (ValueIdx.ix3 (⟨(y 0).val, (y 0).isLt⟩ : Fin 8192) (⟨(y 1).val, (y 1).isLt⟩ : Fin 31) (0 : Fin 1)) := by
  funext b; refine Fin.ext ?_
  match b with
  | ⟨0, _⟩ => rfl
  | ⟨1, _⟩ => rfl
  | ⟨2, _⟩ =>
    have : k.val < 1 := k.isLt
    show k.val = 0
    omega

theorem si43 (y : S8192x31x512.Idx) (k : Fin D43.scatterDimsToOperandDims.length) :
    D43.siIdx y k = (ValueIdx.ix3 (⟨(y 0).val, (y 0).isLt⟩ : Fin 8192) (⟨(y 1).val, (y 1).isLt⟩ : Fin 31) (0 : Fin 1)) := by
  funext b; refine Fin.ext ?_
  match b with
  | ⟨0, _⟩ => rfl
  | ⟨1, _⟩ => rfl
  | ⟨2, _⟩ =>
    have : k.val < 1 := k.isLt
    show k.val = 0
    omega

/-- The gather reads row `t + j`. -/
theorem gather_at (x : S8222x512.Idx → EReal) (y : S8192x31x512.Idx) :
    Host.gather D30 x (val_main_v29 (F := Ideal)) y = N2 x ((y 0).val + (y 1).val) (y 2).val := by
  have h0 : (y 0).val < 8192 := (y 0).isLt
  have h1 : (y 1).val < 31 := (y 1).isLt
  unfold Host.gather
  refine N2_eq x _ _ _ ?_ ?_
  · show D30.start y (val_main_v29 (F := Ideal)) 0 + D30.batchCoord y 0 + D30.offCoord y 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ D30.startIndexMap from List.mem_singleton.mpr rfl), si30, start_word]
    show min (BitVec.ofNat 32 ((y 0).val + (y 1).val)).toInt.toNat (8222 - 1) + 0 + 0 = _
    rw [toInt_small _ (by omega), Int.toNat_natCast]
    omega
  · show D30.start y (val_main_v29 (F := Ideal)) 1 + D30.batchCoord y 1 + D30.offCoord y 1 = _
    rw [GatherDims.batchCoord_eq_zero _ _ _ List.not_mem_nil]
    have hs : D30.start y (val_main_v29 (F := Ideal)) 1 = 0 := by
      unfold GatherDims.start
      exact dif_neg (show (1 : Fin 2) ∉ D30.startIndexMap by decide)
    rw [hs]
    rw [Nat.zero_add]
    unfold GatherDims.offCoord
    rw [dif_pos (show (1 : Fin 2) ∈ D30.sKept by decide)]
    rfl

/-- Where an update lands. -/
theorem lands (y : S8192x31x512.Idx) (r : Fin 8222) (ch : Fin 512) :
    D43.resultIdx? y (val_main_v29 (F := Ideal)) = some (ValueIdx.ix2 r ch)
      ↔ (y 0).val + (y 1).val = r.val ∧ (y 2).val = ch.val := by
  have h0 : (y 0).val < 8192 := (y 0).isLt
  have h1 : (y 1).val < 31 := (y 1).isLt
  refine (Routing.resultIdx?_ix2 D43 y _ r ch).trans ?_
  have w0 : D43.window y 0 = 0 := by
    unfold ScatterDims.window
    exact dif_neg (show (0 : Fin 2) ∉ D43.sKept by decide)
  have w1 : D43.window y 1 = (y 2).val := by
    unfold ScatterDims.window
    rw [dif_pos (show (1 : Fin 2) ∈ D43.sKept by decide)]
    rfl
  have s0 : D43.start y (val_main_v29 (F := Ideal)) 0 = (((y 0).val + (y 1).val : ℕ) : Int) := by
    unfold ScatterDims.start
    rw [dif_pos (show (0 : Fin 2) ∈ D43.scatterDimsToOperandDims from List.mem_singleton.mpr rfl), si43, start_word]
    exact toInt_small _ (by show (y 0).val + (y 1).val < 10000; omega)
  have s1 : D43.start y (val_main_v29 (F := Ideal)) 1 = 0 := by
    unfold ScatterDims.start
    exact dif_neg (show (1 : Fin 2) ∉ D43.scatterDimsToOperandDims by decide)
  rw [w0, w1, s0, s1]
  constructor
  · rintro ⟨a, b⟩; omega
  · rintro ⟨a, b⟩; omega

variable (X : S8192x1792.Idx → Ideal .bf16) (Y : S8192x512.Idx → Ideal .f32) (W : S31x512.Idx → Ideal .f32)

theorem v2_at (i : S8192x512.Idx) : (val_main_v2 (F := Ideal) X i : EReal) = N2 X (i 0).val (768 + (i 1).val) := by
  rw [val_main_v2_apply, val_main_v1_apply, val_main_v0_apply]
  exact N2_eq X _ _ _ rfl rfl

theorem v9_at (i : S8192x512.Idx) : (val_main_v9 (F := Ideal) X i : EReal) = sgm (N2 X (i 0).val (1280 + (i 1).val)) := by
  rw [val_main_v9_apply, val_main_v8_apply, val_main_v7_apply, val_main_v6_apply, val_main_v5_apply, val_main_v4_apply, val_main_v3_apply,
    val_main_v1_apply, val_main_v0_apply]
  have e : (X (idx_main_v1 (idx_main_v3 i)) : EReal) = N2 X (i 0).val (1280 + (i 1).val) :=
    N2_eq X _ _ _ rfl (by show 768 + (512 + (i 1).val) = _; omega)
  unfold sgm
  rw [← e, zero_sub]
  simp only [val_main_cst_apply, val_main_cst_0_apply]
  pointwise []

theorem v12_at (i : S8192x512.Idx) : (val_main_v12 (F := Ideal) X i : EReal)
    = sgm (N2 X (i 0).val (1280 + (i 1).val)) * (1 - sgm (N2 X (i 0).val (1280 + (i 1).val))) := by
  rw [val_main_v12_apply, val_main_v11_apply, val_main_v10_apply, val_main_cst_1_apply, ← v9_at X i]
  pointwise []

theorem v15_at (q : Fin 8222) (ch : Fin 512) : (val_main_v15 (F := Ideal) X (ValueIdx.ix2 q ch) : EReal) = cpad X (q.val + 2) ch.val := by
  unfold val_main_v15 cpad
  by_cases h : q.val < 30
  · rw [if_pos (by omega)]
    refine (concatenate_pair_apply_left 0 _ _ concatenates_S30x512_S8192x512_S8222x512_d0 (ValueIdx.ix2 q ch) rfl
      (ValueIdx.ix2 (⟨q.val, h⟩ : Fin 30) ch) fun b => ?_).trans ?_
    · match b with
      | ⟨0, _⟩ => rfl
      | ⟨1, _⟩ => rfl
    · rw [val_main_v14_apply, val_main_cst_2_apply]
      pointwise []
  · have hq : q.val - 30 < 8192 := by omega
    rw [if_neg (by omega)]
    refine (concatenate_pair_apply_right 0 _ _ concatenates_S30x512_S8192x512_S8222x512_d0 (ValueIdx.ix2 q ch) rfl rfl
      (ValueIdx.ix2 (⟨q.val - 30, hq⟩ : Fin 8192) ch) (fun b hb => ?_) ?_).trans ?_
    · match b with
      | ⟨0, _⟩ => exact absurd rfl hb
      | ⟨1, _⟩ => rfl
    · show q.val - 30 + 30 = q.val
      omega
    · rw [val_main_v13_apply, v2_at, v9_at]
      unfold glu
      rw [show q.val + 2 - 32 = q.val - 30 by omega]
      rfl

theorem v30_at (y : S8192x31x512.Idx) : (val_main_v30 (F := Ideal) X y : EReal) = cpad X (2 + (y 1).val + (y 0).val) (y 2).val := by
  have h0 : (y 0).val < 8192 := (y 0).isLt
  have h1 : (y 1).val < 31 := (y 1).isLt
  unfold val_main_v30
  refine (gather_at _ y).trans ?_
  have hb : (y 0).val + (y 1).val < 8222 := by omega
  refine (N2_ix (val_main_v15 (F := Ideal) X) _ _ hb (y 2).isLt).trans ?_
  refine (v15_at X _ _).trans ?_
  rw [show (y 0).val + (y 1).val + 2 = 2 + (y 1).val + (y 0).val by omega]

/-- The weight gradient of the reference. -/
theorem ref_dw (i : S31x512.Idx) : (val_main_v41 (F := Ideal) X Y i : EReal)
    = ∑ t ∈ Finset.range 8192, N2 Y t (i 1).val * cpad X (2 + (i 0).val + t) (i 1).val := by
  rw [val_main_v41_apply, Fin.sum_univ_one, val_main_v38_apply, val_main_v37_apply, val_main_cst_7_apply, val_main_cst_6_apply]
  have z : (FloatOps.ofBits (F := Ideal) .f32 0x00000000#32 : EReal) = 0 := by pointwise []
  refine (congrArg₂ (fun a b : EReal => a + b) z (congrArg₂ (fun a b : EReal => a + b) z rfl)).trans ?_
  rw [zero_add, zero_add, Finset.sum_range]
  refine Finset.sum_congr rfl fun t _ => ?_
  have h1 : (i 1).val < 512 := (i 1).isLt
  rw [val_main_v36_apply, v30_at, val_main_v35_apply]
  refine (mul_comm (_ : EReal) _).trans (congrArg₂ (fun a b : EReal => a * b) (N2_eq Y _ _ _ rfl ?_) ?_)
  · show ((0 * 31 + (i 0).val) * 512 + (i 1).val) % 512 = (i 1).val
    omega
  · show cpad X (2 + ((0 * 31 + (i 0).val) * 512 + (i 1).val) / 512 + t.val) (((0 * 31 + (i 0).val) * 512 + (i 1).val) % 512) = _
    rw [show ((0 * 31 + (i 0).val) * 512 + (i 1).val) / 512 = (i 0).val by omega,
      show ((0 * 31 + (i 0).val) * 512 + (i 1).val) % 512 = (i 1).val by omega]

/-- The scatter adds up the taps. -/
theorem v43_at (r : Fin 8222) (ch : Fin 512) (hr : 30 ≤ r.val) :
    (val_main_v43 (F := Ideal) Y W (ValueIdx.ix2 r ch) : EReal) = dcE Y W (r.val - 30) ch.val := by
  have hv : ∀ k : S8192x31x512.Idx, (val_main_v40 (F := Ideal) Y W k : EReal) = N2 Y (k 0).val (k 2).val * N2 W (k 1).val (k 2).val := by
    intro k
    rw [val_main_v40_apply, val_main_v35_apply, val_main_v39_apply, val_main_v31_apply]
    exact congrArg₂ (fun a b : EReal => a * b) (N2_eq Y _ _ _ rfl rfl) (N2_eq W _ _ _ rfl rfl)
  unfold val_main_v43 Host.scatterAdd
  rw [Ideal.hostScatterAdd_def]
  unfold Ideal.hostScatterAdd
  have z : (val_main_v42 (F := Ideal) (ValueIdx.ix2 r ch) : EReal) = 0 := by
    rw [val_main_v42_apply, val_main_cst_8_apply]; pointwise []
  refine (congrArg₂ (fun a b : EReal => a + b) z rfl).trans ?_
  rw [zero_add]
  unfold dcE
  refine Finset.sum_of_injOn (fun k : S8192x31x512.Idx => (k 1).val) ?_ ?_ ?_ ?_
  · intro a ha b hb hab
    have ha' := (lands a r ch).1 (Finset.mem_filter.1 ha).2
    have hb' := (lands b r ch).1 (Finset.mem_filter.1 hb).2
    have hab' : (a 1).val = (b 1).val := hab
    funext d
    match d with
    | ⟨0, _⟩ => exact Fin.ext (by show (a 0).val = (b 0).val; omega)
    | ⟨1, _⟩ => exact Fin.ext hab'
    | ⟨2, _⟩ => exact Fin.ext (by show (a 2).val = (b 2).val; omega)
  · intro a _
    exact Finset.mem_coe.2 (Finset.mem_range.2 (a 1).isLt)
  · intro j hj hn
    have hj' := Finset.mem_range.1 hj
    by_cases h : 30 + (r.val - 30) - j < 8192
    · refine absurd ⟨ValueIdx.ix3 (⟨30 + (r.val - 30) - j, h⟩ : Fin 8192) (⟨j, hj'⟩ : Fin 31) ch, ?_, rfl⟩ hn
      refine Finset.mem_coe.2 (Finset.mem_filter.2 ⟨Finset.mem_univ _, (lands _ r ch).2 ⟨?_, rfl⟩⟩)
      show 30 + (r.val - 30) - j + j = r.val
      omega
    · have : N2 Y (30 + (r.val - 30) - j) ch.val = 0 := dif_neg fun q => h q.1
      rw [this, zero_mul]
  · intro k hk
    have hk' := (lands k r ch).1 (Finset.mem_filter.1 hk).2
    refine (hv k).trans ?_
    rw [hk'.2, show 30 + (r.val - 30) - (k 1).val = (k 0).val by omega]

theorem v45_at (i : S8192x512.Idx) : (val_main_v45 (F := Ideal) Y W i : EReal) = dcE Y W (i 0).val (i 1).val := by
  rw [val_main_v45_apply]
  have h0 : (i 0).val < 8192 := (i 0).isLt
  have e : idx_main_v45 i = ValueIdx.ix2 (⟨30 + (i 0).val, by omega⟩ : Fin 8222) (⟨(i 1).val, (i 1).isLt⟩ : Fin 512) := by
    funext a; match a with | ⟨0, _⟩ => rfl | ⟨1, _⟩ => rfl
  rw [e]
  refine (v43_at Y W _ _ (by show 30 ≤ 30 + (i 0).val; omega)).trans ?_
  rw [show 30 + (i 0).val - 30 = (i 0).val by omega]

/-- The gradient of the gated input. -/
def dgluE {n : ℕ} (X : (⟨2, ![n, 1792]⟩ : Shape).Idx → EReal) (Y : (⟨2, ![n, 512]⟩ : Shape).Idx → EReal)
    (W : (⟨2, ![31, 512]⟩ : Shape).Idx → EReal) (r col : ℕ) : EReal :=
  if col < 512 then dcE Y W r col * sgm (N2 X r (1280 + col))
  else N2 X r (768 + (col - 512)) * dcE Y W r (col - 512)
    * (sgm (N2 X r (1280 + (col - 512))) * (1 - sgm (N2 X r (1280 + (col - 512)))))

theorem ref_dglu (i : S8192x1024.Idx) : (val_main_v50 (F := Ideal) X Y W i : EReal) = dgluE X Y W (i 0).val (i 1).val := by
  have h1 : (i 1).val < 1024 := (i 1).isLt
  rw [val_main_v50_apply]
  show (val_main_v49 (F := Ideal) X Y W i : EReal) = _
  unfold val_main_v49 dgluE
  by_cases h : (i 1).val < 512
  · rw [if_pos h]
    refine (concatenate_pair_apply_left 1 _ _ concatenates_S8192x512_S8192x512_S8192x1024_d1 i rfl
      (ValueIdx.ix2 (⟨(i 0).val, (i 0).isLt⟩ : Fin 8192) (⟨(i 1).val, h⟩ : Fin 512)) fun b => ?_).trans ?_
    · match b with
      | ⟨0, _⟩ => rfl
      | ⟨1, _⟩ => rfl
    · rw [val_main_v47_apply, v45_at, v9_at]
      rfl
  · rw [if_neg h]
    refine (concatenate_pair_apply_right 1 _ _ concatenates_S8192x512_S8192x512_S8192x1024_d1 i rfl rfl
      (ValueIdx.ix2 (⟨(i 0).val, (i 0).isLt⟩ : Fin 8192) (⟨(i 1).val - 512, by omega⟩ : Fin 512)) (fun b hb => ?_) ?_).trans ?_
    · match b with
      | ⟨0, _⟩ => rfl
      | ⟨1, _⟩ => exact absurd rfl hb
    · show (i 1).val - 512 + 512 = (i 1).val
      omega
    · rw [val_main_v48_apply, val_main_v46_apply, v45_at, v2_at, v12_at]
      rfl

end Conv
-- ==== Proof.Conv.Final.lean ====
/- The blocks of a grid point as rows of the whole arrays, and what the whole run leaves in the two results. -/
module

public import proofs.«01_k».proof.Proof.Conv.Outs
public import proofs.«01_k».proof.Proof.Conv.Ref
public import proofs.«01_k».proof.Proof.Gen.KernelIdeal.Value
public import Idealize.ShloMosaic.Lib.Pipeline.ValueKit

@[expose] public section

set_option maxRecDepth 16384

noncomputable section

namespace Conv

open Idealize.ShloMosaic Idealize.ShloMosaic.TcCoe Idealize.SL.Sem
open Cert.KernelIdeal Cert.KernelIdeal.Gen

/-- A sum over `n * 8` consecutive numbers, in groups of eight. -/
theorem sum_groups (f : ℕ → EReal) (k : ℕ) : ∀ n : ℕ, ∑ i ∈ Finset.range (n * k), f i = ∑ a ∈ Finset.range n, ∑ b ∈ Finset.range k, f (a * k + b)
  | 0 => by rw [Nat.zero_mul, Finset.sum_range_zero, Finset.sum_range_zero]
  | n + 1 => by rw [Nat.succ_mul, Finset.sum_range_add, Finset.sum_range_succ, sum_groups f k n]

/-- The blocks of grid point `ip` are rows of the arrays. -/
structure At (ip : ℕ) (X : S8192x1792.Idx → EReal) (Y : S8192x512.Idx → EReal) (x0 : S512x1792.Idx → EReal) (x1 : S32x1792.Idx → EReal)
    (x2 : S512x512.Idx → EReal) (x3 : S32x512.Idx → EReal) : Prop where
  lt : ip < 16
  h0 : ∀ a b, a < 512 → b < 1792 → N2 x0 a b = N2 X (512 * ip + a) b
  h1 : ∀ a b, 0 < ip → a < 32 → b < 1792 → N2 x1 a b = N2 X (512 * ip - 32 + a) b
  h2 : ∀ a b, a < 512 → b < 512 → N2 x2 a b = N2 Y (512 * ip + a) b
  h3 : ∀ a b, ip < 15 → a < 32 → b < 512 → N2 x3 a b = N2 Y (512 * ip + 512 + a) b

section Pure

variable {ip : ℕ} {X : S8192x1792.Idx → EReal} {Y : S8192x512.Idx → EReal} {x0 : S512x1792.Idx → EReal} {x1 : S32x1792.Idx → EReal}
    {x2 : S512x512.Idx → EReal} {x3 : S32x512.Idx → EReal} {W : S31x512.Idx → EReal}

theorem At.dyE_eq (h : At ip X Y x0 x1 x2 x3) (q ch : ℕ) (hq : q < 544) (hc : ch < 512) : dyE ip x2 x3 q ch = N2 Y (512 * ip + q) ch := by
  have := h.lt
  unfold dyE
  by_cases h1 : q < 512
  · rw [if_pos h1, h.h2 q ch h1 hc]
  · rw [if_neg h1]
    by_cases h2 : ip < 15
    · rw [if_pos h2, h.h3 _ ch h2 (by omega) hc, show 512 * ip + 512 + (q - 512) = 512 * ip + q by omega]
    · rw [if_neg h2]
      have z : ¬512 * ip + q < 8192 := by omega
      have z' : N2 Y (512 * ip + q) ch = 0 := dif_neg fun e => z e.1
      exact z'.symm

theorem At.glu_eq (h : At ip X Y x0 x1 x2 x3) (q ch : ℕ) (hq : q < 512) (hc : ch < 512) : glu x0 q ch = glu X (512 * ip + q) ch := by
  unfold glu
  rw [h.h0 _ _ hq (by omega), h.h0 _ _ hq (by omega)]

theorem At.cE_eq (h : At ip X Y x0 x1 x2 x3) (q ch : ℕ) (hq : q < 544) (hc : ch < 512) : cE ip x0 x1 q ch = cpad X (512 * ip + q) ch := by
  unfold cE cpad
  by_cases h1 : q < 32
  · rw [if_pos h1]
    by_cases h2 : 0 < ip
    · rw [if_pos h2, if_neg (by omega)]
      unfold glu
      rw [h.h1 _ _ h2 h1 (by omega), h.h1 _ _ h2 h1 (by omega), show 512 * ip + q - 32 = 512 * ip - 32 + q by omega]
    · rw [if_neg h2, if_pos (by omega)]
  · rw [if_neg h1, if_neg (by omega), h.glu_eq _ _ (by omega) hc, show 512 * ip + q - 32 = 512 * ip + (q - 32) by omega]

theorem At.accE_eq (h : At ip X Y x0 x1 x2 x3) (ρ ch : ℕ) (hq : ρ < 512) (hc : ch < 512) : accE ip x2 x3 W ρ ch = dcE Y W (512 * ip + ρ) ch := by
  unfold accE dcE
  refine Finset.sum_congr rfl fun j hj => ?_
  have := Finset.mem_range.1 hj
  rw [h.dyE_eq _ _ (by omega) hc, show 512 * ip + (30 - j + ρ) = 30 + (512 * ip + ρ) - j by omega]

theorem At.outE_eq (h : At ip X Y x0 x1 x2 x3) (ρ col : ℕ) (hq : ρ < 512) (hc : col < 1024) :
    outE ip x0 x2 x3 W ρ col = dgluE X Y W (512 * ip + ρ) col := by
  unfold outE dgluE
  by_cases h1 : col < 512
  · rw [if_pos h1, if_pos h1, h.accE_eq _ _ hq h1, h.h0 _ _ hq (by omega)]
  · rw [if_neg h1, if_neg h1, h.accE_eq _ _ hq (by omega), h.h0 _ _ hq (by omega), h.h0 _ _ hq (by omega)]
    rw [mul_comm (dcE _ _ _ _) (N2 _ _ _), mul_assoc (N2 _ _ _ * dcE _ _ _ _)]

theorem At.rowSum_eq (h : At ip X Y x0 x1 x2 x3) (j ch : ℕ) (hj : j < 31) (hc : ch < 512) :
    rowSum ip x0 x1 x2 j ch = ∑ ρ ∈ Finset.range 512, N2 Y (512 * ip + ρ) ch * cpad X (2 + j + (512 * ip + ρ)) ch := by
  have e : ∀ k < 8, ∀ a < 8, ∀ s < 8, N2 x2 (64 * k + (a * 8 + s)) ch * cE ip x0 x1 (2 + j + 64 * k + (a * 8 + s)) ch
      = N2 Y (512 * ip + (k * 64 + (a * 8 + s))) ch * cpad X (2 + j + (512 * ip + (k * 64 + (a * 8 + s)))) ch := by
    intro k hk a ha s hs
    rw [h.h2 _ _ (by omega) hc, h.cE_eq _ _ (by omega) hc]
    rw [show 512 * ip + (64 * k + (a * 8 + s)) = 512 * ip + (k * 64 + (a * 8 + s)) by omega,
      show 512 * ip + (2 + j + 64 * k + (a * 8 + s)) = 2 + j + (512 * ip + (k * 64 + (a * 8 + s))) by omega]
  have g := (sum_groups (fun ρ => N2 Y (512 * ip + ρ) ch * cpad X (2 + j + (512 * ip + ρ)) ch) 64 8).trans
    (Finset.sum_congr rfl fun k _ => sum_groups (fun b => N2 Y (512 * ip + (k * 64 + b)) ch * cpad X (2 + j + (512 * ip + (k * 64 + b))) ch) 8 8)
  refine Eq.trans ?_ g.symm
  unfold rowSum tileE
  simp only [Finset.sum_range]
  rw [Finset.sum_comm]
  refine Finset.sum_congr rfl fun k _ => ?_
  rw [Finset.sum_comm]
  exact Finset.sum_congr rfl fun a _ => Finset.sum_congr rfl fun s _ => e k.val k.isLt a.val a.isLt s.val s.isLt

end Pure

variable (m : (ℓ : Loc nD τ sig) → Buf (Elt Ideal) ℓ) (c : Dev nD)

theorem idx : ∀ t : Fin cfg0.N, win0_0.index t = ![t.val, 0] ∧ win0_1.index t = ![t.val * 16 - 1, 0] ∧ win0_2.index t = ![t.val, 0]
    ∧ win0_3.index t = ![min ((t.val + 1) * 16) 255, 0] ∧ win0_4.index t = ![0, 0] ∧ win0_5.index t = ![t.val, 0] ∧ win0_6.index t = ![0, 0]
    ∧ (grid0.coords t 0).val = t.val ∧ t.val < 16 :=
  (by decide +kernel : ∀ t : Fin grid0.N, _)

abbrev aX : S8192x1792.Idx → EReal := m ((c : Thread nD τ).loc main_arg0)
abbrev aY : S8192x512.Idx → EReal := m ((c : Thread nD τ).loc main_arg1)
abbrev aW : S31x512.Idx → EReal := m ((c : Thread nD τ).loc main_arg2)

theorem point_at (t : Fin cfg0.N) : At (grid0.coords t 0).val (aX m c) (aY m c) (iblk m c 0 t : Vec Ideal S512x1792 .bf16)
    (iblk m c 1 t : Vec Ideal S32x1792 .bf16) (iblk m c 2 t : Vec Ideal S512x512 .f32) (iblk m c 3 t : Vec Ideal S32x512 .f32) := by
  have hx := idx t
  have ht := hx.2.2.2.2.2.2.2.2
  have hi := hx.2.2.2.2.2.2.2.1
  rw [hi]
  refine ⟨ht, fun a b ha hb => ?_, fun a b hp ha hb => ?_, fun a b ha hb => ?_, fun a b hp ha hb => ?_⟩
  · rw [N2_ix _ _ _ ha hb, N2_ix _ _ _ (by omega) hb]
    blk_ext [iblk, V, idx t]
  · rw [N2_ix _ _ _ ha hb, N2_ix _ _ _ (by omega) hb]
    blk_ext [iblk, V, idx t]
  · rw [N2_ix _ _ _ ha hb, N2_ix _ _ _ (by omega) hb]
    blk_ext [iblk, V, idx t]
  · rw [N2_ix _ _ _ ha hb, N2_ix _ _ _ (by omega) hb]
    blk_ext [iblk, V, idx t]

theorem w_at (t : Fin cfg0.N) : (iblk m c 4 t : Vec Ideal S31x512 .f32) = aW m c := by
  blk_ext! [iblk, V, idx t]

/-- Result 0: the gradient of the gated input. -/
theorem final5 : (dats m 0 c).arrAt 5 cfg0.N = fun i : S8192x1024.Idx => dgluE (aX m c) (aY m c) (aW m c) (i 0).val (i 1).val := by
  refine (dats m 0 c).arrAt_eq_of_covers 5 _ (by decide +kernel) fun t _ y => ?_
  blk_simp
  rw [after0_5]
  have hy0 : (y 0).val < 512 := (y 0).isLt
  have hy1 : (y 1).val < 1024 := (y 1).isLt
  have key : ((outsAt0 m c t.val t.isLt).1 y : EReal) = dgluE (aX m c) (aY m c) (aW m c) (512 * (grid0.coords t 0).val + (y 0).val) (y 1).val := by
    by_cases h0 : t.val % 16 = 0
    · rw [outsAt0_A m c t h0]
      dsimp only
      rw [out5_A, (point_at m c t).outE_eq _ _ hy0 hy1, w_at]
    · rw [outsAt0_B m c t h0]
      dsimp only
      rw [out5_B, (point_at m c t).outE_eq _ _ hy0 hy1, w_at]
  refine key.trans ?_
  rw [(idx t).2.2.2.2.2.2.2.1]
  simp only [(idx t).2.2.2.2.2.1]
  show _ = dgluE (aX m c) (aY m c) (aW m c) (t.val * 512 + (y 0).val) (0 * 1024 + (y 1).val)
  rw [Nat.mul_comm, Nat.zero_mul, Nat.zero_add]

/-- What the accumulated block holds after point `n`. -/
theorem acc6 (y : S31x512.Idx) : ∀ (n : ℕ) (hn : n < cfg0.N), ((outsAt0 m c n hn).2 y : EReal)
    = ∑ ρ ∈ Finset.range (512 * n + 512), N2 (aY m c) ρ (y 1).val * cpad (aX m c) (2 + (y 0).val + ρ) (y 1).val
  | 0, hn => by
    have h := outsAt0_A m c ⟨0, hn⟩ rfl
    refine (congrArg (fun z => (z.2 y : EReal)) h).trans ?_
    dsimp only
    rw [out6_A, (point_at m c ⟨0, hn⟩).rowSum_eq _ _ (y 0).isLt (y 1).isLt, (idx ⟨0, hn⟩).2.2.2.2.2.2.2.1, zero_add]
    refine Finset.sum_congr rfl fun ρ _ => ?_
    rw [show 512 * 0 + ρ = ρ by omega]
  | n + 1, hn => by
    have hn' : n + 1 < 16 := hn
    have h := outsAt0_B m c ⟨n + 1, hn⟩ (by show ¬(n + 1) % 16 = 0; omega)
    refine (congrArg (fun z => (z.2 y : EReal)) h).trans ?_
    dsimp only
    rw [out6_B, (point_at m c ⟨n + 1, hn⟩).rowSum_eq _ _ (y 0).isLt (y 1).isLt, (idx ⟨n + 1, hn⟩).2.2.2.2.2.2.2.1]
    refine (congrArg (fun z : EReal => z + _) (acc6 y n (Nat.lt_of_succ_lt hn))).trans ?_
    rw [show 512 * (n + 1) + 512 = 512 * n + 512 + 512 by omega, Finset.sum_range_add _ (512 * n + 512)]
    rfl

/-- Result 1: the gradient of the taps. -/
theorem final6 : (dats m 0 c).arrAt 6 cfg0.N = fun i : S31x512.Idx =>
    ∑ t ∈ Finset.range 8192, N2 (aY m c) t (i 1).val * cpad (aX m c) (2 + (i 0).val + t) (i 1).val := by
  refine (dats m 0 c).arrAt_eq_of_after_last 6 t0_15 (by decide +kernel) _ fun j => ?_
  blk_simp
  rw [after0_6]
  exact acc6 m c j 15 (by decide)

end Conv
-- ==== Proof.Ffn.GateUp.lean ====
/- The two products of the gated feed-forward and its gate, column chunk by column chunk. -/
module

public import proofs.«01_k».proof.Proof.Gen.GateUpIdeal.Value
public import proofs.«01_k».proof.Proof.Gen.GateUpRefIdeal.Run
public import proofs.«01_k».proof.Proof.Gen.GateUpRefIdeal.Read
public import Idealize.ShloMosaic.Lib.Pipeline.ValueKit
public import Idealize.ShloMosaic.Lib.Pointwise
public import Idealize.ShloMosaic.Lib.Claim
public import Idealize.ShloMosaic.Lib.Quiescent
public import proofs.«01_k».proof.Defs

@[expose] public section

set_option maxRecDepth 16384

noncomputable section

namespace Ffn.GateUp

open Idealize.ShloMosaic Idealize.ShloMosaic.TcCoe Idealize.SL.Sem
open Cert.GateUpIdeal Cert.GateUpIdeal.Gen

/-- A row of the input against a row of a transposed weight. -/
def row (X : S8192x1024.Idx → EReal) (W : S2816x1024.Idx → EReal) (i : S8192x2816.Idx) : EReal :=
  ∑ k : Fin 1024, X (ix2 (i 0) k) * W (ix2 (i 1) k)

/-- The gated product. -/
def gated (X : S8192x1024.Idx → EReal) (G U : S2816x1024.Idx → EReal) (i : S8192x2816.Idx) : EReal :=
  row X G i * Ideal.div 1 (1 + Ideal.exp (0 - row X G i)) * row X U i

variable (m : (ℓ : Loc nD τ sig) → Buf (Elt Ideal) ℓ) (c : Dev nD)

theorem idx : ∀ t : Fin cfg0.N, win0_0.index t = ![t.val % 8, 0] ∧ win0_1.index t = ![t.val / 8, 0] ∧ win0_2.index t = ![t.val / 8, 0]
   ∧ win0_3.index t = ![t.val % 8, t.val / 8] ∧ win0_4.index t = ![t.val % 8, t.val / 8] ∧ win0_5.index t = ![t.val % 8, t.val / 8] :=
  (by decide +kernel : ∀ t : Fin grid0.N, _)

section Block

variable (i : grid0.Coords) (arg2 : Memref sig .tc .vmem S1024x1024 .bf16) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S1024x1408 .bf16) (harg7 : arg7.IsWhole)
  (x0 : Vec Ideal S1024x1024 .bf16) (x1 : Vec Ideal S1408x1024 .bf16) (x2 : Vec Ideal S1408x1024 .bf16)

/-- The same at one block. -/
def brow (X : S1024x1024.Idx → EReal) (W : S1408x1024.Idx → EReal) (y : S1024x1408.Idx) : EReal :=
  ∑ k : Fin 1024, X (ix2 (y 0) k) * W (ix2 (y 1) k)

def bgated (X : S1024x1024.Idx → EReal) (G U : S1408x1024.Idx → EReal) (y : S1024x1408.Idx) : EReal :=
  brow X G y * Ideal.div 1 (1 + Ideal.exp (0 - brow X G y)) * brow X U y

theorem out4 (y : S1024x1408.Idx) : (out0_A_4 (F := Ideal) c i arg2 harg2 arg3 harg3 arg4 harg4 arg5 harg5 arg6 harg6 arg7 harg7 x0 x1 x2 y : EReal) = brow x0 x1 y := by
  unfold out0_A_4
  rw [View.read_writes_junk_eq_canon]
  unfold kernelRun0_A
  dsimp only
  canon_tiles x h using (cover0_A_4 c i arg2 harg2 arg3 harg3 arg4 harg4 arg5 harg5 arg6 harg6 arg7 harg7 x0 x1 x2 y)
  all_goals (open_payloads; frame_out; pointwise [brow]; blk_point [])

theorem out3 (y : S1024x1408.Idx) : (out0_A_3 (F := Ideal) c i arg2 harg2 arg3 harg3 arg4 harg4 arg5 harg5 arg6 harg6 arg7 harg7 x0 x1 x2 y : EReal) = bgated x0 x1 x2 y := by
  unfold out0_A_3
  rw [View.read_writes_junk_eq_canon]
  unfold kernelRun0_A
  dsimp only
  canon_tiles x h using (cover0_A_3 c i arg2 harg2 arg3 harg3 arg4 harg4 arg5 harg5 arg6 harg6 arg7 harg7 x0 x1 x2 y)
  all_goals (open_payloads; frame_out; pointwise [bgated, brow, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]; blk_point [])

theorem out5 (y : S1024x1408.Idx) : (out0_A_5 (F := Ideal) c i arg2 harg2 arg3 harg3 arg4 harg4 arg5 harg5 arg6 harg6 arg7 harg7 x0 x1 x2 y : EReal) = brow x0 x2 y := by
  unfold out0_A_5
  rw [View.read_writes_junk_eq_canon]
  unfold kernelRun0_A
  dsimp only
  canon_tiles x h using (cover0_A_5 c i arg2 harg2 arg3 harg3 arg4 harg4 arg5 harg5 arg6 harg6 arg7 harg7 x0 x1 x2 y)
  all_goals (open_payloads; frame_out; pointwise [brow]; blk_point [])

end Block

theorem final4 : (dats m 0 c).arrAt 4 cfg0.N = fun i : S8192x2816.Idx =>
    row (m ((c : Thread nD τ).loc main_arg0)) (m ((c : Thread nD τ).loc main_arg1)) i := by
  refine (dats m 0 c).arrAt_eq_of_covers 4 _ (by decide +kernel) fun t hf y => ?_
  blk_simp
  rw [after0_4, outsAt0]
  dsimp only
  rw [out4]
  unfold brow row
  blk_point [iblk, V, idx t]

theorem final5 : (dats m 0 c).arrAt 5 cfg0.N = fun i : S8192x2816.Idx =>
    row (m ((c : Thread nD τ).loc main_arg0)) (m ((c : Thread nD τ).loc main_arg2)) i := by
  refine (dats m 0 c).arrAt_eq_of_covers 5 _ (by decide +kernel) fun t hf y => ?_
  blk_simp
  rw [after0_5, outsAt0]
  dsimp only
  rw [out5]
  unfold brow row
  blk_point [iblk, V, idx t]

theorem final3 : (dats m 0 c).arrAt 3 cfg0.N = fun i : S8192x2816.Idx =>
    gated (m ((c : Thread nD τ).loc main_arg0)) (m ((c : Thread nD τ).loc main_arg1)) (m ((c : Thread nD τ).loc main_arg2)) i := by
  refine (dats m 0 c).arrAt_eq_of_covers 3 _ (by decide +kernel) fun t hf y => ?_
  blk_simp
  rw [after0_3, outsAt0]
  dsimp only
  rw [out3]
  unfold bgated gated brow row
  blk_point [iblk, V, idx t]

section Reference

variable (x0 : Vec Ideal S8192x1024 .bf16) (x1 x2 : Vec Ideal S2816x1024 .bf16) (i : S8192x2816.Idx)

open Cert.GateUpRefIdeal.Read

theorem ref_row : (val_main_v2 (F := Ideal) x0 x1 i : EReal) = row x0 x1 i := by
  refine (val_main_v2_apply x0 x1 i).trans ?_
  pointwise [row, val_main_v0, val_main_v1]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl))

theorem ref_row' : (val_main_v4 (F := Ideal) x0 x2 i : EReal) = row x0 x2 i :=
  ref_row x0 x2 i

theorem ref_gated : (val_main_v7 (F := Ideal) x0 x1 x2 i : EReal) = gated x0 x1 x2 i := by
  unfold gated
  rw [← ref_row, ← ref_row']
  pointwise [val_main_v7, val_main_v6, val_main_v5, val_main_call0_v5, val_main_call0_v4, val_main_call0_v3, val_main_call0_v2, val_main_call0_v1, val_main_call0_v0, val_main_call0_cst, val_main_call0_cst_0]
  rw [zero_sub]

end Reference

theorem frame_reference : Cert.quiescent_GateUpRefIdeal := by
  intro m ρ _
  exact (θ_run Cert.GateUpRefIdeal.defs _ _).mono (fun r h => ⟨fun c => (h c).2.2.2,
      Idealize.ShloMosaic.sem_eq_zero_of_no_sems (by decide) r.2⟩)
    (Cert.GateUpRefIdeal.Value.run m ρ)

theorem algebraic : Cert.algebraic_GateUpIdeal_GateUpRefIdeal := by
  pair_intro
  · run_from Cert.GateUpIdeal.Gen.run_main m g
  · run_from Cert.GateUpRefIdeal.Value.run m' g'
    · refine (Cert.GateUpRefIdeal.Read.val_main_v7_eq (F := Ideal) _ _ _).trans ?_
      exact (funext fun i => ref_gated _ _ _ i).trans (final3 m c).symm
    · refine (Cert.GateUpRefIdeal.Read.val_main_v8_eq (F := Ideal) _ _).trans ?_
      exact (funext fun i => ref_row _ _ i).trans (final4 m c).symm
    · refine (Cert.GateUpRefIdeal.Read.val_main_v9_eq (F := Ideal) _ _).trans ?_
      exact (funext fun i => ref_row' _ _ i).trans (final5 m c).symm

end Ffn.GateUp
-- ==== Proof.Ffn.Fin.lean ====
/- Finite extended reals: what a test for finiteness says of an element, and the sigmoid of a real number. -/
module

public import Idealize.ShloMosaic.Lib.ReduceAll
public import Idealize.ShloMosaic.Lib.Pointwise
public import Idealize.ShloMosaic.PureOps.Ideal

@[expose] public section

noncomputable section

namespace Ffn

open Idealize.ShloMosaic

/-- The element is a real number. -/
def IsReal (x : EReal) : Prop := ∃ r : ℝ, x = (r : EReal)

theorem IsReal.of_lt {x : EReal} (h : Ideal.cmp .olt (max x (-x)) ⊤ = 1#1) : IsReal x := by
  have h' : max x (-x) < ⊤ := by
    by_contra hn
    simp [Ideal.cmp, hn] at h
  induction x with
  | bot => simp at h'
  | top => simp at h'
  | coe r => exact ⟨r, rfl⟩

theorem inf_bits : Ideal.ofBits .f32 0x7F800000#32 = (⊤ : EReal) := by
  simp [Ideal.ofBits, Ideal.ieee]

/-- An element that passed the test: its absolute value is below the format's infinity. -/
theorem IsReal.of_test {s u : Shape} {dims : Fin u.rank → Fin s.rank} (h : u.BroadcastsInDim s dims) (x : FVec Ideal s .f32) (i : s.Idx)
    (e : cmpf .olt (Host.absf x) (broadcastInDim s dims h (constant u .f32 0x7F800000#32)) i = 1#1) : IsReal (x i) := by
  refine IsReal.of_lt ?_
  rw [← inf_bits]
  exact e

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.sum {n : ℕ} {f : Fin n → EReal} (h : ∀ k, IsReal (f k)) : IsReal (∑ k, f k) := by
  choose g hg using h
  refine ⟨∑ k, g k, ?_⟩
  rw [show f = fun k => (g k : EReal) from funext hg]
  exact (map_sum (⟨⟨fun r : ℝ => (r : EReal), EReal.coe_zero⟩, EReal.coe_add⟩ : ℝ →+ EReal) _ _).symm

/-- The sigmoid as the kernels compute it. -/
def sigm (g : EReal) : EReal := Ideal.div 1 (1 + Ideal.exp (0 - g))

theorem sigm_real (g : ℝ) : sigm (g : EReal) = ((1 / (1 + Real.exp (-g)) : ℝ) : EReal) := by
  unfold sigm
  have e : (1 : EReal) + Ideal.exp (0 - (g : EReal)) = ((1 + Real.exp (-g) : ℝ) : EReal) := by
    rw [zero_sub, ← EReal.coe_neg, Ideal.exp_coe, EReal.coe_add, EReal.coe_one]
  rw [e, Ideal.div_coe (by positivity), one_mul]

theorem sigm_top : sigm ⊤ = 1 := by
  unfold sigm
  rw [zero_sub, EReal.neg_top, Ideal.exp_bot, add_zero]
  exact (congrArg (Ideal.div 1) EReal.coe_one.symm).trans ((Ideal.div_coe one_ne_zero 1).trans (by simp))

theorem sigm_bot : sigm ⊥ = 0 := by
  unfold sigm
  rw [zero_sub, EReal.neg_bot, Ideal.exp_top, EReal.add_top_of_ne_bot (by decide)]
  simp [Ideal.div]

/-- The derivative of the gated product in its gate: the product rule against its factored form. -/
theorem gate_rule {D u : EReal} (g : EReal) (hD : IsReal D) (hu : IsReal u) :
    D * u * sigm g + g * (D * u) * (sigm g * (1 - sigm g)) = D * u * sigm g * (1 + g * (1 - sigm g)) := by
  have h1 : (1 : EReal) - 1 = 0 := by
    rw [← EReal.coe_one, ← EReal.coe_sub, sub_self, EReal.coe_zero]
  obtain ⟨D, rfl⟩ := hD
  obtain ⟨u, rfl⟩ := hu
  induction g with
  | bot => rw [sigm_bot]; simp
  | top => rw [sigm_top, h1]; simp
  | coe g =>
    rw [sigm_real]
    generalize (1 / (1 + Real.exp (-g)) : ℝ) = s
    rw [← EReal.coe_one]
    simp only [← EReal.coe_mul, ← EReal.coe_sub, ← EReal.coe_add]
    congr 1
    ring

/-! ## The normalisation -/

theorem bits_width : Ideal.ofBits .f32 0x44800000#32 = ((1024 : ℝ) : EReal) := by
  simp [Ideal.ofBits, Ideal.ieee, -EReal.coe_mul]; norm_num

theorem bits_half : Ideal.ofBits .f32 0xBF000000#32 = ((-(1 / 2) : ℝ) : EReal) := by
  simp [Ideal.ofBits, Ideal.ieee, -EReal.coe_mul]; norm_num

theorem bits_eps : ∃ e : ℝ, 0 < e ∧ Ideal.ofBits .f32 0x358637BD#32 = (e : EReal) := by
  refine ⟨_, ?_, by simp [Ideal.ofBits, Ideal.ieee, -EReal.coe_mul]; rfl⟩
  positivity

/-- A row's mean square with the small constant, from its sum of squares. -/
def ms (q : EReal) : EReal := Ideal.div q (Ideal.ofBits .f32 0x44800000#32) + Ideal.ofBits .f32 0x358637BD#32

theorem sum_mul_real {n : ℕ} (f : Fin n → EReal) {r : ℝ} (hr : 0 ≤ r) : ∑ k, f k * (r : EReal) = (∑ k, f k) * (r : EReal) := by
  classical
  induction (Finset.univ : Finset (Fin n)) using Finset.induction_on with
  | empty => simp
  | insert a s ha ih =>
    rw [Finset.sum_insert ha, Finset.sum_insert ha, ih,
      EReal.right_distrib_of_nonneg_of_ne_top (EReal.coe_nonneg.mpr hr) (EReal.coe_ne_top r)]

theorem mul_self_nonneg' (x : EReal) : 0 ≤ x * x := by
  induction x with
  | bot => simp
  | top => simp
  | coe r => rw [← EReal.coe_mul]; exact EReal.coe_nonneg.mpr (mul_self_nonneg r)

/-- Twice the same share is the share of twice. -/
theorem share_twice (T : EReal) {a : ℝ} (ha : 0 ≤ a) : T * ((-(1 / 2) * a : ℝ) : EReal) + T * ((-(1 / 2) * a : ℝ) : EReal) = -(T * (a : EReal)) := by
  have e : ((-(1 / 2) * a : ℝ) : EReal) = -((1 / 2 * a : ℝ) : EReal) := by rw [← EReal.coe_neg]; congr 1; ring
  rw [e, mul_neg, ← neg_mul, ← EReal.left_distrib_of_nonneg (EReal.coe_nonneg.mpr (by positivity)) (EReal.coe_nonneg.mpr (by positivity)),
    ← EReal.coe_add, neg_mul]
  congr 4
  ring

/-- The cotangent of a normalised row: the derivative step by step against the closed form. -/
theorem norm_rule {n : ℕ} (h y : Fin n → EReal) (d : EReal) (j : Fin n) :
    d + y j * Ideal.rsqrt (ms (∑ k, h k * h k))
        + h j * Ideal.div ((∑ k, h k * y k) * (Ideal.ofBits .f32 0xBF000000#32 * Ideal.div (Ideal.rsqrt (ms (∑ k, h k * h k))) (ms (∑ k, h k * h k))))
          (Ideal.ofBits .f32 0x44800000#32)
        + Ideal.div ((∑ k, h k * y k) * (Ideal.ofBits .f32 0xBF000000#32 * Ideal.div (Ideal.rsqrt (ms (∑ k, h k * h k))) (ms (∑ k, h k * h k))))
          (Ideal.ofBits .f32 0x44800000#32) * h j
      = d + Ideal.rsqrt (ms (∑ k, h k * h k)) * (y j - h j * Ideal.rsqrt (ms (∑ k, h k * h k))
          * Ideal.div (∑ k, y k * (h k * Ideal.rsqrt (ms (∑ k, h k * h k)))) (Ideal.ofBits .f32 0x44800000#32)) := by
  have hq : 0 ≤ ∑ k, h k * h k := Finset.sum_nonneg fun k _ => mul_self_nonneg' (h k)
  obtain ⟨e, he, hb⟩ := bits_eps
  have hn : (1024 : ℝ) ≠ 0 := by norm_num
  have hS : ∑ k, y k * h k = ∑ k, h k * y k := Finset.sum_congr rfl fun k _ => mul_comm _ _
  generalize ∑ k, h k * h k = q at hq ⊢
  unfold ms
  rw [hb, bits_width, bits_half]
  simp only [Ideal.div_coe hn]
  induction q with
  | bot => simp at hq
  | top =>
    have ht : (⊤ : EReal) * ((1 / 1024 : ℝ) : EReal) + (e : EReal) = ⊤ := by
      rw [EReal.top_mul_coe_of_pos (by norm_num), EReal.top_add_coe]
    rw [ht, Ideal.rsqrt_top]
    simp [Ideal.div]
  | coe q =>
    have hq' : 0 ≤ q := EReal.coe_nonneg.mp hq
    have hm : (q : EReal) * ((1 / 1024 : ℝ) : EReal) + (e : EReal) = ((q * (1 / 1024) + e : ℝ) : EReal) := by
      rw [EReal.coe_add, EReal.coe_mul]
    have hm0 : 0 < q * (1 / 1024) + e := by positivity
    rw [hm, Ideal.rsqrt_coe, if_neg (not_lt.mpr hm0.le), if_neg hm0.ne', Ideal.div_coe hm0.ne']
    generalize q * (1 / 1024) + e = v at hm0
    have hr : 0 < (Real.sqrt v)⁻¹ := by positivity
    have hrr : (1 / v : ℝ) = (Real.sqrt v)⁻¹ * (Real.sqrt v)⁻¹ := by
      rw [← mul_inv, Real.mul_self_sqrt hm0.le, one_div]
    rw [hrr]
    generalize (Real.sqrt v)⁻¹ = r at hr
    have hk : ∑ k, y k * (h k * (r : EReal)) = (∑ k, h k * y k) * (r : EReal) := by
      rw [← hS, ← sum_mul_real _ hr.le]
      exact Finset.sum_congr rfl fun k _ => (mul_assoc _ _ _).symm
    rw [hk]
    generalize ∑ k, h k * y k = S
    rw [sub_eq_add_neg, EReal.left_distrib_of_nonneg_of_ne_top (EReal.coe_nonneg.mpr hr.le) (EReal.coe_ne_top r), add_assoc, ← add_assoc d,
      mul_comm (y j)]
    have e1 : h j * (S * (((-(1 / 2) : ℝ) : EReal) * ((r : EReal) * ((r * r : ℝ) : EReal))) * ((1 / 1024 : ℝ) : EReal))
        = (h j * S) * ((-(1 / 2) * (r * r * r * (1 / 1024)) : ℝ) : EReal) := by
      rw [show ((-(1 / 2) * (r * r * r * (1 / 1024)) : ℝ) : EReal)
        = ((-(1 / 2) : ℝ) : EReal) * ((r : EReal) * ((r * r : ℝ) : EReal)) * ((1 / 1024 : ℝ) : EReal) by
          simp only [← EReal.coe_mul]; congr 1; ring]
      simp only [mul_assoc]
    have e2 : (r : EReal) * -(h j * (r : EReal) * (S * (r : EReal) * ((1 / 1024 : ℝ) : EReal)))
        = -((h j * S) * ((r * r * r * (1 / 1024) : ℝ) : EReal)) := by
      rw [mul_neg, EReal.coe_mul, EReal.coe_mul, EReal.coe_mul]
      congr 1
      simp only [mul_comm, mul_left_comm, mul_assoc]
    rw [mul_comm _ (h j), e1, e2, share_twice _ (by positivity)]

end Ffn
-- ==== Proof.Ffn.Dact.lean ====
/- The two cotangents of the gated feed-forward's products, column chunk by column chunk. -/
module

public import proofs.«01_k».proof.Proof.Gen.DactIdeal.Value
public import proofs.«01_k».proof.Proof.Gen.DactRefIdeal.Run
public import proofs.«01_k».proof.Proof.Gen.DactRefIdeal.Read
public import proofs.«01_k».proof.Proof.Ffn.Fin
public import Idealize.ShloMosaic.Lib.Pipeline.ValueKit
public import Idealize.ShloMosaic.Lib.Pointwise
public import Idealize.ShloMosaic.Lib.Claim
public import Idealize.ShloMosaic.Lib.Quiescent
public import proofs.«01_k».proof.Defs

@[expose] public section

set_option maxRecDepth 16384

noncomputable section

namespace Ffn.Dact

open Idealize.ShloMosaic Idealize.ShloMosaic.TcCoe Idealize.SL.Sem
open Cert.DactIdeal Cert.DactIdeal.Gen

/-- The facts the precondition's function takes. -/
instance preFacts : Cert.Pre_finite_dact.Facts where
  bitsLt_bf16_f32 := by decide
  bcast_S_S8192x1024 := by decide
  reducesTo_S8192x1024_S_d0_1 := by decide
  h_S_ := by decide
  bcast_S_S2816x1024 := by decide
  reducesTo_S2816x1024_S_d0_1 := by decide
  bcast_S_S8192x2816 := by decide
  reducesTo_S8192x2816_S_d0_1 := by decide

instance : Subsingleton Cert.Pre_finite_dact.S_.Idx := ⟨fun _ _ => funext fun a => a.elim0⟩

/-- What the precondition says: every element of the cotangent, the weight and the other factor is a real number. -/
theorem finite (a : Vec Ideal S8192x1024 .bf16) (b : Vec Ideal S2816x1024 .bf16) (g u : Vec Ideal S8192x2816 .bf16)
    (h : Cert.Pre_finite_dact.fn (F := Ideal) a b g u = fun _ => 1#1) :
    (∀ i, IsReal (a i)) ∧ (∀ i, IsReal (b i)) ∧ ∀ i, IsReal (u i) := by
  have h0 := congrFun h (fun a => a.elim0)
  unfold Cert.Pre_finite_dact.fn at h0
  obtain ⟨h1, hu⟩ := IntOp.andi_eq_one.1 h0
  obtain ⟨ha, hb⟩ := IntOp.andi_eq_one.1 h1
  exact ⟨fun i => IsReal.of_test _ _ i (Host.reduce_andi_all _ _ _ _ _ ha i), fun i => IsReal.of_test _ _ i (Host.reduce_andi_all _ _ _ _ _ hb i),
    fun i => IsReal.of_test _ _ i (Host.reduce_andi_all _ _ _ _ _ hu i)⟩

/-- A row of the cotangent against a row of the down weight. -/
def dsum (X : S8192x1024.Idx → EReal) (W : S2816x1024.Idx → EReal) (i : S8192x2816.Idx) : EReal :=
  ∑ k : Fin 1024, X (ix2 (i 0) k) * W (ix2 (i 1) k)

/-- The gate's cotangent as the kernel computes it. -/
def dgate (X : S8192x1024.Idx → EReal) (W : S2816x1024.Idx → EReal) (G U : S8192x2816.Idx → EReal) (i : S8192x2816.Idx) : EReal :=
  dsum X W i * U i * sigm (G i) * (1 + G i * (1 - sigm (G i)))

/-- The other factor's cotangent. -/
def dup (X : S8192x1024.Idx → EReal) (W : S2816x1024.Idx → EReal) (G : S8192x2816.Idx → EReal) (i : S8192x2816.Idx) : EReal :=
  dsum X W i * G i * sigm (G i)

variable (m : (ℓ : Loc nD τ sig) → Buf (Elt Ideal) ℓ) (c : Dev nD)

theorem idx : ∀ t : Fin cfg0.N, win0_0.index t = ![t.val % 8, 0] ∧ win0_1.index t = ![t.val / 8, 0] ∧ win0_2.index t = ![t.val % 8, t.val / 8]
   ∧ win0_3.index t = ![t.val % 8, t.val / 8] ∧ win0_4.index t = ![t.val % 8, t.val / 8] ∧ win0_5.index t = ![t.val % 8, t.val / 8] :=
  (by decide +kernel : ∀ t : Fin grid0.N, _)

section Block

variable (i : grid0.Coords) (arg2 : Memref sig .tc .vmem S1024x1024 .bf16) (harg2 : arg2.IsWhole) (arg3 : Memref sig .tc .vmem S1408x1024 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S1024x1408 .bf16) (harg7 : arg7.IsWhole)
  (x0 : Vec Ideal S1024x1024 .bf16) (x1 : Vec Ideal S1408x1024 .bf16) (x2 : Vec Ideal S1024x1408 .bf16) (x3 : Vec Ideal S1024x1408 .bf16)

/-- The same at one block. -/
def bsum (X : S1024x1024.Idx → EReal) (W : S1408x1024.Idx → EReal) (y : S1024x1408.Idx) : EReal :=
  ∑ k : Fin 1024, X (ix2 (y 0) k) * W (ix2 (y 1) k)

def bgate (X : S1024x1024.Idx → EReal) (W : S1408x1024.Idx → EReal) (G U : S1024x1408.Idx → EReal) (y : S1024x1408.Idx) : EReal :=
  bsum X W y * U y * sigm (G y) * (1 + G y * (1 - sigm (G y)))

def bup (X : S1024x1024.Idx → EReal) (W : S1408x1024.Idx → EReal) (G : S1024x1408.Idx → EReal) (y : S1024x1408.Idx) : EReal :=
  bsum X W y * G y * sigm (G y)

theorem out4 (y : S1024x1408.Idx) : (out0_A_4 (F := Ideal) c i arg2 harg2 arg3 harg3 arg4 harg4 arg5 harg5 arg6 harg6 arg7 harg7 x0 x1 x2 x3 y : EReal) = bgate x0 x1 x2 x3 y := by
  unfold out0_A_4
  rw [View.read_writes_junk_eq_canon]
  unfold kernelRun0_A
  dsimp only
  canon_tiles x h using (cover0_A_4 c i arg2 harg2 arg3 harg3 arg4 harg4 arg5 harg5 arg6 harg6 arg7 harg7 x0 x1 x2 x3 y)
  all_goals (open_payloads; frame_out; pointwise [bgate, bsum, sigm, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]; blk_point [])

theorem out5 (y : S1024x1408.Idx) : (out0_A_5 (F := Ideal) c i arg2 harg2 arg3 harg3 arg4 harg4 arg5 harg5 arg6 harg6 arg7 harg7 x0 x1 x2 x3 y : EReal) = bup x0 x1 x2 y := by
  unfold out0_A_5
  rw [View.read_writes_junk_eq_canon]
  unfold kernelRun0_A
  dsimp only
  canon_tiles x h using (cover0_A_5 c i arg2 harg2 arg3 harg3 arg4 harg4 arg5 harg5 arg6 harg6 arg7 harg7 x0 x1 x2 x3 y)
  all_goals (open_payloads; frame_out; pointwise [bup, bsum, sigm, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]; blk_point [])

end Block

theorem final4 : (dats m 0 c).arrAt 4 cfg0.N = fun i : S8192x2816.Idx =>
    dgate (m ((c : Thread nD τ).loc main_arg0)) (m ((c : Thread nD τ).loc main_arg1)) (m ((c : Thread nD τ).loc main_arg2)) (m ((c : Thread nD τ).loc main_arg3)) i := by
  refine (dats m 0 c).arrAt_eq_of_covers 4 _ (by decide +kernel) fun t hf y => ?_
  blk_simp
  rw [after0_4, outsAt0]
  dsimp only
  rw [out4]
  unfold bgate dgate bsum dsum
  blk_point [iblk, V, idx t]

theorem final5 : (dats m 0 c).arrAt 5 cfg0.N = fun i : S8192x2816.Idx =>
    dup (m ((c : Thread nD τ).loc main_arg0)) (m ((c : Thread nD τ).loc main_arg1)) (m ((c : Thread nD τ).loc main_arg2)) i := by
  refine (dats m 0 c).arrAt_eq_of_covers 5 _ (by decide +kernel) fun t hf y => ?_
  blk_simp
  rw [after0_5, outsAt0]
  dsimp only
  rw [out5]
  unfold bup dup bsum dsum
  blk_point [iblk, V, idx t]

section Reference

variable (x0 : Vec Ideal S8192x1024 .bf16) (x1 : Vec Ideal S2816x1024 .bf16) (x2 x3 : Vec Ideal S8192x2816 .bf16) (i : S8192x2816.Idx)

open Cert.DactRefIdeal.Read

theorem ref_dsum : (val_main_v7 (F := Ideal) x0 x1 i : EReal) = dsum x0 x1 i := by
  refine (val_main_v7_apply x0 x1 i).trans ?_
  pointwise [dsum, val_main_v0, val_main_v1, val_main_v5, val_main_v6]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl))

theorem ref_dup : (val_main_v12 (F := Ideal) x0 x1 x2 i : EReal) = dup x0 x1 x2 i := by
  unfold dup sigm
  rw [← ref_dsum]
  pointwise [val_main_v12, val_main_v8, val_main_v0, val_main_v1, val_main_v2_0, val_main_v2_1, val_main_v2_2, val_main_v3, val_main_v4, val_main_v6, val_main_call0_v0, val_main_call0_v1, val_main_call0_v2, val_main_call0_v3, val_main_call0_v4, val_main_call0_v6, val_main_call0_v7, val_main_call0_cst, val_main_call0_cst_0, val_main_call0_cst_1, val_main_call1_v0, val_main_call1_v1, val_main_call1_v2]
  rw [zero_sub, mul_comm (x2 i * _), mul_assoc]

theorem ref_dgate (h0 : ∀ i, IsReal (x0 i)) (h1 : ∀ i, IsReal (x1 i)) (h3 : ∀ i, IsReal (x3 i)) : (val_main_v11 (F := Ideal) x0 x1 x2 x3 i : EReal) = dgate x0 x1 x2 x3 i := by
  have hD : IsReal (dsum x0 x1 i) := IsReal.sum fun k => (h0 _).mul (h1 _)
  unfold dgate
  rw [← gate_rule (x2 i) hD (h3 i)]
  unfold sigm
  rw [← ref_dsum]
  pointwise [val_main_v11, val_main_v10, val_main_v9, val_main_v8, val_main_v0, val_main_v1, val_main_v2_0, val_main_v2_1, val_main_v2_2, val_main_v3, val_main_v4, val_main_v6, val_main_call0_v0, val_main_call0_v1, val_main_call0_v2, val_main_call0_v3, val_main_call0_v4, val_main_call0_v6, val_main_call0_v7, val_main_call0_cst, val_main_call0_cst_0, val_main_call0_cst_1, val_main_call1_v0, val_main_call1_v1, val_main_call1_v2]
  simp only [zero_sub]

end Reference

theorem frame_reference : Cert.quiescent_DactRefIdeal := by
  intro m ρ _
  exact (θ_run Cert.DactRefIdeal.defs _ _).mono (fun r h => ⟨fun c => (h c).2.2,
      Idealize.ShloMosaic.sem_eq_zero_of_no_sems (by decide) r.2⟩)
    (Cert.DactRefIdeal.Value.run m ρ)

theorem algebraic : Cert.algebraic_DactIdeal_DactRefIdeal_pre_finite_dact := by
  pair_intro
  · run_from Cert.DactIdeal.Gen.run_main m g
  · run_from Cert.DactRefIdeal.Value.run m' g'
    · refine (Cert.DactRefIdeal.Read.val_main_v11_eq (F := Ideal) _ _ _ _).trans ?_
      obtain ⟨h0, h1, h3⟩ := finite _ _ _ _ (hpre c)
      exact (funext fun i => ref_dgate _ _ _ _ i h0 h1 h3).trans (final4 m c).symm
    · refine (Cert.DactRefIdeal.Read.val_main_v12_eq (F := Ideal) _ _ _).trans ?_
      exact (funext fun i => ref_dup _ _ _ i).trans (final5 m c).symm

end Ffn.Dact
-- ==== Proof.Ffn.Dw.lean ====
/- The gradient of a weight matrix: the product of the transposed activations with the incoming gradient, accumulated over
   the row blocks. -/
module

public import proofs.«01_k».proof.Proof.Gen.DwIdeal.Value
public import proofs.«01_k».proof.Proof.Gen.DwRefIdeal.Run
public import proofs.«01_k».proof.Proof.Gen.DwRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.Dw

open Idealize.ShloMosaic Idealize.ShloMosaic.TcCoe Idealize.SL.Sem
open Cert.DwIdeal Cert.DwIdeal.Gen

/-- The product over all rows. -/
def total (X : S8192x2816.Idx → EReal) (Y : S8192x1024.Idx → EReal) (i : S2816x1024.Idx) : EReal :=
  ∑ k : Fin 8192, X (ix2 k (i 0)) * Y (ix2 k (i 1))

theorem pay1_at (x0 : Vec Ideal S2048x1408 .bf16) (x1 : Vec Ideal S2048x1024 .bf16) (j : S1408x1024.Idx) :
    (k0_pay1 (F := Ideal) x0 x1 j : EReal) = ∑ k : Fin 2048, (x0 (ix2 k (j 0)) : EReal) * x1 (ix2 k (j 1)) := by
  pointwise [k0_pay1]

theorem pay2_at (x0 : Vec Ideal S2048x1408 .bf16) (x1 : Vec Ideal S2048x1024 .bf16) (acc : Vec Ideal S1408x1024 .f32) (j : S1408x1024.Idx) :
    (k0_pay2 (F := Ideal) x0 x1 acc j : EReal) = (acc j : EReal) + ∑ k : Fin 2048, (x0 (ix2 k (j 0)) : EReal) * x1 (ix2 k (j 1)) := by
  pointwise [k0_pay2]
  exact add_comm _ _

variable (m : (ℓ : Loc nD τ sig) → Buf (Elt Ideal) ℓ) (c : Dev nD)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- What the call leaves: the whole product. -/
theorem final2 : (dats m 0 c).arrAt 2 cfg0.N = fun i : S2816x1024.Idx =>
    total (m ((c : Thread nD τ).loc main_arg0)) (m ((c : Thread nD τ).loc main_arg1)) i := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal)) _
    (fun t h j => by rw [outsAt0_A m c t h (by omega)]; frame_out; rw [pay1_at]; exact (zero_add _).symm)
    (fun t h j => by rw [outsAt0_B m c t h (by omega)]; frame_out; rw [pay2_at])
    t ((flush0_2 t).mp hf) _, zero_add]
  unfold total
  refine Fin.sum_mul_add_congr fun s k hl => ?_
  refine congrArg₂ (· * ·) ?_ ?_
  · blk_ext [iblk, V, idx t, idx ⟨_, Pipeline.run_point_lt_of_flush t ((flush0_2 t).mp hf) s⟩]
  · blk_ext [iblk, V, idx t, idx ⟨_, Pipeline.run_point_lt_of_flush t ((flush0_2 t).mp hf) s⟩]

theorem reference_eq (x0 : Vec Ideal S8192x2816 .bf16) (x1 : Vec Ideal S8192x1024 .bf16) (i : S2816x1024.Idx) :
    (Cert.DwRefIdeal.Read.val_main_v2 (F := Ideal) x0 x1 i : EReal) = total x0 x1 i := by
  refine (Cert.DwRefIdeal.Read.val_main_v2_apply x0 x1 i).trans ?_
  pointwise [total, Cert.DwRefIdeal.Read.val_main_v0, Cert.DwRefIdeal.Read.val_main_v1]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl))

theorem frame_reference : Cert.quiescent_DwRefIdeal := by
  intro m ρ _
  exact (θ_run Cert.DwRefIdeal.defs _ _).mono (fun r h => ⟨fun c => (h c).2,
      Idealize.ShloMosaic.sem_eq_zero_of_no_sems (by decide) r.2⟩)
    (Cert.DwRefIdeal.Value.run m ρ)

theorem algebraic : Cert.algebraic_DwIdeal_DwRefIdeal := by
  pair_intro
  · run_from Cert.DwIdeal.Gen.run_main m g
  · run_from Cert.DwRefIdeal.Value.run m' g'
    refine (Cert.DwRefIdeal.Read.val_main_v2_eq (F := Ideal) _ _).trans ?_
    exact (funext fun i => reference_eq _ _ i).trans (final2 m c).symm

end Ffn.Dw
-- ==== Proof.Ffn.Dnorm.lean ====
/- The input cotangent of the feed-forward's products through its normalisation, and the gain's cotangent. -/
module

public import proofs.«01_k».proof.Proof.Gen.DnormIdeal.Value
public import proofs.«01_k».proof.Proof.Gen.DnormRefIdeal.Run
public import proofs.«01_k».proof.Proof.Gen.DnormRefIdeal.Read
public import proofs.«01_k».proof.Proof.Ffn.Fin
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.Dnorm

open Idealize.ShloMosaic Idealize.ShloMosaic.TcCoe Idealize.SL.Sem
open Cert.DnormIdeal Cert.DnormIdeal.Gen

/-- The sublayer's input cotangent before its normalisation: the two products' cotangents against their weights. -/
def z (A B : S8192x2816.Idx → EReal) (W V : S2816x1024.Idx → EReal) (r : Fin 8192) (k : Fin 1024) : EReal :=
  ∑ f : Fin 2816, B (ix2 r f) * V (ix2 f k) + ∑ f : Fin 2816, A (ix2 r f) * W (ix2 f k)

/-- The normaliser of a row. -/
def rs (H : S8192x1024.Idx → EReal) (r : Fin 8192) : EReal :=
  Ideal.rsqrt (ms (∑ k : Fin 1024, H (ix2 r k) * H (ix2 r k)))

/-- The input's cotangent. -/
def dh (A B : S8192x2816.Idx → EReal) (W V : S2816x1024.Idx → EReal) (H D : S8192x1024.Idx → EReal) (G : S1x1024.Idx → EReal) (i : S8192x1024.Idx) : EReal :=
  D i + rs H (i 0) * (z A B W V (i 0) (i 1) * G (ix2 0 (i 1)) - H i * rs H (i 0)
    * Ideal.div (∑ k : Fin 1024, z A B W V (i 0) k * G (ix2 0 k) * (H (ix2 (i 0) k) * rs H (i 0))) (Ideal.ofBits .f32 0x44800000#32))

/-- The gain's cotangent. -/
def dg (A B : S8192x2816.Idx → EReal) (W V : S2816x1024.Idx → EReal) (H : S8192x1024.Idx → EReal) (i : S1x1024.Idx) : EReal :=
  ∑ r : Fin 8192, z A B W V r (i 1) * (H (ix2 r (i 1)) * rs H r)

section Block

variable (x0 x1 : Vec Ideal S512x2816 .bf16) (x2 x3 : Vec Ideal S2816x1024 .bf16) (x4 x5 : Vec Ideal S512x1024 .f32) (x6 : Vec Ideal S1x1024 .f32)

/-- The same at one block. -/
def bz (A B : S512x2816.Idx → EReal) (W V : S2816x1024.Idx → EReal) (r : Fin 512) (k : Fin 1024) : EReal :=
  ∑ f : Fin 2816, B (ix2 r f) * V (ix2 f k) + ∑ f : Fin 2816, A (ix2 r f) * W (ix2 f k)

def brs (H : S512x1024.Idx → EReal) (r : Fin 512) : EReal :=
  Ideal.rsqrt (ms (∑ k : Fin 1024, H (ix2 r k) * H (ix2 r k)))

def bdh (A B : S512x2816.Idx → EReal) (W V : S2816x1024.Idx → EReal) (H D : S512x1024.Idx → EReal) (G : S1x1024.Idx → EReal) (y : S512x1024.Idx) : EReal :=
  D y + brs H (y 0) * (bz A B W V (y 0) (y 1) * G (ix2 0 (y 1)) - H y * brs H (y 0)
    * Ideal.div (∑ k : Fin 1024, bz A B W V (y 0) k * G (ix2 0 k) * (H (ix2 (y 0) k) * brs H (y 0))) (Ideal.ofBits .f32 0x44800000#32))

theorem dh_at (y : S512x1024.Idx) :
    (k0_pay1 (F := Ideal) (k0_pay5 x4) (k0_pay6 x4) (k0_pay8 x0 x2 x1 x3 x6) x5 y : EReal) = bdh x0 x1 x2 x3 x4 x5 x6 y := by
  pointwise [bdh, bz, brs, ms, k0_pay1, k0_pay4, k0_pay5, k0_pay6, k0_pay8]

theorem dhb_at (y : S512x1024.Idx) :
    (k0_pay2 (F := Ideal) (k0_pay5 x4) (k0_pay6 x4) (k0_pay8 x0 x2 x1 x3 x6) x5 y : EReal) = bdh x0 x1 x2 x3 x4 x5 x6 y := by
  rw [← dh_at]
  pointwise [k0_pay2]

theorem dg_at (acc : Vec Ideal S1x1024 .f32) (y : S1x1024.Idx) :
    (k0_pay7 (F := Ideal) x0 x2 x1 x3 x4 acc y : EReal) = acc y + ∑ r : Fin 512, bz x0 x1 x2 x3 r (y 1) * (x4 (ix2 r (y 1)) * brs x4 r) := by
  pointwise [bz, brs, ms, k0_pay7, k0_pay4, k0_pay5, k0_pay6]

theorem dg_zero (y : S1x1024.Idx) :
    (k0_pay7 (F := Ideal) x0 x2 x1 x3 x4 (k0_pay3 (F := Ideal)) y : EReal) = ∑ r : Fin 512, bz x0 x1 x2 x3 r (y 1) * (x4 (ix2 r (y 1)) * brs x4 r) := by
  rw [dg_at]
  pointwise [k0_pay3]

end Block

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![0, 0]
   ∧ win0_4.index t = ![t.val, 0] ∧ win0_5.index t = ![t.val, 0] ∧ win0_6.index t = ![0, 0] ∧ win0_7.index t = ![t.val, 0] ∧ win0_8.index t = ![t.val, 0]
   ∧ win0_9.index t = ![0, 0] :=
  (by decide +kernel : ∀ t : Fin grid0.N, _)

theorem after7 (t : Fin cfg0.N) (y : S512x1024.Idx) : ((dats m 0 c).after 7 t y : EReal)
    = bdh (iblk m c 0 t) (iblk m c 1 t) (iblk m c 2 t) (iblk m c 3 t) (iblk m c 4 t) (iblk m c 5 t) (iblk m c 6 t) y := by
  rw [after0_7]
  by_cases h0 : t.val % 16 = 0
  · rw [outsAt0_A m c t h0]; frame_out; rw [dh_at]
  · rw [outsAt0_B m c t h0]; frame_out; rw [dh_at]

theorem after8 (t : Fin cfg0.N) (y : S512x1024.Idx) : ((dats m 0 c).after 8 t y : EReal)
    = bdh (iblk m c 0 t) (iblk m c 1 t) (iblk m c 2 t) (iblk m c 3 t) (iblk m c 4 t) (iblk m c 5 t) (iblk m c 6 t) y := by
  rw [after0_8]
  by_cases h0 : t.val % 16 = 0
  · rw [outsAt0_A m c t h0]; frame_out; rw [dhb_at]
  · rw [outsAt0_B m c t h0]; frame_out; rw [dhb_at]

theorem final7 : (dats m 0 c).arrAt 7 cfg0.N = fun i : S8192x1024.Idx =>
    dh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  refine (dats m 0 c).arrAt_eq_of_covers 7 _ (by decide +kernel) fun t hf y => ?_
  blk_simp
  rw [after7]
  unfold bdh dh bz z brs rs
  blk_point [iblk, V, idx t]

theorem final8 : (dats m 0 c).arrAt 8 cfg0.N = fun i : S8192x1024.Idx =>
    dh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  refine (dats m 0 c).arrAt_eq_of_covers 8 _ (by decide +kernel) fun t hf y => ?_
  blk_simp
  rw [after8]
  unfold bdh dh bz z brs rs
  blk_point [iblk, V, idx t]

theorem final9 : (dats m 0 c).arrAt 9 cfg0.N = fun i : S1x1024.Idx =>
    dg (m ((c : Thread nD τ).loc main_arg0)) (m ((c : Thread nD τ).loc main_arg1)) (m ((c : Thread nD τ).loc main_arg2)) (m ((c : Thread nD τ).loc main_arg3)) (m ((c : Thread nD τ).loc main_arg4)) i := by
  refine (dats m 0 c).arrAt_eq_of_covers 9 _ (by decide +kernel) fun t hf y => ?_
  blk_simp
  rw [after0_9, Pipeline.eq_sum_fin_of_reset_step_apply_of_flush (fun n h => (outsAt0 m c n h).2.2) 16 (fun _ => (0 : EReal)) _
    (fun t h j => by rw [outsAt0_A m c t h]; frame_out; rw [dg_zero]; exact (zero_add _).symm)
    (fun t h j => by rw [outsAt0_B m c t (by omega)]; frame_out; rw [dg_at])
    t ((flush0_9 t).mp hf) _, zero_add]
  unfold dg
  refine Fin.sum_mul_add_congr fun s k hl => ?_
  unfold bz z brs rs
  blk_point [iblk, V, idx t, idx ⟨_, Pipeline.run_point_lt_of_flush t ((flush0_9 t).mp hf) s⟩]

section Reference

variable (x0 x1 : Vec Ideal S8192x2816 .bf16) (x2 x3 : Vec Ideal S2816x1024 .bf16) (x4 x5 : Vec Ideal S8192x1024 .f32) (x6 : Vec Ideal S1x1024 .f32)

open Cert.DnormRefIdeal.Read

theorem ref_z (i : S8192x1024.Idx) : (val_main_v23 (F := Ideal) x0 x1 x2 x3 i : EReal) = z x0 x1 x2 x3 (i 0) (i 1) := by
  pointwise [val_main_v23]
  rw [val_main_v21_apply, val_main_v22_apply]
  pointwise [z, val_main_v15, val_main_v17, val_main_v19, val_main_v20]
  exact congrArg₂ (fun a b : EReal => a + b)
    (Finset.sum_congr rfl fun k _ => congrArg₂ (fun a b : EReal => a * b)
      (congrArg x1 (funext fun a => match a with | ⟨0, _⟩ => rfl | ⟨1, _⟩ => rfl))
      (congrArg x3 (funext fun a => match a with | ⟨0, _⟩ => rfl | ⟨1, _⟩ => rfl)))
    (Finset.sum_congr rfl fun k _ => congrArg₂ (fun a b : EReal => a * b)
      (congrArg x0 (funext fun a => match a with | ⟨0, _⟩ => rfl | ⟨1, _⟩ => rfl))
      (congrArg x2 (funext fun a => match a with | ⟨0, _⟩ => rfl | ⟨1, _⟩ => rfl)))

theorem ref_dh (i : S8192x1024.Idx) : (val_main_v43 (F := Ideal) x0 x1 x2 x3 x4 x5 x6 i : EReal) = dh x0 x1 x2 x3 x4 x5 x6 i := by
  have hx : x4 i = x4 (ix2 (i 0) (i 1)) := congrArg x4 (funext fun a => match a with | ⟨0, _⟩ => rfl | ⟨1, _⟩ => rfl)
  unfold dh rs
  refine Eq.trans ?_ ((norm_rule (fun k => x4 (ix2 (i 0) k)) (fun k => z x0 x1 x2 x3 (i 0) k * x6 (ix2 0 k)) (x5 i) (i 1)).trans ?_)
  · rw [← hx]
    pointwise [ms, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v27, val_main_v28, val_main_v29, val_main_cst_4, val_main_v30, val_main_v31, val_main_v32, val_main_v33, val_main_v34, val_main_v35, val_main_cst_5, val_main_v36, val_main_v37, val_main_cst_6, val_main_v38, val_main_v39, val_main_v40, val_main_v41, val_main_v42, val_main_v43]
    have hz : ∀ k, (val_main_v23 (F := Ideal) x0 x1 x2 x3 (ix2 (i 0) k) : EReal) = z x0 x1 x2 x3 (i 0) k := fun k => ref_z x0 x1 x2 x3 (ix2 (i 0) k)
    simp only [hz, ref_z, Fin.sum_univ_one]
  · rw [hx]

theorem ref_dhb (i : S8192x1024.Idx) : (val_main_v44 (F := Ideal) x0 x1 x2 x3 x4 x5 x6 i : EReal) = dh x0 x1 x2 x3 x4 x5 x6 i := by
  rw [← ref_dh]
  pointwise [val_main_v44]

theorem ref_dg (i : S1x1024.Idx) : (val_main_v26 (F := Ideal) x0 x1 x2 x3 x4 i : EReal) = dg x0 x1 x2 x3 x4 i := by
  pointwise [dg, rs, ms, val_main_v0, val_main_cst, val_main_v1, val_main_v2, val_main_cst_0, val_main_v3, val_main_v4, val_main_cst_1, val_main_v5, val_main_v6, val_main_v7, val_main_v11, val_main_v12, val_main_v24, val_main_cst_3, val_main_v25, val_main_v26]
  exact Finset.sum_congr rfl fun k _ => (congrArg _ (ref_z x0 x1 x2 x3 (ix2 k (i 1)))).trans (mul_comm _ _)

end Reference

theorem frame_reference : Cert.quiescent_DnormRefIdeal := by
  intro m ρ _
  exact (θ_run Cert.DnormRefIdeal.defs _ _).mono (fun r h => ⟨fun c => (h c).2.2.2,
      Idealize.ShloMosaic.sem_eq_zero_of_no_sems (by decide) r.2⟩)
    (Cert.DnormRefIdeal.Value.run m ρ)

theorem algebraic : Cert.algebraic_DnormIdeal_DnormRefIdeal := by
  pair_intro
  · run_from Cert.DnormIdeal.Gen.run_main m g
  · refine (θ_run Cert.DnormRefIdeal.defs _ _).mono (fun r h c => ?_) (Cert.DnormRefIdeal.Value.run m' g')
    obtain ⟨a0, a1, a2, a3, a4, a5, a6⟩ := hagree c
    obtain ⟨e0, e1, e2, hrest⟩ := h c
    refine ⟨e0.trans ?_, e1.trans ?_, e2.trans ?_, hrest⟩
    · refine (Cert.DnormRefIdeal.Read.val_main_v43_eq (F := Ideal) m' c).trans ?_
      rw [a0, a1, a2, a3, a4, a5, a6]
      exact (funext fun i => ref_dh _ _ _ _ _ _ _ i).trans (final7 m c).symm
    · refine (Cert.DnormRefIdeal.Read.val_main_v44_eq (F := Ideal) m' c).trans ?_
      rw [a0, a1, a2, a3, a4, a5, a6]
      exact (funext fun i => ref_dhb _ _ _ _ _ _ _ i).trans (final8 m c).symm
    · refine (Cert.DnormRefIdeal.Read.val_main_v26_eq (F := Ideal) _ _ _ _ _).trans ?_
      rw [a0, a1, a2, a3, a4]
      exact (funext fun i => ref_dg _ _ _ _ _ i).trans (final9 m c).symm

end Ffn.Dnorm
-- ==== Proof.Proj.Dmix.lean ====
/- The cotangent of the mixed rows: the incoming gradient against the rows of the output matrix. -/
module

public import proofs.«01_k».proof.Proof.Gen.DmixIdeal.Value
public import proofs.«01_k».proof.Proof.Gen.DmixRefIdeal.Run
public import proofs.«01_k».proof.Proof.Gen.DmixRefIdeal.Read
public import proofs.«01_k».proof.Proof.Ffn.Fin
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.Dmix

open Idealize.ShloMosaic Idealize.ShloMosaic.TcCoe Idealize.SL.Sem
open Cert.DmixIdeal Cert.DmixIdeal.Gen

/-- The rows against a matrix's rows. -/
def total (X : S8192x1024.Idx → EReal) (Y : S1024x1024.Idx → EReal) (i : S8192x1024.Idx) : EReal :=
  ∑ k : Fin 1024, X (ix2 (i 0) k) * Y (ix2 (i 1) k)

theorem pay1_at (x0 : Vec Ideal S512x1024 .bf16) (x1 : Vec Ideal S1024x1024 .bf16) (j : S512x1024.Idx) :
    (k0_pay1 (F := Ideal) x0 x1 j : EReal) = ∑ k : Fin 1024, (x0 (ix2 (j 0) k) : EReal) * x1 (ix2 (j 1) k) := by
  pointwise [k0_pay1]

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = fun i : S8192x1024.Idx =>
    total (m ((c : Thread nD τ).loc main_arg0)) (m ((c : Thread nD τ).loc main_arg1)) i := by
  refine (dats m 0 c).arrAt_eq_of_covers 2 _ (by decide +kernel) fun t hf y => ?_
  blk_simp
  rw [after0_2]
  unfold out0_2
  frame_out
  rw [pay1_at]
  unfold total
  blk_point [iblk, V, idx t]

open Cert.DmixRefIdeal.Read

theorem ref_prod (x0 : Vec Ideal S8192x1024 .bf16) (x1 : Vec Ideal S1024x1024 .bf16) (i : S8192x1024.Idx) :
    (val_main_v2 (F := Ideal) x0 x1 i : EReal) = total x0 x1 i := by
  refine (val_main_v2_apply x0 x1 i).trans ?_
  pointwise [total, val_main_v0, val_main_v1]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl))

theorem frame_reference : Cert.quiescent_DmixRefIdeal := by
  intro m ρ _
  exact (θ_run Cert.DmixRefIdeal.defs _ _).mono (fun r h => ⟨fun c => (h c).2,
      Idealize.ShloMosaic.sem_eq_zero_of_no_sems (by decide) r.2⟩)
    (Cert.DmixRefIdeal.Value.run m ρ)

theorem algebraic : Cert.algebraic_DmixIdeal_DmixRefIdeal := by
  pair_intro
  · run_from Cert.DmixIdeal.Gen.run_main m g
  · run_from Cert.DmixRefIdeal.Value.run m' g'
    refine (Cert.DmixRefIdeal.Read.val_main_v2_eq (F := Ideal) _ _).trans ?_
    exact (funext fun i => ref_prod _ _ i).trans (final2 m c).symm

end Ffn.Dmix
-- ==== Proof.Proj.Dwout.lean ====
/- The gradient of a mixing layer's output matrix: the transposed mixed rows, which come as two halves, with the incoming
   gradient, accumulated over the row blocks. -/
module

public import proofs.«01_k».proof.Proof.Gen.DwoutIdeal.Value
public import proofs.«01_k».proof.Proof.Gen.DwoutRefIdeal.Run
public import proofs.«01_k».proof.Proof.Gen.DwoutRefIdeal.Read
public import proofs.«01_k».proof.Proof.Ffn.Fin
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.Dwout

open Idealize.ShloMosaic Idealize.ShloMosaic.TcCoe Idealize.SL.Sem
open Cert.DwoutIdeal Cert.DwoutIdeal.Gen

/-- A mixed row's entry: the first half comes from one array, the second from another. -/
def pick {n : ℕ} (X Y : (⟨2, ![n, 512]⟩ : Shape).Idx → EReal) (r : Fin n) (j : Fin 1024) : EReal :=
  if h : j.val < 512 then X (ix2 r ⟨j.val, h⟩) else Y (ix2 r ⟨j.val - 512, by omega⟩)

theorem pick_lo {n : ℕ} (X Y : (⟨2, ![n, 512]⟩ : Shape).Idx → EReal) (r : Fin n) (j : Fin 1024) (x : Fin 512) (h : j.val = x.val) : pick X Y r j = X (ix2 r x) := by
  unfold pick
  rw [dif_pos (by omega)]
  exact congrArg (fun q => X (ix2 r q)) (Fin.ext h)

theorem pick_hi {n : ℕ} (X Y : (⟨2, ![n, 512]⟩ : Shape).Idx → EReal) (r : Fin n) (j : Fin 1024) (x : Fin 512) (h : j.val = 512 + x.val) : pick X Y r j = Y (ix2 r x) := by
  unfold pick
  rw [dif_neg (by omega)]
  exact congrArg (fun q => Y (ix2 r q)) (Fin.ext (by simp only; omega))

theorem pick_congr {n n' : ℕ} {X Y : (⟨2, ![n, 512]⟩ : Shape).Idx → EReal} {X' Y' : (⟨2, ![n', 512]⟩ : Shape).Idx → EReal} {r : Fin n} {r' : Fin n'} {j j' : Fin 1024}
    (hX : ∀ q, X (ix2 r q) = X' (ix2 r' q)) (hY : ∀ q, Y (ix2 r q) = Y' (ix2 r' q)) (hj : j = j') : pick X Y r j = pick X' Y' r' j' := by
  subst hj
  unfold pick
  split
  · exact hX _
  · exact hY _

/-- The product over all rows. -/
def total (X Y : S8192x512.Idx → EReal) (D : S8192x1024.Idx → EReal) (i : S1024x1024.Idx) : EReal :=
  ∑ k : Fin 8192, pick X Y k (i 0) * D (ix2 k (i 1))

section Block

variable (c : Dev nD) (i : grid0.Coords) (arg2 : Memref sig .tc .vmem S2048x512 .bf16) (harg2 : arg2.IsWhole) (arg3 : Memref sig .tc .vmem S2048x512 .bf16) (harg3 : arg3.IsWhole) (arg4 : Memref sig .tc .vmem S2048x1024 .bf16) (harg4 : arg4.IsWhole) (arg5 : Memref sig .tc .vmem S1024x1024 .f32) (harg5 : arg5.IsWhole)
  (x0 : Vec Ideal S2048x512 .bf16) (x1 : Vec Ideal S2048x512 .bf16) (x2 : Vec Ideal S2048x1024 .bf16)

theorem out_reset (hc0 : cond0_0 i) (hc1 : ¬cond0_1 i) (y : S1024x1024.Idx) :
    (out0_A_3 (F := Ideal) c i arg2 harg2 arg3 harg3 arg4 harg4 arg5 harg5 hc0 hc1 x0 x1 x2 y : EReal) = ∑ k : Fin 2048, pick x0 x1 k (y 0) * x2 (ix2 k (y 1)) := by
  unfold out0_A_3
  rw [View.read_writes_junk_eq_canon]
  unfold kernelRun0_A
  dsimp only
  canon_tiles x h using (cover0_A_3 c i arg2 harg2 arg3 harg3 arg4 harg4 arg5 harg5 hc0 hc1 x0 x1 x2 y)
  all_goals (open_payloads; frame_out; pointwise [])
  · exact Finset.sum_congr rfl fun k _ => congrArg₂ (fun a b : EReal => a * b) (pick_hi x0 x1 k (y 0) (x 0) h0).symm (congrArg (fun j => x2 (ix2 k j)) (Fin.ext h1.symm))
  · exact Finset.sum_congr rfl fun k _ => congrArg₂ (fun a b : EReal => a * b) (pick_lo x0 x1 k (y 0) (x 0) h0).symm (congrArg (fun j => x2 (ix2 k j)) (Fin.ext h1.symm))

theorem out_step (hc0 : ¬cond0_0 i) (hc1 : cond0_1 i) (acc : Vec Ideal S1024x1024 .f32) (y : S1024x1024.Idx) :
    (out0_B_3 (F := Ideal) c i arg2 harg2 arg3 harg3 arg4 harg4 arg5 harg5 hc0 hc1 x0 x1 x2 acc y : EReal) = acc y + ∑ k : Fin 2048, pick x0 x1 k (y 0) * x2 (ix2 k (y 1)) := by
  unfold out0_B_3
  rw [View.read_writes_junk_eq_canon]
  unfold kernelRun0_B
  dsimp only
  canon_tiles x h using (cover0_B_3 c i arg2 harg2 arg3 harg3 arg4 harg4 arg5 harg5 hc0 hc1 x0 x1 x2 acc y)
  all_goals (open_payloads; frame_out; pointwise [])
  · refine (add_comm _ _).trans (congrArg₂ (fun a b : EReal => a + b)
      (congrArg acc (funext fun a => match a with | ⟨0, _⟩ => Fin.ext h0.symm | ⟨1, _⟩ => Fin.ext h1.symm)) ?_)
    exact Finset.sum_congr rfl fun k _ => congrArg₂ (fun a b : EReal => a * b) (pick_hi x0 x1 k (y 0) (x 0) h0).symm (congrArg (fun j => x2 (ix2 k j)) (Fin.ext h1.symm))
  · refine (add_comm _ _).trans (congrArg₂ (fun a b : EReal => a + b)
      (congrArg acc (funext fun a => match a with | ⟨0, _⟩ => Fin.ext h0.symm | ⟨1, _⟩ => Fin.ext h1.symm)) ?_)
    exact Finset.sum_congr rfl fun k _ => congrArg₂ (fun a b : EReal => a * b) (pick_lo x0 x1 k (y 0) (x 0) h0).symm (congrArg (fun j => x2 (ix2 k j)) (Fin.ext h1.symm))

end Block

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

theorem lt4 (t : Fin cfg0.N) : t.val < 4 := lt_of_lt_of_eq t.isLt N_0

theorem final3 : (dats m 0 c).arrAt 3 cfg0.N = fun i : S1024x1024.Idx =>
    total (m ((c : Thread nD τ).loc main_arg0)) (m ((c : Thread nD τ).loc main_arg1)) (m ((c : Thread nD τ).loc main_arg2)) i := by
  refine (dats m 0 c).arrAt_eq_of_covers 3 _ (by decide +kernel) fun t hf y => ?_
  blk_simp
  rw [after0_3, Pipeline.eq_sum_fin_of_reset_step_apply_of_flush (fun n h => outsAt0 m c n h) 4 (fun _ => (0 : EReal)) _
    (fun t h j => by rw [outsAt0_A m c t h (by have := lt4 t; omega), out_reset]; exact (zero_add _).symm)
    (fun t h j => by rw [outsAt0_B m c t (by have := lt4 t; omega) (by omega), out_step])
    t ((flush0_3 t).mp hf) _, zero_add]
  unfold total
  refine Fin.sum_mul_add_congr fun s k hl => ?_
  refine congrArg₂ (· * ·) (pick_congr (fun q => ?_) (fun q => ?_) ?_) ?_
  · blk_ext [iblk, V, idx t, idx ⟨_, Pipeline.run_point_lt_of_flush t ((flush0_3 t).mp hf) s⟩]
  · blk_ext [iblk, V, idx t, idx ⟨_, Pipeline.run_point_lt_of_flush t ((flush0_3 t).mp hf) s⟩]
  · refine Fin.ext ?_
    blk_simp [idx t]
  · blk_ext [iblk, V, idx t, idx ⟨_, Pipeline.run_point_lt_of_flush t ((flush0_3 t).mp hf) s⟩]

open Cert.DwoutRefIdeal.Read

theorem reference_eq (x0 x1 : Vec Ideal S8192x512 .bf16) (x2 : Vec Ideal S8192x1024 .bf16) (i : S1024x1024.Idx) :
    (val_main_v4 (F := Ideal) x0 x1 x2 i : EReal) = total x0 x1 x2 i := by
  refine (val_main_v4_apply x0 x1 x2 i).trans ?_
  unfold total
  refine Finset.sum_congr rfl fun k _ => congrArg₂ (fun a b : EReal => a * b) ?_ ?_
  · pointwise [pick, val_main_v0, val_main_v1, val_main_v2]
  · pointwise [val_main_v3]
    exact congrArg x2 (funext fun a => match a with | ⟨0, _⟩ => rfl | ⟨1, _⟩ => rfl)

theorem frame_reference : Cert.quiescent_DwoutRefIdeal := by
  intro m ρ _
  exact (θ_run Cert.DwoutRefIdeal.defs _ _).mono (fun r h => ⟨fun c => (h c).2,
      Idealize.ShloMosaic.sem_eq_zero_of_no_sems (by decide) r.2⟩)
    (Cert.DwoutRefIdeal.Value.run m ρ)

theorem algebraic : Cert.algebraic_DwoutIdeal_DwoutRefIdeal := by
  pair_intro
  · run_from Cert.DwoutIdeal.Gen.run_main m g
  · run_from Cert.DwoutRefIdeal.Value.run m' g'
    refine (Cert.DwoutRefIdeal.Read.val_main_v4_eq (F := Ideal) _ _ _).trans ?_
    exact (funext fun i => reference_eq _ _ _ i).trans (final3 m c).symm

end Ffn.Dwout
-- ==== Proof.Proj.DwinEv.lean ====
/- The gradient of a mixing layer's input matrix (the even layers): the product of the transposed activations with the incoming gradient, accumulated over
   the row blocks. -/
module

public import proofs.«01_k».proof.Proof.Gen.DwinEvIdeal.Value
public import proofs.«01_k».proof.Proof.Gen.DwinEvRefIdeal.Run
public import proofs.«01_k».proof.Proof.Gen.DwinEvRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.DwinEv

open Idealize.ShloMosaic Idealize.ShloMosaic.TcCoe Idealize.SL.Sem
open Cert.DwinEvIdeal Cert.DwinEvIdeal.Gen

/-- The product over all rows. -/
def total (X : S8192x1792.Idx → EReal) (Y : S8192x1024.Idx → EReal) (i : S1792x1024.Idx) : EReal :=
  ∑ k : Fin 8192, X (ix2 k (i 0)) * Y (ix2 k (i 1))

theorem pay1_at (x0 : Vec Ideal S2048x896 .bf16) (x1 : Vec Ideal S2048x1024 .bf16) (j : S896x1024.Idx) :
    (k0_pay1 (F := Ideal) x0 x1 j : EReal) = ∑ k : Fin 2048, (x0 (ix2 k (j 0)) : EReal) * x1 (ix2 k (j 1)) := by
  pointwise [k0_pay1]

theorem pay2_at (x0 : Vec Ideal S2048x896 .bf16) (x1 : Vec Ideal S2048x1024 .bf16) (acc : Vec Ideal S896x1024 .f32) (j : S896x1024.Idx) :
    (k0_pay2 (F := Ideal) x0 x1 acc j : EReal) = (acc j : EReal) + ∑ k : Fin 2048, (x0 (ix2 k (j 0)) : EReal) * x1 (ix2 k (j 1)) := by
  pointwise [k0_pay2]
  exact add_comm _ _

variable (m : (ℓ : Loc nD τ sig) → Buf (Elt Ideal) ℓ) (c : Dev nD)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- What the call leaves: the whole product. -/
theorem final2 : (dats m 0 c).arrAt 2 cfg0.N = fun i : S1792x1024.Idx =>
    total (m ((c : Thread nD τ).loc main_arg0)) (m ((c : Thread nD τ).loc main_arg1)) i := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal)) _
    (fun t h j => by rw [outsAt0_A m c t h (by omega)]; frame_out; rw [pay1_at]; exact (zero_add _).symm)
    (fun t h j => by rw [outsAt0_B m c t h (by omega)]; frame_out; rw [pay2_at])
    t ((flush0_2 t).mp hf) _, zero_add]
  unfold total
  refine Fin.sum_mul_add_congr fun s k hl => ?_
  refine congrArg₂ (· * ·) ?_ ?_
  · blk_ext [iblk, V, idx t, idx ⟨_, Pipeline.run_point_lt_of_flush t ((flush0_2 t).mp hf) s⟩]
  · blk_ext [iblk, V, idx t, idx ⟨_, Pipeline.run_point_lt_of_flush t ((flush0_2 t).mp hf) s⟩]

theorem reference_eq (x0 : Vec Ideal S8192x1792 .bf16) (x1 : Vec Ideal S8192x1024 .bf16) (i : S1792x1024.Idx) :
    (Cert.DwinEvRefIdeal.Read.val_main_v2 (F := Ideal) x0 x1 i : EReal) = total x0 x1 i := by
  refine (Cert.DwinEvRefIdeal.Read.val_main_v2_apply x0 x1 i).trans ?_
  pointwise [total, Cert.DwinEvRefIdeal.Read.val_main_v0, Cert.DwinEvRefIdeal.Read.val_main_v1]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl))

theorem frame_reference : Cert.quiescent_DwinEvRefIdeal := by
  intro m ρ _
  exact (θ_run Cert.DwinEvRefIdeal.defs _ _).mono (fun r h => ⟨fun c => (h c).2,
      Idealize.ShloMosaic.sem_eq_zero_of_no_sems (by decide) r.2⟩)
    (Cert.DwinEvRefIdeal.Value.run m ρ)

theorem algebraic : Cert.algebraic_DwinEvIdeal_DwinEvRefIdeal := by
  pair_intro
  · run_from Cert.DwinEvIdeal.Gen.run_main m g
  · run_from Cert.DwinEvRefIdeal.Value.run m' g'
    refine (Cert.DwinEvRefIdeal.Read.val_main_v2_eq (F := Ideal) _ _).trans ?_
    exact (funext fun i => reference_eq _ _ i).trans (final2 m c).symm

end Ffn.DwinEv
-- ==== Proof.Proj.DwinOd.lean ====
/- The gradient of a mixing layer's input matrix (the odd layers): the product of the transposed activations with the incoming gradient, accumulated over
   the row blocks. -/
module

public import proofs.«01_k».proof.Proof.Gen.DwinOdIdeal.Value
public import proofs.«01_k».proof.Proof.Gen.DwinOdRefIdeal.Run
public import proofs.«01_k».proof.Proof.Gen.DwinOdRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.DwinOd

open Idealize.ShloMosaic Idealize.ShloMosaic.TcCoe Idealize.SL.Sem
open Cert.DwinOdIdeal Cert.DwinOdIdeal.Gen

/-- The product over all rows. -/
def total (X : S8192x2560.Idx → EReal) (Y : S8192x1024.Idx → EReal) (i : S2560x1024.Idx) : EReal :=
  ∑ k : Fin 8192, X (ix2 k (i 0)) * Y (ix2 k (i 1))

theorem pay1_at (x0 : Vec Ideal S2048x1280 .bf16) (x1 : Vec Ideal S2048x1024 .bf16) (j : S1280x1024.Idx) :
    (k0_pay1 (F := Ideal) x0 x1 j : EReal) = ∑ k : Fin 2048, (x0 (ix2 k (j 0)) : EReal) * x1 (ix2 k (j 1)) := by
  pointwise [k0_pay1]

theorem pay2_at (x0 : Vec Ideal S2048x1280 .bf16) (x1 : Vec Ideal S2048x1024 .bf16) (acc : Vec Ideal S1280x1024 .f32) (j : S1280x1024.Idx) :
    (k0_pay2 (F := Ideal) x0 x1 acc j : EReal) = (acc j : EReal) + ∑ k : Fin 2048, (x0 (ix2 k (j 0)) : EReal) * x1 (ix2 k (j 1)) := by
  pointwise [k0_pay2]
  exact add_comm _ _

variable (m : (ℓ : Loc nD τ sig) → Buf (Elt Ideal) ℓ) (c : Dev nD)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- What the call leaves: the whole product. -/
theorem final2 : (dats m 0 c).arrAt 2 cfg0.N = fun i : S2560x1024.Idx =>
    total (m ((c : Thread nD τ).loc main_arg0)) (m ((c : Thread nD τ).loc main_arg1)) i := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal)) _
    (fun t h j => by rw [outsAt0_A m c t h (by omega)]; frame_out; rw [pay1_at]; exact (zero_add _).symm)
    (fun t h j => by rw [outsAt0_B m c t h (by omega)]; frame_out; rw [pay2_at])
    t ((flush0_2 t).mp hf) _, zero_add]
  unfold total
  refine Fin.sum_mul_add_congr fun s k hl => ?_
  refine congrArg₂ (· * ·) ?_ ?_
  · blk_ext [iblk, V, idx t, idx ⟨_, Pipeline.run_point_lt_of_flush t ((flush0_2 t).mp hf) s⟩]
  · blk_ext [iblk, V, idx t, idx ⟨_, Pipeline.run_point_lt_of_flush t ((flush0_2 t).mp hf) s⟩]

theorem reference_eq (x0 : Vec Ideal S8192x2560 .bf16) (x1 : Vec Ideal S8192x1024 .bf16) (i : S2560x1024.Idx) :
    (Cert.DwinOdRefIdeal.Read.val_main_v2 (F := Ideal) x0 x1 i : EReal) = total x0 x1 i := by
  refine (Cert.DwinOdRefIdeal.Read.val_main_v2_apply x0 x1 i).trans ?_
  pointwise [total, Cert.DwinOdRefIdeal.Read.val_main_v0, Cert.DwinOdRefIdeal.Read.val_main_v1]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl))

theorem frame_reference : Cert.quiescent_DwinOdRefIdeal := by
  intro m ρ _
  exact (θ_run Cert.DwinOdRefIdeal.defs _ _).mono (fun r h => ⟨fun c => (h c).2,
      Idealize.ShloMosaic.sem_eq_zero_of_no_sems (by decide) r.2⟩)
    (Cert.DwinOdRefIdeal.Value.run m ρ)

theorem algebraic : Cert.algebraic_DwinOdIdeal_DwinOdRefIdeal := by
  pair_intro
  · run_from Cert.DwinOdIdeal.Gen.run_main m g
  · run_from Cert.DwinOdRefIdeal.Value.run m' g'
    refine (Cert.DwinOdRefIdeal.Read.val_main_v2_eq (F := Ideal) _ _).trans ?_
    exact (funext fun i => reference_eq _ _ i).trans (final2 m c).symm

end Ffn.DwinOd
-- ==== Proof.Proj.DnormEv.lean ====
/- The input cotangent of a mixing layer's product (the even layers) through its normalisation, and the gain's cotangent. -/
module

public import proofs.«01_k».proof.Proof.Gen.DnormEvIdeal.Value
public import proofs.«01_k».proof.Proof.Gen.DnormEvRefIdeal.Run
public import proofs.«01_k».proof.Proof.Gen.DnormEvRefIdeal.Read
public import proofs.«01_k».proof.Proof.Ffn.Fin
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.DnormEv

open Idealize.ShloMosaic Idealize.ShloMosaic.TcCoe Idealize.SL.Sem
open Cert.DnormEvIdeal Cert.DnormEvIdeal.Gen

/-- The sublayer's input cotangent before its normalisation: the product's cotangent against its weights. -/
def z (A : S8192x1792.Idx → EReal) (W : S1792x1024.Idx → EReal) (r : Fin 8192) (k : Fin 1024) : EReal :=
  ∑ f : Fin 1792, A (ix2 r f) * W (ix2 f k)

/-- The normaliser of a row. -/
def rs (H : S8192x1024.Idx → EReal) (r : Fin 8192) : EReal :=
  Ideal.rsqrt (ms (∑ k : Fin 1024, H (ix2 r k) * H (ix2 r k)))

/-- The input's cotangent. -/
def dh (A : S8192x1792.Idx → EReal) (W : S1792x1024.Idx → EReal) (H D : S8192x1024.Idx → EReal) (G : S1x1024.Idx → EReal) (i : S8192x1024.Idx) : EReal :=
  D i + rs H (i 0) * (z A W (i 0) (i 1) * G (ix2 0 (i 1)) - H i * rs H (i 0)
    * Ideal.div (∑ k : Fin 1024, z A W (i 0) k * G (ix2 0 k) * (H (ix2 (i 0) k) * rs H (i 0))) (Ideal.ofBits .f32 0x44800000#32))

/-- The gain's cotangent. -/
def dg (A : S8192x1792.Idx → EReal) (W : S1792x1024.Idx → EReal) (H : S8192x1024.Idx → EReal) (i : S1x1024.Idx) : EReal :=
  ∑ r : Fin 8192, z A W r (i 1) * (H (ix2 r (i 1)) * rs H r)

section Block

variable (x0 : Vec Ideal S512x1792 .bf16) (x1 : Vec Ideal S1792x1024 .bf16) (x2 x3 : Vec Ideal S512x1024 .f32) (x4 : Vec Ideal S1x1024 .f32)

/-- The same at one block. -/
def bz (A : S512x1792.Idx → EReal) (W : S1792x1024.Idx → EReal) (r : Fin 512) (k : Fin 1024) : EReal :=
  ∑ f : Fin 1792, A (ix2 r f) * W (ix2 f k)

def brs (H : S512x1024.Idx → EReal) (r : Fin 512) : EReal :=
  Ideal.rsqrt (ms (∑ k : Fin 1024, H (ix2 r k) * H (ix2 r k)))

def bdh (A : S512x1792.Idx → EReal) (W : S1792x1024.Idx → EReal) (H D : S512x1024.Idx → EReal) (G : S1x1024.Idx → EReal) (y : S512x1024.Idx) : EReal :=
  D y + brs H (y 0) * (bz A W (y 0) (y 1) * G (ix2 0 (y 1)) - H y * brs H (y 0)
    * Ideal.div (∑ k : Fin 1024, bz A W (y 0) k * G (ix2 0 k) * (H (ix2 (y 0) k) * brs H (y 0))) (Ideal.ofBits .f32 0x44800000#32))

theorem dh_at (y : S512x1024.Idx) :
    (k0_pay1 (F := Ideal) (k0_pay5 x2) (k0_pay6 x2) (k0_pay8 x0 x1 x4) x3 (k0_pay9 x0 x1 x2 x4) y : EReal) = bdh x0 x1 x2 x3 x4 y := by
  pointwise [bdh, bz, brs, ms, k0_pay1, k0_pay4, k0_pay5, k0_pay6, k0_pay8, k0_pay9]

theorem dhb_at (y : S512x1024.Idx) :
    (k0_pay2 (F := Ideal) (k0_pay5 x2) (k0_pay6 x2) (k0_pay8 x0 x1 x4) x3 (k0_pay9 x0 x1 x2 x4) y : EReal) = bdh x0 x1 x2 x3 x4 y := by
  rw [← dh_at]
  pointwise [k0_pay2]

theorem dg_at (acc : Vec Ideal S1x1024 .f32) (y : S1x1024.Idx) :
    (k0_pay7 (F := Ideal) x0 x1 x2 acc y : EReal) = acc y + ∑ r : Fin 512, bz x0 x1 r (y 1) * (x2 (ix2 r (y 1)) * brs x2 r) := by
  pointwise [bz, brs, ms, k0_pay7, k0_pay4, k0_pay5, k0_pay6]

theorem dg_zero (y : S1x1024.Idx) :
    (k0_pay7 (F := Ideal) x0 x1 x2 (k0_pay3 (F := Ideal)) y : EReal) = ∑ r : Fin 512, bz x0 x1 r (y 1) * (x2 (ix2 r (y 1)) * brs x2 r) := by
  rw [dg_at]
  pointwise [k0_pay3]

end Block

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0]
   ∧ win0_4.index t = ![0, 0] ∧ win0_5.index t = ![t.val, 0] ∧ win0_6.index t = ![t.val, 0] ∧ win0_7.index t = ![0, 0] :=
  (by decide +kernel : ∀ t : Fin grid0.N, _)

theorem after5 (t : Fin cfg0.N) (y : S512x1024.Idx) : ((dats m 0 c).after 5 t y : EReal)
    = bdh (iblk m c 0 t) (iblk m c 1 t) (iblk m c 2 t) (iblk m c 3 t) (iblk m c 4 t) y := by
  rw [after0_5]
  by_cases h0 : t.val % 16 = 0
  · rw [outsAt0_A m c t h0]; frame_out; rw [dh_at]
  · rw [outsAt0_B m c t h0]; frame_out; rw [dh_at]

theorem after6 (t : Fin cfg0.N) (y : S512x1024.Idx) : ((dats m 0 c).after 6 t y : EReal)
    = bdh (iblk m c 0 t) (iblk m c 1 t) (iblk m c 2 t) (iblk m c 3 t) (iblk m c 4 t) y := by
  rw [after0_6]
  by_cases h0 : t.val % 16 = 0
  · rw [outsAt0_A m c t h0]; frame_out; rw [dhb_at]
  · rw [outsAt0_B m c t h0]; frame_out; rw [dhb_at]

theorem final5 : (dats m 0 c).arrAt 5 cfg0.N = fun i : S8192x1024.Idx =>
    dh (m ((c : Thread nD τ).loc main_arg0)) (m ((c : Thread nD τ).loc main_arg1)) (m ((c : Thread nD τ).loc main_arg2)) (m ((c : Thread nD τ).loc main_arg3)) (m ((c : Thread nD τ).loc main_arg4)) i := by
  refine (dats m 0 c).arrAt_eq_of_covers 5 _ (by decide +kernel) fun t hf y => ?_
  blk_simp
  rw [after5]
  unfold bdh dh bz z brs rs
  blk_point [iblk, V, idx t]

theorem final6 : (dats m 0 c).arrAt 6 cfg0.N = fun i : S8192x1024.Idx =>
    dh (m ((c : Thread nD τ).loc main_arg0)) (m ((c : Thread nD τ).loc main_arg1)) (m ((c : Thread nD τ).loc main_arg2)) (m ((c : Thread nD τ).loc main_arg3)) (m ((c : Thread nD τ).loc main_arg4)) i := by
  refine (dats m 0 c).arrAt_eq_of_covers 6 _ (by decide +kernel) fun t hf y => ?_
  blk_simp
  rw [after6]
  unfold bdh dh bz z brs rs
  blk_point [iblk, V, idx t]

theorem final7 : (dats m 0 c).arrAt 7 cfg0.N = fun i : S1x1024.Idx =>
    dg (m ((c : Thread nD τ).loc main_arg0)) (m ((c : Thread nD τ).loc main_arg1)) (m ((c : Thread nD τ).loc main_arg2)) i := by
  refine (dats m 0 c).arrAt_eq_of_covers 7 _ (by decide +kernel) fun t hf y => ?_
  blk_simp
  rw [after0_7, Pipeline.eq_sum_fin_of_reset_step_apply_of_flush (fun n h => (outsAt0 m c n h).2.2) 16 (fun _ => (0 : EReal)) _
    (fun t h j => by rw [outsAt0_A m c t h]; frame_out; rw [dg_zero]; exact (zero_add _).symm)
    (fun t h j => by rw [outsAt0_B m c t (by omega)]; frame_out; rw [dg_at])
    t ((flush0_7 t).mp hf) _, zero_add]
  unfold dg
  refine Fin.sum_mul_add_congr fun s k hl => ?_
  unfold bz z brs rs
  blk_point [iblk, V, idx t, idx ⟨_, Pipeline.run_point_lt_of_flush t ((flush0_7 t).mp hf) s⟩]

section Reference

variable (x0 : Vec Ideal S8192x1792 .bf16) (x1 : Vec Ideal S1792x1024 .bf16) (x2 x3 : Vec Ideal S8192x1024 .f32) (x4 : Vec Ideal S1x1024 .f32)

open Cert.DnormEvRefIdeal.Read

theorem ref_z (i : S8192x1024.Idx) : (val_main_v18 (F := Ideal) x0 x1 i : EReal) = z x0 x1 (i 0) (i 1) := by
  refine (val_main_v18_apply x0 x1 i).trans ?_
  pointwise [z, val_main_v15, val_main_v17]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl))

theorem ref_dh (i : S8192x1024.Idx) : (val_main_v38 (F := Ideal) x0 x1 x2 x3 x4 i : EReal) = dh x0 x1 x2 x3 x4 i := by
  have hx : x2 i = x2 (ix2 (i 0) (i 1)) := congrArg x2 (funext fun a => match a with | ⟨0, _⟩ => rfl | ⟨1, _⟩ => rfl)
  unfold dh rs
  refine Eq.trans ?_ ((norm_rule (fun k => x2 (ix2 (i 0) k)) (fun k => z x0 x1 (i 0) k * x4 (ix2 0 k)) (x3 i) (i 1)).trans ?_)
  · rw [← hx]
    pointwise [ms, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v22, val_main_v23, val_main_v24, val_main_cst_4, val_main_v25, val_main_v26, val_main_v27, val_main_v28, val_main_v29, val_main_v30, val_main_cst_5, val_main_v31, val_main_v32, val_main_cst_6, val_main_v33, val_main_v34, val_main_v35, val_main_v36, val_main_v37, val_main_v38]
    have hz : ∀ k, (val_main_v18 (F := Ideal) x0 x1 (ix2 (i 0) k) : EReal) = z x0 x1 (i 0) k := fun k => ref_z x0 x1 (ix2 (i 0) k)
    simp only [hz, ref_z, Fin.sum_univ_one]
  · rw [hx]

theorem ref_dhb (i : S8192x1024.Idx) : (val_main_v39 (F := Ideal) x0 x1 x2 x3 x4 i : EReal) = dh x0 x1 x2 x3 x4 i := by
  rw [← ref_dh]
  pointwise [val_main_v39]

theorem ref_dg (i : S1x1024.Idx) : (val_main_v21 (F := Ideal) x0 x1 x2 i : EReal) = dg x0 x1 x2 i := by
  pointwise [dg, rs, ms, val_main_v0, val_main_cst, val_main_v1, val_main_v2, val_main_cst_0, val_main_v3, val_main_v4, val_main_cst_1, val_main_v5, val_main_v6, val_main_v7, val_main_v11, val_main_v12, val_main_v19, val_main_cst_3, val_main_v20, val_main_v21]
  exact Finset.sum_congr rfl fun k _ => (congrArg _ (ref_z x0 x1 (ix2 k (i 1)))).trans (mul_comm _ _)

end Reference

theorem frame_reference : Cert.quiescent_DnormEvRefIdeal := by
  intro m ρ _
  exact (θ_run Cert.DnormEvRefIdeal.defs _ _).mono (fun r h => ⟨fun c => (h c).2.2.2,
      Idealize.ShloMosaic.sem_eq_zero_of_no_sems (by decide) r.2⟩)
    (Cert.DnormEvRefIdeal.Value.run m ρ)

theorem algebraic : Cert.algebraic_DnormEvIdeal_DnormEvRefIdeal := by
  pair_intro
  · run_from Cert.DnormEvIdeal.Gen.run_main m g
  · refine (θ_run Cert.DnormEvRefIdeal.defs _ _).mono (fun r h c => ?_) (Cert.DnormEvRefIdeal.Value.run m' g')
    obtain ⟨a0, a1, a2, a3, a4⟩ := hagree c
    obtain ⟨e0, e1, e2, hrest⟩ := h c
    refine ⟨e0.trans ?_, e1.trans ?_, e2.trans ?_, hrest⟩
    · refine (Cert.DnormEvRefIdeal.Read.val_main_v38_eq (F := Ideal) m' c).trans ?_
      rw [a0, a1, a2, a3, a4]
      exact (funext fun i => ref_dh _ _ _ _ _ i).trans (final5 m c).symm
    · refine (Cert.DnormEvRefIdeal.Read.val_main_v39_eq (F := Ideal) m' c).trans ?_
      rw [a0, a1, a2, a3, a4]
      exact (funext fun i => ref_dhb _ _ _ _ _ i).trans (final6 m c).symm
    · refine (Cert.DnormEvRefIdeal.Read.val_main_v21_eq (F := Ideal) _ _ _).trans ?_
      rw [a0, a1, a2]
      exact (funext fun i => ref_dg _ _ _ i).trans (final7 m c).symm

end Ffn.DnormEv
-- ==== Proof.Proj.DnormOd.lean ====
/- The input cotangent of a mixing layer's product (the odd layers) through its normalisation, and the gain's cotangent. -/
module

public import proofs.«01_k».proof.Proof.Gen.DnormOdIdeal.Value
public import proofs.«01_k».proof.Proof.Gen.DnormOdRefIdeal.Run
public import proofs.«01_k».proof.Proof.Gen.DnormOdRefIdeal.Read
public import proofs.«01_k».proof.Proof.Ffn.Fin
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.DnormOd

open Idealize.ShloMosaic Idealize.ShloMosaic.TcCoe Idealize.SL.Sem
open Cert.DnormOdIdeal Cert.DnormOdIdeal.Gen

/-- The sublayer's input cotangent before its normalisation: the product's cotangent against its weights. -/
def z (A : S8192x2560.Idx → EReal) (W : S2560x1024.Idx → EReal) (r : Fin 8192) (k : Fin 1024) : EReal :=
  ∑ f : Fin 2560, A (ix2 r f) * W (ix2 f k)

/-- The normaliser of a row. -/
def rs (H : S8192x1024.Idx → EReal) (r : Fin 8192) : EReal :=
  Ideal.rsqrt (ms (∑ k : Fin 1024, H (ix2 r k) * H (ix2 r k)))

/-- The input's cotangent. -/
def dh (A : S8192x2560.Idx → EReal) (W : S2560x1024.Idx → EReal) (H D : S8192x1024.Idx → EReal) (G : S1x1024.Idx → EReal) (i : S8192x1024.Idx) : EReal :=
  D i + rs H (i 0) * (z A W (i 0) (i 1) * G (ix2 0 (i 1)) - H i * rs H (i 0)
    * Ideal.div (∑ k : Fin 1024, z A W (i 0) k * G (ix2 0 k) * (H (ix2 (i 0) k) * rs H (i 0))) (Ideal.ofBits .f32 0x44800000#32))

/-- The gain's cotangent. -/
def dg (A : S8192x2560.Idx → EReal) (W : S2560x1024.Idx → EReal) (H : S8192x1024.Idx → EReal) (i : S1x1024.Idx) : EReal :=
  ∑ r : Fin 8192, z A W r (i 1) * (H (ix2 r (i 1)) * rs H r)

section Block

variable (x0 : Vec Ideal S512x2560 .bf16) (x1 : Vec Ideal S2560x1024 .bf16) (x2 x3 : Vec Ideal S512x1024 .f32) (x4 : Vec Ideal S1x1024 .f32)

/-- The same at one block. -/
def bz (A : S512x2560.Idx → EReal) (W : S2560x1024.Idx → EReal) (r : Fin 512) (k : Fin 1024) : EReal :=
  ∑ f : Fin 2560, A (ix2 r f) * W (ix2 f k)

def brs (H : S512x1024.Idx → EReal) (r : Fin 512) : EReal :=
  Ideal.rsqrt (ms (∑ k : Fin 1024, H (ix2 r k) * H (ix2 r k)))

def bdh (A : S512x2560.Idx → EReal) (W : S2560x1024.Idx → EReal) (H D : S512x1024.Idx → EReal) (G : S1x1024.Idx → EReal) (y : S512x1024.Idx) : EReal :=
  D y + brs H (y 0) * (bz A W (y 0) (y 1) * G (ix2 0 (y 1)) - H y * brs H (y 0)
    * Ideal.div (∑ k : Fin 1024, bz A W (y 0) k * G (ix2 0 k) * (H (ix2 (y 0) k) * brs H (y 0))) (Ideal.ofBits .f32 0x44800000#32))

theorem dh_at (y : S512x1024.Idx) :
    (k0_pay1 (F := Ideal) (k0_pay5 x2) (k0_pay6 x2) (k0_pay8 x0 x1 x4) x3 (k0_pay9 x0 x1 x2 x4) y : EReal) = bdh x0 x1 x2 x3 x4 y := by
  pointwise [bdh, bz, brs, ms, k0_pay1, k0_pay4, k0_pay5, k0_pay6, k0_pay8, k0_pay9]

theorem dhb_at (y : S512x1024.Idx) :
    (k0_pay2 (F := Ideal) (k0_pay5 x2) (k0_pay6 x2) (k0_pay8 x0 x1 x4) x3 (k0_pay9 x0 x1 x2 x4) y : EReal) = bdh x0 x1 x2 x3 x4 y := by
  rw [← dh_at]
  pointwise [k0_pay2]

theorem dg_at (acc : Vec Ideal S1x1024 .f32) (y : S1x1024.Idx) :
    (k0_pay7 (F := Ideal) x0 x1 x2 acc y : EReal) = acc y + ∑ r : Fin 512, bz x0 x1 r (y 1) * (x2 (ix2 r (y 1)) * brs x2 r) := by
  pointwise [bz, brs, ms, k0_pay7, k0_pay4, k0_pay5, k0_pay6]

theorem dg_zero (y : S1x1024.Idx) :
    (k0_pay7 (F := Ideal) x0 x1 x2 (k0_pay3 (F := Ideal)) y : EReal) = ∑ r : Fin 512, bz x0 x1 r (y 1) * (x2 (ix2 r (y 1)) * brs x2 r) := by
  rw [dg_at]
  pointwise [k0_pay3]

end Block

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0]
   ∧ win0_4.index t = ![0, 0] ∧ win0_5.index t = ![t.val, 0] ∧ win0_6.index t = ![t.val, 0] ∧ win0_7.index t = ![0, 0] :=
  (by decide +kernel : ∀ t : Fin grid0.N, _)

theorem after5 (t : Fin cfg0.N) (y : S512x1024.Idx) : ((dats m 0 c).after 5 t y : EReal)
    = bdh (iblk m c 0 t) (iblk m c 1 t) (iblk m c 2 t) (iblk m c 3 t) (iblk m c 4 t) y := by
  rw [after0_5]
  by_cases h0 : t.val % 16 = 0
  · rw [outsAt0_A m c t h0]; frame_out; rw [dh_at]
  · rw [outsAt0_B m c t h0]; frame_out; rw [dh_at]

theorem after6 (t : Fin cfg0.N) (y : S512x1024.Idx) : ((dats m 0 c).after 6 t y : EReal)
    = bdh (iblk m c 0 t) (iblk m c 1 t) (iblk m c 2 t) (iblk m c 3 t) (iblk m c 4 t) y := by
  rw [after0_6]
  by_cases h0 : t.val % 16 = 0
  · rw [outsAt0_A m c t h0]; frame_out; rw [dhb_at]
  · rw [outsAt0_B m c t h0]; frame_out; rw [dhb_at]

theorem final5 : (dats m 0 c).arrAt 5 cfg0.N = fun i : S8192x1024.Idx =>
    dh (m ((c : Thread nD τ).loc main_arg0)) (m ((c : Thread nD τ).loc main_arg1)) (m ((c : Thread nD τ).loc main_arg2)) (m ((c : Thread nD τ).loc main_arg3)) (m ((c : Thread nD τ).loc main_arg4)) i := by
  refine (dats m 0 c).arrAt_eq_of_covers 5 _ (by decide +kernel) fun t hf y => ?_
  blk_simp
  rw [after5]
  unfold bdh dh bz z brs rs
  blk_point [iblk, V, idx t]

theorem final6 : (dats m 0 c).arrAt 6 cfg0.N = fun i : S8192x1024.Idx =>
    dh (m ((c : Thread nD τ).loc main_arg0)) (m ((c : Thread nD τ).loc main_arg1)) (m ((c : Thread nD τ).loc main_arg2)) (m ((c : Thread nD τ).loc main_arg3)) (m ((c : Thread nD τ).loc main_arg4)) i := by
  refine (dats m 0 c).arrAt_eq_of_covers 6 _ (by decide +kernel) fun t hf y => ?_
  blk_simp
  rw [after6]
  unfold bdh dh bz z brs rs
  blk_point [iblk, V, idx t]

theorem final7 : (dats m 0 c).arrAt 7 cfg0.N = fun i : S1x1024.Idx =>
    dg (m ((c : Thread nD τ).loc main_arg0)) (m ((c : Thread nD τ).loc main_arg1)) (m ((c : Thread nD τ).loc main_arg2)) i := by
  refine (dats m 0 c).arrAt_eq_of_covers 7 _ (by decide +kernel) fun t hf y => ?_
  blk_simp
  rw [after0_7, Pipeline.eq_sum_fin_of_reset_step_apply_of_flush (fun n h => (outsAt0 m c n h).2.2) 16 (fun _ => (0 : EReal)) _
    (fun t h j => by rw [outsAt0_A m c t h]; frame_out; rw [dg_zero]; exact (zero_add _).symm)
    (fun t h j => by rw [outsAt0_B m c t (by omega)]; frame_out; rw [dg_at])
    t ((flush0_7 t).mp hf) _, zero_add]
  unfold dg
  refine Fin.sum_mul_add_congr fun s k hl => ?_
  unfold bz z brs rs
  blk_point [iblk, V, idx t, idx ⟨_, Pipeline.run_point_lt_of_flush t ((flush0_7 t).mp hf) s⟩]

section Reference

variable (x0 : Vec Ideal S8192x2560 .bf16) (x1 : Vec Ideal S2560x1024 .bf16) (x2 x3 : Vec Ideal S8192x1024 .f32) (x4 : Vec Ideal S1x1024 .f32)

open Cert.DnormOdRefIdeal.Read

theorem ref_z (i : S8192x1024.Idx) : (val_main_v18 (F := Ideal) x0 x1 i : EReal) = z x0 x1 (i 0) (i 1) := by
  refine (val_main_v18_apply x0 x1 i).trans ?_
  pointwise [z, val_main_v15, val_main_v17]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl))

theorem ref_dh (i : S8192x1024.Idx) : (val_main_v38 (F := Ideal) x0 x1 x2 x3 x4 i : EReal) = dh x0 x1 x2 x3 x4 i := by
  have hx : x2 i = x2 (ix2 (i 0) (i 1)) := congrArg x2 (funext fun a => match a with | ⟨0, _⟩ => rfl | ⟨1, _⟩ => rfl)
  unfold dh rs
  refine Eq.trans ?_ ((norm_rule (fun k => x2 (ix2 (i 0) k)) (fun k => z x0 x1 (i 0) k * x4 (ix2 0 k)) (x3 i) (i 1)).trans ?_)
  · rw [← hx]
    pointwise [ms, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v22, val_main_v23, val_main_v24, val_main_cst_4, val_main_v25, val_main_v26, val_main_v27, val_main_v28, val_main_v29, val_main_v30, val_main_cst_5, val_main_v31, val_main_v32, val_main_cst_6, val_main_v33, val_main_v34, val_main_v35, val_main_v36, val_main_v37, val_main_v38]
    have hz : ∀ k, (val_main_v18 (F := Ideal) x0 x1 (ix2 (i 0) k) : EReal) = z x0 x1 (i 0) k := fun k => ref_z x0 x1 (ix2 (i 0) k)
    simp only [hz, ref_z, Fin.sum_univ_one]
  · rw [hx]

theorem ref_dhb (i : S8192x1024.Idx) : (val_main_v39 (F := Ideal) x0 x1 x2 x3 x4 i : EReal) = dh x0 x1 x2 x3 x4 i := by
  rw [← ref_dh]
  pointwise [val_main_v39]

theorem ref_dg (i : S1x1024.Idx) : (val_main_v21 (F := Ideal) x0 x1 x2 i : EReal) = dg x0 x1 x2 i := by
  pointwise [dg, rs, ms, val_main_v0, val_main_cst, val_main_v1, val_main_v2, val_main_cst_0, val_main_v3, val_main_v4, val_main_cst_1, val_main_v5, val_main_v6, val_main_v7, val_main_v11, val_main_v12, val_main_v19, val_main_cst_3, val_main_v20, val_main_v21]
  exact Finset.sum_congr rfl fun k _ => (congrArg _ (ref_z x0 x1 (ix2 k (i 1)))).trans (mul_comm _ _)

end Reference

theorem frame_reference : Cert.quiescent_DnormOdRefIdeal := by
  intro m ρ _
  exact (θ_run Cert.DnormOdRefIdeal.defs _ _).mono (fun r h => ⟨fun c => (h c).2.2.2,
      Idealize.ShloMosaic.sem_eq_zero_of_no_sems (by decide) r.2⟩)
    (Cert.DnormOdRefIdeal.Value.run m ρ)

theorem algebraic : Cert.algebraic_DnormOdIdeal_DnormOdRefIdeal := by
  pair_intro
  · run_from Cert.DnormOdIdeal.Gen.run_main m g
  · refine (θ_run Cert.DnormOdRefIdeal.defs _ _).mono (fun r h c => ?_) (Cert.DnormOdRefIdeal.Value.run m' g')
    obtain ⟨a0, a1, a2, a3, a4⟩ := hagree c
    obtain ⟨e0, e1, e2, hrest⟩ := h c
    refine ⟨e0.trans ?_, e1.trans ?_, e2.trans ?_, hrest⟩
    · refine (Cert.DnormOdRefIdeal.Read.val_main_v38_eq (F := Ideal) m' c).trans ?_
      rw [a0, a1, a2, a3, a4]
      exact (funext fun i => ref_dh _ _ _ _ _ i).trans (final5 m c).symm
    · refine (Cert.DnormOdRefIdeal.Read.val_main_v39_eq (F := Ideal) m' c).trans ?_
      rw [a0, a1, a2, a3, a4]
      exact (funext fun i => ref_dhb _ _ _ _ _ i).trans (final6 m c).symm
    · refine (Cert.DnormOdRefIdeal.Read.val_main_v21_eq (F := Ideal) _ _ _).trans ?_
      rw [a0, a1, a2]
      exact (funext fun i => ref_dg _ _ _ i).trans (final7 m c).symm

end Ffn.DnormOd
-- ==== Proof.Proj.Loss.lean ====
/- The last feed-forward product, the final normalisation, the squared-error loss, and the cotangents through that
   normalisation. -/
module

public import proofs.«01_k».proof.Proof.Gen.LossIdeal.Value
public import proofs.«01_k».proof.Proof.Gen.LossRefIdeal.Run
public import proofs.«01_k».proof.Proof.Gen.LossRefIdeal.Read
public import proofs.«01_k».proof.Proof.Ffn.Fin
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.Loss

open Idealize.ShloMosaic Idealize.ShloMosaic.TcCoe Idealize.SL.Sem
open Cert.LossIdeal Cert.LossIdeal.Gen

/-- The running rows after the product. -/
def res (X : S8192x2816.Idx → EReal) (W : S2816x1024.Idx → EReal) (H : S8192x1024.Idx → EReal) (r : Fin 8192) (j : Fin 1024) : EReal :=
  H (ix2 r j) + ∑ k : Fin 2816, X (ix2 r k) * W (ix2 k j)

/-- The normaliser of a row. -/
def rs (X : S8192x2816.Idx → EReal) (W : S2816x1024.Idx → EReal) (H : S8192x1024.Idx → EReal) (r : Fin 8192) : EReal :=
  Ideal.rsqrt (ms (∑ k : Fin 1024, res X W H r k * res X W H r k))

/-- The error against the target. -/
def err (X : S8192x2816.Idx → EReal) (W : S2816x1024.Idx → EReal) (H : S8192x1024.Idx → EReal) (G : S1x1024.Idx → EReal) (T : S8192x1024.Idx → EReal) (r : Fin 8192) (j : Fin 1024) : EReal :=
  res X W H r j * rs X W H r * G (ix2 0 j) - T (ix2 r j)

/-- The cotangent of the normalised row. -/
def cot (X : S8192x2816.Idx → EReal) (W : S2816x1024.Idx → EReal) (H : S8192x1024.Idx → EReal) (G : S1x1024.Idx → EReal) (T : S8192x1024.Idx → EReal) (r : Fin 8192) (j : Fin 1024) : EReal :=
  err X W H G T r j * Ideal.ofBits .f32 0x3A800000#32

/-- The cotangent of the running rows. -/
def dx (X : S8192x2816.Idx → EReal) (W : S2816x1024.Idx → EReal) (H : S8192x1024.Idx → EReal) (G : S1x1024.Idx → EReal) (T : S8192x1024.Idx → EReal) (r : Fin 8192) (j : Fin 1024) : EReal :=
  rs X W H r * (cot X W H G T r j * G (ix2 0 j) - res X W H r j * rs X W H r
    * Ideal.div (∑ k : Fin 1024, cot X W H G T r k * G (ix2 0 k) * (res X W H r k * rs X W H r)) (Ideal.ofBits .f32 0x44800000#32))

/-- The gain's cotangent. -/
def dg (X : S8192x2816.Idx → EReal) (W : S2816x1024.Idx → EReal) (H : S8192x1024.Idx → EReal) (G : S1x1024.Idx → EReal) (T : S8192x1024.Idx → EReal) (i : S1x1024.Idx) : EReal :=
  ∑ r : Fin 8192, cot X W H G T r (i 1) * (res X W H r (i 1) * rs X W H r)

/-- The loss. -/
def loss (X : S8192x2816.Idx → EReal) (W : S2816x1024.Idx → EReal) (H : S8192x1024.Idx → EReal) (G : S1x1024.Idx → EReal) (T : S8192x1024.Idx → EReal) : EReal :=
  ∑ r : Fin 8192, (∑ k : Fin 1024, err X W H G T r k * err X W H G T r k) * Ideal.ofBits .f32 0x3A000000#32

theorem bits_row : Ideal.ofBits .f32 0x3A800000#32 = ((1 / 1024 : ℝ) : EReal) := by
  simp [Ideal.ofBits, Ideal.ieee, -EReal.coe_mul]; norm_num

theorem bits_pair : Ideal.ofBits .f32 0x3A000000#32 = ((1 / 2048 : ℝ) : EReal) := by
  simp [Ideal.ofBits, Ideal.ieee, -EReal.coe_mul]; norm_num

theorem bits_half_pos : Ideal.ofBits .f32 0x3F000000#32 = ((1 / 2 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_unit : Ideal.ofBits .f32 0x3F800000#32 = ((1 : ℝ) : EReal) := by
  simp [Ideal.ofBits, Ideal.ieee, -EReal.coe_mul]; norm_num

/-- The square's derivative, halved and averaged over the row. -/
theorem cot_rule (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [bits_half_pos, bits_unit, bits_width, bits_two, bits_row, Ideal.div_coe (by norm_num), ← mul_assoc, mul_comm]
  congr 1
  simp only [← EReal.coe_mul]
  congr 1
  norm_num

/-- Half the sum of the rows' averages. -/
theorem loss_rule {n : ℕ} (q : Fin n → EReal) : Ideal.ofBits .f32 0x3F000000#32 * ∑ r, Ideal.div (q r) (Ideal.ofBits .f32 0x44800000#32)
    = ∑ r, q r * Ideal.ofBits .f32 0x3A000000#32 := by
  rw [bits_half_pos, bits_width, bits_pair, mul_comm, ← sum_mul_real _ (by norm_num)]
  refine Finset.sum_congr rfl fun r _ => ?_
  rw [Ideal.div_coe (by norm_num), mul_assoc, ← EReal.coe_mul]
  congr 2
  norm_num

section Block

variable (x0 : Vec Ideal S512x2816 .bf16) (x1 : Vec Ideal S2816x1024 .bf16) (x2 : Vec Ideal S512x1024 .f32) (x3 : Vec Ideal S1x1024 .f32) (x4 : Vec Ideal S512x1024 .f32)

/-- The same at one block. -/
def bres (X : S512x2816.Idx → EReal) (W : S2816x1024.Idx → EReal) (H : S512x1024.Idx → EReal) (r : Fin 512) (j : Fin 1024) : EReal :=
  H (ix2 r j) + ∑ k : Fin 2816, X (ix2 r k) * W (ix2 k j)

/-- The normaliser of a row. -/
def brs (X : S512x2816.Idx → EReal) (W : S2816x1024.Idx → EReal) (H : S512x1024.Idx → EReal) (r : Fin 512) : EReal :=
  Ideal.rsqrt (ms (∑ k : Fin 1024, bres X W H r k * bres X W H r k))

/-- The error against the target. -/
def berr (X : S512x2816.Idx → EReal) (W : S2816x1024.Idx → EReal) (H : S512x1024.Idx → EReal) (G : S1x1024.Idx → EReal) (T : S512x1024.Idx → EReal) (r : Fin 512) (j : Fin 1024) : EReal :=
  bres X W H r j * brs X W H r * G (ix2 0 j) - T (ix2 r j)

/-- The cotangent of the normalised row. -/
def bcot (X : S512x2816.Idx → EReal) (W : S2816x1024.Idx → EReal) (H : S512x1024.Idx → EReal) (G : S1x1024.Idx → EReal) (T : S512x1024.Idx → EReal) (r : Fin 512) (j : Fin 1024) : EReal :=
  berr X W H G T r j * Ideal.ofBits .f32 0x3A800000#32

/-- The cotangent of the running rows. -/
def bdx (X : S512x2816.Idx → EReal) (W : S2816x1024.Idx → EReal) (H : S512x1024.Idx → EReal) (G : S1x1024.Idx → EReal) (T : S512x1024.Idx → EReal) (r : Fin 512) (j : Fin 1024) : EReal :=
  brs X W H r * (bcot X W H G T r j * G (ix2 0 j) - bres X W H r j * brs X W H r
    * Ideal.div (∑ k : Fin 1024, bcot X W H G T r k * G (ix2 0 k) * (bres X W H r k * brs X W H r)) (Ideal.ofBits .f32 0x44800000#32))

theorem res_at (y : S512x1024.Idx) : (k0_pay7 (F := Ideal) x0 x1 x2 y : EReal) = bres x0 x1 x2 (y 0) (y 1) := by
  pointwise [bres, k0_pay7]
  exact (add_comm _ _).trans (congrArg₂ (fun a b : EReal => a + b) (congrArg x2 (funext fun a => match a with | ⟨0, _⟩ => rfl | ⟨1, _⟩ => rfl)) rfl)

theorem rs_at (y : S512x1.Idx) : (k0_pay8 (F := Ideal) x0 x1 x2 y : EReal) = brs x0 x1 x2 (y 0) := by
  have hz : ∀ k, (k0_pay7 (F := Ideal) x0 x1 x2 (ix2 (y 0) k) : EReal) = bres x0 x1 x2 (y 0) k := fun k => res_at x0 x1 x2 (ix2 (y 0) k)
  pointwise [brs, ms, k0_pay8]
  simp only [hz]

theorem xh_at (y : S512x1024.Idx) : (k0_pay9 (F := Ideal) x0 x1 x2 y : EReal) = bres x0 x1 x2 (y 0) (y 1) * brs x0 x1 x2 (y 0) := by
  have hr : ∀ k, (k0_pay8 (F := Ideal) x0 x1 x2 (ix2 (y 0) k) : EReal) = brs x0 x1 x2 (y 0) := fun k => rs_at x0 x1 x2 (ix2 (y 0) k)
  pointwise [k0_pay9]
  simp only [hr, res_at]

theorem err_at (y : S512x1024.Idx) : (k0_pay10 (F := Ideal) x0 x1 x2 x3 x4 y : EReal) = berr x0 x1 x2 x3 x4 (y 0) (y 1) := by
  have hx : x4 y = x4 (ix2 (y 0) (y 1)) := congrArg x4 (funext fun a => match a with | ⟨0, _⟩ => rfl | ⟨1, _⟩ => rfl)
  pointwise [berr, k0_pay10]
  simp only [xh_at, hx]

theorem cot_at (y : S512x1024.Idx) : (k0_pay12 (F := Ideal) x0 x1 x2 x3 x4 y : EReal) = bcot x0 x1 x2 x3 x4 (y 0) (y 1) := by
  pointwise [bcot, k0_pay12]
  simp only [err_at]

theorem dx_at (y : S512x1024.Idx) : (k0_pay1 (F := Ideal) (k0_pay8 x0 x1 x2) (k0_pay13 x0 x1 x2 x3 x4) y : EReal) = bdx x0 x1 x2 x3 x4 (y 0) (y 1) := by
  have hr : ∀ k, (k0_pay8 (F := Ideal) x0 x1 x2 (ix2 (y 0) k) : EReal) = brs x0 x1 x2 (y 0) := fun k => rs_at x0 x1 x2 (ix2 (y 0) k)
  have hh : ∀ k, (k0_pay9 (F := Ideal) x0 x1 x2 (ix2 (y 0) k) : EReal) = bres x0 x1 x2 (y 0) k * brs x0 x1 x2 (y 0) := fun k => xh_at x0 x1 x2 (ix2 (y 0) k)
  have hc : ∀ k, (k0_pay12 (F := Ideal) x0 x1 x2 x3 x4 (ix2 (y 0) k) : EReal) = bcot x0 x1 x2 x3 x4 (y 0) k := fun k => cot_at x0 x1 x2 x3 x4 (ix2 (y 0) k)
  pointwise [bdx, k0_pay1, k0_pay13]
  simp only [hr, hh, hc, xh_at, cot_at]

theorem dxb_at (y : S512x1024.Idx) : (k0_pay2 (F := Ideal) (k0_pay8 x0 x1 x2) (k0_pay13 x0 x1 x2 x3 x4) y : EReal) = bdx x0 x1 x2 x3 x4 (y 0) (y 1) := by
  rw [← dx_at]
  pointwise [k0_pay2]

theorem dg_at (acc : Vec Ideal S1x1024 .f32) (y : S1x1024.Idx) : (k0_pay5 (F := Ideal) (k0_pay9 x0 x1 x2) (k0_pay12 x0 x1 x2 x3 x4) acc y : EReal)
    = acc y + ∑ r : Fin 512, bcot x0 x1 x2 x3 x4 r (y 1) * (bres x0 x1 x2 r (y 1) * brs x0 x1 x2 r) := by
  have hh : ∀ r, (k0_pay9 (F := Ideal) x0 x1 x2 (ix2 r (y 1)) : EReal) = bres x0 x1 x2 r (y 1) * brs x0 x1 x2 r := fun r => xh_at x0 x1 x2 (ix2 r (y 1))
  have hc : ∀ r, (k0_pay12 (F := Ideal) x0 x1 x2 x3 x4 (ix2 r (y 1)) : EReal) = bcot x0 x1 x2 x3 x4 r (y 1) := fun r => cot_at x0 x1 x2 x3 x4 (ix2 r (y 1))
  pointwise [k0_pay5]
  simp only [hh, hc]

theorem dg_zero (y : S1x1024.Idx) : (k0_pay5 (F := Ideal) (k0_pay9 x0 x1 x2) (k0_pay12 x0 x1 x2 x3 x4) (k0_pay3 (F := Ideal)) y : EReal)
    = ∑ r : Fin 512, bcot x0 x1 x2 x3 x4 r (y 1) * (bres x0 x1 x2 r (y 1) * brs x0 x1 x2 r) := by
  rw [dg_at]
  pointwise [k0_pay3]

theorem loss_at (acc : Vec Ideal S1x128 .f32) (y : S1x128.Idx) : (k0_pay6 (F := Ideal) (k0_pay11 x0 x1 x2 x3 x4) acc y : EReal)
    = acc y + ∑ r : Fin 512, (∑ k : Fin 1024, berr x0 x1 x2 x3 x4 r k * berr x0 x1 x2 x3 x4 r k) * Ideal.ofBits .f32 0x3A000000#32 := by
  have he : ∀ r k, (k0_pay10 (F := Ideal) x0 x1 x2 x3 x4 (ix2 r k) : EReal) = berr x0 x1 x2 x3 x4 r k := fun r k => err_at x0 x1 x2 x3 x4 (ix2 r k)
  have hs := sum_mul_real (fun r : Fin 512 => ∑ k : Fin 1024, berr x0 x1 x2 x3 x4 r k * berr x0 x1 x2 x3 x4 r k) (r := 1 / 2048) (by norm_num)
  rw [← bits_pair] at hs
  rw [hs]
  pointwise [k0_pay6, k0_pay11]
  simp only [he]
  exact congrArg (fun b : EReal => acc y + b) (mul_comm _ _)

theorem loss_zero (y : S1x128.Idx) : (k0_pay6 (F := Ideal) (k0_pay11 x0 x1 x2 x3 x4) (k0_pay4 (F := Ideal)) y : EReal)
    = ∑ r : Fin 512, (∑ k : Fin 1024, berr x0 x1 x2 x3 x4 r k * berr x0 x1 x2 x3 x4 r k) * Ideal.ofBits .f32 0x3A000000#32 := by
  rw [loss_at]
  pointwise [k0_pay4]

end Block

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0]
   ∧ win0_4.index t = ![t.val, 0] ∧ win0_5.index t = ![t.val, 0] ∧ win0_6.index t = ![t.val, 0] ∧ win0_7.index t = ![0, 0] ∧ win0_8.index t = ![0, 0] :=
  (by decide +kernel : ∀ t : Fin grid0.N, _)

theorem after5 (t : Fin cfg0.N) (y : S512x1024.Idx) : ((dats m 0 c).after 5 t y : EReal)
    = bdx (iblk m c 0 t) (iblk m c 1 t) (iblk m c 2 t) (iblk m c 3 t) (iblk m c 4 t) (y 0) (y 1) := by
  rw [after0_5]
  by_cases h0 : t.val % 16 = 0
  · rw [outsAt0_A m c t h0]; frame_out; rw [dx_at]
  · rw [outsAt0_B m c t h0]; frame_out; rw [dx_at]

theorem final5 : (dats m 0 c).arrAt 5 cfg0.N = fun i : S8192x1024.Idx =>
    dx (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 5 _ (by decide +kernel) fun t hf y => ?_
  blk_simp
  rw [after5]
  unfold bdx dx bcot cot berr err brs rs bres res
  blk_point [iblk, V, idx t]

theorem after6 (t : Fin cfg0.N) (y : S512x1024.Idx) : ((dats m 0 c).after 6 t y : EReal)
    = bdx (iblk m c 0 t) (iblk m c 1 t) (iblk m c 2 t) (iblk m c 3 t) (iblk m c 4 t) (y 0) (y 1) := by
  rw [after0_6]
  by_cases h0 : t.val % 16 = 0
  · rw [outsAt0_A m c t h0]; frame_out; rw [dxb_at]
  · rw [outsAt0_B m c t h0]; frame_out; rw [dxb_at]

theorem final6 : (dats m 0 c).arrAt 6 cfg0.N = fun i : S8192x1024.Idx =>
    dx (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 6 _ (by decide +kernel) fun t hf y => ?_
  blk_simp
  rw [after6]
  unfold bdx dx bcot cot berr err brs rs bres res
  blk_point [iblk, V, idx t]

theorem final7 : (dats m 0 c).arrAt 7 cfg0.N = fun i : S1x1024.Idx =>
    dg (m ((c : Thread nD τ).loc main_arg0)) (m ((c : Thread nD τ).loc main_arg1)) (m ((c : Thread nD τ).loc main_arg2)) (m ((c : Thread nD τ).loc main_arg3)) (m ((c : Thread nD τ).loc main_arg4)) i := by
  refine (dats m 0 c).arrAt_eq_of_covers 7 _ (by decide +kernel) fun t hf y => ?_
  blk_simp
  rw [after0_7, Pipeline.eq_sum_fin_of_reset_step_apply_of_flush (fun n h => (outsAt0 m c n h).2.2.1) 16 (fun _ => (0 : EReal)) _
    (fun t h j => by rw [outsAt0_A m c t h]; frame_out; rw [dg_zero]; exact (zero_add _).symm)
    (fun t h j => by rw [outsAt0_B m c t (by omega)]; frame_out; rw [dg_at])
    t ((flush0_7 t).mp hf) _, zero_add]
  unfold dg
  refine Fin.sum_mul_add_congr fun s k hl => ?_
  unfold bcot cot berr err brs rs bres res
  blk_point [iblk, V, idx t, idx ⟨_, Pipeline.run_point_lt_of_flush t ((flush0_7 t).mp hf) s⟩]

theorem final8 : (dats m 0 c).arrAt 8 cfg0.N = fun _ : S1x128.Idx =>
    loss (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, Pipeline.eq_sum_fin_of_reset_step_apply_of_flush (fun n h => (outsAt0 m c n h).2.2.2) 16 (fun _ => (0 : EReal)) _
    (fun t h j => by rw [outsAt0_A m c t h]; frame_out; rw [loss_zero]; exact (zero_add _).symm)
    (fun t h j => by rw [outsAt0_B m c t (by omega)]; frame_out; rw [loss_at])
    t ((flush0_8 t).mp hf) _, zero_add]
  unfold loss
  refine Fin.sum_mul_add_congr fun s k hl => ?_
  unfold berr err brs rs bres res
  blk_point [iblk, V, idx t, idx ⟨_, Pipeline.run_point_lt_of_flush t ((flush0_8 t).mp hf) s⟩]

section Reference

variable (x0 : Vec Ideal S8192x2816 .bf16) (x1 : Vec Ideal S2816x1024 .bf16) (x2 : Vec Ideal S8192x1024 .f32) (x3 : Vec Ideal S1x1024 .f32) (x4 : Vec Ideal S8192x1024 .f32)

open Cert.LossRefIdeal.Read

theorem ref_res (i : S8192x1024.Idx) : (val_main_v3 (F := Ideal) x0 x1 x2 i : EReal) = res x0 x1 x2 (i 0) (i 1) := by
  pointwise [val_main_v3]
  rw [val_main_v2_apply]
  pointwise [res, val_main_v0, val_main_v1]
  exact congrArg₂ (fun a b : EReal => a + b)
    (congrArg x2 (funext fun a => match a with | ⟨0, _⟩ => rfl | ⟨1, _⟩ => rfl))
    (Finset.sum_congr rfl fun k _ => congrArg₂ (fun a b : EReal => a * b)
      (congrArg x0 (funext fun a => match a with | ⟨0, _⟩ => rfl | ⟨1, _⟩ => rfl))
      (congrArg x1 (funext fun a => match a with | ⟨0, _⟩ => rfl | ⟨1, _⟩ => rfl)))

theorem ref_rs (i : Cert.LossRefIdeal.S8192x1.Idx) : (val_main_v11 (F := Ideal) x0 x1 x2 i : EReal) = rs x0 x1 x2 (i 0) := by
  have hz : ∀ k, (val_main_v3 (F := Ideal) x0 x1 x2 (ix2 (i 0) k) : EReal) = res x0 x1 x2 (i 0) k := fun k => ref_res x0 x1 x2 (ix2 (i 0) k)
  pointwise [rs, ms, val_main_v4, val_main_cst, val_main_v5, val_main_v6, val_main_cst_0, val_main_v7, val_main_v8, val_main_cst_1, val_main_v9, val_main_v10, val_main_v11]
  simp only [hz]

theorem ref_xh (i : S8192x1024.Idx) : (val_main_v16 (F := Ideal) x0 x1 x2 i : EReal) = res x0 x1 x2 (i 0) (i 1) * rs x0 x1 x2 (i 0) := by
  have hr : ∀ k, (val_main_v11 (F := Ideal) x0 x1 x2 (ix2 (i 0) k) : EReal) = rs x0 x1 x2 (i 0) := fun k => ref_rs x0 x1 x2 (ix2 (i 0) k)
  pointwise [val_main_v15, val_main_v16]
  simp only [hr, ref_res]

theorem ref_err (i : S8192x1024.Idx) : (val_main_v19 (F := Ideal) x0 x1 x2 x3 x4 i : EReal) = err x0 x1 x2 x3 x4 (i 0) (i 1) := by
  have hx : x4 i = x4 (ix2 (i 0) (i 1)) := congrArg x4 (funext fun a => match a with | ⟨0, _⟩ => rfl | ⟨1, _⟩ => rfl)
  pointwise [err, val_main_v17, val_main_v18, val_main_v19]
  simp only [ref_xh, hx]

theorem ref_cot (i : S8192x1024.Idx) : (val_main_v33 (F := Ideal) x0 x1 x2 x3 x4 i : EReal) = cot x0 x1 x2 x3 x4 (i 0) (i 1) := by
  unfold cot
  rw [← cot_rule, ← ref_err]
  pointwise [val_main_cst_3, val_main_v21, val_main_v22, val_main_cst_8, val_main_cst_9, val_main_v28, val_main_v29, val_main_cst_10, val_main_v30, val_main_v31, val_main_v32, val_main_v33]

theorem ref_dx (i : S8192x1024.Idx) : (val_main_v52 (F := Ideal) x0 x1 x2 x3 x4 i : EReal) = dx x0 x1 x2 x3 x4 (i 0) (i 1) := by
  have hz : ∀ k, (val_main_v3 (F := Ideal) x0 x1 x2 (ix2 (i 0) k) : EReal) = res x0 x1 x2 (i 0) k := fun k => ref_res x0 x1 x2 (ix2 (i 0) k)
  have hc : ∀ k, (val_main_v33 (F := Ideal) x0 x1 x2 x3 x4 (ix2 (i 0) k) : EReal) = cot x0 x1 x2 x3 x4 (i 0) k := fun k => ref_cot x0 x1 x2 x3 x4 (ix2 (i 0) k)
  have hn := norm_rule (fun k => res x0 x1 x2 (i 0) k) (fun k => cot x0 x1 x2 x3 x4 (i 0) k * x3 (ix2 0 k)) 0 (i 1)
  simp only [zero_add] at hn
  unfold dx rs
  refine Eq.trans ?_ hn
  pointwise [ms, val_main_v4, val_main_cst, val_main_v5, val_main_v6, val_main_cst_0, val_main_v7, val_main_v8, val_main_cst_1, val_main_v9, val_main_v10, val_main_v11, val_main_v12, val_main_cst_2, val_main_v13, val_main_v14, val_main_v37, val_main_v38, val_main_v39, val_main_cst_12, val_main_v40, val_main_v41, val_main_v42, val_main_v43, val_main_v44, val_main_cst_13, val_main_v45, val_main_v46, val_main_cst_14, val_main_v47, val_main_v48, val_main_v49, val_main_v50, val_main_v51, val_main_v52]
  simp only [hz, hc, ref_res, ref_cot, Fin.sum_univ_one]

theorem ref_dxb (i : S8192x1024.Idx) : (val_main_v53 (F := Ideal) x0 x1 x2 x3 x4 i : EReal) = dx x0 x1 x2 x3 x4 (i 0) (i 1) := by
  rw [← ref_dx]
  pointwise [val_main_v53]

theorem ref_dg (i : S1x1024.Idx) : (val_main_v36 (F := Ideal) x0 x1 x2 x3 x4 i : EReal) = dg x0 x1 x2 x3 x4 i := by
  have hh : ∀ r, (val_main_v16 (F := Ideal) x0 x1 x2 (ix2 r (i 1)) : EReal) = res x0 x1 x2 r (i 1) * rs x0 x1 x2 r := fun r => ref_xh x0 x1 x2 (ix2 r (i 1))
  have hc : ∀ r, (val_main_v33 (F := Ideal) x0 x1 x2 x3 x4 (ix2 r (i 1)) : EReal) = cot x0 x1 x2 x3 x4 r (i 1) := fun r => ref_cot x0 x1 x2 x3 x4 (ix2 r (i 1))
  pointwise [dg, val_main_v34, val_main_cst_11, val_main_v35, val_main_v36]
  simp only [hh, hc]
  exact Finset.sum_congr rfl fun k _ => mul_comm _ _

theorem ref_loss (i : S1x128.Idx) : (val_main_v54 (F := Ideal) x0 x1 x2 x3 x4 i : EReal) = loss x0 x1 x2 x3 x4 := by
  have he : ∀ r k, (val_main_v19 (F := Ideal) x0 x1 x2 x3 x4 (ix2 r k) : EReal) = err x0 x1 x2 x3 x4 r k := fun r k => ref_err x0 x1 x2 x3 x4 (ix2 r k)
  unfold loss
  rw [← loss_rule]
  pointwise [val_main_v20, val_main_cst_4, val_main_v23, val_main_cst_5, val_main_v24, val_main_v25, val_main_cst_6, val_main_v26, val_main_cst_7, val_main_v27, val_main_v54]
  simp only [he]

end Reference

theorem frame_reference : Cert.quiescent_LossRefIdeal := by
  intro m ρ _
  exact (θ_run Cert.LossRefIdeal.defs _ _).mono (fun r h => ⟨fun c => (h c).2.2.2.2,
      Idealize.ShloMosaic.sem_eq_zero_of_no_sems (by decide) r.2⟩)
    (Cert.LossRefIdeal.Value.run m ρ)

theorem algebraic : Cert.algebraic_LossIdeal_LossRefIdeal := by
  pair_intro
  · run_from Cert.LossIdeal.Gen.run_main m g
  · refine (θ_run Cert.LossRefIdeal.defs _ _).mono (fun r h c => ?_) (Cert.LossRefIdeal.Value.run m' g')
    obtain ⟨a0, a1, a2, a3, a4⟩ := hagree c
    obtain ⟨e0, e1, e2, e3, hrest⟩ := h c
    refine ⟨e0.trans ?_, e1.trans ?_, e2.trans ?_, e3.trans ?_, hrest⟩
    · refine (Cert.LossRefIdeal.Read.val_main_v52_eq (F := Ideal) m' c).trans ?_
      rw [a0, a1, a2, a3, a4]
      exact (funext fun i => ref_dx _ _ _ _ _ i).trans (final5 m c).symm
    · refine (Cert.LossRefIdeal.Read.val_main_v53_eq (F := Ideal) m' c).trans ?_
      rw [a0, a1, a2, a3, a4]
      exact (funext fun i => ref_dxb _ _ _ _ _ i).trans (final6 m c).symm
    · refine (Cert.LossRefIdeal.Read.val_main_v36_eq (F := Ideal) _ _ _ _ _).trans ?_
      rw [a0, a1, a2, a3, a4]
      exact (funext fun i => ref_dg _ _ _ _ _ i).trans (final7 m c).symm
    · refine (Cert.LossRefIdeal.Read.val_main_v54_eq (F := Ideal) _ _ _ _ _).trans ?_
      rw [a0, a1, a2, a3, a4]
      exact (funext fun i => ref_loss _ _ _ _ _ i).trans (final8 m c).symm

end Ffn.Loss
-- ==== Proof.Proj.Down.lean ====
/- The feed-forward's second product added to the running rows, and the rows normalised for the next layer. -/
module

public import proofs.«01_k».proof.Proof.Gen.DownIdeal.Value
public import proofs.«01_k».proof.Proof.Gen.DownRefIdeal.Run
public import proofs.«01_k».proof.Proof.Gen.DownRefIdeal.Read
public import proofs.«01_k».proof.Proof.Ffn.Fin
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.Down

open Idealize.ShloMosaic Idealize.ShloMosaic.TcCoe Idealize.SL.Sem
open Cert.DownIdeal Cert.DownIdeal.Gen

/-- The running rows after the product. -/
def res (X : S8192x2816.Idx → EReal) (W : S2816x1024.Idx → EReal) (H : S8192x1024.Idx → EReal) (r : Fin 8192) (j : Fin 1024) : EReal :=
  H (ix2 r j) + ∑ k : Fin 2816, X (ix2 r k) * W (ix2 k j)

/-- The rows normalised. -/
def normed (X : S8192x2816.Idx → EReal) (W : S2816x1024.Idx → EReal) (H : S8192x1024.Idx → EReal) (G : S1x1024.Idx → EReal) (i : S8192x1024.Idx) : EReal :=
  res X W H (i 0) (i 1) * Ideal.rsqrt (ms (∑ k : Fin 1024, res X W H (i 0) k * res X W H (i 0) k)) * G (ix2 0 (i 1))

section Block

variable (x0 : Vec Ideal S512x2816 .bf16) (x1 : Vec Ideal S2816x1024 .bf16) (x2 : Vec Ideal S512x1024 .f32) (x3 : Vec Ideal S1x1024 .f32)

def bres (X : S512x2816.Idx → EReal) (W : S2816x1024.Idx → EReal) (H : S512x1024.Idx → EReal) (r : Fin 512) (j : Fin 1024) : EReal :=
  H (ix2 r j) + ∑ k : Fin 2816, X (ix2 r k) * W (ix2 k j)

def bnormed (X : S512x2816.Idx → EReal) (W : S2816x1024.Idx → EReal) (H : S512x1024.Idx → EReal) (G : S1x1024.Idx → EReal) (y : S512x1024.Idx) : EReal :=
  bres X W H (y 0) (y 1) * Ideal.rsqrt (ms (∑ k : Fin 1024, bres X W H (y 0) k * bres X W H (y 0) k)) * G (ix2 0 (y 1))

theorem res_at (y : S512x1024.Idx) : (k0_pay1 (F := Ideal) x0 x1 x2 y : EReal) = bres x0 x1 x2 (y 0) (y 1) := by
  pointwise [bres, k0_pay1]
  exact (add_comm _ _).trans (congrArg₂ (fun a b : EReal => a + b) (congrArg x2 (funext fun a => match a with | ⟨0, _⟩ => rfl | ⟨1, _⟩ => rfl)) rfl)

theorem normed_at (y : S512x1024.Idx) : (k0_pay2 (F := Ideal) x0 x1 x2 x3 y : EReal) = bnormed x0 x1 x2 x3 y := by
  have hz : ∀ k, (k0_pay1 (F := Ideal) x0 x1 x2 (ix2 (y 0) k) : EReal) = bres x0 x1 x2 (y 0) k := fun k => res_at x0 x1 x2 (ix2 (y 0) k)
  pointwise [bnormed, ms, k0_pay2]
  simp only [hz, res_at]

end Block

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0]
   ∧ win0_4.index t = ![t.val, 0] ∧ win0_5.index t = ![t.val, 0] :=
  (by decide +kernel : ∀ t : Fin grid0.N, _)

theorem final4 : (dats m 0 c).arrAt 4 cfg0.N = fun i : S8192x1024.Idx =>
    res (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  blk_simp
  rw [after0_4]
  unfold out0_4
  frame_out
  rw [res_at]
  unfold bres res
  blk_point [iblk, V, idx t]

theorem final5 : (dats m 0 c).arrAt 5 cfg0.N = fun i : S8192x1024.Idx =>
    normed (m ((c : Thread nD τ).loc main_arg0)) (m ((c : Thread nD τ).loc main_arg1)) (m ((c : Thread nD τ).loc main_arg2)) (m ((c : Thread nD τ).loc main_arg3)) i := by
  refine (dats m 0 c).arrAt_eq_of_covers 5 _ (by decide +kernel) fun t hf y => ?_
  blk_simp
  rw [after0_5]
  unfold out0_5
  frame_out
  rw [normed_at]
  unfold bnormed normed bres res
  blk_point [iblk, V, idx t]

section Reference

variable (x0 : Vec Ideal S8192x2816 .bf16) (x1 : Vec Ideal S2816x1024 .bf16) (x2 : Vec Ideal S8192x1024 .f32) (x3 : Vec Ideal S1x1024 .f32)

open Cert.DownRefIdeal.Read

theorem ref_res (i : S8192x1024.Idx) : (val_main_v3 (F := Ideal) x0 x1 x2 i : EReal) = res x0 x1 x2 (i 0) (i 1) := by
  pointwise [val_main_v3]
  rw [val_main_v2_apply]
  pointwise [res, val_main_v0, val_main_v1]
  exact congrArg₂ (fun a b : EReal => a + b)
    (congrArg x2 (funext fun a => match a with | ⟨0, _⟩ => rfl | ⟨1, _⟩ => rfl))
    (Finset.sum_congr rfl fun k _ => congrArg₂ (fun a b : EReal => a * b)
      (congrArg x0 (funext fun a => match a with | ⟨0, _⟩ => rfl | ⟨1, _⟩ => rfl))
      (congrArg x1 (funext fun a => match a with | ⟨0, _⟩ => rfl | ⟨1, _⟩ => rfl)))

theorem ref_normed (i : S8192x1024.Idx) : (val_main_v16 (F := Ideal) x0 x1 x2 x3 i : EReal) = normed x0 x1 x2 x3 i := by
  have hz : ∀ k, (val_main_v3 (F := Ideal) x0 x1 x2 (ix2 (i 0) k) : EReal) = res x0 x1 x2 (i 0) k := fun k => ref_res x0 x1 x2 (ix2 (i 0) k)
  pointwise [normed, ms, val_main_v4, val_main_cst, val_main_v5, val_main_v6, val_main_cst_0, val_main_v7, val_main_v8, val_main_cst_1, val_main_v9, val_main_v10, val_main_v11, val_main_v12, val_main_v13, val_main_v14, val_main_v15, val_main_v16]
  simp only [hz, ref_res]

end Reference

theorem frame_reference : Cert.quiescent_DownRefIdeal := by
  intro m ρ _
  exact (θ_run Cert.DownRefIdeal.defs _ _).mono (fun r h => ⟨fun c => (h c).2.2,
      Idealize.ShloMosaic.sem_eq_zero_of_no_sems (by decide) r.2⟩)
    (Cert.DownRefIdeal.Value.run m ρ)

theorem algebraic : Cert.algebraic_DownIdeal_DownRefIdeal := by
  pair_intro
  · run_from Cert.DownIdeal.Gen.run_main m g
  · run_from Cert.DownRefIdeal.Value.run m' g'
    · refine (Cert.DownRefIdeal.Read.val_main_v3_eq (F := Ideal) _ _ _).trans ?_
      exact (funext fun i => ref_res _ _ _ i).trans (final4 m c).symm
    · refine (Cert.DownRefIdeal.Read.val_main_v16_eq (F := Ideal) _ _ _ _).trans ?_
      exact (funext fun i => ref_normed _ _ _ _ i).trans (final5 m c).symm

end Ffn.Down
-- ==== Proof.Proj.Out.lean ====
/- A mixing layer's output product added to the running rows, and the rows normalised for the feed-forward. -/
module

public import proofs.«01_k».proof.Proof.Gen.OutIdeal.Value
public import proofs.«01_k».proof.Proof.Gen.OutRefIdeal.Run
public import proofs.«01_k».proof.Proof.Gen.OutRefIdeal.Read
public import proofs.«01_k».proof.Proof.Ffn.Fin
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.Out

open Idealize.ShloMosaic Idealize.ShloMosaic.TcCoe Idealize.SL.Sem
open Cert.OutIdeal Cert.OutIdeal.Gen

/-- The running rows after the product. -/
def res (X Y : S8192x512.Idx → EReal) (W : S1024x1024.Idx → EReal) (H : S8192x1024.Idx → EReal) (r : Fin 8192) (j : Fin 1024) : EReal :=
  H (ix2 r j) + (∑ k : Fin 512, X (ix2 r k) * W (ix2 ⟨k.val, by omega⟩ j) + ∑ k : Fin 512, Y (ix2 r k) * W (ix2 ⟨512 + k.val, by omega⟩ j))

/-- The rows normalised. -/
def normed (X Y : S8192x512.Idx → EReal) (W : S1024x1024.Idx → EReal) (H : S8192x1024.Idx → EReal) (G : S1x1024.Idx → EReal) (i : S8192x1024.Idx) : EReal :=
  res X Y W H (i 0) (i 1) * Ideal.rsqrt (ms (∑ k : Fin 1024, res X Y W H (i 0) k * res X Y W H (i 0) k)) * G (ix2 0 (i 1))

section Block

variable (x0 x1 : Vec Ideal S512x512 .bf16) (x2 : Vec Ideal S1024x1024 .bf16) (x3 : Vec Ideal S512x1024 .f32) (x4 : Vec Ideal S1x1024 .f32)

def bres (X Y : S512x512.Idx → EReal) (W : S1024x1024.Idx → EReal) (H : S512x1024.Idx → EReal) (r : Fin 512) (j : Fin 1024) : EReal :=
  H (ix2 r j) + (∑ k : Fin 512, X (ix2 r k) * W (ix2 ⟨k.val, by omega⟩ j) + ∑ k : Fin 512, Y (ix2 r k) * W (ix2 ⟨512 + k.val, by omega⟩ j))

def bnormed (X Y : S512x512.Idx → EReal) (W : S1024x1024.Idx → EReal) (H : S512x1024.Idx → EReal) (G : S1x1024.Idx → EReal) (y : S512x1024.Idx) : EReal :=
  bres X Y W H (y 0) (y 1) * Ideal.rsqrt (ms (∑ k : Fin 1024, bres X Y W H (y 0) k * bres X Y W H (y 0) k)) * G (ix2 0 (y 1))

theorem res_at (y : S512x1024.Idx) : (k0_pay1 (F := Ideal) x0 x1 x2 x3 y : EReal) = bres x0 x1 x2 x3 (y 0) (y 1) := by
  pointwise [bres, k0_pay1]
  exact (add_comm _ _).trans (congrArg₂ (fun a b : EReal => a + b) (congrArg x3 (funext fun a => match a with | ⟨0, _⟩ => rfl | ⟨1, _⟩ => rfl)) rfl)

theorem normed_at (y : S512x1024.Idx) : (k0_pay2 (F := Ideal) x0 x1 x2 x3 x4 y : EReal) = bnormed x0 x1 x2 x3 x4 y := by
  have hz : ∀ k, (k0_pay1 (F := Ideal) x0 x1 x2 x3 (ix2 (y 0) k) : EReal) = bres x0 x1 x2 x3 (y 0) k := fun k => res_at x0 x1 x2 x3 (ix2 (y 0) k)
  pointwise [bnormed, ms, k0_pay2]
  simp only [hz, res_at]

end Block

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![t.val, 0]
   ∧ win0_4.index t = ![0, 0] ∧ win0_5.index t = ![t.val, 0] ∧ win0_6.index t = ![t.val, 0] :=
  (by decide +kernel : ∀ t : Fin grid0.N, _)

theorem final5 : (dats m 0 c).arrAt 5 cfg0.N = fun i : S8192x1024.Idx =>
    res (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  blk_simp
  rw [after0_5]
  unfold out0_5
  frame_out
  rw [res_at]
  unfold bres res
  blk_point [iblk, V, idx t]

theorem final6 : (dats m 0 c).arrAt 6 cfg0.N = fun i : S8192x1024.Idx =>
    normed (m ((c : Thread nD τ).loc main_arg0)) (m ((c : Thread nD τ).loc main_arg1)) (m ((c : Thread nD τ).loc main_arg2)) (m ((c : Thread nD τ).loc main_arg3)) (m ((c : Thread nD τ).loc main_arg4)) i := by
  refine (dats m 0 c).arrAt_eq_of_covers 6 _ (by decide +kernel) fun t hf y => ?_
  blk_simp
  rw [after0_6]
  unfold out0_6
  frame_out
  rw [normed_at]
  unfold bnormed normed bres res
  blk_point [iblk, V, idx t]

section Reference

variable (x0 x1 : Vec Ideal S8192x512 .bf16) (x2 : Vec Ideal S1024x1024 .bf16) (x3 : Vec Ideal S8192x1024 .f32) (x4 : Vec Ideal S1x1024 .f32)

open Cert.OutRefIdeal.Read

theorem ref_res (i : S8192x1024.Idx) : (val_main_v5 (F := Ideal) x0 x1 x2 x3 i : EReal) = res x0 x1 x2 x3 (i 0) (i 1) := by
  pointwise [val_main_v5]
  rw [val_main_v4_apply]
  pointwise [res, val_main_v0, val_main_v1, val_main_v2, val_main_v3]
  exact congrArg₂ (fun a b : EReal => a + b)
    (congrArg x3 (funext fun a => match a with | ⟨0, _⟩ => rfl | ⟨1, _⟩ => rfl))
    (congrArg₂ (fun a b : EReal => a + b)
      (Finset.sum_congr rfl fun k _ => congrArg (fun b : EReal => x0 (ix2 (i 0) k) * b)
        (congrArg x2 (funext fun a => match a with | ⟨0, _⟩ => rfl | ⟨1, _⟩ => rfl)))
      (Finset.sum_congr rfl fun k _ => congrArg (fun b : EReal => x1 (ix2 (i 0) k) * b)
        (congrArg x2 (funext fun a => match a with | ⟨0, _⟩ => rfl | ⟨1, _⟩ => rfl))))

theorem ref_normed (i : S8192x1024.Idx) : (val_main_v18 (F := Ideal) x0 x1 x2 x3 x4 i : EReal) = normed x0 x1 x2 x3 x4 i := by
  have hz : ∀ k, (val_main_v5 (F := Ideal) x0 x1 x2 x3 (ix2 (i 0) k) : EReal) = res x0 x1 x2 x3 (i 0) k := fun k => ref_res x0 x1 x2 x3 (ix2 (i 0) k)
  pointwise [normed, ms, val_main_cst, val_main_cst_0, val_main_v6, val_main_v7, val_main_v8, val_main_cst_1, val_main_v9, val_main_v10, val_main_v11, val_main_v12, val_main_v13, val_main_v14, val_main_v15, val_main_v16, val_main_v17, val_main_v18]
  simp only [hz, ref_res]

end Reference

theorem frame_reference : Cert.quiescent_OutRefIdeal := by
  intro m ρ _
  exact (θ_run Cert.OutRefIdeal.defs _ _).mono (fun r h => ⟨fun c => (h c).2.2,
      Idealize.ShloMosaic.sem_eq_zero_of_no_sems (by decide) r.2⟩)
    (Cert.OutRefIdeal.Value.run m ρ)

theorem algebraic : Cert.algebraic_OutIdeal_OutRefIdeal := by
  pair_intro
  · run_from Cert.OutIdeal.Gen.run_main m g
  · run_from Cert.OutRefIdeal.Value.run m' g'
    · refine (Cert.OutRefIdeal.Read.val_main_v5_eq (F := Ideal) _ _ _ _).trans ?_
      exact (funext fun i => ref_res _ _ _ _ i).trans (final5 m c).symm
    · refine (Cert.OutRefIdeal.Read.val_main_v18_eq (F := Ideal) _ _ _ _ _).trans ?_
      exact (funext fun i => ref_normed _ _ _ _ _ i).trans (final6 m c).symm

end Ffn.Out
-- ==== Proof.Proj.InEv.lean ====
/- A mixing layer's input product (the even layers): the normalised rows against the rows of the input matrix. -/
module

public import proofs.«01_k».proof.Proof.Gen.InEvIdeal.Value
public import proofs.«01_k».proof.Proof.Gen.InEvRefIdeal.Run
public import proofs.«01_k».proof.Proof.Gen.InEvRefIdeal.Read
public import proofs.«01_k».proof.Proof.Ffn.Fin
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.InEv

open Idealize.ShloMosaic Idealize.ShloMosaic.TcCoe Idealize.SL.Sem
open Cert.InEvIdeal Cert.InEvIdeal.Gen

/-- The rows against a matrix's rows. -/
def total (X : S8192x1024.Idx → EReal) (Y : S1792x1024.Idx → EReal) (i : S8192x1792.Idx) : EReal :=
  ∑ k : Fin 1024, X (ix2 (i 0) k) * Y (ix2 (i 1) k)

theorem pay1_at (x0 : Vec Ideal S512x1024 .bf16) (x1 : Vec Ideal S896x1024 .bf16) (j : S512x896.Idx) :
    (k0_pay1 (F := Ideal) x0 x1 j : EReal) = ∑ k : Fin 1024, (x0 (ix2 (j 0) k) : EReal) * x1 (ix2 (j 1) k) := by
  pointwise [k0_pay1]

variable (m : (ℓ : Loc nD τ sig) → Buf (Elt Ideal) ℓ) (c : Dev nD)

theorem idx : ∀ t : Fin cfg0.N, win0_0.index t = ![t.val % 16, 0] ∧ win0_1.index t = ![t.val / 16, 0] ∧ win0_2.index t = ![t.val % 16, t.val / 16] :=
  (by decide +kernel : ∀ t : Fin grid0.N, _)

theorem final2 : (dats m 0 c).arrAt 2 cfg0.N = fun i : S8192x1792.Idx =>
    total (m ((c : Thread nD τ).loc main_arg0)) (m ((c : Thread nD τ).loc main_arg1)) i := by
  refine (dats m 0 c).arrAt_eq_of_covers 2 _ (by decide +kernel) fun t hf y => ?_
  blk_simp
  rw [after0_2]
  unfold out0_2
  frame_out
  rw [pay1_at]
  unfold total
  blk_point [iblk, V, idx t]

open Cert.InEvRefIdeal.Read

theorem ref_prod (x0 : Vec Ideal S8192x1024 .bf16) (x1 : Vec Ideal S1792x1024 .bf16) (i : S8192x1792.Idx) :
    (val_main_v2 (F := Ideal) x0 x1 i : EReal) = total x0 x1 i := by
  refine (val_main_v2_apply x0 x1 i).trans ?_
  pointwise [total, val_main_v0, val_main_v1]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl))

theorem reference_eq (x0 : Vec Ideal S8192x1024 .bf16) (x1 : Vec Ideal S1792x1024 .bf16) (i : S8192x1792.Idx) :
    (val_main_v3 (F := Ideal) x0 x1 i : EReal) = total x0 x1 i := by
  rw [← ref_prod]
  pointwise [val_main_v3]

theorem frame_reference : Cert.quiescent_InEvRefIdeal := by
  intro m ρ _
  exact (θ_run Cert.InEvRefIdeal.defs _ _).mono (fun r h => ⟨fun c => (h c).2,
      Idealize.ShloMosaic.sem_eq_zero_of_no_sems (by decide) r.2⟩)
    (Cert.InEvRefIdeal.Value.run m ρ)

theorem algebraic : Cert.algebraic_InEvIdeal_InEvRefIdeal := by
  pair_intro
  · run_from Cert.InEvIdeal.Gen.run_main m g
  · run_from Cert.InEvRefIdeal.Value.run m' g'
    refine (Cert.InEvRefIdeal.Read.val_main_v3_eq (F := Ideal) _ _).trans ?_
    exact (funext fun i => reference_eq _ _ i).trans (final2 m c).symm

end Ffn.InEv
-- ==== Proof.Proj.InOd.lean ====
/- A mixing layer's input product (the odd layers): the normalised rows against the rows of the input matrix. -/
module

public import proofs.«01_k».proof.Proof.Gen.InOdIdeal.Value
public import proofs.«01_k».proof.Proof.Gen.InOdRefIdeal.Run
public import proofs.«01_k».proof.Proof.Gen.InOdRefIdeal.Read
public import proofs.«01_k».proof.Proof.Ffn.Fin
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.InOd

open Idealize.ShloMosaic Idealize.ShloMosaic.TcCoe Idealize.SL.Sem
open Cert.InOdIdeal Cert.InOdIdeal.Gen

/-- The rows against a matrix's rows. -/
def total (X : S8192x1024.Idx → EReal) (Y : S2560x1024.Idx → EReal) (i : S8192x2560.Idx) : EReal :=
  ∑ k : Fin 1024, X (ix2 (i 0) k) * Y (ix2 (i 1) k)

theorem pay1_at (x0 : Vec Ideal S512x1024 .bf16) (x1 : Vec Ideal S1280x1024 .bf16) (j : S512x1280.Idx) :
    (k0_pay1 (F := Ideal) x0 x1 j : EReal) = ∑ k : Fin 1024, (x0 (ix2 (j 0) k) : EReal) * x1 (ix2 (j 1) k) := by
  pointwise [k0_pay1]

variable (m : (ℓ : Loc nD τ sig) → Buf (Elt Ideal) ℓ) (c : Dev nD)

theorem idx : ∀ t : Fin cfg0.N, win0_0.index t = ![t.val % 16, 0] ∧ win0_1.index t = ![t.val / 16, 0] ∧ win0_2.index t = ![t.val % 16, t.val / 16] :=
  (by decide +kernel : ∀ t : Fin grid0.N, _)

theorem final2 : (dats m 0 c).arrAt 2 cfg0.N = fun i : S8192x2560.Idx =>
    total (m ((c : Thread nD τ).loc main_arg0)) (m ((c : Thread nD τ).loc main_arg1)) i := by
  refine (dats m 0 c).arrAt_eq_of_covers 2 _ (by decide +kernel) fun t hf y => ?_
  blk_simp
  rw [after0_2]
  unfold out0_2
  frame_out
  rw [pay1_at]
  unfold total
  blk_point [iblk, V, idx t]

open Cert.InOdRefIdeal.Read

theorem ref_prod (x0 : Vec Ideal S8192x1024 .bf16) (x1 : Vec Ideal S2560x1024 .bf16) (i : S8192x2560.Idx) :
    (val_main_v2 (F := Ideal) x0 x1 i : EReal) = total x0 x1 i := by
  refine (val_main_v2_apply x0 x1 i).trans ?_
  pointwise [total, val_main_v0, val_main_v1]
  exact Finset.sum_congr rfl fun k _ => congrArg₂ (fun a b : EReal => a * b)
    (congrArg x0 (funext fun a => match a with | ⟨0, _⟩ => rfl | ⟨1, _⟩ => rfl))
    (congrArg x1 (funext fun a => match a with | ⟨0, _⟩ => rfl | ⟨1, _⟩ => rfl))

theorem reference_eq (x0 : Vec Ideal S8192x1024 .bf16) (x1 : Vec Ideal S2560x1024 .bf16) (i : S8192x2560.Idx) :
    (val_main_v3 (F := Ideal) x0 x1 i : EReal) = total x0 x1 i := by
  rw [← ref_prod]
  pointwise [val_main_v3]

theorem frame_reference : Cert.quiescent_InOdRefIdeal := by
  intro m ρ _
  exact (θ_run Cert.InOdRefIdeal.defs _ _).mono (fun r h => ⟨fun c => (h c).2,
      Idealize.ShloMosaic.sem_eq_zero_of_no_sems (by decide) r.2⟩)
    (Cert.InOdRefIdeal.Value.run m ρ)

theorem algebraic : Cert.algebraic_InOdIdeal_InOdRefIdeal := by
  pair_intro
  · run_from Cert.InOdIdeal.Gen.run_main m g
  · run_from Cert.InOdRefIdeal.Value.run m' g'
    refine (Cert.InOdRefIdeal.Read.val_main_v3_eq (F := Ideal) _ _).trans ?_
    exact (funext fun i => reference_eq _ _ i).trans (final2 m c).symm

end Ffn.InOd
-- ==== Proof.Proj.Norm.lean ====
/- The rows normalised for the first layer. -/
module

public import proofs.«01_k».proof.Proof.Gen.NormIdeal.Value
public import proofs.«01_k».proof.Proof.Gen.NormRefIdeal.Run
public import proofs.«01_k».proof.Proof.Gen.NormRefIdeal.Read
public import proofs.«01_k».proof.Proof.Ffn.Fin
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.Norm

open Idealize.ShloMosaic Idealize.ShloMosaic.TcCoe Idealize.SL.Sem
open Cert.NormIdeal Cert.NormIdeal.Gen

/-- The rows normalised. -/
def normed (H : S8192x1024.Idx → EReal) (G : S1x1024.Idx → EReal) (i : S8192x1024.Idx) : EReal :=
  H i * Ideal.rsqrt (ms (∑ k : Fin 1024, H (ix2 (i 0) k) * H (ix2 (i 0) k))) * G (ix2 0 (i 1))

section Block

variable (x0 : Vec Ideal S512x1024 .f32) (x1 : Vec Ideal S1x1024 .f32)

/-- The same at one block. -/
def bnormed (H : S512x1024.Idx → EReal) (G : S1x1024.Idx → EReal) (y : S512x1024.Idx) : EReal :=
  H y * Ideal.rsqrt (ms (∑ k : Fin 1024, H (ix2 (y 0) k) * H (ix2 (y 0) k))) * G (ix2 0 (y 1))

theorem normed_at (y : S512x1024.Idx) : (k0_pay1 (F := Ideal) x0 x1 y : EReal) = bnormed x0 x1 y := by
  pointwise [bnormed, ms, k0_pay1]

end Block

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = fun i : S8192x1024.Idx =>
    normed (m ((c : Thread nD τ).loc main_arg0)) (m ((c : Thread nD τ).loc main_arg1)) i := by
  refine (dats m 0 c).arrAt_eq_of_covers 2 _ (by decide +kernel) fun t hf y => ?_
  blk_simp
  rw [after0_2]
  unfold out0_2
  frame_out
  rw [normed_at]
  unfold bnormed normed
  blk_point [iblk, V, idx t]

section Reference

variable (x0 : Vec Ideal S8192x1024 .f32) (x1 : Vec Ideal S1x1024 .f32)

open Cert.NormRefIdeal.Read

theorem ref_normed (i : S8192x1024.Idx) : (val_main_v12 (F := Ideal) x0 x1 i : EReal) = normed x0 x1 i := by
  pointwise [normed, ms, val_main_v0, val_main_cst, val_main_v1, val_main_v2, val_main_cst_0, val_main_v3, val_main_v4, val_main_cst_1, val_main_v5, val_main_v6, val_main_v7, val_main_v8, val_main_v9, val_main_v10, val_main_v11, val_main_v12]

end Reference

theorem frame_reference : Cert.quiescent_NormRefIdeal := by
  intro m ρ _
  exact (θ_run Cert.NormRefIdeal.defs _ _).mono (fun r h => ⟨fun c => (h c).2,
      Idealize.ShloMosaic.sem_eq_zero_of_no_sems (by decide) r.2⟩)
    (Cert.NormRefIdeal.Value.run m ρ)

theorem algebraic : Cert.algebraic_NormIdeal_NormRefIdeal := by
  pair_intro
  · run_from Cert.NormIdeal.Gen.run_main m g
  · run_from Cert.NormRefIdeal.Value.run m' g'
    · refine (Cert.NormRefIdeal.Read.val_main_v12_eq (F := Ideal) _ _).trans ?_
      exact (funext fun i => ref_normed _ _ i).trans (final2 m c).symm

end Ffn.Norm
-- ==== Proof.Proj.Ln.lean ====
/- A row's normalisation by mean and variance, followed by the swish, and the cotangent through the swish. -/
module

public import proofs.«01_k».proof.Proof.Ffn.Fin

@[expose] public section

noncomputable section

namespace Ffn.Ln

open Idealize.ShloMosaic

/-- The width of a row, as the programs write it. -/
def wd : EReal := Ideal.ofBits .f32 0x44000000#32

/-- The small constant of the variance. -/
def ep : EReal := Ideal.ofBits .f32 0x3727C5AC#32

/-- The row less its mean. -/
def xc (y : Fin 512 → EReal) (j : Fin 512) : EReal := y j - Ideal.div (∑ k, y k) wd

/-- The variance with the small constant. -/
def vr (y : Fin 512 → EReal) : EReal := Ideal.div (∑ k, xc y k * xc y k) wd + ep

/-- The normalised row. -/
def xh (y : Fin 512 → EReal) (j : Fin 512) : EReal := xc y j * Ideal.rsqrt (vr y)

/-- The scaled and shifted row. -/
def zz (y g b : Fin 512 → EReal) (j : Fin 512) : EReal := xh y j * g j + b j

/-- The cotangent before the swish. -/
def dz (d y g b : Fin 512 → EReal) (j : Fin 512) : EReal :=
  d j * sigm (zz y g b j) * (1 + zz y g b j * (1 - sigm (zz y g b j)))

/-- The swish's derivative, the product rule against its factored form. -/
theorem swish_rule {D : EReal} (z : EReal) (hD : IsReal D) :
    D * sigm z + z * D * (sigm z * (1 - sigm z)) = D * sigm z * (1 + z * (1 - sigm z)) := by
  have h := gate_rule (u := 1) z hD ⟨1, EReal.coe_one.symm⟩
  simpa only [mul_one] using h

end Ffn.Ln
-- ==== Proof.Proj.Tail.lean ====
/- The cotangents of the gain and the bias of the normalisation in the convolution branch. -/
module

public import proofs.«01_k».proof.Proof.Gen.TailIdeal.Value
public import proofs.«01_k».proof.Proof.Gen.TailRefIdeal.Run
public import proofs.«01_k».proof.Proof.Gen.TailRefIdeal.Read
public import proofs.«01_k».proof.Proof.Proj.Ln
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.Tail

open Idealize.ShloMosaic Idealize.ShloMosaic.TcCoe Idealize.SL.Sem
open Cert.TailIdeal Cert.TailIdeal.Gen

/-- The facts the precondition's function takes. -/
instance preFacts : Cert.Pre_finite_tail.Facts where
  bcast_S_S8192x1024 := by decide
  reducesTo_S8192x1024_S_d0_1 := by decide
  h_S_ := by decide

instance : Subsingleton Cert.Pre_finite_tail.S_.Idx := ⟨fun _ _ => funext fun a => a.elim0⟩

/-- What the precondition says: every element of the cotangent is a real number. -/
theorem finite (a : Vec Ideal S8192x1024 .f32) (b : Vec Ideal S8192x512 .f32) (g u : Vec Ideal S1x512 .f32)
    (h : Cert.Pre_finite_tail.fn (F := Ideal) a b g u = fun _ => 1#1) (i : S8192x1024.Idx) : IsReal (a i) := by
  have h0 := congrFun h (fun a => a.elim0)
  unfold Cert.Pre_finite_tail.fn at h0
  exact IsReal.of_test _ _ i (Host.reduce_andi_all _ _ _ _ _ h0 i)

/-- The cotangent before the swish: the branch's half of the cotangent's columns, through the swish at the normalised rows. -/
def dz (D : S8192x1024.Idx → EReal) (Y : S8192x512.Idx → EReal) (G B : S1x512.Idx → EReal) (r : Fin 8192) (j : Fin 512) : EReal :=
  Ln.dz (fun k => D (ix2 r ⟨512 + k.val, by omega⟩)) (fun k => Y (ix2 r k)) (fun k => G (ix2 0 k)) (fun k => B (ix2 0 k)) j

/-- The gain's cotangent. -/
def dg (D : S8192x1024.Idx → EReal) (Y : S8192x512.Idx → EReal) (G B : S1x512.Idx → EReal) (i : S1x512.Idx) : EReal :=
  ∑ r : Fin 8192, dz D Y G B r (i 1) * Ln.xh (fun k => Y (ix2 r k)) (i 1)

/-- The bias's cotangent. -/
def db (D : S8192x1024.Idx → EReal) (Y : S8192x512.Idx → EReal) (G B : S1x512.Idx → EReal) (i : S1x512.Idx) : EReal :=
  ∑ r : Fin 8192, dz D Y G B r (i 1)

section Block

variable (x0 : Vec Ideal S512x512 .f32) (x1 : Vec Ideal S512x512 .f32) (x2 x3 : Vec Ideal S1x512 .f32)

/-- The same at one block, whose half of the cotangent's columns is already taken. -/
def bdz (D Y : S512x512.Idx → EReal) (G B : S1x512.Idx → EReal) (r : Fin 512) (j : Fin 512) : EReal :=
  Ln.dz (fun k => D (ix2 r k)) (fun k => Y (ix2 r k)) (fun k => G (ix2 0 k)) (fun k => B (ix2 0 k)) j

theorem dg_at (acc : Vec Ideal S1x512 .f32) (y : S1x512.Idx) :
    (k0_pay12 (F := Ideal) (k0_pay6 x1) (k0_pay9 x1 x2 x3 x0) (k0_pay10 x1 x2 x3) (Scalar.ofBits .f32 0x3F800000#32) acc y : EReal)
      = acc y + ∑ r : Fin 512, bdz x0 x1 x2 x3 r (y 1) * Ln.xh (fun k => x1 (ix2 r k)) (y 1) := by
  pointwise [bdz, Ln.dz, Ln.zz, Ln.xh, Ln.vr, Ln.xc, Ln.wd, Ln.ep, sigm, k0_pay12, k0_pay11, k0_pay10, k0_pay9, k0_pay8, k0_pay7, k0_pay6, k0_pay5, k0_pay4]

theorem dg_zero (y : S1x512.Idx) :
    (k0_pay12 (F := Ideal) (k0_pay6 x1) (k0_pay9 x1 x2 x3 x0) (k0_pay10 x1 x2 x3) (Scalar.ofBits .f32 0x3F800000#32) (k0_pay1 (F := Ideal)) y : EReal)
      = ∑ r : Fin 512, bdz x0 x1 x2 x3 r (y 1) * Ln.xh (fun k => x1 (ix2 r k)) (y 1) := by
  rw [dg_at]
  pointwise [k0_pay1]

theorem db_at (acc : Vec Ideal S1x512 .f32) (y : S1x512.Idx) :
    (k0_pay13 (F := Ideal) (k0_pay9 x1 x2 x3 x0) (k0_pay10 x1 x2 x3) (Scalar.ofBits .f32 0x3F800000#32) acc y : EReal)
      = acc y + ∑ r : Fin 512, bdz x0 x1 x2 x3 r (y 1) := by
  pointwise [bdz, Ln.dz, Ln.zz, Ln.xh, Ln.vr, Ln.xc, Ln.wd, Ln.ep, sigm, k0_pay13, k0_pay11, k0_pay10, k0_pay9, k0_pay8, k0_pay7, k0_pay6, k0_pay5, k0_pay4]

theorem db_zero (y : S1x512.Idx) :
    (k0_pay13 (F := Ideal) (k0_pay9 x1 x2 x3 x0) (k0_pay10 x1 x2 x3) (Scalar.ofBits .f32 0x3F800000#32) (k0_pay2 (F := Ideal)) y : EReal)
      = ∑ r : Fin 512, bdz x0 x1 x2 x3 r (y 1) := by
  rw [db_at]
  pointwise [k0_pay2]

end Block

variable (m : (ℓ : Loc nD τ sig) → Buf (Elt Ideal) ℓ) (c : Dev nD)

/-- The half of the cotangent's columns that is taken, at one place. -/
theorem half (X : Vec Ideal S512x1024 .f32) (k j : Fin 512) :
    (View.ld X (Rect.unit ![0, 512] ![512, 512] inb_S512x1024_S512x512_0_512) (ix2 k j) : EReal) = X (ix2 k ⟨512 + j.val, by omega⟩) :=
  congrArg X (funext fun a => match a with
    | ⟨0, _⟩ => Fin.ext (by show 0 + 1 * k.val = k.val; omega)
    | ⟨1, _⟩ => Fin.ext (by show 512 + 1 * j.val = 512 + j.val; omega))

theorem idx : ∀ t : Fin cfg0.N, win0_0.index t = ![t.val, 0] ∧ win0_1.index t = ![t.val, 0] ∧ win0_2.index t = ![0, 0] ∧ win0_3.index t = ![0, 0]
   ∧ win0_4.index t = ![t.val, 0] ∧ win0_5.index t = ![0, 0] ∧ win0_6.index t = ![0, 0] ∧ win0_7.index t = ![0, 0] :=
  (by decide +kernel : ∀ t : Fin grid0.N, _)

theorem final5 : (dats m 0 c).arrAt 5 cfg0.N = fun i : S1x512.Idx =>
    dg (m ((c : Thread nD τ).loc main_arg0)) (m ((c : Thread nD τ).loc main_arg1)) (m ((c : Thread nD τ).loc main_arg2)) (m ((c : Thread nD τ).loc main_arg3)) i := by
  refine (dats m 0 c).arrAt_eq_of_covers 5 _ (by decide +kernel) fun t hf y => ?_
  blk_simp
  rw [after0_5, Pipeline.eq_sum_fin_of_reset_step_apply_of_flush (fun n h => (outsAt0 m c n h).2.1) 16 (fun _ => (0 : EReal)) _
    (fun t h j => by rw [outsAt0_A m c t h]; frame_out; rw [dg_zero]; exact (zero_add _).symm)
    (fun t h j => by rw [outsAt0_B m c t (by omega)]; frame_out; rw [dg_at])
    t ((flush0_5 t).mp hf) _, zero_add]
  unfold dg
  refine Fin.sum_mul_add_congr fun s k hl => ?_
  unfold bdz dz Ln.dz Ln.zz Ln.xh Ln.vr Ln.xc
  simp only [half]
  blk_point [iblk, V, idx t, idx ⟨_, Pipeline.run_point_lt_of_flush t ((flush0_5 t).mp hf) s⟩]

theorem final6 : (dats m 0 c).arrAt 6 cfg0.N = fun i : S1x512.Idx =>
    db (m ((c : Thread nD τ).loc main_arg0)) (m ((c : Thread nD τ).loc main_arg1)) (m ((c : Thread nD τ).loc main_arg2)) (m ((c : Thread nD τ).loc main_arg3)) i := by
  refine (dats m 0 c).arrAt_eq_of_covers 6 _ (by decide +kernel) fun t hf y => ?_
  blk_simp
  rw [after0_6, Pipeline.eq_sum_fin_of_reset_step_apply_of_flush (fun n h => (outsAt0 m c n h).2.2.1) 16 (fun _ => (0 : EReal)) _
    (fun t h j => by rw [outsAt0_A m c t h]; frame_out; rw [db_zero]; exact (zero_add _).symm)
    (fun t h j => by rw [outsAt0_B m c t (by omega)]; frame_out; rw [db_at])
    t ((flush0_6 t).mp hf) _, zero_add]
  unfold db
  refine Fin.sum_mul_add_congr fun s k hl => ?_
  unfold bdz dz Ln.dz Ln.zz Ln.xh Ln.vr Ln.xc
  simp only [half]
  blk_point [iblk, V, idx t, idx ⟨_, Pipeline.run_point_lt_of_flush t ((flush0_6 t).mp hf) s⟩]

section Reference

variable (x0 : Vec Ideal S8192x1024 .f32) (x1 : Vec Ideal S8192x512 .f32) (x2 x3 : Vec Ideal S1x512 .f32)

open Cert.TailRefIdeal.Read

theorem ref_xh (i : S8192x512.Idx) : (val_main_v15 (F := Ideal) x1 i : EReal) = Ln.xh (fun k => x1 (ix2 (i 0) k)) (i 1) := by
  have hx : x1 i = x1 (ix2 (i 0) (i 1)) := congrArg x1 (funext fun a => match a with | ⟨0, _⟩ => rfl | ⟨1, _⟩ => rfl)
  pointwise [Ln.xh, Ln.vr, Ln.xc, Ln.wd, Ln.ep, val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1, val_main_cst_2, val_main_cst_3]

theorem ref_zz (i : S8192x512.Idx) : (val_main_v19 (F := Ideal) x1 x2 x3 i : EReal)
    = Ln.zz (fun k => x1 (ix2 (i 0) k)) (fun k => x2 (ix2 0 k)) (fun k => x3 (ix2 0 k)) (i 1) := by
  unfold Ln.zz
  rw [← ref_xh]
  pointwise [val_main_v16, val_main_v17, val_main_v18, val_main_v19]

theorem ref_dz (h0 : ∀ i, IsReal (x0 i)) (i : S8192x512.Idx) : (val_main_v22 (F := Ideal) x0 x1 x2 x3 i : EReal) = dz x0 x1 x2 x3 (i 0) (i 1) := by
  unfold dz Ln.dz
  rw [← Ln.swish_rule _ (h0 _), ← ref_zz x1 x2 x3 i]
  unfold sigm
  pointwise [val_main_v20_1, val_main_v20_2, val_main_v21, val_main_v22, val_main_call0_v0, val_main_call0_v1, val_main_call0_v2, val_main_call0_v3, val_main_call0_v4, val_main_call0_v6, val_main_call0_v7, val_main_call0_cst, val_main_call0_cst_0, val_main_call0_cst_1, val_main_call1_v0, val_main_call1_v1, val_main_call1_v2]
  simp only [zero_sub]

theorem ref_db (h0 : ∀ i, IsReal (x0 i)) (i : S1x512.Idx) : (val_main_v24 (F := Ideal) x0 x1 x2 x3 i : EReal) = db x0 x1 x2 x3 i := by
  have hz : ∀ r, (val_main_v22 (F := Ideal) x0 x1 x2 x3 (ix2 r (i 1)) : EReal) = dz x0 x1 x2 x3 r (i 1) := fun r => ref_dz x0 x1 x2 x3 h0 (ix2 r (i 1))
  pointwise [db, val_main_v23, val_main_v24, val_main_cst_4]
  simp only [hz]

theorem ref_dg (h0 : ∀ i, IsReal (x0 i)) (i : S1x512.Idx) : (val_main_v27 (F := Ideal) x0 x1 x2 x3 i : EReal) = dg x0 x1 x2 x3 i := by
  have hz : ∀ r, (val_main_v22 (F := Ideal) x0 x1 x2 x3 (ix2 r (i 1)) : EReal) = dz x0 x1 x2 x3 r (i 1) := fun r => ref_dz x0 x1 x2 x3 h0 (ix2 r (i 1))
  have hx : ∀ r, (val_main_v15 (F := Ideal) x1 (ix2 r (i 1)) : EReal) = Ln.xh (fun k => x1 (ix2 r k)) (i 1) := fun r => ref_xh x1 (ix2 r (i 1))
  pointwise [dg, val_main_v25, val_main_v26, val_main_v27, val_main_cst_5]
  simp only [hz, hx]
  exact Finset.sum_congr rfl fun k _ => mul_comm _ _

end Reference

theorem frame_reference : Cert.quiescent_TailRefIdeal := by
  intro m ρ _
  exact (θ_run Cert.TailRefIdeal.defs _ _).mono (fun r h => ⟨fun c => (h c).2.2,
      Idealize.ShloMosaic.sem_eq_zero_of_no_sems (by decide) r.2⟩)
    (Cert.TailRefIdeal.Value.run m ρ)

theorem algebraic : Cert.algebraic_TailIdeal_TailRefIdeal_pre_finite_tail := by
  pair_intro
  · run_from Cert.TailIdeal.Gen.run_main m g
  · refine (θ_run Cert.TailRefIdeal.defs _ _).mono (fun r h c => ?_) (Cert.TailRefIdeal.Value.run m' g')
    obtain ⟨a0, a1, a2, a3⟩ := hagree c
    obtain ⟨e0, e1, hrest⟩ := h c
    have h0 := finite _ _ _ _ (hpre c)
    refine ⟨e0.trans ?_, e1.trans ?_, hrest⟩
    · refine (Cert.TailRefIdeal.Read.val_main_v27_eq (F := Ideal) m' c).trans ?_
      rw [a0, a1, a2, a3]
      exact (funext fun i => ref_dg _ _ _ _ h0 i).trans (final5 m c).symm
    · refine (Cert.TailRefIdeal.Read.val_main_v24_eq (F := Ideal) m' c).trans ?_
      rw [a0, a1, a2, a3]
      exact (funext fun i => ref_db _ _ _ _ h0 i).trans (final6 m c).symm

end Ffn.Tail
-- ==== Proof.Adam.EvIn.lean ====
/- The optimiser's update of a weight of 448 by 1024: the step and the two new moments. -/
module

public import proofs.«01_k».proof.Proof.Gen.AdamEvInIdeal.Value
public import proofs.«01_k».proof.Proof.Gen.AdamEvInRefIdeal.Run
public import proofs.«01_k».proof.Proof.Gen.AdamEvInRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.AdamEvIn

open Idealize.ShloMosaic Idealize.ShloMosaic.TcCoe Idealize.SL.Sem
open Cert.AdamEvInIdeal Cert.AdamEvInIdeal.Gen

theorem frame_reference : Cert.quiescent_AdamEvInRefIdeal := by
  intro m ρ _
  exact (θ_run Cert.AdamEvInRefIdeal.defs _ _).mono (fun r h => ⟨fun c => (h c).2.2.2,
      Idealize.ShloMosaic.sem_eq_zero_of_no_sems (by decide) r.2⟩)
    (Cert.AdamEvInRefIdeal.Value.run m ρ)

theorem algebraic : Cert.algebraic_AdamEvInIdeal_AdamEvInRefIdeal := by
  pair_intro
  · run_from Cert.AdamEvInIdeal.Gen.run_main m g
  · run_from Cert.AdamEvInRefIdeal.Value.run m' g'
    · refine Eq.trans ?_ (Cert.AdamEvInIdeal.Value.final4 m c).symm
      rfl
    · refine Eq.trans ?_ (Cert.AdamEvInIdeal.Value.final5 m c).symm
      rfl
    · refine Eq.trans ?_ (Cert.AdamEvInIdeal.Value.final6 m c).symm
      rfl

end Ffn.AdamEvIn
-- ==== Proof.Adam.Out.lean ====
/- The optimiser's update of a weight of 256 by 1024: the step and the two new moments. -/
module

public import proofs.«01_k».proof.Proof.Gen.AdamOutIdeal.Value
public import proofs.«01_k».proof.Proof.Gen.AdamOutRefIdeal.Run
public import proofs.«01_k».proof.Proof.Gen.AdamOutRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.AdamOut

open Idealize.ShloMosaic Idealize.ShloMosaic.TcCoe Idealize.SL.Sem
open Cert.AdamOutIdeal Cert.AdamOutIdeal.Gen

theorem frame_reference : Cert.quiescent_AdamOutRefIdeal := by
  intro m ρ _
  exact (θ_run Cert.AdamOutRefIdeal.defs _ _).mono (fun r h => ⟨fun c => (h c).2.2.2,
      Idealize.ShloMosaic.sem_eq_zero_of_no_sems (by decide) r.2⟩)
    (Cert.AdamOutRefIdeal.Value.run m ρ)

theorem algebraic : Cert.algebraic_AdamOutIdeal_AdamOutRefIdeal := by
  pair_intro
  · run_from Cert.AdamOutIdeal.Gen.run_main m g
  · run_from Cert.AdamOutRefIdeal.Value.run m' g'
    · refine Eq.trans ?_ (Cert.AdamOutIdeal.Value.final4 m c).symm
      rfl
    · refine Eq.trans ?_ (Cert.AdamOutIdeal.Value.final5 m c).symm
      rfl
    · refine Eq.trans ?_ (Cert.AdamOutIdeal.Value.final6 m c).symm
      rfl

end Ffn.AdamOut
-- ==== Proof.Adam.OdIn.lean ====
/- The optimiser's update of a weight of 640 by 1024: the step and the two new moments. -/
module

public import proofs.«01_k».proof.Proof.Gen.AdamOdInIdeal.Value
public import proofs.«01_k».proof.Proof.Gen.AdamOdInRefIdeal.Run
public import proofs.«01_k».proof.Proof.Gen.AdamOdInRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.AdamOdIn

open Idealize.ShloMosaic Idealize.ShloMosaic.TcCoe Idealize.SL.Sem
open Cert.AdamOdInIdeal Cert.AdamOdInIdeal.Gen

theorem frame_reference : Cert.quiescent_AdamOdInRefIdeal := by
  intro m ρ _
  exact (θ_run Cert.AdamOdInRefIdeal.defs _ _).mono (fun r h => ⟨fun c => (h c).2.2.2,
      Idealize.ShloMosaic.sem_eq_zero_of_no_sems (by decide) r.2⟩)
    (Cert.AdamOdInRefIdeal.Value.run m ρ)

theorem algebraic : Cert.algebraic_AdamOdInIdeal_AdamOdInRefIdeal := by
  pair_intro
  · run_from Cert.AdamOdInIdeal.Gen.run_main m g
  · run_from Cert.AdamOdInRefIdeal.Value.run m' g'
    · refine Eq.trans ?_ (Cert.AdamOdInIdeal.Value.final4 m c).symm
      rfl
    · refine Eq.trans ?_ (Cert.AdamOdInIdeal.Value.final5 m c).symm
      rfl
    · refine Eq.trans ?_ (Cert.AdamOdInIdeal.Value.final6 m c).symm
      rfl

end Ffn.AdamOdIn
-- ==== Proof.Adam.Ffn.lean ====
/- The optimiser's update of a weight of 1408 by 1024: the step and the two new moments. -/
module

public import proofs.«01_k».proof.Proof.Gen.AdamFfnIdeal.Value
public import proofs.«01_k».proof.Proof.Gen.AdamFfnRefIdeal.Run
public import proofs.«01_k».proof.Proof.Gen.AdamFfnRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.AdamFfn

open Idealize.ShloMosaic Idealize.ShloMosaic.TcCoe Idealize.SL.Sem
open Cert.AdamFfnIdeal Cert.AdamFfnIdeal.Gen

theorem frame_reference : Cert.quiescent_AdamFfnRefIdeal := by
  intro m ρ _
  exact (θ_run Cert.AdamFfnRefIdeal.defs _ _).mono (fun r h => ⟨fun c => (h c).2.2.2,
      Idealize.ShloMosaic.sem_eq_zero_of_no_sems (by decide) r.2⟩)
    (Cert.AdamFfnRefIdeal.Value.run m ρ)

theorem algebraic : Cert.algebraic_AdamFfnIdeal_AdamFfnRefIdeal := by
  pair_intro
  · run_from Cert.AdamFfnIdeal.Gen.run_main m g
  · run_from Cert.AdamFfnRefIdeal.Value.run m' g'
    · refine Eq.trans ?_ (Cert.AdamFfnIdeal.Value.final4 m c).symm
      rfl
    · refine Eq.trans ?_ (Cert.AdamFfnIdeal.Value.final5 m c).symm
      rfl
    · refine Eq.trans ?_ (Cert.AdamFfnIdeal.Value.final6 m c).symm
      rfl

end Ffn.AdamFfn
-- ==== Proof.Adam.Norm.lean ====
/- The optimiser's update of a weight of 1 by 1024: the step and the two new moments. -/
module

public import proofs.«01_k».proof.Proof.Gen.AdamNormIdeal.Value
public import proofs.«01_k».proof.Proof.Gen.AdamNormRefIdeal.Run
public import proofs.«01_k».proof.Proof.Gen.AdamNormRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.AdamNorm

open Idealize.ShloMosaic Idealize.ShloMosaic.TcCoe Idealize.SL.Sem
open Cert.AdamNormIdeal Cert.AdamNormIdeal.Gen

theorem frame_reference : Cert.quiescent_AdamNormRefIdeal := by
  intro m ρ _
  exact (θ_run Cert.AdamNormRefIdeal.defs _ _).mono (fun r h => ⟨fun c => (h c).2.2.2,
      Idealize.ShloMosaic.sem_eq_zero_of_no_sems (by decide) r.2⟩)
    (Cert.AdamNormRefIdeal.Value.run m ρ)

theorem algebraic : Cert.algebraic_AdamNormIdeal_AdamNormRefIdeal := by
  pair_intro
  · run_from Cert.AdamNormIdeal.Gen.run_main m g
  · run_from Cert.AdamNormRefIdeal.Value.run m' g'
    · refine Eq.trans ?_ (Cert.AdamNormIdeal.Value.final4 m c).symm
      rfl
    · refine Eq.trans ?_ (Cert.AdamNormIdeal.Value.final5 m c).symm
      rfl
    · refine Eq.trans ?_ (Cert.AdamNormIdeal.Value.final6 m c).symm
      rfl

end Ffn.AdamNorm
-- ==== Proof.Adam.Sink.lean ====
/- The optimiser's update of a weight of 1 by 8: the step and the two new moments. -/
module

public import proofs.«01_k».proof.Proof.Gen.AdamSinkIdeal.Value
public import proofs.«01_k».proof.Proof.Gen.AdamSinkRefIdeal.Run
public import proofs.«01_k».proof.Proof.Gen.AdamSinkRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.AdamSink

open Idealize.ShloMosaic Idealize.ShloMosaic.TcCoe Idealize.SL.Sem
open Cert.AdamSinkIdeal Cert.AdamSinkIdeal.Gen

theorem frame_reference : Cert.quiescent_AdamSinkRefIdeal := by
  intro m ρ _
  exact (θ_run Cert.AdamSinkRefIdeal.defs _ _).mono (fun r h => ⟨fun c => (h c).2.2.2,
      Idealize.ShloMosaic.sem_eq_zero_of_no_sems (by decide) r.2⟩)
    (Cert.AdamSinkRefIdeal.Value.run m ρ)

theorem algebraic : Cert.algebraic_AdamSinkIdeal_AdamSinkRefIdeal := by
  pair_intro
  · run_from Cert.AdamSinkIdeal.Gen.run_main m g
  · run_from Cert.AdamSinkRefIdeal.Value.run m' g'
    · refine Eq.trans ?_ (Cert.AdamSinkIdeal.Value.final4 m c).symm
      rfl
    · refine Eq.trans ?_ (Cert.AdamSinkIdeal.Value.final5 m c).symm
      rfl
    · refine Eq.trans ?_ (Cert.AdamSinkIdeal.Value.final6 m c).symm
      rfl

end Ffn.AdamSink
-- ==== Proof.Adam.Conv.lean ====
/- The optimiser's update of a weight of 1 by 512: the step and the two new moments. -/
module

public import proofs.«01_k».proof.Proof.Gen.AdamConvIdeal.Value
public import proofs.«01_k».proof.Proof.Gen.AdamConvRefIdeal.Run
public import proofs.«01_k».proof.Proof.Gen.AdamConvRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.AdamConv

open Idealize.ShloMosaic Idealize.ShloMosaic.TcCoe Idealize.SL.Sem
open Cert.AdamConvIdeal Cert.AdamConvIdeal.Gen

theorem frame_reference : Cert.quiescent_AdamConvRefIdeal := by
  intro m ρ _
  exact (θ_run Cert.AdamConvRefIdeal.defs _ _).mono (fun r h => ⟨fun c => (h c).2.2.2,
      Idealize.ShloMosaic.sem_eq_zero_of_no_sems (by decide) r.2⟩)
    (Cert.AdamConvRefIdeal.Value.run m ρ)

theorem algebraic : Cert.algebraic_AdamConvIdeal_AdamConvRefIdeal := by
  pair_intro
  · run_from Cert.AdamConvIdeal.Gen.run_main m g
  · run_from Cert.AdamConvRefIdeal.Value.run m' g'
    · refine Eq.trans ?_ (Cert.AdamConvIdeal.Value.final4 m c).symm
      rfl
    · refine Eq.trans ?_ (Cert.AdamConvIdeal.Value.final5 m c).symm
      rfl
    · refine Eq.trans ?_ (Cert.AdamConvIdeal.Value.final6 m c).symm
      rfl

end Ffn.AdamConv
-- ==== Proof.Adam.Spatial.lean ====
/- The optimiser's update of a weight of 1024 by 128: the step and the two new moments. -/
module

public import proofs.«01_k».proof.Proof.Gen.AdamSpatialIdeal.Value
public import proofs.«01_k».proof.Proof.Gen.AdamSpatialRefIdeal.Run
public import proofs.«01_k».proof.Proof.Gen.AdamSpatialRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.AdamSpatial

open Idealize.ShloMosaic Idealize.ShloMosaic.TcCoe Idealize.SL.Sem
open Cert.AdamSpatialIdeal Cert.AdamSpatialIdeal.Gen

theorem frame_reference : Cert.quiescent_AdamSpatialRefIdeal := by
  intro m ρ _
  exact (θ_run Cert.AdamSpatialRefIdeal.defs _ _).mono (fun r h => ⟨fun c => (h c).2.2.2,
      Idealize.ShloMosaic.sem_eq_zero_of_no_sems (by decide) r.2⟩)
    (Cert.AdamSpatialRefIdeal.Value.run m ρ)

theorem algebraic : Cert.algebraic_AdamSpatialIdeal_AdamSpatialRefIdeal := by
  pair_intro
  · run_from Cert.AdamSpatialIdeal.Gen.run_main m g
  · run_from Cert.AdamSpatialRefIdeal.Value.run m' g'
    · refine Eq.trans ?_ (Cert.AdamSpatialIdeal.Value.final4 m c).symm
      rfl
    · refine Eq.trans ?_ (Cert.AdamSpatialIdeal.Value.final5 m c).symm
      rfl
    · refine Eq.trans ?_ (Cert.AdamSpatialIdeal.Value.final6 m c).symm
      rfl

end Ffn.AdamSpatial
-- ==== Proof.Adam.Bias.lean ====
/- The optimiser's update of a weight of 8 by 128: the step and the two new moments. -/
module

public import proofs.«01_k».proof.Proof.Gen.AdamBiasIdeal.Value
public import proofs.«01_k».proof.Proof.Gen.AdamBiasRefIdeal.Run
public import proofs.«01_k».proof.Proof.Gen.AdamBiasRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.AdamBias

open Idealize.ShloMosaic Idealize.ShloMosaic.TcCoe Idealize.SL.Sem
open Cert.AdamBiasIdeal Cert.AdamBiasIdeal.Gen

theorem frame_reference : Cert.quiescent_AdamBiasRefIdeal := by
  intro m ρ _
  exact (θ_run Cert.AdamBiasRefIdeal.defs _ _).mono (fun r h => ⟨fun c => (h c).2.2.2,
      Idealize.ShloMosaic.sem_eq_zero_of_no_sems (by decide) r.2⟩)
    (Cert.AdamBiasRefIdeal.Value.run m ρ)

theorem algebraic : Cert.algebraic_AdamBiasIdeal_AdamBiasRefIdeal := by
  pair_intro
  · run_from Cert.AdamBiasIdeal.Gen.run_main m g
  · run_from Cert.AdamBiasRefIdeal.Value.run m' g'
    · refine Eq.trans ?_ (Cert.AdamBiasIdeal.Value.final4 m c).symm
      rfl
    · refine Eq.trans ?_ (Cert.AdamBiasIdeal.Value.final5 m c).symm
      rfl
    · refine Eq.trans ?_ (Cert.AdamBiasIdeal.Value.final6 m c).symm
      rfl

end Ffn.AdamBias
-- ==== Proof.Adam.Norms.lean ====
/- The optimiser's update of a weight of 2 by 1024: the step and the two new moments. -/
module

public import proofs.«01_k».proof.Proof.Gen.AdamNormsIdeal.Value
public import proofs.«01_k».proof.Proof.Gen.AdamNormsRefIdeal.Run
public import proofs.«01_k».proof.Proof.Gen.AdamNormsRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.AdamNorms

open Idealize.ShloMosaic Idealize.ShloMosaic.TcCoe Idealize.SL.Sem
open Cert.AdamNormsIdeal Cert.AdamNormsIdeal.Gen

theorem frame_reference : Cert.quiescent_AdamNormsRefIdeal := by
  intro m ρ _
  exact (θ_run Cert.AdamNormsRefIdeal.defs _ _).mono (fun r h => ⟨fun c => (h c).2.2.2,
      Idealize.ShloMosaic.sem_eq_zero_of_no_sems (by decide) r.2⟩)
    (Cert.AdamNormsRefIdeal.Value.run m ρ)

theorem algebraic : Cert.algebraic_AdamNormsIdeal_AdamNormsRefIdeal := by
  pair_intro
  · run_from Cert.AdamNormsIdeal.Gen.run_main m g
  · run_from Cert.AdamNormsRefIdeal.Value.run m' g'
    · refine Eq.trans ?_ (Cert.AdamNormsIdeal.Value.final4 m c).symm
      rfl
    · refine Eq.trans ?_ (Cert.AdamNormsIdeal.Value.final5 m c).symm
      rfl
    · refine Eq.trans ?_ (Cert.AdamNormsIdeal.Value.final6 m c).symm
      rfl

end Ffn.AdamNorms
-- ==== Proof.Adam.Taps.lean ====
/- The optimiser's update of a weight of 31 by 128: the step and the two new moments. -/
module

public import proofs.«01_k».proof.Proof.Gen.AdamTapsIdeal.Value
public import proofs.«01_k».proof.Proof.Gen.AdamTapsRefIdeal.Run
public import proofs.«01_k».proof.Proof.Gen.AdamTapsRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.AdamTaps

open Idealize.ShloMosaic Idealize.ShloMosaic.TcCoe Idealize.SL.Sem
open Cert.AdamTapsIdeal Cert.AdamTapsIdeal.Gen

theorem frame_reference : Cert.quiescent_AdamTapsRefIdeal := by
  intro m ρ _
  exact (θ_run Cert.AdamTapsRefIdeal.defs _ _).mono (fun r h => ⟨fun c => (h c).2.2.2,
      Idealize.ShloMosaic.sem_eq_zero_of_no_sems (by decide) r.2⟩)
    (Cert.AdamTapsRefIdeal.Value.run m ρ)

theorem algebraic : Cert.algebraic_AdamTapsIdeal_AdamTapsRefIdeal := by
  pair_intro
  · run_from Cert.AdamTapsIdeal.Gen.run_main m g
  · run_from Cert.AdamTapsRefIdeal.Value.run m' g'
    · refine Eq.trans ?_ (Cert.AdamTapsIdeal.Value.final4 m c).symm
      rfl
    · refine Eq.trans ?_ (Cert.AdamTapsIdeal.Value.final5 m c).symm
      rfl
    · refine Eq.trans ?_ (Cert.AdamTapsIdeal.Value.final6 m c).symm
      rfl

end Ffn.AdamTaps
-- ==== Proof.Adam.OdNorm.lean ====
/- The optimiser's update of a weight of 1 by 256: the step and the two new moments. -/
module

public import proofs.«01_k».proof.Proof.Gen.AdamOdNormIdeal.Value
public import proofs.«01_k».proof.Proof.Gen.AdamOdNormRefIdeal.Run
public import proofs.«01_k».proof.Proof.Gen.AdamOdNormRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.AdamOdNorm

open Idealize.ShloMosaic Idealize.ShloMosaic.TcCoe Idealize.SL.Sem
open Cert.AdamOdNormIdeal Cert.AdamOdNormIdeal.Gen

theorem frame_reference : Cert.quiescent_AdamOdNormRefIdeal := by
  intro m ρ _
  exact (θ_run Cert.AdamOdNormRefIdeal.defs _ _).mono (fun r h => ⟨fun c => (h c).2.2.2,
      Idealize.ShloMosaic.sem_eq_zero_of_no_sems (by decide) r.2⟩)
    (Cert.AdamOdNormRefIdeal.Value.run m ρ)

theorem algebraic : Cert.algebraic_AdamOdNormIdeal_AdamOdNormRefIdeal := by
  pair_intro
  · run_from Cert.AdamOdNormIdeal.Gen.run_main m g
  · run_from Cert.AdamOdNormRefIdeal.Value.run m' g'
    · refine Eq.trans ?_ (Cert.AdamOdNormIdeal.Value.final4 m c).symm
      rfl
    · refine Eq.trans ?_ (Cert.AdamOdNormIdeal.Value.final5 m c).symm
      rfl
    · refine Eq.trans ?_ (Cert.AdamOdNormIdeal.Value.final6 m c).symm
      rfl

end Ffn.AdamOdNorm
-- ==== Proof.Adam.Gate.lean ====
/- The optimiser's update of a weight of 1 by 128: the step and the two new moments. -/
module

public import proofs.«01_k».proof.Proof.Gen.AdamGateIdeal.Value
public import proofs.«01_k».proof.Proof.Gen.AdamGateRefIdeal.Run
public import proofs.«01_k».proof.Proof.Gen.AdamGateRefIdeal.Read
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.AdamGate

open Idealize.ShloMosaic Idealize.ShloMosaic.TcCoe Idealize.SL.Sem
open Cert.AdamGateIdeal Cert.AdamGateIdeal.Gen

theorem frame_reference : Cert.quiescent_AdamGateRefIdeal := by
  intro m ρ _
  exact (θ_run Cert.AdamGateRefIdeal.defs _ _).mono (fun r h => ⟨fun c => (h c).2.2.2,
      Idealize.ShloMosaic.sem_eq_zero_of_no_sems (by decide) r.2⟩)
    (Cert.AdamGateRefIdeal.Value.run m ρ)

theorem algebraic : Cert.algebraic_AdamGateIdeal_AdamGateRefIdeal := by
  pair_intro
  · run_from Cert.AdamGateIdeal.Gen.run_main m g
  · run_from Cert.AdamGateRefIdeal.Value.run m' g'
    · refine Eq.trans ?_ (Cert.AdamGateIdeal.Value.final4 m c).symm
      rfl
    · refine Eq.trans ?_ (Cert.AdamGateIdeal.Value.final5 m c).symm
      rfl
    · refine Eq.trans ?_ (Cert.AdamGateIdeal.Value.final6 m c).symm
      rfl

end Ffn.AdamGate
-- ==== Proof.Mix.Sum.lean ====
/- The eight devices' packed gradients added in order. -/
module

public import proofs.«01_k».proof.Proof.Gen.SumIdeal.Value
public import proofs.«01_k».proof.Proof.Gen.SumRefIdeal.Run
public import proofs.«01_k».proof.Proof.Gen.SumRefIdeal.Read
public import proofs.«01_k».proof.Proof.Ffn.Fin
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Quiescent
public import proofs.«01_k».proof.Defs

@[expose] public section

set_option maxRecDepth 16384

noncomputable section

namespace Ffn.Sum

open Idealize.ShloMosaic Idealize.ShloMosaic.TcCoe Idealize.SL.Sem
open Cert.SumIdeal Cert.SumIdeal.Gen

/-- The sum over the devices. -/
def total (X : S8x1536x128.Idx → EReal) (i : S1536x128.Idx) : EReal :=
  ∑ k : Fin 8, X (ix3 k (i 0) (i 1))

section Block

variable (x : Vec Ideal S8x512x128 .f32)

/-- The same at one block. -/
def btotal (X : S8x512x128.Idx → EReal) (y : S512x128.Idx) : EReal :=
  ∑ k : Fin 8, X (ix3 k (y 0) (y 1))

theorem plane (o : Fin 8) (p q r : Nat) (hi) (a : Fin 1) (b : Fin 512) (d : Fin 128) (hp : p = o.val) (hq : q = 0) (hr : r = 0) :
    View.ld (Val := Elt Ideal) x (Rect.unit (s := S8x512x128) ![p, q, r] S1x512x128.size hi) (ix3 a b d) = x (ix3 o b d) := by
  subst hp hq hr
  exact congrArg x (funext fun e => match e with
    | ⟨0, _⟩ => Fin.ext (by show o.val + 1 * a.val = o.val; omega)
    | ⟨1, _⟩ => Fin.ext (by show 0 + 1 * b.val = b.val; omega)
    | ⟨2, _⟩ => Fin.ext (by show 0 + 1 * d.val = d.val; omega))

theorem pay_at (P0 P1 P2 P3 P4 P5 P6 P7 : Vec Ideal S1x512x128 .f32) (y : S512x128.Idx) :
    (k0_pay1 (F := Ideal) P0 P1 P2 P3 P4 P5 P6 P7 y : EReal)
      = P0 (ix3 0 (y 0) (y 1)) + P1 (ix3 0 (y 0) (y 1)) + P2 (ix3 0 (y 0) (y 1)) + P3 (ix3 0 (y 0) (y 1))
        + P4 (ix3 0 (y 0) (y 1)) + P5 (ix3 0 (y 0) (y 1)) + P6 (ix3 0 (y 0) (y 1)) + P7 (ix3 0 (y 0) (y 1)) := by
  pointwise [k0_pay1]

theorem total_at (y : S512x128.Idx) :
    (k0_pay1 (F := Ideal) (View.ld x r0_0) (View.ld x r0_1) (View.ld x r0_2) (View.ld x r0_3) (View.ld x r0_4) (View.ld x r0_5) (View.ld x r0_6) (View.ld x r0_7) y : EReal)
      = btotal x y := by
  refine (pay_at _ _ _ _ _ _ _ _ y).trans ?_
  unfold btotal
  rw [Fin.sum_univ_eight]
  exact congrArg₂ (· + ·) (congrArg₂ (· + ·) (congrArg₂ (· + ·) (congrArg₂ (· + ·) (congrArg₂ (· + ·) (congrArg₂ (· + ·) (congrArg₂ (· + ·)
    (plane x 0 0 0 0 _ 0 (y 0) (y 1) rfl rfl rfl) (plane x 1 1 0 0 _ 0 (y 0) (y 1) rfl rfl rfl)) (plane x 2 2 0 0 _ 0 (y 0) (y 1) rfl rfl rfl))
    (plane x 3 3 0 0 _ 0 (y 0) (y 1) rfl rfl rfl)) (plane x 4 4 0 0 _ 0 (y 0) (y 1) rfl rfl rfl)) (plane x 5 5 0 0 _ 0 (y 0) (y 1) rfl rfl rfl))
    (plane x 6 6 0 0 _ 0 (y 0) (y 1) rfl rfl rfl)) (plane x 7 7 0 0 _ 0 (y 0) (y 1) rfl rfl rfl)

end Block

variable (m : (ℓ : Loc nD τ sig) → Buf (Elt Ideal) ℓ) (c : Dev nD)

theorem idx : ∀ t : Fin cfg0.N, win0_0.index t = ![0, t.val, 0] ∧ win0_1.index t = ![t.val, 0] :=
  (by decide +kernel : ∀ t : Fin grid0.N, _)

theorem final1 : (dats m 0 c).arrAt 1 cfg0.N = fun i : S1536x128.Idx =>
    total (m ((c : Thread nD τ).loc main_arg0)) i := by
  refine (dats m 0 c).arrAt_eq_of_covers 1 _ (by decide +kernel) fun t hf y => ?_
  blk_simp
  rw [after0_1]
  unfold out0_1
  frame_out
  rw [total_at]
  unfold btotal total
  blk_point [iblk, V, idx t]

section Reference

variable (x0 : Vec Ideal S8x1536x128 .f32)

open Cert.SumRefIdeal.Read

theorem ref_total (i : S1536x128.Idx) : (val_main_v0 (F := Ideal) x0 i : EReal) = total x0 i := by
  pointwise [total, val_main_v0, val_main_cst]

end Reference

theorem frame_reference : Cert.quiescent_SumRefIdeal := by
  intro m ρ _
  exact (θ_run Cert.SumRefIdeal.defs _ _).mono (fun r h => ⟨fun c => (h c).2,
      Idealize.ShloMosaic.sem_eq_zero_of_no_sems (by decide) r.2⟩)
    (Cert.SumRefIdeal.Value.run m ρ)

theorem algebraic : Cert.algebraic_SumIdeal_SumRefIdeal := by
  pair_intro
  · run_from Cert.SumIdeal.Gen.run_main m g
  · refine θ_run_mono (Cert.SumRefIdeal.Value.run m' g') ?_
    intro r hr c
    refine ⟨(hr c).1.trans ?_, (hr c).2⟩
    rw [hagree c]
    have key : Cert.SumRefIdeal.Read.val_main_v0 (F := Ideal) (m ((c : Thread nD τ).loc main_arg0)) = (dats m 0 c).arrAt 1 cfg0.N :=
      (funext fun i => ref_total _ i).trans (final1 m c).symm
    exact (Cert.SumRefIdeal.Read.val_main_v0_eq (F := Ideal) (m ((c : Thread nD τ).loc main_arg0))).trans key

end Ffn.Sum
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.GateUpIdeal.Value
public import proofs.«01_k».proof.Proof.Gen.GateUp.Frame
public import proofs.«01_k».proof.Proof.Gen.GateUpRefIdeal.Run
public import proofs.«01_k».proof.Proof.Gen.GateUpRefIdeal.Read
public import proofs.«01_k».proof.Proof.Gen.DactIdeal.Value
public import proofs.«01_k».proof.Proof.Gen.Dact.Frame
public import proofs.«01_k».proof.Proof.Gen.DactRefIdeal.Run
public import proofs.«01_k».proof.Proof.Gen.DactRefIdeal.Read
public import proofs.«01_k».proof.Proof.Gen.DwIdeal.Value
public import proofs.«01_k».proof.Proof.Gen.Dw.Frame
public import proofs.«01_k».proof.Proof.Gen.DwRefIdeal.Run
public import proofs.«01_k».proof.Proof.Gen.DwRefIdeal.Read
public import proofs.«01_k».proof.Proof.Gen.DnormIdeal.Value
public import proofs.«01_k».proof.Proof.Gen.Dnorm.Frame
public import proofs.«01_k».proof.Proof.Gen.DnormRefIdeal.Run
public import proofs.«01_k».proof.Proof.Gen.DnormRefIdeal.Read
public import proofs.«01_k».proof.Proof.Gen.DmixIdeal.Value
public import proofs.«01_k».proof.Proof.Gen.Dmix.Frame
public import proofs.«01_k».proof.Proof.Gen.DmixRefIdeal.Run
public import proofs.«01_k».proof.Proof.Gen.DmixRefIdeal.Read
public import proofs.«01_k».proof.Proof.Gen.DwoutIdeal.Value
public import proofs.«01_k».proof.Proof.Gen.Dwout.Frame
public import proofs.«01_k».proof.Proof.Gen.DwoutRefIdeal.Run
public import proofs.«01_k».proof.Proof.Gen.DwoutRefIdeal.Read
public import proofs.«01_k».proof.Proof.Gen.DwinEvIdeal.Value
public import proofs.«01_k».proof.Proof.Gen.DwinEv.Frame
public import proofs.«01_k».proof.Proof.Gen.DwinEvRefIdeal.Run
public import proofs.«01_k».proof.Proof.Gen.DwinEvRefIdeal.Read
public import proofs.«01_k».proof.Proof.Gen.DwinOdIdeal.Value
public import proofs.«01_k».proof.Proof.Gen.DwinOd.Frame
public import proofs.«01_k».proof.Proof.Gen.DwinOdRefIdeal.Run
public import proofs.«01_k».proof.Proof.Gen.DwinOdRefIdeal.Read
public import proofs.«01_k».proof.Proof.Gen.DnormEvIdeal.Value
public import proofs.«01_k».proof.Proof.Gen.DnormEv.Frame
public import proofs.«01_k».proof.Proof.Gen.DnormEvRefIdeal.Run
public import proofs.«01_k».proof.Proof.Gen.DnormEvRefIdeal.Read
public import proofs.«01_k».proof.Proof.Gen.DnormOdIdeal.Value
public import proofs.«01_k».proof.Proof.Gen.DnormOd.Frame
public import proofs.«01_k».proof.Proof.Gen.DnormOdRefIdeal.Run
public import proofs.«01_k».proof.Proof.Gen.DnormOdRefIdeal.Read
public import proofs.«01_k».proof.Proof.Gen.LossIdeal.Value
public import proofs.«01_k».proof.Proof.Gen.Loss.Frame
public import proofs.«01_k».proof.Proof.Gen.LossRefIdeal.Run
public import proofs.«01_k».proof.Proof.Gen.LossRefIdeal.Read
public import proofs.«01_k».proof.Proof.Gen.DownIdeal.Value
public import proofs.«01_k».proof.Proof.Gen.Down.Frame
public import proofs.«01_k».proof.Proof.Gen.DownRefIdeal.Run
public import proofs.«01_k».proof.Proof.Gen.DownRefIdeal.Read
public import proofs.«01_k».proof.Proof.Gen.OutIdeal.Value
public import proofs.«01_k».proof.Proof.Gen.Out.Frame
public import proofs.«01_k».proof.Proof.Gen.OutRefIdeal.Run
public import proofs.«01_k».proof.Proof.Gen.OutRefIdeal.Read
public import proofs.«01_k».proof.Proof.Gen.InEvIdeal.Value
public import proofs.«01_k».proof.Proof.Gen.InEv.Frame
public import proofs.«01_k».proof.Proof.Gen.InEvRefIdeal.Run
public import proofs.«01_k».proof.Proof.Gen.InEvRefIdeal.Read
public import proofs.«01_k».proof.Proof.Gen.InOdIdeal.Value
public import proofs.«01_k».proof.Proof.Gen.InOd.Frame
public import proofs.«01_k».proof.Proof.Gen.InOdRefIdeal.Run
public import proofs.«01_k».proof.Proof.Gen.InOdRefIdeal.Read
public import proofs.«01_k».proof.Proof.Gen.NormIdeal.Value
public import proofs.«01_k».proof.Proof.Gen.Norm.Frame
public import proofs.«01_k».proof.Proof.Gen.NormRefIdeal.Run
public import proofs.«01_k».proof.Proof.Gen.NormRefIdeal.Read
public import proofs.«01_k».proof.Proof.Gen.TailIdeal.Value
public import proofs.«01_k».proof.Proof.Gen.Tail.Frame
public import proofs.«01_k».proof.Proof.Gen.TailRefIdeal.Run
public import proofs.«01_k».proof.Proof.Gen.TailRefIdeal.Read
public import proofs.«01_k».proof.Proof.Gen.AdamEvInIdeal.Value
public import proofs.«01_k».proof.Proof.Gen.AdamEvIn.Frame
public import proofs.«01_k».proof.Proof.Gen.AdamEvInRefIdeal.Run
public import proofs.«01_k».proof.Proof.Gen.AdamEvInRefIdeal.Read
public import proofs.«01_k».proof.Proof.Gen.AdamOutIdeal.Value
public import proofs.«01_k».proof.Proof.Gen.AdamOut.Frame
public import proofs.«01_k».proof.Proof.Gen.AdamOutRefIdeal.Run
public import proofs.«01_k».proof.Proof.Gen.AdamOutRefIdeal.Read
public import proofs.«01_k».proof.Proof.Gen.AdamOdInIdeal.Value
public import proofs.«01_k».proof.Proof.Gen.AdamOdIn.Frame
public import proofs.«01_k».proof.Proof.Gen.AdamOdInRefIdeal.Run
public import proofs.«01_k».proof.Proof.Gen.AdamOdInRefIdeal.Read
public import proofs.«01_k».proof.Proof.Gen.AdamFfnIdeal.Value
public import proofs.«01_k».proof.Proof.Gen.AdamFfn.Frame
public import proofs.«01_k».proof.Proof.Gen.AdamFfnRefIdeal.Run
public import proofs.«01_k».proof.Proof.Gen.AdamFfnRefIdeal.Read
public import proofs.«01_k».proof.Proof.Gen.AdamNormIdeal.Value
public import proofs.«01_k».proof.Proof.Gen.AdamNorm.Frame
public import proofs.«01_k».proof.Proof.Gen.AdamNormRefIdeal.Run
public import proofs.«01_k».proof.Proof.Gen.AdamNormRefIdeal.Read
public import proofs.«01_k».proof.Proof.Gen.AdamSinkIdeal.Value
public import proofs.«01_k».proof.Proof.Gen.AdamSink.Frame
public import proofs.«01_k».proof.Proof.Gen.AdamSinkRefIdeal.Run
public import proofs.«01_k».proof.Proof.Gen.AdamSinkRefIdeal.Read
public import proofs.«01_k».proof.Proof.Gen.AdamConvIdeal.Value
public import proofs.«01_k».proof.Proof.Gen.AdamConv.Frame
public import proofs.«01_k».proof.Proof.Gen.AdamConvRefIdeal.Run
public import proofs.«01_k».proof.Proof.Gen.AdamConvRefIdeal.Read
public import proofs.«01_k».proof.Proof.Gen.AdamSpatialIdeal.Value
public import proofs.«01_k».proof.Proof.Gen.AdamSpatial.Frame
public import proofs.«01_k».proof.Proof.Gen.AdamSpatialRefIdeal.Run
public import proofs.«01_k».proof.Proof.Gen.AdamSpatialRefIdeal.Read
public import proofs.«01_k».proof.Proof.Gen.AdamBiasIdeal.Value
public import proofs.«01_k».proof.Proof.Gen.AdamBias.Frame
public import proofs.«01_k».proof.Proof.Gen.AdamBiasRefIdeal.Run
public import proofs.«01_k».proof.Proof.Gen.AdamBiasRefIdeal.Read
public import proofs.«01_k».proof.Proof.Gen.AdamNormsIdeal.Value
public import proofs.«01_k».proof.Proof.Gen.AdamNorms.Frame
public import proofs.«01_k».proof.Proof.Gen.AdamNormsRefIdeal.Run
public import proofs.«01_k».proof.Proof.Gen.AdamNormsRefIdeal.Read
public import proofs.«01_k».proof.Proof.Gen.AdamTapsIdeal.Value
public import proofs.«01_k».proof.Proof.Gen.AdamTaps.Frame
public import proofs.«01_k».proof.Proof.Gen.AdamTapsRefIdeal.Run
public import proofs.«01_k».proof.Proof.Gen.AdamTapsRefIdeal.Read
public import proofs.«01_k».proof.Proof.Gen.AdamOdNormIdeal.Value
public import proofs.«01_k».proof.Proof.Gen.AdamOdNorm.Frame
public import proofs.«01_k».proof.Proof.Gen.AdamOdNormRefIdeal.Run
public import proofs.«01_k».proof.Proof.Gen.AdamOdNormRefIdeal.Read
public import proofs.«01_k».proof.Proof.Gen.AdamGateIdeal.Value
public import proofs.«01_k».proof.Proof.Gen.AdamGate.Frame
public import proofs.«01_k».proof.Proof.Gen.AdamGateRefIdeal.Run
public import proofs.«01_k».proof.Proof.Gen.AdamGateRefIdeal.Read
public import proofs.«01_k».proof.Proof.Gen.SumIdeal.Value
public import proofs.«01_k».proof.Proof.Gen.Sum.Frame
public import proofs.«01_k».proof.Proof.Gen.SumRefIdeal.Run
public import proofs.«01_k».proof.Proof.Gen.SumRefIdeal.Read
public import proofs.«01_k».proof.Proof.Conv.Final
public import proofs.«01_k».proof.Proof.Ffn.GateUp
public import proofs.«01_k».proof.Proof.Ffn.Dact
public import proofs.«01_k».proof.Proof.Ffn.Dw
public import proofs.«01_k».proof.Proof.Ffn.Dnorm
public import proofs.«01_k».proof.Proof.Proj.Dmix
public import proofs.«01_k».proof.Proof.Proj.Dwout
public import proofs.«01_k».proof.Proof.Proj.DwinEv
public import proofs.«01_k».proof.Proof.Proj.DwinOd
public import proofs.«01_k».proof.Proof.Proj.DnormEv
public import proofs.«01_k».proof.Proof.Proj.DnormOd
public import proofs.«01_k».proof.Proof.Proj.Loss
public import proofs.«01_k».proof.Proof.Proj.Down
public import proofs.«01_k».proof.Proof.Proj.Out
public import proofs.«01_k».proof.Proof.Proj.InEv
public import proofs.«01_k».proof.Proof.Proj.InOd
public import proofs.«01_k».proof.Proof.Proj.Norm
public import proofs.«01_k».proof.Proof.Proj.Tail
public import proofs.«01_k».proof.Proof.Adam.EvIn
public import proofs.«01_k».proof.Proof.Adam.Out
public import proofs.«01_k».proof.Proof.Adam.OdIn
public import proofs.«01_k».proof.Proof.Adam.Ffn
public import proofs.«01_k».proof.Proof.Adam.Norm
public import proofs.«01_k».proof.Proof.Adam.Sink
public import proofs.«01_k».proof.Proof.Adam.Conv
public import proofs.«01_k».proof.Proof.Adam.Spatial
public import proofs.«01_k».proof.Proof.Adam.Bias
public import proofs.«01_k».proof.Proof.Adam.Norms
public import proofs.«01_k».proof.Proof.Adam.Taps
public import proofs.«01_k».proof.Proof.Adam.OdNorm
public import proofs.«01_k».proof.Proof.Adam.Gate
public import proofs.«01_k».proof.Proof.Mix.Sum
public import proofs.«01_k».proof.Defs
public import Idealize.ShloMosaic.Lib.Claim
public import Idealize.ShloMosaic.Lib.Quiescent
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The gradient of the gated convolution: both results, element by element. -/
theorem algebraic : Cert.algebraic_KernelIdeal_ReferenceIdeal := by
  pair_intro
  · run_from Cert.KernelIdeal.Gen.run_main m g
  · run_from Cert.ReferenceIdeal.Value.run m' g'
    · rw [Cert.ReferenceIdeal.Read.val_main_v50_eq, (hagree c).1, (hagree c).2.1, (hagree c).2.2]
      exact (funext fun i => Conv.ref_dglu _ _ _ i).trans (Conv.final5 m c).symm
    · refine (Cert.ReferenceIdeal.Read.val_main_v41_eq _ _).trans ?_
      exact (funext fun i => Conv.ref_dw _ _ i).trans (Conv.final6 m c).symm

/-- The reference ends with its arguments unchanged; it declares no semaphore. -/
theorem frame_reference : Cert.quiescent_ReferenceIdeal := by
  intro m ρ _
  exact (θ_run Cert.ReferenceIdeal.defs _ _).mono (fun r h => ⟨fun c => (h c).2.2,
      Idealize.ShloMosaic.sem_eq_zero_of_no_sems (by decide) r.2⟩)
    (Cert.ReferenceIdeal.Value.run m ρ)

theorem claim : Cert.Claim := ⟨Cert.Kernel.Gen.facts, Cert.KernelIdeal.Gen.facts, Cert.ReferenceIdeal.Gen.facts, Cert.GateUp.Gen.facts, Cert.GateUpIdeal.Gen.facts, Cert.GateUpRefIdeal.Gen.facts, Cert.Dact.Gen.facts, Cert.DactIdeal.Gen.facts, Cert.DactRefIdeal.Gen.facts, Cert.Dw.Gen.facts, Cert.DwIdeal.Gen.facts, Cert.DwRefIdeal.Gen.facts, Cert.Dnorm.Gen.facts, Cert.DnormIdeal.Gen.facts, Cert.DnormRefIdeal.Gen.facts, Cert.Dmix.Gen.facts, Cert.DmixIdeal.Gen.facts, Cert.DmixRefIdeal.Gen.facts, Cert.Dwout.Gen.facts, Cert.DwoutIdeal.Gen.facts, Cert.DwoutRefIdeal.Gen.facts, Cert.DwinEv.Gen.facts, Cert.DwinEvIdeal.Gen.facts, Cert.DwinEvRefIdeal.Gen.facts, Cert.DwinOd.Gen.facts, Cert.DwinOdIdeal.Gen.facts, Cert.DwinOdRefIdeal.Gen.facts, Cert.DnormEv.Gen.facts, Cert.DnormEvIdeal.Gen.facts, Cert.DnormEvRefIdeal.Gen.facts, Cert.DnormOd.Gen.facts, Cert.DnormOdIdeal.Gen.facts, Cert.DnormOdRefIdeal.Gen.facts, Cert.Loss.Gen.facts, Cert.LossIdeal.Gen.facts, Cert.LossRefIdeal.Gen.facts, Cert.Down.Gen.facts, Cert.DownIdeal.Gen.facts, Cert.DownRefIdeal.Gen.facts, Cert.Out.Gen.facts, Cert.OutIdeal.Gen.facts, Cert.OutRefIdeal.Gen.facts, Cert.InEv.Gen.facts, Cert.InEvIdeal.Gen.facts, Cert.InEvRefIdeal.Gen.facts, Cert.InOd.Gen.facts, Cert.InOdIdeal.Gen.facts, Cert.InOdRefIdeal.Gen.facts, Cert.Norm.Gen.facts, Cert.NormIdeal.Gen.facts, Cert.NormRefIdeal.Gen.facts, Cert.Tail.Gen.facts, Cert.TailIdeal.Gen.facts, Cert.TailRefIdeal.Gen.facts, Cert.AdamEvIn.Gen.facts, Cert.AdamEvInIdeal.Gen.facts, Cert.AdamEvInRefIdeal.Gen.facts, Cert.AdamOut.Gen.facts, Cert.AdamOutIdeal.Gen.facts, Cert.AdamOutRefIdeal.Gen.facts, Cert.AdamOdIn.Gen.facts, Cert.AdamOdInIdeal.Gen.facts, Cert.AdamOdInRefIdeal.Gen.facts, Cert.AdamFfn.Gen.facts, Cert.AdamFfnIdeal.Gen.facts, Cert.AdamFfnRefIdeal.Gen.facts, Cert.AdamNorm.Gen.facts, Cert.AdamNormIdeal.Gen.facts, Cert.AdamNormRefIdeal.Gen.facts, Cert.AdamSink.Gen.facts, Cert.AdamSinkIdeal.Gen.facts, Cert.AdamSinkRefIdeal.Gen.facts, Cert.AdamConv.Gen.facts, Cert.AdamConvIdeal.Gen.facts, Cert.AdamConvRefIdeal.Gen.facts, Cert.AdamSpatial.Gen.facts, Cert.AdamSpatialIdeal.Gen.facts, Cert.AdamSpatialRefIdeal.Gen.facts, Cert.AdamBias.Gen.facts, Cert.AdamBiasIdeal.Gen.facts, Cert.AdamBiasRefIdeal.Gen.facts, Cert.AdamNorms.Gen.facts, Cert.AdamNormsIdeal.Gen.facts, Cert.AdamNormsRefIdeal.Gen.facts, Cert.AdamTaps.Gen.facts, Cert.AdamTapsIdeal.Gen.facts, Cert.AdamTapsRefIdeal.Gen.facts, Cert.AdamOdNorm.Gen.facts, Cert.AdamOdNormIdeal.Gen.facts, Cert.AdamOdNormRefIdeal.Gen.facts, Cert.AdamGate.Gen.facts, Cert.AdamGateIdeal.Gen.facts, Cert.AdamGateRefIdeal.Gen.facts, Cert.Sum.Gen.facts, Cert.SumIdeal.Gen.facts, Cert.SumRefIdeal.Gen.facts, Ffn.Dact.preFacts, Ffn.Tail.preFacts,
  fun m ρ _ => Cert.Kernel.Gen.frame m ρ,
  fun m ρ _ => Cert.KernelIdeal.Gen.frame m ρ,
  frame_reference,
  fun m ρ _ => Cert.GateUp.Gen.frame m ρ,
  fun m ρ _ => Cert.GateUpIdeal.Gen.frame m ρ,
  Ffn.GateUp.frame_reference,
  fun m ρ _ => Cert.Dact.Gen.frame m ρ,
  fun m ρ _ => Cert.DactIdeal.Gen.frame m ρ,
  fun m ρ _ => Cert.DactIdeal.Gen.frame m ρ,
  Ffn.Dact.frame_reference,
  fun m ρ _ => Ffn.Dact.frame_reference m ρ trivial,
  fun m ρ _ => Cert.Dw.Gen.frame m ρ,
  fun m ρ _ => Cert.DwIdeal.Gen.frame m ρ,
  Ffn.Dw.frame_reference,
  fun m ρ _ => Cert.Dnorm.Gen.frame m ρ,
  fun m ρ _ => Cert.DnormIdeal.Gen.frame m ρ,
  Ffn.Dnorm.frame_reference,
  fun m ρ _ => Cert.Dmix.Gen.frame m ρ,
  fun m ρ _ => Cert.DmixIdeal.Gen.frame m ρ,
  Ffn.Dmix.frame_reference,
  fun m ρ _ => Cert.Dwout.Gen.frame m ρ,
  fun m ρ _ => Cert.DwoutIdeal.Gen.frame m ρ,
  Ffn.Dwout.frame_reference,
  fun m ρ _ => Cert.DwinEv.Gen.frame m ρ,
  fun m ρ _ => Cert.DwinEvIdeal.Gen.frame m ρ,
  Ffn.DwinEv.frame_reference,
  fun m ρ _ => Cert.DwinOd.Gen.frame m ρ,
  fun m ρ _ => Cert.DwinOdIdeal.Gen.frame m ρ,
  Ffn.DwinOd.frame_reference,
  fun m ρ _ => Cert.DnormEv.Gen.frame m ρ,
  fun m ρ _ => Cert.DnormEvIdeal.Gen.frame m ρ,
  Ffn.DnormEv.frame_reference,
  fun m ρ _ => Cert.DnormOd.Gen.frame m ρ,
  fun m ρ _ => Cert.DnormOdIdeal.Gen.frame m ρ,
  Ffn.DnormOd.frame_reference,
  fun m ρ _ => Cert.Loss.Gen.frame m ρ,
  fun m ρ _ => Cert.LossIdeal.Gen.frame m ρ,
  Ffn.Loss.frame_reference,
  fun m ρ _ => Cert.Down.Gen.frame m ρ,
  fun m ρ _ => Cert.DownIdeal.Gen.frame m ρ,
  Ffn.Down.frame_reference,
  fun m ρ _ => Cert.Out.Gen.frame m ρ,
  fun m ρ _ => Cert.OutIdeal.Gen.frame m ρ,
  Ffn.Out.frame_reference,
  fun m ρ _ => Cert.InEv.Gen.frame m ρ,
  fun m ρ _ => Cert.InEvIdeal.Gen.frame m ρ,
  Ffn.InEv.frame_reference,
  fun m ρ _ => Cert.InOd.Gen.frame m ρ,
  fun m ρ _ => Cert.InOdIdeal.Gen.frame m ρ,
  Ffn.InOd.frame_reference,
  fun m ρ _ => Cert.Norm.Gen.frame m ρ,
  fun m ρ _ => Cert.NormIdeal.Gen.frame m ρ,
  Ffn.Norm.frame_reference,
  fun m ρ _ => Cert.Tail.Gen.frame m ρ,
  fun m ρ _ => Cert.TailIdeal.Gen.frame m ρ,
  fun m ρ _ => Cert.TailIdeal.Gen.frame m ρ,
  Ffn.Tail.frame_reference,
  fun m ρ _ => Ffn.Tail.frame_reference m ρ trivial,
  fun m ρ _ => Cert.AdamEvIn.Gen.frame m ρ,
  fun m ρ _ => Cert.AdamEvInIdeal.Gen.frame m ρ,
  Ffn.AdamEvIn.frame_reference,
  fun m ρ _ => Cert.AdamOut.Gen.frame m ρ,
  fun m ρ _ => Cert.AdamOutIdeal.Gen.frame m ρ,
  Ffn.AdamOut.frame_reference,
  fun m ρ _ => Cert.AdamOdIn.Gen.frame m ρ,
  fun m ρ _ => Cert.AdamOdInIdeal.Gen.frame m ρ,
  Ffn.AdamOdIn.frame_reference,
  fun m ρ _ => Cert.AdamFfn.Gen.frame m ρ,
  fun m ρ _ => Cert.AdamFfnIdeal.Gen.frame m ρ,
  Ffn.AdamFfn.frame_reference,
  fun m ρ _ => Cert.AdamNorm.Gen.frame m ρ,
  fun m ρ _ => Cert.AdamNormIdeal.Gen.frame m ρ,
  Ffn.AdamNorm.frame_reference,
  fun m ρ _ => Cert.AdamSink.Gen.frame m ρ,
  fun m ρ _ => Cert.AdamSinkIdeal.Gen.frame m ρ,
  Ffn.AdamSink.frame_reference,
  fun m ρ _ => Cert.AdamConv.Gen.frame m ρ,
  fun m ρ _ => Cert.AdamConvIdeal.Gen.frame m ρ,
  Ffn.AdamConv.frame_reference,
  fun m ρ _ => Cert.AdamSpatial.Gen.frame m ρ,
  fun m ρ _ => Cert.AdamSpatialIdeal.Gen.frame m ρ,
  Ffn.AdamSpatial.frame_reference,
  fun m ρ _ => Cert.AdamBias.Gen.frame m ρ,
  fun m ρ _ => Cert.AdamBiasIdeal.Gen.frame m ρ,
  Ffn.AdamBias.frame_reference,
  fun m ρ _ => Cert.AdamNorms.Gen.frame m ρ,
  fun m ρ _ => Cert.AdamNormsIdeal.Gen.frame m ρ,
  Ffn.AdamNorms.frame_reference,
  fun m ρ _ => Cert.AdamTaps.Gen.frame m ρ,
  fun m ρ _ => Cert.AdamTapsIdeal.Gen.frame m ρ,
  Ffn.AdamTaps.frame_reference,
  fun m ρ _ => Cert.AdamOdNorm.Gen.frame m ρ,
  fun m ρ _ => Cert.AdamOdNormIdeal.Gen.frame m ρ,
  Ffn.AdamOdNorm.frame_reference,
  fun m ρ _ => Cert.AdamGate.Gen.frame m ρ,
  fun m ρ _ => Cert.AdamGateIdeal.Gen.frame m ρ,
  Ffn.AdamGate.frame_reference,
  fun m ρ _ => Cert.Sum.Gen.frame m ρ,
  fun m ρ _ => Cert.SumIdeal.Gen.frame m ρ,
  Ffn.Sum.frame_reference,
  trivial, algebraic,
  trivial, Ffn.GateUp.algebraic,
  trivial, Ffn.Dact.algebraic,
  trivial, Ffn.Dw.algebraic,
  trivial, Ffn.Dnorm.algebraic,
  trivial, Ffn.Dmix.algebraic,
  trivial, Ffn.Dwout.algebraic,
  trivial, Ffn.DwinEv.algebraic,
  trivial, Ffn.DwinOd.algebraic,
  trivial, Ffn.DnormEv.algebraic,
  trivial, Ffn.DnormOd.algebraic,
  trivial, Ffn.Loss.algebraic,
  trivial, Ffn.Down.algebraic,
  trivial, Ffn.Out.algebraic,
  trivial, Ffn.InEv.algebraic,
  trivial, Ffn.InOd.algebraic,
  trivial, Ffn.Norm.algebraic,
  trivial, Ffn.Tail.algebraic,
  trivial, Ffn.AdamEvIn.algebraic,
  trivial, Ffn.AdamOut.algebraic,
  trivial, Ffn.AdamOdIn.algebraic,
  trivial, Ffn.AdamFfn.algebraic,
  trivial, Ffn.AdamNorm.algebraic,
  trivial, Ffn.AdamSink.algebraic,
  trivial, Ffn.AdamConv.algebraic,
  trivial, Ffn.AdamSpatial.algebraic,
  trivial, Ffn.AdamBias.algebraic,
  trivial, Ffn.AdamNorms.algebraic,
  trivial, Ffn.AdamTaps.algebraic,
  trivial, Ffn.AdamOdNorm.algebraic,
  trivial, Ffn.AdamGate.algebraic,
  trivial, Ffn.Sum.algebraic⟩

end Cert.Proof

end
